-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 16384]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v48) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x1024 : Shape := ⟨2, ![1024, 1024]⟩
abbrev S1024x16384 : Shape := ⟨2, ![1024, 16384]⟩
abbrev S16384x1024 : Shape := ⟨2, ![16384, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_

variable [Facts]

def fn {F : FTy → Type} [FloatOps F] (main_arg0 : FVec F S1024x1024 .f32) (main_arg1 : FVec F S1024x16384 .f32) (main_arg2 : FVec F S1024x1024 .f32) (main_arg3 : FVec F S1024x1024 .f32) (main_arg4 : FVec F S16384x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  main_v13
-- ==== Pre_finite_ReferenceIdeal.lean ====
abbrev S1024x1024 : Shape := ⟨2, ![1024, 1024]⟩
abbrev S1024x16384 : Shape := ⟨2, ![1024, 16384]⟩
abbrev S16384x1024 : Shape := ⟨2, ![16384, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x16384 : S_.BroadcastsInDim S1024x16384 (![] : Fin 0 → Fin S1024x16384.rank)
  reducesTo_S1024x16384_S_d0_1 : S1024x16384.ReducesTo [0, 1] S_

variable [Facts]

def fn {F : FTy → Type} [FloatOps F] (main_arg0 : FVec F S1024x1024 .f32) (main_arg1 : FVec F S1024x16384 .f32) (main_arg2 : FVec F S1024x16384 .f32) (main_arg3 : FVec F S1024x16384 .f32) (main_arg4 : FVec F S16384x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x16384 .f32 := Host.absf main_arg1
  let main_cst_0 : FVec F S_ .f32 := constant S_ .f32 0x7F800000#32
  let main_v5 : FVec F S1024x16384 .f32 := broadcastInDim S1024x16384 ![] bcast_S_S1024x16384 main_cst_0
  let main_v6 : IVec S1024x16384 1 := cmpf .olt main_v4 main_v5
  let main_c_1 : IVec S_ 1 := constantI S_ 1 1#1
  let main_v7 : IVec S_ 1 := (fun x v => Host.reduce IntOp.andi x v reducesTo_S1024x16384_S_d0_1 h_S_) main_v6 main_c_1
  let main_v8 : IVec S_ 1 := andi main_v3 main_v7
  let main_v9 : FVec F S1024x16384 .f32 := Host.absf main_arg2
  let main_cst_2 : FVec F S_ .f32 := constant S_ .f32 0x7F800000#32
  let main_v10 : FVec F S1024x16384 .f32 := broadcastInDim S1024x16384 ![] bcast_S_S1024x16384 main_cst_2
  let main_v11 : IVec S1024x16384 1 := cmpf .olt main_v9 main_v10
  let main_c_3 : IVec S_ 1 := constantI S_ 1 1#1
  let main_v12 : IVec S_ 1 := (fun x v => Host.reduce IntOp.andi x v reducesTo_S1024x16384_S_d0_1 h_S_) main_v11 main_c_3
  let main_v13 : IVec S_ 1 := andi main_v8 main_v12
  main_v13
-- ==== Kernel.lean ====
abbrev S1024x1024 : Shape := ⟨2, ![1024, 1024]⟩
abbrev S1024x16384 : Shape := ⟨2, ![1024, 16384]⟩
abbrev S16384x1024 : Shape := ⟨2, ![16384, 1024]⟩
abbrev S3x128x1024 : Shape := ⟨3, ![3, 128, 1024]⟩
abbrev S2x64x1024 : Shape := ⟨3, ![2, 64, 1024]⟩
abbrev S2x32x1024 : Shape := ⟨3, ![2, 32, 1024]⟩
abbrev S_ : Shape := ⟨0, ![]⟩
abbrev S3 : Shape := ⟨1, ![3]⟩
abbrev S8 : Shape := ⟨1, ![8]⟩
abbrev S6 : Shape := ⟨1, ![6]⟩
abbrev S256x1024 : Shape := ⟨2, ![256, 1024]⟩
abbrev S256x128 : Shape := ⟨2, ![256, 128]⟩
abbrev S1024x128 : Shape := ⟨2, ![1024, 128]⟩
abbrev S256 : Shape := ⟨1, ![256]⟩
abbrev S256x1 : Shape := ⟨2, ![256, 1]⟩
abbrev S1 : Shape := ⟨1, ![1]⟩
abbrev S1x128x1024 : Shape := ⟨3, ![1, 128, 1024]⟩
abbrev S128x1024 : Shape := ⟨2, ![128, 1024]⟩
abbrev S1x64x1024 : Shape := ⟨3, ![1, 64, 1024]⟩
abbrev S64x1024 : Shape := ⟨2, ![64, 1024]⟩
abbrev S1x32x1024 : Shape := ⟨3, ![1, 32, 1024]⟩
abbrev S32x1024 : Shape := ⟨2, ![32, 1024]⟩

abbrev nBuf : Space → Nat
  | .hbm => 6
  | .vmem => 12
  | .smem => 0
  | _ => 0

abbrev bufTy : (tb : Table) → Fin (tcTables nBuf tb) → BufTy
  | .hbm, ⟨0, _⟩ => ⟨S1024x1024, .f32⟩
  | .hbm, ⟨1, _⟩ => ⟨S1024x16384, .f32⟩
  | .hbm, ⟨2, _⟩ => ⟨S1024x1024, .f32⟩
  | .hbm, ⟨3, _⟩ => ⟨S1024x1024, .f32⟩
  | .hbm, ⟨4, _⟩ => ⟨S16384x1024, .f32⟩
  | .hbm, ⟨5, _⟩ => ⟨S1024x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S3x128x1024, .bf16⟩
  | .local _ .vmem, ⟨9, _⟩ => ⟨S3x128x1024, .bf16⟩
  | .local _ .vmem, ⟨10, _⟩ => ⟨S2x64x1024, .bf16⟩
  | .local _ .vmem, ⟨11, _⟩ => ⟨S2x32x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 58 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | _ => false

abbrev sig : RefSig :=
  (ofTc nBuf bufTy 1 58 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_off1 (d0 : Dev nD) : Fin 2 → Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32 : BitVec 32 := 1024#32
  let v49 : BitVec 32 := Scalar.muli v2 c1024_i32
  ![0, v49.toNat]
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1024_i32_18 : BitVec 32 := 1024#32
  let v51 : BitVec 32 := Scalar.muli v2 c1024_i32_18
  let c0_i32_19 : BitVec 32 := 0#32
  ![v51.toNat, 0]
def k0_dev1 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v43 : BitVec 32 := Scalar.subi v2 v20
  let c3_i32 : BitVec 32 := 3#32
  let v44 : BitVec 32 := Scalar.addi v20 c3_i32
  let c4_i32_15 : BitVec 32 := 4#32
  let v45 : BitVec 32 := Scalar.remsi v44 c4_i32_15
  let v46 : BitVec 32 := Scalar.addi v43 v45
  let c1_i32_21 : BitVec 32 := 1#32
  let v54 : BitVec 32 := Scalar.muli v46 c1_i32_21
  let v55 : BitVec 32 := Scalar.addi c0_i32_22 v54
  v55.toNat
def k0_dev2 (d0 : Dev nD) : Nat :=
  let c0_i32_25 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v39 : BitVec 32 := Scalar.subi v2 v20
  let c1_i32_13 : BitVec 32 := 1#32
  let v40 : BitVec 32 := Scalar.addi v20 c1_i32_13
  let c4_i32_14 : BitVec 32 := 4#32
  let v41 : BitVec 32 := Scalar.remsi v40 c4_i32_14
  let v42 : BitVec 32 := Scalar.addi v39 v41
  let c1_i32_24 : BitVec 32 := 1#32
  let v56 : BitVec 32 := Scalar.muli v42 c1_i32_24
  let v57 : BitVec 32 := Scalar.addi c0_i32_25 v56
  v57.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_16 : BitVec 32 := 4#32
  let v47 : BitVec 32 := Scalar.xori v2 c4_i32_16
  let c1_i32_27 : BitVec 32 := 1#32
  let v58 : BitVec 32 := Scalar.muli v47 c1_i32_27
  let v59 : BitVec 32 := Scalar.addi c0_i32_28 v58
  v59.toNat
def k0_dev4 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v48 : BitVec 32 := Scalar.xori v2 c8_i32
  let c1_i32_30 : BitVec 32 := 1#32
  let v60 : BitVec 32 := Scalar.muli v48 c1_i32_30
  let v61 : BitVec 32 := Scalar.addi c0_i32_31 v60
  v61.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32 : BitVec 32 := 256#32
  let v155 : BitVec 32 := Scalar.muli v20 c256_i32
  let v156 : Index := Scalar.indexCast v155
  let c0_74 : Index := 0#32
  ![v156.toNat, 0]
def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_111 : BitVec 32 := 256#32
  let v299 : BitVec 32 := Scalar.muli v20 c256_i32_111
  let c0_i32_119 : BitVec 32 := 0#32
  ![v299.toNat, 0]
def k0_dev5 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v39 : BitVec 32 := Scalar.subi v2 v20
  let c1_i32_13 : BitVec 32 := 1#32
  let v40 : BitVec 32 := Scalar.addi v20 c1_i32_13
  let c4_i32_14 : BitVec 32 := 4#32
  let v41 : BitVec 32 := Scalar.remsi v40 c4_i32_14
  let v42 : BitVec 32 := Scalar.addi v39 v41
  let c1_i32_115 : BitVec 32 := 1#32
  let v300 : BitVec 32 := Scalar.muli v42 c1_i32_115
  let v301 : BitVec 32 := Scalar.addi c0_i32_116 v300
  v301.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c256_i32_120 : BitVec 32 := 256#32
  let v309 : BitVec 32 := Scalar.muli v20 c256_i32_120
  let c128_i32 : BitVec 32 := 128#32
  let v310 : BitVec 32 := Scalar.addi v309 c128_i32
  let c0_i32_128 : BitVec 32 := 0#32
  ![v310.toNat, 0]
def k0_dev6 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v43 : BitVec 32 := Scalar.subi v2 v20
  let c3_i32 : BitVec 32 := 3#32
  let v44 : BitVec 32 := Scalar.addi v20 c3_i32
  let c4_i32_15 : BitVec 32 := 4#32
  let v45 : BitVec 32 := Scalar.remsi v44 c4_i32_15
  let v46 : BitVec 32 := Scalar.addi v43 v45
  let c1_i32_124 : BitVec 32 := 1#32
  let v311 : BitVec 32 := Scalar.muli v46 c1_i32_124
  let v312 : BitVec 32 := Scalar.addi c0_i32_125 v311
  v312.toNat
def k0_off6 (d0 : Dev nD) (c3_i32_129 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v320 : BitVec 32 := Scalar.addi v20 c3_i32_129
  let c4_i32_130 : BitVec 32 := 4#32
  let v321 : BitVec 32 := Scalar.remsi v320 c4_i32_130
  let c256_i32_131 : BitVec 32 := 256#32
  let v322 : BitVec 32 := Scalar.muli v321 c256_i32_131
  let v323 : Index := Scalar.indexCast v322
  let c0_132 : Index := 0#32
  ![v323.toNat, 0]
def k0_off7 (d0 : Dev nD) (c3_i32_62 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v143 : BitVec 32 := Scalar.addi v20 c3_i32_62
  let c4_i32_63 : BitVec 32 := 4#32
  let v144 : BitVec 32 := Scalar.remsi v143 c4_i32_63
  let c256_i32_217 : BitVec 32 := 256#32
  let v619 : BitVec 32 := Scalar.muli v144 c256_i32_217
  let v620 : Index := Scalar.indexCast v619
  let c0_218 : Index := 0#32
  ![v620.toNat, 0]
def k0_off8 (d0 : Dev nD) (c1_i32_68 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v149 : BitVec 32 := Scalar.addi v20 c1_i32_68
  let c4_i32_69 : BitVec 32 := 4#32
  let v150 : BitVec 32 := Scalar.remsi v149 c4_i32_69
  let c256_i32_231 : BitVec 32 := 256#32
  let v636 : BitVec 32 := Scalar.muli v150 c256_i32_231
  let c128_i32_232 : BitVec 32 := 128#32
  let v637 : BitVec 32 := Scalar.addi v636 c128_i32_232
  let v638 : Index := Scalar.indexCast v637
  let c0_233 : Index := 0#32
  ![v638.toNat, 0]
def k0_off9 (d0 : Dev nD) (c3_i32_62 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v143 : BitVec 32 := Scalar.addi v20 c3_i32_62
  let c4_i32_63 : BitVec 32 := 4#32
  let v144 : BitVec 32 := Scalar.remsi v143 c4_i32_63
  let c256_i32_238 : BitVec 32 := 256#32
  let v647 : BitVec 32 := Scalar.muli v144 c256_i32_238
  let c0_i32_246 : BitVec 32 := 0#32
  ![v647.toNat, 0]
def k0_dev7 (d0 : Dev nD) : Nat :=
  let c0_i32_243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v39 : BitVec 32 := Scalar.subi v2 v20
  let c1_i32_13 : BitVec 32 := 1#32
  let v40 : BitVec 32 := Scalar.addi v20 c1_i32_13
  let c4_i32_14 : BitVec 32 := 4#32
  let v41 : BitVec 32 := Scalar.remsi v40 c4_i32_14
  let v42 : BitVec 32 := Scalar.addi v39 v41
  let c1_i32_242 : BitVec 32 := 1#32
  let v648 : BitVec 32 := Scalar.muli v42 c1_i32_242
  let v649 : BitVec 32 := Scalar.addi c0_i32_243 v648
  v649.toNat
def k0_off10 (d0 : Dev nD) (c1_i32_68 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v149 : BitVec 32 := Scalar.addi v20 c1_i32_68
  let c4_i32_69 : BitVec 32 := 4#32
  let v150 : BitVec 32 := Scalar.remsi v149 c4_i32_69
  let c256_i32_247 : BitVec 32 := 256#32
  let v657 : BitVec 32 := Scalar.muli v150 c256_i32_247
  let c128_i32_248 : BitVec 32 := 128#32
  let v658 : BitVec 32 := Scalar.addi v657 c128_i32_248
  let c0_i32_256 : BitVec 32 := 0#32
  ![v658.toNat, 0]
def k0_dev8 (d0 : Dev nD) : Nat :=
  let c0_i32_253 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v43 : BitVec 32 := Scalar.subi v2 v20
  let c3_i32 : BitVec 32 := 3#32
  let v44 : BitVec 32 := Scalar.addi v20 c3_i32
  let c4_i32_15 : BitVec 32 := 4#32
  let v45 : BitVec 32 := Scalar.remsi v44 c4_i32_15
  let v46 : BitVec 32 := Scalar.addi v43 v45
  let c1_i32_252 : BitVec 32 := 1#32
  let v659 : BitVec 32 := Scalar.muli v46 c1_i32_252
  let v660 : BitVec 32 := Scalar.addi c0_i32_253 v659
  v660.toNat
def k0_dev9 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v39 : BitVec 32 := Scalar.subi v2 v20
  let c1_i32_13 : BitVec 32 := 1#32
  let v40 : BitVec 32 := Scalar.addi v20 c1_i32_13
  let c4_i32_14 : BitVec 32 := 4#32
  let v41 : BitVec 32 := Scalar.remsi v40 c4_i32_14
  let v42 : BitVec 32 := Scalar.addi v39 v41
  let c1_i32_329 : BitVec 32 := 1#32
  let v850 : BitVec 32 := Scalar.muli v42 c1_i32_329
  let v851 : BitVec 32 := Scalar.addi c0_i32_330 v850
  v851.toNat
def k0_dev10 (d0 : Dev nD) : Nat :=
  let c0_i32_340 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v43 : BitVec 32 := Scalar.subi v2 v20
  let c3_i32 : BitVec 32 := 3#32
  let v44 : BitVec 32 := Scalar.addi v20 c3_i32
  let c4_i32_15 : BitVec 32 := 4#32
  let v45 : BitVec 32 := Scalar.remsi v44 c4_i32_15
  let v46 : BitVec 32 := Scalar.addi v43 v45
  let c1_i32_339 : BitVec 32 := 1#32
  let v861 : BitVec 32 := Scalar.muli v46 c1_i32_339
  let v862 : BitVec 32 := Scalar.addi c0_i32_340 v861
  v862.toNat
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_372 : BitVec 32 := 1#32
  let v905 : BitVec 32 := Scalar.addi v20 c1_i32_372
  let c4_i32_373 : BitVec 32 := 4#32
  let v906 : BitVec 32 := Scalar.remsi v905 c4_i32_373
  let c256_i32_374 : BitVec 32 := 256#32
  let v907 : BitVec 32 := Scalar.muli v906 c256_i32_374
  let c1_i32_379 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let v912 : BitVec 32 := Scalar.subi c1_i32_379 v21
  let c64_i32_380 : BitVec 32 := 64#32
  let v913 : BitVec 32 := Scalar.muli v912 c64_i32_380
  let v914 : BitVec 32 := Scalar.addi v907 v913
  let c0_i32_388 : BitVec 32 := 0#32
  ![v914.toNat, 0]
def k0_dev11 (d0 : Dev nD) : Nat :=
  let c0_i32_385 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_16 : BitVec 32 := 4#32
  let v47 : BitVec 32 := Scalar.xori v2 c4_i32_16
  let c1_i32_384 : BitVec 32 := 1#32
  let v915 : BitVec 32 := Scalar.muli v47 c1_i32_384
  let v916 : BitVec 32 := Scalar.addi c0_i32_385 v915
  v916.toNat
def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_375 : BitVec 32 := 3#32
  let v908 : BitVec 32 := Scalar.addi v20 c3_i32_375
  let c4_i32_376 : BitVec 32 := 4#32
  let v909 : BitVec 32 := Scalar.remsi v908 c4_i32_376
  let c256_i32_377 : BitVec 32 := 256#32
  let v910 : BitVec 32 := Scalar.muli v909 c256_i32_377
  let c128_i32_378 : BitVec 32 := 128#32
  let v911 : BitVec 32 := Scalar.addi v910 c128_i32_378
  let c1_i32_389 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let v924 : BitVec 32 := Scalar.subi c1_i32_389 v21
  let c64_i32_390 : BitVec 32 := 64#32
  let v925 : BitVec 32 := Scalar.muli v924 c64_i32_390
  let v926 : BitVec 32 := Scalar.addi v911 v925
  let c0_i32_398 : BitVec 32 := 0#32
  ![v926.toNat, 0]
def k0_dev12 (d0 : Dev nD) : Nat :=
  let c0_i32_395 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_16 : BitVec 32 := 4#32
  let v47 : BitVec 32 := Scalar.xori v2 c4_i32_16
  let c1_i32_394 : BitVec 32 := 1#32
  let v927 : BitVec 32 := Scalar.muli v47 c1_i32_394
  let v928 : BitVec 32 := Scalar.addi c0_i32_395 v927
  v928.toNat
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_372 : BitVec 32 := 1#32
  let v905 : BitVec 32 := Scalar.addi v20 c1_i32_372
  let c4_i32_373 : BitVec 32 := 4#32
  let v906 : BitVec 32 := Scalar.remsi v905 c4_i32_373
  let c256_i32_374 : BitVec 32 := 256#32
  let v907 : BitVec 32 := Scalar.muli v906 c256_i32_374
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let c64_i32_407 : BitVec 32 := 64#32
  let v943 : BitVec 32 := Scalar.muli v21 c64_i32_407
  let v944 : BitVec 32 := Scalar.addi v907 v943
  let v945 : Index := Scalar.indexCast v944
  let c0_408 : Index := 0#32
  ![v945.toNat, 0]
def k0_off14 (d0 : Dev nD) (c3_i32_375 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v908 : BitVec 32 := Scalar.addi v20 c3_i32_375
  let c4_i32_376 : BitVec 32 := 4#32
  let v909 : BitVec 32 := Scalar.remsi v908 c4_i32_376
  let c256_i32_377 : BitVec 32 := 256#32
  let v910 : BitVec 32 := Scalar.muli v909 c256_i32_377
  let c128_i32_378 : BitVec 32 := 128#32
  let v911 : BitVec 32 := Scalar.addi v910 c128_i32_378
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let c64_i32_421 : BitVec 32 := 64#32
  let v961 : BitVec 32 := Scalar.muli v21 c64_i32_421
  let v962 : BitVec 32 := Scalar.addi v911 v961
  let v963 : Index := Scalar.indexCast v962
  let c0_422 : Index := 0#32
  ![v963.toNat, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_372 : BitVec 32 := 1#32
  let v905 : BitVec 32 := Scalar.addi v20 c1_i32_372
  let c4_i32_373 : BitVec 32 := 4#32
  let v906 : BitVec 32 := Scalar.remsi v905 c4_i32_373
  let c256_i32_374 : BitVec 32 := 256#32
  let v907 : BitVec 32 := Scalar.muli v906 c256_i32_374
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let c64_i32_428 : BitVec 32 := 64#32
  let v975 : BitVec 32 := Scalar.muli v21 c64_i32_428
  let c1_i32_429 : BitVec 32 := 1#32
  let c0_i32_7 : BitVec 32 := 0#32
  let v23 : BitVec 1 := Scalar.cmpi .sgt v19 c0_i32_7
  let v24 : BitVec 32 := Scalar.extui v23
  let c0_i32_8 : BitVec 32 := 0#32
  let v25 : BitVec 1 := Scalar.cmpi .slt v19 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v19 c2_i32_6
  let c0_i32_11 : BitVec 32 := 0#32
  let v35 : BitVec 1 := Scalar.cmpi .ne v34 c0_i32_11
  let v36 : BitVec 1 := Scalar.andi v33 v35
  let v22 : BitVec 32 := Scalar.divsi v19 c2_i32_6
  let c1_i32_12 : BitVec 32 := 1#32
  let v37 : BitVec 32 := Scalar.subi v22 c1_i32_12
  let v38 : BitVec 32 := Scalar.select v36 v37 v22
  let v976 : BitVec 32 := Scalar.subi c1_i32_429 v38
  let c32_i32_430 : BitVec 32 := 32#32
  let v977 : BitVec 32 := Scalar.muli v976 c32_i32_430
  let v978 : BitVec 32 := Scalar.addi v975 v977
  let v979 : BitVec 32 := Scalar.addi v907 v978
  let c0_i32_438 : BitVec 32 := 0#32
  ![v979.toNat, 0]
def k0_dev13 (d0 : Dev nD) : Nat :=
  let c0_i32_435 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v48 : BitVec 32 := Scalar.xori v2 c8_i32
  let c1_i32_434 : BitVec 32 := 1#32
  let v980 : BitVec 32 := Scalar.muli v48 c1_i32_434
  let v981 : BitVec 32 := Scalar.addi c0_i32_435 v980
  v981.toNat
def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_375 : BitVec 32 := 3#32
  let v908 : BitVec 32 := Scalar.addi v20 c3_i32_375
  let c4_i32_376 : BitVec 32 := 4#32
  let v909 : BitVec 32 := Scalar.remsi v908 c4_i32_376
  let c256_i32_377 : BitVec 32 := 256#32
  let v910 : BitVec 32 := Scalar.muli v909 c256_i32_377
  let c128_i32_378 : BitVec 32 := 128#32
  let v911 : BitVec 32 := Scalar.addi v910 c128_i32_378
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let c64_i32_428 : BitVec 32 := 64#32
  let v975 : BitVec 32 := Scalar.muli v21 c64_i32_428
  let c1_i32_429 : BitVec 32 := 1#32
  let c0_i32_7 : BitVec 32 := 0#32
  let v23 : BitVec 1 := Scalar.cmpi .sgt v19 c0_i32_7
  let v24 : BitVec 32 := Scalar.extui v23
  let c0_i32_8 : BitVec 32 := 0#32
  let v25 : BitVec 1 := Scalar.cmpi .slt v19 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v19 c2_i32_6
  let c0_i32_11 : BitVec 32 := 0#32
  let v35 : BitVec 1 := Scalar.cmpi .ne v34 c0_i32_11
  let v36 : BitVec 1 := Scalar.andi v33 v35
  let v22 : BitVec 32 := Scalar.divsi v19 c2_i32_6
  let c1_i32_12 : BitVec 32 := 1#32
  let v37 : BitVec 32 := Scalar.subi v22 c1_i32_12
  let v38 : BitVec 32 := Scalar.select v36 v37 v22
  let v976 : BitVec 32 := Scalar.subi c1_i32_429 v38
  let c32_i32_430 : BitVec 32 := 32#32
  let v977 : BitVec 32 := Scalar.muli v976 c32_i32_430
  let v978 : BitVec 32 := Scalar.addi v975 v977
  let v989 : BitVec 32 := Scalar.addi v911 v978
  let c0_i32_446 : BitVec 32 := 0#32
  ![v989.toNat, 0]
def k0_dev14 (d0 : Dev nD) : Nat :=
  let c0_i32_443 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v48 : BitVec 32 := Scalar.xori v2 c8_i32
  let c1_i32_442 : BitVec 32 := 1#32
  let v990 : BitVec 32 := Scalar.muli v48 c1_i32_442
  let v991 : BitVec 32 := Scalar.addi c0_i32_443 v990
  v991.toNat
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_372 : BitVec 32 := 1#32
  let v905 : BitVec 32 := Scalar.addi v20 c1_i32_372
  let c4_i32_373 : BitVec 32 := 4#32
  let v906 : BitVec 32 := Scalar.remsi v905 c4_i32_373
  let c256_i32_374 : BitVec 32 := 256#32
  let v907 : BitVec 32 := Scalar.muli v906 c256_i32_374
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let c64_i32_427 : BitVec 32 := 64#32
  let v972 : BitVec 32 := Scalar.muli v21 c64_i32_427
  let c0_i32_7 : BitVec 32 := 0#32
  let v23 : BitVec 1 := Scalar.cmpi .sgt v19 c0_i32_7
  let v24 : BitVec 32 := Scalar.extui v23
  let c0_i32_8 : BitVec 32 := 0#32
  let v25 : BitVec 1 := Scalar.cmpi .slt v19 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v19 c2_i32_6
  let c0_i32_11 : BitVec 32 := 0#32
  let v35 : BitVec 1 := Scalar.cmpi .ne v34 c0_i32_11
  let v36 : BitVec 1 := Scalar.andi v33 v35
  let v22 : BitVec 32 := Scalar.divsi v19 c2_i32_6
  let c1_i32_12 : BitVec 32 := 1#32
  let v37 : BitVec 32 := Scalar.subi v22 c1_i32_12
  let v38 : BitVec 32 := Scalar.select v36 v37 v22
  let c32_i32 : BitVec 32 := 32#32
  let v973 : BitVec 32 := Scalar.muli v38 c32_i32
  let v974 : BitVec 32 := Scalar.addi v972 v973
  let v1006 : BitVec 32 := Scalar.addi v907 v974
  let v1007 : Index := Scalar.indexCast v1006
  let c0_455 : Index := 0#32
  ![v1007.toNat, 0]
def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_375 : BitVec 32 := 3#32
  let v908 : BitVec 32 := Scalar.addi v20 c3_i32_375
  let c4_i32_376 : BitVec 32 := 4#32
  let v909 : BitVec 32 := Scalar.remsi v908 c4_i32_376
  let c256_i32_377 : BitVec 32 := 256#32
  let v910 : BitVec 32 := Scalar.muli v909 c256_i32_377
  let c128_i32_378 : BitVec 32 := 128#32
  let v911 : BitVec 32 := Scalar.addi v910 c128_i32_378
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let c64_i32_427 : BitVec 32 := 64#32
  let v972 : BitVec 32 := Scalar.muli v21 c64_i32_427
  let c0_i32_7 : BitVec 32 := 0#32
  let v23 : BitVec 1 := Scalar.cmpi .sgt v19 c0_i32_7
  let v24 : BitVec 32 := Scalar.extui v23
  let c0_i32_8 : BitVec 32 := 0#32
  let v25 : BitVec 1 := Scalar.cmpi .slt v19 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v19 c2_i32_6
  let c0_i32_11 : BitVec 32 := 0#32
  let v35 : BitVec 1 := Scalar.cmpi .ne v34 c0_i32_11
  let v36 : BitVec 1 := Scalar.andi v33 v35
  let v22 : BitVec 32 := Scalar.divsi v19 c2_i32_6
  let c1_i32_12 : BitVec 32 := 1#32
  let v37 : BitVec 32 := Scalar.subi v22 c1_i32_12
  let v38 : BitVec 32 := Scalar.select v36 v37 v22
  let c32_i32 : BitVec 32 := 32#32
  let v973 : BitVec 32 := Scalar.muli v38 c32_i32
  let v974 : BitVec 32 := Scalar.addi v972 v973
  let v1023 : BitVec 32 := Scalar.addi v911 v974
  let v1024 : Index := Scalar.indexCast v1023
  let c0_468 : Index := 0#32
  ![v1024.toNat, 0]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_372 : BitVec 32 := 1#32
  let v905 : BitVec 32 := Scalar.addi v20 c1_i32_372
  let c4_i32_373 : BitVec 32 := 4#32
  let v906 : BitVec 32 := Scalar.remsi v905 c4_i32_373
  let c256_i32_374 : BitVec 32 := 256#32
  let v907 : BitVec 32 := Scalar.muli v906 c256_i32_374
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let c64_i32_427 : BitVec 32 := 64#32
  let v972 : BitVec 32 := Scalar.muli v21 c64_i32_427
  let c0_i32_7 : BitVec 32 := 0#32
  let v23 : BitVec 1 := Scalar.cmpi .sgt v19 c0_i32_7
  let v24 : BitVec 32 := Scalar.extui v23
  let c0_i32_8 : BitVec 32 := 0#32
  let v25 : BitVec 1 := Scalar.cmpi .slt v19 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v19 c2_i32_6
  let c0_i32_11 : BitVec 32 := 0#32
  let v35 : BitVec 1 := Scalar.cmpi .ne v34 c0_i32_11
  let v36 : BitVec 1 := Scalar.andi v33 v35
  let v22 : BitVec 32 := Scalar.divsi v19 c2_i32_6
  let c1_i32_12 : BitVec 32 := 1#32
  let v37 : BitVec 32 := Scalar.subi v22 c1_i32_12
  let v38 : BitVec 32 := Scalar.select v36 v37 v22
  let c32_i32 : BitVec 32 := 32#32
  let v973 : BitVec 32 := Scalar.muli v38 c32_i32
  let v974 : BitVec 32 := Scalar.addi v972 v973
  let v1033 : BitVec 32 := Scalar.addi v907 v974
  let c0_i32_477 : BitVec 32 := 0#32
  ![v1033.toNat, 0]
def k0_dev15 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v48 : BitVec 32 := Scalar.xori v2 c8_i32
  let c1_i32_475 : BitVec 32 := 1#32
  let v1034 : BitVec 32 := Scalar.muli v48 c1_i32_475
  let v1035 : BitVec 32 := Scalar.addi c0_i32_476 v1034
  v1035.toNat
def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_375 : BitVec 32 := 3#32
  let v908 : BitVec 32 := Scalar.addi v20 c3_i32_375
  let c4_i32_376 : BitVec 32 := 4#32
  let v909 : BitVec 32 := Scalar.remsi v908 c4_i32_376
  let c256_i32_377 : BitVec 32 := 256#32
  let v910 : BitVec 32 := Scalar.muli v909 c256_i32_377
  let c128_i32_378 : BitVec 32 := 128#32
  let v911 : BitVec 32 := Scalar.addi v910 c128_i32_378
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let c64_i32_427 : BitVec 32 := 64#32
  let v972 : BitVec 32 := Scalar.muli v21 c64_i32_427
  let c0_i32_7 : BitVec 32 := 0#32
  let v23 : BitVec 1 := Scalar.cmpi .sgt v19 c0_i32_7
  let v24 : BitVec 32 := Scalar.extui v23
  let c0_i32_8 : BitVec 32 := 0#32
  let v25 : BitVec 1 := Scalar.cmpi .slt v19 c0_i32_8
  let v26 : BitVec 32 := Scalar.extui v25
  let v27 : BitVec 32 := Scalar.subi v24 v26
  let c2_i32_6 : BitVec 32 := 2#32
  let c0_i32_9 : BitVec 32 := 0#32
  let v28 : BitVec 1 := Scalar.cmpi .sgt c2_i32_6 c0_i32_9
  let v29 : BitVec 32 := Scalar.extui v28
  let c0_i32_10 : BitVec 32 := 0#32
  let v30 : BitVec 1 := Scalar.cmpi .slt c2_i32_6 c0_i32_10
  let v31 : BitVec 32 := Scalar.extui v30
  let v32 : BitVec 32 := Scalar.subi v29 v31
  let v33 : BitVec 1 := Scalar.cmpi .ne v27 v32
  let v34 : BitVec 32 := Scalar.remsi v19 c2_i32_6
  let c0_i32_11 : BitVec 32 := 0#32
  let v35 : BitVec 1 := Scalar.cmpi .ne v34 c0_i32_11
  let v36 : BitVec 1 := Scalar.andi v33 v35
  let v22 : BitVec 32 := Scalar.divsi v19 c2_i32_6
  let c1_i32_12 : BitVec 32 := 1#32
  let v37 : BitVec 32 := Scalar.subi v22 c1_i32_12
  let v38 : BitVec 32 := Scalar.select v36 v37 v22
  let c32_i32 : BitVec 32 := 32#32
  let v973 : BitVec 32 := Scalar.muli v38 c32_i32
  let v974 : BitVec 32 := Scalar.addi v972 v973
  let v1042 : BitVec 32 := Scalar.addi v911 v974
  let c0_i32_482 : BitVec 32 := 0#32
  ![v1042.toNat, 0]
def k0_dev16 (d0 : Dev nD) : Nat :=
  let c0_i32_481 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v48 : BitVec 32 := Scalar.xori v2 c8_i32
  let c1_i32_480 : BitVec 32 := 1#32
  let v1043 : BitVec 32 := Scalar.muli v48 c1_i32_480
  let v1044 : BitVec 32 := Scalar.addi c0_i32_481 v1043
  v1044.toNat
def k0_off21 (d0 : Dev nD) (c0_i32_500 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_499 : BitVec 32 := 1#32
  let v1066 : BitVec 32 := Scalar.addi v20 c1_i32_499
  let v1067 : BitVec 32 := Scalar.subi v1066 c0_i32_500
  let c4_i32_501 : BitVec 32 := 4#32
  let v1068 : BitVec 32 := Scalar.addi v1067 c4_i32_501
  let c4_i32_502 : BitVec 32 := 4#32
  let v1069 : BitVec 32 := Scalar.remsi v1068 c4_i32_502
  let c256_i32_535 : BitVec 32 := 256#32
  let v1102 : BitVec 32 := Scalar.muli v1069 c256_i32_535
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let c64_i32_496 : BitVec 32 := 64#32
  let v1063 : BitVec 32 := Scalar.muli v21 c64_i32_496
  let v1103 : BitVec 32 := Scalar.addi v1102 v1063
  let c0_i32_540 : BitVec 32 := 0#32
  ![v1103.toNat, 0]
def k0_dev17 (d0 : Dev nD) : Nat :=
  let c0_i32_539 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v39 : BitVec 32 := Scalar.subi v2 v20
  let c1_i32_13 : BitVec 32 := 1#32
  let v40 : BitVec 32 := Scalar.addi v20 c1_i32_13
  let c4_i32_14 : BitVec 32 := 4#32
  let v41 : BitVec 32 := Scalar.remsi v40 c4_i32_14
  let v42 : BitVec 32 := Scalar.addi v39 v41
  let c1_i32_538 : BitVec 32 := 1#32
  let v1104 : BitVec 32 := Scalar.muli v42 c1_i32_538
  let v1105 : BitVec 32 := Scalar.addi c0_i32_539 v1104
  v1105.toNat
def k0_off22 (d0 : Dev nD) (c0_i32_512 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_511 : BitVec 32 := 3#32
  let v1078 : BitVec 32 := Scalar.addi v20 c3_i32_511
  let v1079 : BitVec 32 := Scalar.addi v1078 c0_i32_512
  let c4_i32_513 : BitVec 32 := 4#32
  let v1080 : BitVec 32 := Scalar.remsi v1079 c4_i32_513
  let c256_i32_542 : BitVec 32 := 256#32
  let v1112 : BitVec 32 := Scalar.muli v1080 c256_i32_542
  let c128_i32_543 : BitVec 32 := 128#32
  let v1113 : BitVec 32 := Scalar.addi v1112 c128_i32_543
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let c64_i32_496 : BitVec 32 := 64#32
  let v1063 : BitVec 32 := Scalar.muli v21 c64_i32_496
  let v1114 : BitVec 32 := Scalar.addi v1113 v1063
  let c0_i32_548 : BitVec 32 := 0#32
  ![v1114.toNat, 0]
def k0_dev18 (d0 : Dev nD) : Nat :=
  let c0_i32_547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v43 : BitVec 32 := Scalar.subi v2 v20
  let c3_i32 : BitVec 32 := 3#32
  let v44 : BitVec 32 := Scalar.addi v20 c3_i32
  let c4_i32_15 : BitVec 32 := 4#32
  let v45 : BitVec 32 := Scalar.remsi v44 c4_i32_15
  let v46 : BitVec 32 := Scalar.addi v43 v45
  let c1_i32_546 : BitVec 32 := 1#32
  let v1115 : BitVec 32 := Scalar.muli v46 c1_i32_546
  let v1116 : BitVec 32 := Scalar.addi c0_i32_547 v1115
  v1116.toNat
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_372 : BitVec 32 := 1#32
  let v905 : BitVec 32 := Scalar.addi v20 c1_i32_372
  let c4_i32_373 : BitVec 32 := 4#32
  let v906 : BitVec 32 := Scalar.remsi v905 c4_i32_373
  let c256_i32_374 : BitVec 32 := 256#32
  let v907 : BitVec 32 := Scalar.muli v906 c256_i32_374
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let c64_i32_496 : BitVec 32 := 64#32
  let v1063 : BitVec 32 := Scalar.muli v21 c64_i32_496
  let v1123 : BitVec 32 := Scalar.addi v907 v1063
  let c0_i32_553 : BitVec 32 := 0#32
  ![v1123.toNat, 0]
def k0_dev19 (d0 : Dev nD) : Nat :=
  let c0_i32_552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_16 : BitVec 32 := 4#32
  let v47 : BitVec 32 := Scalar.xori v2 c4_i32_16
  let c1_i32_551 : BitVec 32 := 1#32
  let v1124 : BitVec 32 := Scalar.muli v47 c1_i32_551
  let v1125 : BitVec 32 := Scalar.addi c0_i32_552 v1124
  v1125.toNat
def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_375 : BitVec 32 := 3#32
  let v908 : BitVec 32 := Scalar.addi v20 c3_i32_375
  let c4_i32_376 : BitVec 32 := 4#32
  let v909 : BitVec 32 := Scalar.remsi v908 c4_i32_376
  let c256_i32_377 : BitVec 32 := 256#32
  let v910 : BitVec 32 := Scalar.muli v909 c256_i32_377
  let c128_i32_378 : BitVec 32 := 128#32
  let v911 : BitVec 32 := Scalar.addi v910 c128_i32_378
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let c64_i32_496 : BitVec 32 := 64#32
  let v1063 : BitVec 32 := Scalar.muli v21 c64_i32_496
  let v1132 : BitVec 32 := Scalar.addi v911 v1063
  let c0_i32_558 : BitVec 32 := 0#32
  ![v1132.toNat, 0]
def k0_dev20 (d0 : Dev nD) : Nat :=
  let c0_i32_557 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_16 : BitVec 32 := 4#32
  let v47 : BitVec 32 := Scalar.xori v2 c4_i32_16
  let c1_i32_556 : BitVec 32 := 1#32
  let v1133 : BitVec 32 := Scalar.muli v47 c1_i32_556
  let v1134 : BitVec 32 := Scalar.addi c0_i32_557 v1133
  v1134.toNat
def k0_off25 (d0 : Dev nD) (c0_i32_500 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_499 : BitVec 32 := 1#32
  let v1066 : BitVec 32 := Scalar.addi v20 c1_i32_499
  let v1067 : BitVec 32 := Scalar.subi v1066 c0_i32_500
  let c4_i32_501 : BitVec 32 := 4#32
  let v1068 : BitVec 32 := Scalar.addi v1067 c4_i32_501
  let c4_i32_502 : BitVec 32 := 4#32
  let v1069 : BitVec 32 := Scalar.remsi v1068 c4_i32_502
  let c256_i32_576 : BitVec 32 := 256#32
  let v1165 : BitVec 32 := Scalar.muli v1069 c256_i32_576
  let c1_i32_497 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let v1064 : BitVec 32 := Scalar.subi c1_i32_497 v21
  let c64_i32_498 : BitVec 32 := 64#32
  let v1065 : BitVec 32 := Scalar.muli v1064 c64_i32_498
  let v1166 : BitVec 32 := Scalar.addi v1165 v1065
  let c0_i32_581 : BitVec 32 := 0#32
  ![v1166.toNat, 0]
def k0_dev21 (d0 : Dev nD) : Nat :=
  let c0_i32_580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v39 : BitVec 32 := Scalar.subi v2 v20
  let c1_i32_13 : BitVec 32 := 1#32
  let v40 : BitVec 32 := Scalar.addi v20 c1_i32_13
  let c4_i32_14 : BitVec 32 := 4#32
  let v41 : BitVec 32 := Scalar.remsi v40 c4_i32_14
  let v42 : BitVec 32 := Scalar.addi v39 v41
  let c1_i32_579 : BitVec 32 := 1#32
  let v1167 : BitVec 32 := Scalar.muli v42 c1_i32_579
  let v1168 : BitVec 32 := Scalar.addi c0_i32_580 v1167
  v1168.toNat
def k0_off26 (d0 : Dev nD) (c0_i32_512 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c3_i32_511 : BitVec 32 := 3#32
  let v1078 : BitVec 32 := Scalar.addi v20 c3_i32_511
  let v1079 : BitVec 32 := Scalar.addi v1078 c0_i32_512
  let c4_i32_513 : BitVec 32 := 4#32
  let v1080 : BitVec 32 := Scalar.remsi v1079 c4_i32_513
  let c256_i32_583 : BitVec 32 := 256#32
  let v1175 : BitVec 32 := Scalar.muli v1080 c256_i32_583
  let c128_i32_584 : BitVec 32 := 128#32
  let v1176 : BitVec 32 := Scalar.addi v1175 c128_i32_584
  let c1_i32_497 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let v1064 : BitVec 32 := Scalar.subi c1_i32_497 v21
  let c64_i32_498 : BitVec 32 := 64#32
  let v1065 : BitVec 32 := Scalar.muli v1064 c64_i32_498
  let v1177 : BitVec 32 := Scalar.addi v1176 v1065
  let c0_i32_589 : BitVec 32 := 0#32
  ![v1177.toNat, 0]
def k0_dev22 (d0 : Dev nD) : Nat :=
  let c0_i32_588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v43 : BitVec 32 := Scalar.subi v2 v20
  let c3_i32 : BitVec 32 := 3#32
  let v44 : BitVec 32 := Scalar.addi v20 c3_i32
  let c4_i32_15 : BitVec 32 := 4#32
  let v45 : BitVec 32 := Scalar.remsi v44 c4_i32_15
  let v46 : BitVec 32 := Scalar.addi v43 v45
  let c1_i32_587 : BitVec 32 := 1#32
  let v1178 : BitVec 32 := Scalar.muli v46 c1_i32_587
  let v1179 : BitVec 32 := Scalar.addi c0_i32_588 v1178
  v1179.toNat
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let c1_i32_372 : BitVec 32 := 1#32
  let v905 : BitVec 32 := Scalar.addi v20 c1_i32_372
  let c4_i32_373 : BitVec 32 := 4#32
  let v906 : BitVec 32 := Scalar.remsi v905 c4_i32_373
  let c256_i32_374 : BitVec 32 := 256#32
  let v907 : BitVec 32 := Scalar.muli v906 c256_i32_374
  let c1_i32_497 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let v1064 : BitVec 32 := Scalar.subi c1_i32_497 v21
  let c64_i32_498 : BitVec 32 := 64#32
  let v1065 : BitVec 32 := Scalar.muli v1064 c64_i32_498
  let v1186 : BitVec 32 := Scalar.addi v907 v1065
  let v1187 : Index := Scalar.indexCast v1186
  let c0_591 : Index := 0#32
  ![v1187.toNat, 0]
def k0_off28 (d0 : Dev nD) (c3_i32_375 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v908 : BitVec 32 := Scalar.addi v20 c3_i32_375
  let c4_i32_376 : BitVec 32 := 4#32
  let v909 : BitVec 32 := Scalar.remsi v908 c4_i32_376
  let c256_i32_377 : BitVec 32 := 256#32
  let v910 : BitVec 32 := Scalar.muli v909 c256_i32_377
  let c128_i32_378 : BitVec 32 := 128#32
  let v911 : BitVec 32 := Scalar.addi v910 c128_i32_378
  let c1_i32_497 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let v1064 : BitVec 32 := Scalar.subi c1_i32_497 v21
  let c64_i32_498 : BitVec 32 := 64#32
  let v1065 : BitVec 32 := Scalar.muli v1064 c64_i32_498
  let v1192 : BitVec 32 := Scalar.addi v911 v1065
  let v1193 : Index := Scalar.indexCast v1192
  let c0_593 : Index := 0#32
  ![v1193.toNat, 0]
def k0_off29 (d0 : Dev nD) (c0_i32_520 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1087 : BitVec 32 := Scalar.subi v20 c0_i32_520
  let c4_i32_521 : BitVec 32 := 4#32
  let v1088 : BitVec 32 := Scalar.addi v1087 c4_i32_521
  let c4_i32_522 : BitVec 32 := 4#32
  let v1089 : BitVec 32 := Scalar.remsi v1088 c4_i32_522
  let c256_i32_601 : BitVec 32 := 256#32
  let v1204 : BitVec 32 := Scalar.muli v1089 c256_i32_601
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let c64_i32_496 : BitVec 32 := 64#32
  let v1063 : BitVec 32 := Scalar.muli v21 c64_i32_496
  let v1205 : BitVec 32 := Scalar.addi v1204 v1063
  let v1206 : Index := Scalar.indexCast v1205
  let c0_602 : Index := 0#32
  ![v1206.toNat, 0]
def k0_dev23 (d0 : Dev nD) : Nat :=
  let c0_i32_618 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v39 : BitVec 32 := Scalar.subi v2 v20
  let c1_i32_13 : BitVec 32 := 1#32
  let v40 : BitVec 32 := Scalar.addi v20 c1_i32_13
  let c4_i32_14 : BitVec 32 := 4#32
  let v41 : BitVec 32 := Scalar.remsi v40 c4_i32_14
  let v42 : BitVec 32 := Scalar.addi v39 v41
  let c1_i32_617 : BitVec 32 := 1#32
  let v1227 : BitVec 32 := Scalar.muli v42 c1_i32_617
  let v1228 : BitVec 32 := Scalar.addi c0_i32_618 v1227
  v1228.toNat
def k0_dev24 (d0 : Dev nD) : Nat :=
  let c0_i32_626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v43 : BitVec 32 := Scalar.subi v2 v20
  let c3_i32 : BitVec 32 := 3#32
  let v44 : BitVec 32 := Scalar.addi v20 c3_i32
  let c4_i32_15 : BitVec 32 := 4#32
  let v45 : BitVec 32 := Scalar.remsi v44 c4_i32_15
  let v46 : BitVec 32 := Scalar.addi v43 v45
  let c1_i32_625 : BitVec 32 := 1#32
  let v1238 : BitVec 32 := Scalar.muli v46 c1_i32_625
  let v1239 : BitVec 32 := Scalar.addi c0_i32_626 v1238
  v1239.toNat
def k0_off30 (d0 : Dev nD) (c0_i32_520 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v1087 : BitVec 32 := Scalar.subi v20 c0_i32_520
  let c4_i32_521 : BitVec 32 := 4#32
  let v1088 : BitVec 32 := Scalar.addi v1087 c4_i32_521
  let c4_i32_522 : BitVec 32 := 4#32
  let v1089 : BitVec 32 := Scalar.remsi v1088 c4_i32_522
  let c256_i32_635 : BitVec 32 := 256#32
  let v1252 : BitVec 32 := Scalar.muli v1089 c256_i32_635
  let c1_i32_497 : BitVec 32 := 1#32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c4_i32 : BitVec 32 := 4#32
  let c0_i32_1 : BitVec 32 := 0#32
  let v9 : BitVec 1 := Scalar.cmpi .sgt c4_i32 c0_i32_1
  let v10 : BitVec 32 := Scalar.extui v9
  let c0_i32_2 : BitVec 32 := 0#32
  let v11 : BitVec 1 := Scalar.cmpi .slt c4_i32 c0_i32_2
  let v12 : BitVec 32 := Scalar.extui v11
  let v13 : BitVec 32 := Scalar.subi v10 v12
  let v14 : BitVec 1 := Scalar.cmpi .ne v8 v13
  let v15 : BitVec 32 := Scalar.remsi v2 c4_i32
  let c0_i32_3 : BitVec 32 := 0#32
  let v16 : BitVec 1 := Scalar.cmpi .ne v15 c0_i32_3
  let v17 : BitVec 1 := Scalar.andi v14 v16
  let v3 : BitVec 32 := Scalar.divsi v2 c4_i32
  let c1_i32_4 : BitVec 32 := 1#32
  let v18 : BitVec 32 := Scalar.subi v3 c1_i32_4
  let v19 : BitVec 32 := Scalar.select v17 v18 v3
  let c2_i32 : BitVec 32 := 2#32
  let v21 : BitVec 32 := Scalar.remsi v19 c2_i32
  let v1064 : BitVec 32 := Scalar.subi c1_i32_497 v21
  let c64_i32_498 : BitVec 32 := 64#32
  let v1065 : BitVec 32 := Scalar.muli v1064 c64_i32_498
  let v1253 : BitVec 32 := Scalar.addi v1252 v1065
  let v1254 : Index := Scalar.indexCast v1253
  let c0_636 : Index := 0#32
  ![v1254.toNat, 0]
def k0_dev25 (d0 : Dev nD) : Nat :=
  let c0_i32_652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v39 : BitVec 32 := Scalar.subi v2 v20
  let c1_i32_13 : BitVec 32 := 1#32
  let v40 : BitVec 32 := Scalar.addi v20 c1_i32_13
  let c4_i32_14 : BitVec 32 := 4#32
  let v41 : BitVec 32 := Scalar.remsi v40 c4_i32_14
  let v42 : BitVec 32 := Scalar.addi v39 v41
  let c1_i32_651 : BitVec 32 := 1#32
  let v1275 : BitVec 32 := Scalar.muli v42 c1_i32_651
  let v1276 : BitVec 32 := Scalar.addi c0_i32_652 v1275
  v1276.toNat
def k0_dev26 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v43 : BitVec 32 := Scalar.subi v2 v20
  let c3_i32 : BitVec 32 := 3#32
  let v44 : BitVec 32 := Scalar.addi v20 c3_i32
  let c4_i32_15 : BitVec 32 := 4#32
  let v45 : BitVec 32 := Scalar.remsi v44 c4_i32_15
  let v46 : BitVec 32 := Scalar.addi v43 v45
  let c1_i32_659 : BitVec 32 := 1#32
  let v1286 : BitVec 32 := Scalar.muli v46 c1_i32_659
  let v1287 : BitVec 32 := Scalar.addi c0_i32_660 v1286
  v1287.toNat
def k0_dev27 (d0 : Dev nD) : Nat :=
  let c0_i32_686 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v39 : BitVec 32 := Scalar.subi v2 v20
  let c1_i32_13 : BitVec 32 := 1#32
  let v40 : BitVec 32 := Scalar.addi v20 c1_i32_13
  let c4_i32_14 : BitVec 32 := 4#32
  let v41 : BitVec 32 := Scalar.remsi v40 c4_i32_14
  let v42 : BitVec 32 := Scalar.addi v39 v41
  let c1_i32_685 : BitVec 32 := 1#32
  let v1323 : BitVec 32 := Scalar.muli v42 c1_i32_685
  let v1324 : BitVec 32 := Scalar.addi c0_i32_686 v1323
  v1324.toNat
def k0_dev28 (d0 : Dev nD) : Nat :=
  let c0_i32_694 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v43 : BitVec 32 := Scalar.subi v2 v20
  let c3_i32 : BitVec 32 := 3#32
  let v44 : BitVec 32 := Scalar.addi v20 c3_i32
  let c4_i32_15 : BitVec 32 := 4#32
  let v45 : BitVec 32 := Scalar.remsi v44 c4_i32_15
  let v46 : BitVec 32 := Scalar.addi v43 v45
  let c1_i32_693 : BitVec 32 := 1#32
  let v1334 : BitVec 32 := Scalar.muli v46 c1_i32_693
  let v1335 : BitVec 32 := Scalar.addi c0_i32_694 v1334
  v1335.toNat
def k0_dev29 (d0 : Dev nD) : Nat :=
  let c0_i32_720 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v39 : BitVec 32 := Scalar.subi v2 v20
  let c1_i32_13 : BitVec 32 := 1#32
  let v40 : BitVec 32 := Scalar.addi v20 c1_i32_13
  let c4_i32_14 : BitVec 32 := 4#32
  let v41 : BitVec 32 := Scalar.remsi v40 c4_i32_14
  let v42 : BitVec 32 := Scalar.addi v39 v41
  let c1_i32_719 : BitVec 32 := 1#32
  let v1371 : BitVec 32 := Scalar.muli v42 c1_i32_719
  let v1372 : BitVec 32 := Scalar.addi c0_i32_720 v1371
  v1372.toNat
def k0_dev30 (d0 : Dev nD) : Nat :=
  let c0_i32_728 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_5 : BitVec 32 := 4#32
  let v20 : BitVec 32 := Scalar.remsi v2 c4_i32_5
  let v43 : BitVec 32 := Scalar.subi v2 v20
  let c3_i32 : BitVec 32 := 3#32
  let v44 : BitVec 32 := Scalar.addi v20 c3_i32
  let c4_i32_15 : BitVec 32 := 4#32
  let v45 : BitVec 32 := Scalar.remsi v44 c4_i32_15
  let v46 : BitVec 32 := Scalar.addi v43 v45
  let c1_i32_727 : BitVec 32 := 1#32
  let v1382 : BitVec 32 := Scalar.muli v46 c1_i32_727
  let v1383 : BitVec 32 := Scalar.addi c0_i32_728 v1382
  v1383.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1024x1024 : Shape := ⟨2, ![1024, 1024]⟩
abbrev S1024x16384 : Shape := ⟨2, ![1024, 16384]⟩
abbrev S16384x1024 : Shape := ⟨2, ![16384, 1024]⟩
abbrev S1x1024x128x128 : Shape := ⟨4, ![1, 1024, 128, 128]⟩
abbrev S1x1024x1024 : Shape := ⟨3, ![1, 1024, 1024]⟩
abbrev S1x1024x16384 : Shape := ⟨3, ![1, 1024, 16384]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1x128x1024x1024 : Shape := ⟨4, ![1, 128, 1024, 1024]⟩
abbrev S1x1x1024x1024 : Shape := ⟨4, ![1, 1, 1024, 1024]⟩
abbrev S1x128x1024 : Shape := ⟨3, ![1, 128, 1024]⟩
abbrev S1x128x1024x1 : Shape := ⟨4, ![1, 128, 1024, 1]⟩
abbrev S1x1x1024x1 : Shape := ⟨4, ![1, 1, 1024, 1]⟩
abbrev S1x128x128x1024 : Shape := ⟨4, ![1, 128, 128, 1024]⟩

abbrev nBuf : Space → Nat
  | .hbm => 127
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x16384, .f32⟩
  | .hbm, ⟨2, _⟩ => ⟨S1024x16384, .f32⟩
  | .hbm, ⟨3, _⟩ => ⟨S1024x16384, .f32⟩
  | .hbm, ⟨4, _⟩ => ⟨S16384x1024, .f32⟩
  | .hbm, ⟨5, _⟩ => ⟨S1x1024x128x128, .f32⟩
  | .hbm, ⟨6, _⟩ => ⟨S1x1024x128x128, .f32⟩
  | .hbm, ⟨7, _⟩ => ⟨S1x1024x1024, .f32⟩
  | .hbm, ⟨8, _⟩ => ⟨S1x1024x16384, .f32⟩
  | .hbm, ⟨9, _⟩ => ⟨S1x1024x128x128, .f32⟩
  | .hbm, ⟨10, _⟩ => ⟨S1024, .i32⟩
  | .hbm, ⟨11, _⟩ => ⟨S_, .i32⟩
  | .hbm, ⟨12, _⟩ => ⟨S_, .i32⟩
  | .hbm, ⟨13, _⟩ => ⟨S1024, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i1⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S1024, .i1⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S1024, .i32⟩
  | .hbm, ⟨29, _⟩ => ⟨S1024x1, .i32⟩
  | .hbm, ⟨30, _⟩ => ⟨S1024, .i32⟩
  | .hbm, ⟨31, _⟩ => ⟨S_, .i32⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S1024, .i32⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S1024, .i32⟩
  | .hbm, ⟨40, _⟩ => ⟨S1024, .i32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S1024, .i1⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S1024, .i32⟩
  | .hbm, ⟨49, _⟩ => ⟨S1x1024, .i32⟩
  | .hbm, ⟨50, _⟩ => ⟨S1024x1024, .i32⟩
  | .hbm, ⟨51, _⟩ => ⟨S1024x1024, .i32⟩
  | .hbm, ⟨52, _⟩ => ⟨S1024x1024, .i1⟩
  | .hbm, ⟨53, _⟩ => ⟨S_, .i32⟩
  | .hbm, ⟨54, _⟩ => ⟨S1x1024, .i32⟩
  | .hbm, ⟨55, _⟩ => ⟨S1x1024, .i1⟩
  | .hbm, ⟨56, _⟩ => ⟨S1024x1024, .i1⟩
  | .hbm, ⟨57, _⟩ => ⟨S1024x1024, .i1⟩
  | .hbm, ⟨58, _⟩ => ⟨S1024x1024, .i32⟩
  | .hbm, ⟨59, _⟩ => ⟨S1024x1024, .i32⟩
  | .hbm, ⟨60, _⟩ => ⟨S1024x1024, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i1⟩
  | .hbm, ⟨65, _⟩ => ⟨S_, .i32⟩
  | .hbm, ⟨66, _⟩ => ⟨S_, .i32⟩
  | .hbm, ⟨67, _⟩ => ⟨S1024x1024, .i32⟩
  | .hbm, ⟨68, _⟩ => ⟨S1024x1024, .i32⟩
  | .hbm, ⟨69, _⟩ => ⟨S_, .i32⟩
  | .hbm, ⟨70, _⟩ => ⟨S1024x1024, .i32⟩
  | .hbm, ⟨71, _⟩ => ⟨S1024x1024, .i1⟩
  | .hbm, ⟨72, _⟩ => ⟨S_, .i32⟩
  | .hbm, ⟨73, _⟩ => ⟨S1024x1024, .i32⟩
  | .hbm, ⟨74, _⟩ => ⟨S1024x1024, .i1⟩
  | .hbm, ⟨75, _⟩ => ⟨S_, .i32⟩
  | .hbm, ⟨76, _⟩ => ⟨S_, .i1⟩
  | .hbm, ⟨77, _⟩ => ⟨S1024x1024, .i1⟩
  | .hbm, ⟨78, _⟩ => ⟨S1024x1024, .i1⟩
  | .hbm, ⟨79, _⟩ => ⟨S1024x1024, .i1⟩
  | .hbm, ⟨80, _⟩ => ⟨S1024x1024, .i32⟩
  | .hbm, ⟨81, _⟩ => ⟨S1024x1024, .i32⟩
  | .hbm, ⟨82, _⟩ => ⟨S1024x1024, .i32⟩
  | .hbm, ⟨83, _⟩ => ⟨S_, .i32⟩
  | .hbm, ⟨84, _⟩ => ⟨S1024x1024, .i32⟩
  | .hbm, ⟨85, _⟩ => ⟨S1024x1024, .i1⟩
  | .hbm, ⟨86, _⟩ => ⟨S1024x1024, .i1⟩
  | .hbm, ⟨87, _⟩ => ⟨S1x128x1024x1024, .f32⟩
  | .hbm, ⟨88, _⟩ => ⟨S_, .f32⟩
  | .hbm, ⟨89, _⟩ => ⟨S1x128x1024x1024, .f32⟩
  | .hbm, ⟨90, _⟩ => ⟨S1x128x1024x1024, .f32⟩
  | .hbm, ⟨91, _⟩ => ⟨S1x1x1024x1024, .i1⟩
  | .hbm, ⟨92, _⟩ => ⟨S_, .f32⟩
  | .hbm, ⟨93, _⟩ => ⟨S_, .f32⟩
  | .hbm, ⟨94, _⟩ => ⟨S1x128x1024x1024, .i1⟩
  | .hbm, ⟨95, _⟩ => ⟨S1x128x1024x1024, .f32⟩
  | .hbm, ⟨96, _⟩ => ⟨S1x128x1024x1024, .f32⟩
  | .hbm, ⟨97, _⟩ => ⟨S_, .f32⟩
  | .hbm, ⟨98, _⟩ => ⟨S1x128x1024, .f32⟩
  | .hbm, ⟨99, _⟩ => ⟨S1x128x1024x1, .f32⟩
  | .hbm, ⟨100, _⟩ => ⟨S1x128x1024x1024, .f32⟩
  | .hbm, ⟨101, _⟩ => ⟨S1x128x1024x1024, .f32⟩
  | .hbm, ⟨102, _⟩ => ⟨S1x128x1024x1024, .f32⟩
  | .hbm, ⟨103, _⟩ => ⟨S_, .i1⟩
  | .hbm, ⟨104, _⟩ => ⟨S1024, .i1⟩
  | .hbm, ⟨105, _⟩ => ⟨S1x1x1024x1, .i1⟩
  | .hbm, ⟨106, _⟩ => ⟨S_, .f32⟩
  | .hbm, ⟨107, _⟩ => ⟨S1x128x1024, .f32⟩
  | .hbm, ⟨108, _⟩ => ⟨S1x128x1024x1, .f32⟩
  | .hbm, ⟨109, _⟩ => ⟨S_, .f32⟩
  | .hbm, ⟨110, _⟩ => ⟨S_, .f32⟩
  | .hbm, ⟨111, _⟩ => ⟨S1x128x1024x1, .i1⟩
  | .hbm, ⟨112, _⟩ => ⟨S1x128x1024x1, .f32⟩
  | .hbm, ⟨113, _⟩ => ⟨S1x128x1024x1, .f32⟩
  | .hbm, ⟨114, _⟩ => ⟨S1x128x1024x1024, .f32⟩
  | .hbm, ⟨115, _⟩ => ⟨S1x128x1024x1024, .f32⟩
  | .hbm, ⟨116, _⟩ => ⟨S1x1x1024x1, .i1⟩
  | .hbm, ⟨117, _⟩ => ⟨S_, .f32⟩
  | .hbm, ⟨118, _⟩ => ⟨S_, .f32⟩
  | .hbm, ⟨119, _⟩ => ⟨S1x128x1024x1024, .i1⟩
  | .hbm, ⟨120, _⟩ => ⟨S1x128x1024x1024, .f32⟩
  | .hbm, ⟨121, _⟩ => ⟨S1x128x1024x1024, .f32⟩
  | .hbm, ⟨122, _⟩ => ⟨S1x128x128x1024, .f32⟩
  | .hbm, ⟨123, _⟩ => ⟨S1x1024x128x128, .f32⟩
  | .hbm, ⟨124, _⟩ => ⟨S1x1024x16384, .f32⟩
  | .hbm, ⟨125, _⟩ => ⟨S1x1024x1024, .f32⟩
  | .hbm, ⟨126, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_c_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_c : Ref sig .tc := ⟨.hbm, 41, rfl⟩
abbrev main_call1_v9 : Ref sig .tc := ⟨.hbm, 42, rfl⟩
abbrev main_call1_v10 : Ref sig .tc := ⟨.hbm, 43, rfl⟩
abbrev main_call1_v11 : Ref sig .tc := ⟨.hbm, 44, rfl⟩
abbrev main_call1_c_0 : Ref sig .tc := ⟨.hbm, 45, rfl⟩
abbrev main_call1_v12 : Ref sig .tc := ⟨.hbm, 46, rfl⟩
abbrev main_call1_v13 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_c_1 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_c_2 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_v5 : Ref sig .tc := ⟨.hbm, 70, rfl⟩
abbrev main_call2_v6 : Ref sig .tc := ⟨.hbm, 71, rfl⟩
abbrev main_call2_c_2 : Ref sig .tc := ⟨.hbm, 72, rfl⟩
abbrev main_call2_v7 : Ref sig .tc := ⟨.hbm, 73, rfl⟩
abbrev main_call2_v8 : Ref sig .tc := ⟨.hbm, 74, rfl⟩
abbrev main_call2_c_3 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_v21 : Ref sig .tc := ⟨.hbm, 82, rfl⟩
abbrev main_c_3 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩

abbrev nD : Nat := 1
abbrev τ : Topo := Topo.v7x

variable {F : FTy → Type} [FloatOps F]
-- ==== Proof.Geo.lean ====
/-
# The mesh, the rows and the slots

Sixteen devices stand on a mesh of four by four: device `c` has the place `c / 4` across the
planes and `c % 4` on its ring. This module names the four neighbours a device talks to, the
row blocks of the 1024 by 1024 buffer the kernel moves, and what the kernel's views read and
write in those rows.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.KernelIdeal.Pf

open Cert.KernelIdeal Cert.KernelIdeal.Gen
open Idealize.ShloMosaic Idealize.ShloMosaic.TcCoe
open Idealize.SL Idealize.SL.Sem

variable {F : FTy → Type} [FloatOps F] [Named F]

/-! ## Neighbours -/

set_option backward.proofsInPublic true in
/-- The next device on the ring. -/
def rt (c : Dev nD) : Dev nD := ⟨4 * (c.val / 4) + (c.val % 4 + 1) % 4, by have := c.isLt; simp only [nD] at *; omega⟩
set_option backward.proofsInPublic true in
/-- The device before on the ring. -/
def lf (c : Dev nD) : Dev nD := ⟨4 * (c.val / 4) + (c.val % 4 + 3) % 4, by have := c.isLt; simp only [nD] at *; omega⟩
set_option backward.proofsInPublic true in
/-- The partner one plane away. -/
def za (c : Dev nD) : Dev nD := ⟨4 * (c.val / 8 * 2 + (1 - c.val / 4 % 2)) + c.val % 4, by have := c.isLt; simp only [nD] at *; omega⟩
set_option backward.proofsInPublic true in
/-- The partner two planes away. -/
def zb (c : Dev nD) : Dev nD := ⟨4 * ((1 - c.val / 8) * 2 + c.val / 4 % 2) + c.val % 4, by have := c.isLt; simp only [nD] at *; omega⟩

theorem lf_rt (c : Dev nD) : lf (rt c) = c := by revert c; decide
theorem rt_lf (c : Dev nD) : rt (lf c) = c := by revert c; decide
theorem za_za (c : Dev nD) : za (za c) = c := by revert c; decide
theorem zb_zb (c : Dev nD) : zb (zb c) = c := by revert c; decide
theorem rt4 (c : Dev nD) : rt (rt (rt (rt c))) = c := by revert c; decide
theorem lf4 (c : Dev nD) : lf (lf (lf (lf c))) = c := by revert c; decide
theorem rt3 (c : Dev nD) : rt (rt (rt c)) = lf c := by revert c; decide
theorem lf3 (c : Dev nD) : lf (lf (lf c)) = rt c := by revert c; decide
theorem lf2 (c : Dev nD) : lf (lf c) = rt (rt c) := by revert c; decide

/-! ## Rows -/

/-- The row block of `n` rows from row `a` of a 1024 by 1024 buffer. -/
def rows (a n : ℕ) : Finset S1024x1024.Idx := Finset.univ.filter fun i => a ≤ (i 0).val ∧ (i 0).val < a + n

theorem mem_rows {a n : ℕ} {i : S1024x1024.Idx} : i ∈ rows a n ↔ a ≤ (i 0).val ∧ (i 0).val < a + n := by
  unfold rows; simp

theorem rows_congr {a a' n : ℕ} (h : a = a') : rows a n = rows a' n := by rw [h]

/-- Element `i` of the whole is element `x` of the block of rows from row `a`. -/
def At {n : ℕ} (a : ℕ) (x : (⟨2, ![n, 1024]⟩ : Shape).Idx) (i : S1024x1024.Idx) : Prop :=
  (i 0).val = a + (x 0).val ∧ (i 1).val = (x 1).val

theorem At.uniq {n a : ℕ} {x : (⟨2, ![n, 1024]⟩ : Shape).Idx} {i j : S1024x1024.Idx} (h : At a x i) (h' : At a x j) : i = j := by
  funext k; fin_cases k
  · exact Fin.ext (h.1.trans h'.1.symm)
  · exact Fin.ext (h.2.trans h'.2.symm)

/-- The embedding of the rectangle of rows from row `a`. -/
theorem at_emb {n a : ℕ} {off : Fin 2 → ℕ} {inb} (hoff : off = ![a, 0]) (x : (⟨2, ![n, 1024]⟩ : Shape).Idx) :
    At a x ((Rect.unit (s := S1024x1024) off ![n, 1024] inb).emb x) := by
  subst hoff
  constructor
  · rw [Rect.emb_apply]; simp
  · rw [Rect.emb_apply]; simp

/-- The rectangle of `n` rows from row `a` is those rows. -/
theorem set_rect {n a : ℕ} {off : Fin 2 → ℕ} {inb} (hoff : off = ![a, 0]) :
    (Rect.unit (s := S1024x1024) off ![n, 1024] inb).set = rows a n := by
  subst hoff
  ext i
  rw [Rect.mem_set_unit, mem_rows]
  constructor
  · intro h; exact h 0
  · intro h k
    fin_cases k
    · exact h
    · exact ⟨Nat.zero_le _, by simpa using (i 1).isLt⟩

/-! ## The buffers as the kernel names them -/

abbrev cM : Memref sig .tc .vmem S1024x1024 .bf16 := Memref.whole cc0_scratch2
abbrev oM : Memref sig .tc .vmem S1024x1024 .f32 := Memref.whole cc0_stg3_0
abbrev prM : Memref sig .tc .vmem S3x128x1024 .bf16 := Memref.whole cc0_scratch4
abbrev plM : Memref sig .tc .vmem S3x128x1024 .bf16 := Memref.whole cc0_scratch5
abbrev yM : Memref sig .tc .vmem S2x64x1024 .bf16 := Memref.whole cc0_scratch6
abbrev zM : Memref sig .tc .vmem S2x32x1024 .bf16 := Memref.whole cc0_scratch7

/-- The view of a row rectangle of the 1024 by 1024 buffer has those rows as its elements. -/
theorem set_c {n a : ℕ} {off : Fin 2 → ℕ} {inb} (hoff : off = ![a, 0]) :
    ((cM.slice (Rect.unit (s := S1024x1024) off ![n, 1024] inb) (fun _ => rfl)).view.set : Finset S1024x1024.Idx) = rows a n := by
  show ((View.whole cc0_scratch2).slice _).set = _
  rw [View.set_slice_whole]; exact set_rect hoff

theorem set_o {n a : ℕ} {off : Fin 2 → ℕ} {inb} (hoff : off = ![a, 0]) :
    ((oM.slice (Rect.unit (s := S1024x1024) off ![n, 1024] inb) (fun _ => rfl)).view.set : Finset S1024x1024.Idx) = rows a n := by
  show ((View.whole cc0_stg3_0).slice _).set = _
  rw [View.set_slice_whole]; exact set_rect hoff

/-- What a store of `w` through the rows from row `a` leaves there, when `w` is those rows of `A`. -/
theorem write_c {n a : ℕ} {off : Fin 2 → ℕ} {inb} (hoff : off = ![a, 0]) (A f : S1024x1024.Idx → Elt F .bf16)
    (w : (⟨2, ![n, 1024]⟩ : Shape).Idx → Elt F .bf16) (hw : ∀ x i, At a x i → w x = A i) :
    ∀ i ∈ rows a n, (cM.access (Rect.unit (s := S1024x1024) off ![n, 1024] inb)).write (Elt F) f w Finset.univ i = A i := by
  intro i hi
  rw [← set_c (inb := inb) hoff] at hi
  obtain ⟨x, -, hx⟩ := Finset.mem_map.mp hi
  have h := View.write_emb_of_mem (v := cM.access (Rect.unit (s := S1024x1024) off ![n, 1024] inb)) (Val := Elt F) f w (Finset.mem_univ x)
  have hx' : (cM.access (Rect.unit (s := S1024x1024) off ![n, 1024] inb)).emb x = i := hx
  rw [← hx']
  refine Eq.trans h ?_
  exact hw x _ (at_emb hoff x)

/-! ### The slots of `prM` -/

/-- Slot `s` of the landing buffer `prM`, as the transfers into it name it. -/
abbrev prSlot (s : ℕ) (inb : ∀ a, (![s, 0, 0] : Fin 3 → ℕ) a + S1x128x1024.size a ≤ S3x128x1024.size a) : Memref sig .tc .vmem S128x1024 .bf16 :=
  (prM.slice (Rect.unit (s := S3x128x1024) ![s, 0, 0] S1x128x1024.size inb) (fun _ => rfl)).squeeze S128x1024 squeezes_S1x128x1024_S128x1024

/-- The elements of slot `s`. -/
def prSet (s : ℕ) : Finset S3x128x1024.Idx := Finset.univ.filter fun i => (i 0).val = s

theorem set_prrect {s : ℕ} {inb} : (Rect.unit (s := S3x128x1024) ![s, 0, 0] S1x128x1024.size inb).set = prSet s := by
  ext i
  rw [Rect.mem_set_unit]; unfold prSet; rw [Finset.mem_filter]
  constructor
  · intro h
    refine ⟨Finset.mem_univ _, ?_⟩
    have h0 := h 0
    have h1 : s ≤ (i 0).val ∧ (i 0).val < s + 1 := h0
    omega
  · rintro ⟨-, h⟩ k
    fin_cases k
    · exact (⟨by omega, by omega⟩ : s ≤ (i 0).val ∧ (i 0).val < s + 1)
    · exact ⟨Nat.zero_le _, by simpa using (i 1).isLt⟩
    · exact ⟨Nat.zero_le _, by simpa using (i 2).isLt⟩

theorem set_pr {s : ℕ} {inb} : ((prSlot s inb).view.set : Finset S3x128x1024.Idx) = prSet s := by
  show (((View.whole cc0_scratch4).slice _).reshape _ _).set = _
  rw [View.set_reshape, View.set_slice_whole]; exact set_prrect

/-- What a transfer of `w` into slot `s` leaves there. -/
theorem write_pr {s : ℕ} {inb} (f : S3x128x1024.Idx → Elt F .bf16) (w : S128x1024.Idx → Elt F .bf16) (x : S128x1024.Idx) :
    (prSlot s inb).view.write (Elt F) f w Finset.univ ((prSlot s inb).view.emb x) = w x :=
  View.write_emb_of_mem (v := (prSlot s inb).view) (Val := Elt F) f w (Finset.mem_univ x)

/-! ### The slots of `plM` -/

/-- Slot `s` of the landing buffer `plM`, as the transfers into it name it. -/
abbrev plSlot (s : ℕ) (inb : ∀ a, (![s, 0, 0] : Fin 3 → ℕ) a + S1x128x1024.size a ≤ S3x128x1024.size a) : Memref sig .tc .vmem S128x1024 .bf16 :=
  (plM.slice (Rect.unit (s := S3x128x1024) ![s, 0, 0] S1x128x1024.size inb) (fun _ => rfl)).squeeze S128x1024 squeezes_S1x128x1024_S128x1024

/-- The elements of slot `s`. -/
def plSet (s : ℕ) : Finset S3x128x1024.Idx := Finset.univ.filter fun i => (i 0).val = s

theorem set_plrect {s : ℕ} {inb} : (Rect.unit (s := S3x128x1024) ![s, 0, 0] S1x128x1024.size inb).set = plSet s := by
  ext i
  rw [Rect.mem_set_unit]; unfold plSet; rw [Finset.mem_filter]
  constructor
  · intro h
    refine ⟨Finset.mem_univ _, ?_⟩
    have h0 := h 0
    have h1 : s ≤ (i 0).val ∧ (i 0).val < s + 1 := h0
    omega
  · rintro ⟨-, h⟩ k
    fin_cases k
    · exact (⟨by omega, by omega⟩ : s ≤ (i 0).val ∧ (i 0).val < s + 1)
    · exact ⟨Nat.zero_le _, by simpa using (i 1).isLt⟩
    · exact ⟨Nat.zero_le _, by simpa using (i 2).isLt⟩

theorem set_pl {s : ℕ} {inb} : ((plSlot s inb).view.set : Finset S3x128x1024.Idx) = plSet s := by
  show (((View.whole cc0_scratch5).slice _).reshape _ _).set = _
  rw [View.set_reshape, View.set_slice_whole]; exact set_plrect

/-- What a transfer of `w` into slot `s` leaves there. -/
theorem write_pl {s : ℕ} {inb} (f : S3x128x1024.Idx → Elt F .bf16) (w : S128x1024.Idx → Elt F .bf16) (x : S128x1024.Idx) :
    (plSlot s inb).view.write (Elt F) f w Finset.univ ((plSlot s inb).view.emb x) = w x :=
  View.write_emb_of_mem (v := (plSlot s inb).view) (Val := Elt F) f w (Finset.mem_univ x)

/-! ### The slots of `yM` -/

/-- Slot `s` of the landing buffer `yM`, as the transfers into it name it. -/
abbrev ySlot (s : ℕ) (inb : ∀ a, (![s, 0, 0] : Fin 3 → ℕ) a + S1x64x1024.size a ≤ S2x64x1024.size a) : Memref sig .tc .vmem S64x1024 .bf16 :=
  (yM.slice (Rect.unit (s := S2x64x1024) ![s, 0, 0] S1x64x1024.size inb) (fun _ => rfl)).squeeze S64x1024 squeezes_S1x64x1024_S64x1024

/-- The elements of slot `s`. -/
def ySet (s : ℕ) : Finset S2x64x1024.Idx := Finset.univ.filter fun i => (i 0).val = s

theorem set_yrect {s : ℕ} {inb} : (Rect.unit (s := S2x64x1024) ![s, 0, 0] S1x64x1024.size inb).set = ySet s := by
  ext i
  rw [Rect.mem_set_unit]; unfold ySet; rw [Finset.mem_filter]
  constructor
  · intro h
    refine ⟨Finset.mem_univ _, ?_⟩
    have h0 := h 0
    have h1 : s ≤ (i 0).val ∧ (i 0).val < s + 1 := h0
    omega
  · rintro ⟨-, h⟩ k
    fin_cases k
    · exact (⟨by omega, by omega⟩ : s ≤ (i 0).val ∧ (i 0).val < s + 1)
    · exact ⟨Nat.zero_le _, by simpa using (i 1).isLt⟩
    · exact ⟨Nat.zero_le _, by simpa using (i 2).isLt⟩

theorem set_y {s : ℕ} {inb} : ((ySlot s inb).view.set : Finset S2x64x1024.Idx) = ySet s := by
  show (((View.whole cc0_scratch6).slice _).reshape _ _).set = _
  rw [View.set_reshape, View.set_slice_whole]; exact set_yrect

/-- What a transfer of `w` into slot `s` leaves there. -/
theorem write_y {s : ℕ} {inb} (f : S2x64x1024.Idx → Elt F .bf16) (w : S64x1024.Idx → Elt F .bf16) (x : S64x1024.Idx) :
    (ySlot s inb).view.write (Elt F) f w Finset.univ ((ySlot s inb).view.emb x) = w x :=
  View.write_emb_of_mem (v := (ySlot s inb).view) (Val := Elt F) f w (Finset.mem_univ x)

/-! ### The slots of `zM` -/

/-- Slot `s` of the landing buffer `zM`, as the transfers into it name it. -/
abbrev zSlot (s : ℕ) (inb : ∀ a, (![s, 0, 0] : Fin 3 → ℕ) a + S1x32x1024.size a ≤ S2x32x1024.size a) : Memref sig .tc .vmem S32x1024 .bf16 :=
  (zM.slice (Rect.unit (s := S2x32x1024) ![s, 0, 0] S1x32x1024.size inb) (fun _ => rfl)).squeeze S32x1024 squeezes_S1x32x1024_S32x1024

/-- The elements of slot `s`. -/
def zSet (s : ℕ) : Finset S2x32x1024.Idx := Finset.univ.filter fun i => (i 0).val = s

theorem set_zrect {s : ℕ} {inb} : (Rect.unit (s := S2x32x1024) ![s, 0, 0] S1x32x1024.size inb).set = zSet s := by
  ext i
  rw [Rect.mem_set_unit]; unfold zSet; rw [Finset.mem_filter]
  constructor
  · intro h
    refine ⟨Finset.mem_univ _, ?_⟩
    have h0 := h 0
    have h1 : s ≤ (i 0).val ∧ (i 0).val < s + 1 := h0
    omega
  · rintro ⟨-, h⟩ k
    fin_cases k
    · exact (⟨by omega, by omega⟩ : s ≤ (i 0).val ∧ (i 0).val < s + 1)
    · exact ⟨Nat.zero_le _, by simpa using (i 1).isLt⟩
    · exact ⟨Nat.zero_le _, by simpa using (i 2).isLt⟩

theorem set_z {s : ℕ} {inb} : ((zSlot s inb).view.set : Finset S2x32x1024.Idx) = zSet s := by
  show (((View.whole cc0_scratch7).slice _).reshape _ _).set = _
  rw [View.set_reshape, View.set_slice_whole]; exact set_zrect

/-- What a transfer of `w` into slot `s` leaves there. -/
theorem write_z {s : ℕ} {inb} (f : S2x32x1024.Idx → Elt F .bf16) (w : S32x1024.Idx → Elt F .bf16) (x : S32x1024.Idx) :
    (zSlot s inb).view.write (Elt F) f w Finset.univ ((zSlot s inb).view.emb x) = w x :=
  View.write_emb_of_mem (v := (zSlot s inb).view) (Val := Elt F) f w (Finset.mem_univ x)

end Cert.KernelIdeal.Pf

end
-- ==== Proof.Proto.lean ====
/-
# The protocol

The cells, the channels and what each hands over.

A device has fifty-five cells of one round each: its fifty-four own transfer semaphores (cell `k` is
semaphore `k + 4`) and the barrier semaphore (cell 54). The barrier cell has four duties of one unit,
one from each neighbour, which hands over the landing buffer the owner of the cell will write. The
twenty-six channels are the remote transfers in program order; each has a send cell on the sender and
a receive cell on the target. While the sums are formed a transfer gives its source away together with
what landed, since the owner of the final sum will need to write those rows on every device of its ring.
-/
module

public import proofs.«01_k».proof.Proof.Geo

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.RefSig (tileCredit tileCredit_pos)
open Idealize.ShloMosaic.Pipeline (Dat Cfg Window BodyObligation cellOf)

variable {F : FTy → Type} [FloatOps F] [Named F]

/-! ## The values -/

/-- The contents of the 1024 by 1024 buffer of half floats. -/
abbrev Mat (F : FTy → Type) : Type := S1024x1024.Idx → Elt F .bf16

/-- What the run starts from: each device's part of the result before any exchange and the two
    weight arrays in its memory. -/
structure Vals (F : FTy → Type) where
  /-- Device `d`'s own part of the result. -/
  P : Dev nD → Mat F
  /-- Device `d`'s copy of the whole query weights. -/
  wq : Dev nD → S1024x16384.Idx → Elt F .f32
  /-- Device `d`'s copy of the whole output weights. -/
  wo : Dev nD → S16384x1024.Idx → Elt F .f32

/-- The sum of two half floats. -/
def plus (a b : Elt F .bf16) : Elt F .bf16 := FloatOps.addf (φ := .bf16) a b

variable (V : Vals F)

/-- The sum device `d` holds after `n` steps from the left. -/
def accT (V : Vals F) : ℕ → Dev nD → Mat F
  | 0, d => V.P d
  | n + 1, d => fun i => plus (V.P d i) (accT V n (lf d) i)

/-- The sum device `d` holds after `n` steps from the right. -/
def accB (V : Vals F) : ℕ → Dev nD → Mat F
  | 0, d => V.P d
  | n + 1, d => fun i => plus (V.P d i) (accB V n (rt d) i)

/-- The ring's sum on device `d`: of the upper strips (side 0) or the lower strips (side 1). -/
def R0 (V : Vals F) : ℕ → Dev nD → Mat F
  | 0, d => accT V 3 d
  | _ + 1, d => accB V 3 d

/-- The sum with the partner one plane away. -/
def Z1 (V : Vals F) (t : ℕ) (d : Dev nD) : Mat F := fun i => plus (R0 V t d i) (R0 V t (za d) i)
/-- The sum over the four planes. -/
def Z2 (V : Vals F) (t : ℕ) (d : Dev nD) : Mat F := fun i => plus (Z1 V t d i) (Z1 V t (zb d) i)

set_option backward.proofsInPublic true in
/-- The device that forms the final sum of row `r`. -/
def owner (r : ℕ) : Dev nD :=
  ⟨4 * (r / 64 % 2 + 2 * (r / 32 % 2)) + (if r / 128 % 2 = 0 then r / 256 + 3 else r / 256 + 1) % 4, by simp only [nD]; split <;> omega⟩

/-- The final sums, the same on every device. -/
def FIN (V : Vals F) : Mat F := fun i => Z2 V ((i 0).val / 128 % 2) (owner (i 0).val) i

/-! ## Where the rows lie -/

def pp (c : Dev nD) : ℕ := c.val % 4
/-- Upper strip of the `k`-th chunk from the device's own. -/
def tk (c : Dev nD) (k : ℕ) : ℕ := (c.val % 4 + k) % 4 * 256
/-- Lower strip of the `k`-th chunk from the device's own. -/
def bk (c : Dev nD) (k : ℕ) : ℕ := (c.val % 4 + k) % 4 * 256 + 128
/-- The strip whose ring sum the device forms, on either side. -/
def bs (t : ℕ) (c : Dev nD) : ℕ := if t = 0 then tk c 1 else bk c 3
/-- The half strip it keeps, -/
def h0 (c : Dev nD) : ℕ := c.val / 4 % 2 * 64
/-- the half it hands to its partner, -/
def h1 (c : Dev nD) : ℕ := (1 - c.val / 4 % 2) * 64
/-- the quarter it keeps -/
def qk (c : Dev nD) : ℕ := c.val / 4 % 2 * 64 + c.val / 8 * 32
/-- and the quarter it hands over. -/
def qs (c : Dev nD) : ℕ := c.val / 4 % 2 * 64 + (1 - c.val / 8) * 32

/-! ## The resource algebra -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## What is held -/

/-- Share `q` of rows `S` of device `d`'s buffer, holding `A`. -/
def cb (d : Dev nD) (S : Finset S1024x1024.Idx) (q : PosShare TreeShare) (A : Mat F) : sProp 𝕄 :=
  iprop(((d : Thread nD τ).loc cc0_scratch2) ↦[S]{q} A)

/-- Rows `S` of device `d`'s buffer, whatever they hold. -/
def gv (d : Dev nD) (S : Finset S1024x1024.Idx) : sProp 𝕄 := iprop(∃ A, cb d S fullShare A)

instance cb_storable (d : Dev nD) (S q) (A : Mat F) : BI.Storable (upEmb : UEmb _ 𝕄) (cb d S q A) := by unfold cb; infer_instance
instance gv_storable (d : Dev nD) (S) : BI.Storable (upEmb : UEmb _ 𝕄) (gv (F := F) d S) := by unfold gv; infer_instance

theorem prInb (s : ℕ) (h : s < 3) : ∀ a, (![s, 0, 0] : Fin 3 → ℕ) a + S1x128x1024.size a ≤ S3x128x1024.size a := by
  intro a
  fin_cases a
  · exact h
  · exact le_refl 128
  · exact le_refl 1024

/-- Slot `s` of `prM` on device `d`, holding the rows of `A` from row `a`. -/
def prH (d : Dev nD) (s : Fin 3) (a : ℕ) (A : Mat F) : sProp 𝕄 :=
  iprop(∃ f : S3x128x1024.Idx → Elt F .bf16, ⌜∀ x i, At a x i → f ((prSlot s.val (prInb s.val s.isLt)).view.emb x) = A i⌝
    ∗ (((d : Thread nD τ).loc cc0_scratch4) ↦[prSet s.val]{fullShare} f))

/-- Slot `s` of `prM` on device `d`, whatever it holds. -/
def prG (d : Dev nD) (s : ℕ) : sProp 𝕄 :=
  iprop(∃ f : S3x128x1024.Idx → Elt F .bf16, (((d : Thread nD τ).loc cc0_scratch4) ↦[prSet s]{fullShare} f))

/-- All of `prM` on device `d`, whatever it holds. -/
def prW (d : Dev nD) : sProp 𝕄 :=
  iprop(∃ f : S3x128x1024.Idx → Elt F .bf16, (((d : Thread nD τ).loc cc0_scratch4) ↦{fullShare} f))

instance prH_storable (d : Dev nD) (s a) (A : Mat F) : BI.Storable (upEmb : UEmb _ 𝕄) (prH d s a A) := by unfold prH; infer_instance
instance prG_storable (d : Dev nD) (s) : BI.Storable (upEmb : UEmb _ 𝕄) (prG (F := F) d s) := by unfold prG; infer_instance
instance prW_storable (d : Dev nD) : BI.Storable (upEmb : UEmb _ 𝕄) (prW (F := F) d) := by unfold prW; infer_instance

theorem plInb (s : ℕ) (h : s < 3) : ∀ a, (![s, 0, 0] : Fin 3 → ℕ) a + S1x128x1024.size a ≤ S3x128x1024.size a := by
  intro a
  fin_cases a
  · exact h
  · exact le_refl 128
  · exact le_refl 1024

/-- Slot `s` of `plM` on device `d`, holding the rows of `A` from row `a`. -/
def plH (d : Dev nD) (s : Fin 3) (a : ℕ) (A : Mat F) : sProp 𝕄 :=
  iprop(∃ f : S3x128x1024.Idx → Elt F .bf16, ⌜∀ x i, At a x i → f ((plSlot s.val (plInb s.val s.isLt)).view.emb x) = A i⌝
    ∗ (((d : Thread nD τ).loc cc0_scratch5) ↦[plSet s.val]{fullShare} f))

/-- Slot `s` of `plM` on device `d`, whatever it holds. -/
def plG (d : Dev nD) (s : ℕ) : sProp 𝕄 :=
  iprop(∃ f : S3x128x1024.Idx → Elt F .bf16, (((d : Thread nD τ).loc cc0_scratch5) ↦[plSet s]{fullShare} f))

/-- All of `plM` on device `d`, whatever it holds. -/
def plW (d : Dev nD) : sProp 𝕄 :=
  iprop(∃ f : S3x128x1024.Idx → Elt F .bf16, (((d : Thread nD τ).loc cc0_scratch5) ↦{fullShare} f))

instance plH_storable (d : Dev nD) (s a) (A : Mat F) : BI.Storable (upEmb : UEmb _ 𝕄) (plH d s a A) := by unfold plH; infer_instance
instance plG_storable (d : Dev nD) (s) : BI.Storable (upEmb : UEmb _ 𝕄) (plG (F := F) d s) := by unfold plG; infer_instance
instance plW_storable (d : Dev nD) : BI.Storable (upEmb : UEmb _ 𝕄) (plW (F := F) d) := by unfold plW; infer_instance

theorem yInb (s : ℕ) (h : s < 2) : ∀ a, (![s, 0, 0] : Fin 3 → ℕ) a + S1x64x1024.size a ≤ S2x64x1024.size a := by
  intro a
  fin_cases a
  · exact h
  · exact le_refl 64
  · exact le_refl 1024

/-- Slot `s` of `yM` on device `d`, holding the rows of `A` from row `a`. -/
def yH (d : Dev nD) (s : Fin 2) (a : ℕ) (A : Mat F) : sProp 𝕄 :=
  iprop(∃ f : S2x64x1024.Idx → Elt F .bf16, ⌜∀ x i, At a x i → f ((ySlot s.val (yInb s.val s.isLt)).view.emb x) = A i⌝
    ∗ (((d : Thread nD τ).loc cc0_scratch6) ↦[ySet s.val]{fullShare} f))

/-- Slot `s` of `yM` on device `d`, whatever it holds. -/
def yG (d : Dev nD) (s : ℕ) : sProp 𝕄 :=
  iprop(∃ f : S2x64x1024.Idx → Elt F .bf16, (((d : Thread nD τ).loc cc0_scratch6) ↦[ySet s]{fullShare} f))

/-- All of `yM` on device `d`, whatever it holds. -/
def yW (d : Dev nD) : sProp 𝕄 :=
  iprop(∃ f : S2x64x1024.Idx → Elt F .bf16, (((d : Thread nD τ).loc cc0_scratch6) ↦{fullShare} f))

instance yH_storable (d : Dev nD) (s a) (A : Mat F) : BI.Storable (upEmb : UEmb _ 𝕄) (yH d s a A) := by unfold yH; infer_instance
instance yG_storable (d : Dev nD) (s) : BI.Storable (upEmb : UEmb _ 𝕄) (yG (F := F) d s) := by unfold yG; infer_instance
instance yW_storable (d : Dev nD) : BI.Storable (upEmb : UEmb _ 𝕄) (yW (F := F) d) := by unfold yW; infer_instance

theorem zInb (s : ℕ) (h : s < 2) : ∀ a, (![s, 0, 0] : Fin 3 → ℕ) a + S1x32x1024.size a ≤ S2x32x1024.size a := by
  intro a
  fin_cases a
  · exact h
  · exact le_refl 32
  · exact le_refl 1024

/-- Slot `s` of `zM` on device `d`, holding the rows of `A` from row `a`. -/
def zH (d : Dev nD) (s : Fin 2) (a : ℕ) (A : Mat F) : sProp 𝕄 :=
  iprop(∃ f : S2x32x1024.Idx → Elt F .bf16, ⌜∀ x i, At a x i → f ((zSlot s.val (zInb s.val s.isLt)).view.emb x) = A i⌝
    ∗ (((d : Thread nD τ).loc cc0_scratch7) ↦[zSet s.val]{fullShare} f))

/-- Slot `s` of `zM` on device `d`, whatever it holds. -/
def zG (d : Dev nD) (s : ℕ) : sProp 𝕄 :=
  iprop(∃ f : S2x32x1024.Idx → Elt F .bf16, (((d : Thread nD τ).loc cc0_scratch7) ↦[zSet s]{fullShare} f))

/-- All of `zM` on device `d`, whatever it holds. -/
def zW (d : Dev nD) : sProp 𝕄 :=
  iprop(∃ f : S2x32x1024.Idx → Elt F .bf16, (((d : Thread nD τ).loc cc0_scratch7) ↦{fullShare} f))

instance zH_storable (d : Dev nD) (s a) (A : Mat F) : BI.Storable (upEmb : UEmb _ 𝕄) (zH d s a A) := by unfold zH; infer_instance
instance zG_storable (d : Dev nD) (s) : BI.Storable (upEmb : UEmb _ 𝕄) (zG (F := F) d s) := by unfold zG; infer_instance
instance zW_storable (d : Dev nD) : BI.Storable (upEmb : UEmb _ 𝕄) (zW (F := F) d) := by unfold zW; infer_instance

/-! ## The two local copies -/

abbrev wqSrc (c : Dev nD) : Memref sig .tc .hbm S1024x1024 .f32 :=
  (Memref.whole main_arg1).slice (Rect.unit (s := S1024x16384) (k0_off1 c) S1024x1024.size (k0_off1_inb c)) (fun _ => rfl)
abbrev woSrc (c : Dev nD) : Memref sig .tc .hbm S1024x1024 .f32 :=
  (Memref.whole main_arg4).slice (Rect.unit (s := S16384x1024) (k0_off2 c) S1024x1024.size (k0_off2_inb c)) (fun _ => rfl)

/-- The device's columns of the query weights, -/
def wqV (V : Vals F) (c : Dev nD) : S1024x1024.Idx → Elt F .f32 := (wqSrc c).view.read (Elt F) (V.wq c)
/-- and its rows of the output weights. -/
def woV (V : Vals F) (c : Dev nD) : S1024x1024.Idx → Elt F .f32 := (woSrc c).view.read (Elt F) (V.wo c)

def wqPay (d : Dev nD) : sProp 𝕄 :=
  iprop((((d : Thread nD τ).loc main_arg1) ↦[(wqSrc d).view.set]{fullShare} V.wq d) ∗ (((d : Thread nD τ).loc cc0_scratch0) ↦{fullShare} wqV V d))
def woPay (d : Dev nD) : sProp 𝕄 :=
  iprop((((d : Thread nD τ).loc main_arg4) ↦[(woSrc d).view.set]{fullShare} V.wo d) ∗ (((d : Thread nD τ).loc cc0_scratch1) ↦{fullShare} woV V d))

instance wqPay_storable (d : Dev nD) : BI.Storable (upEmb : UEmb _ 𝕄) (wqPay V d) := by unfold wqPay; infer_instance
instance woPay_storable (d : Dev nD) : BI.Storable (upEmb : UEmb _ 𝕄) (woPay V d) := by unfold woPay; infer_instance

/-! ## The channels -/

/-- The transfer semaphore of cell `k`. -/
abbrev csem (k : Fin 55) : SemLoc sig := if h : k.val < 54 then .dma (⟨k.val + 4, by omega⟩ : Fin 58) else .reg barrier0
abbrev kcell (d : Dev nD) (k : Fin 55) : GSem nD τ sig := ((d : Thread nD τ), csem k)

/-- Channel `j`'s send cell and its receive cell. -/
def sS : Fin 26 → Fin 55 := ![2, 8, 3, 9, 4, 10, 14, 15, 16, 17, 18, 19, 30, 42, 20, 21, 33, 45, 31, 43, 34, 46, 32, 44, 35, 47]
def sR : Fin 26 → Fin 55 := ![5, 11, 6, 12, 7, 13, 22, 23, 24, 25, 26, 27, 36, 48, 28, 29, 39, 51, 37, 49, 40, 52, 38, 50, 41, 53]

/-- Where channel `j` leads from device `c`. -/
def tgt (c : Dev nD) (j : Fin 26) : Dev nD :=
  if j.val < 6 ∨ j.val = 12 ∨ j.val = 13 ∨ 16 ≤ j.val then (if j.val % 2 = 0 then rt c else lf c)
  else if j.val = 6 ∨ j.val = 7 ∨ j.val = 14 ∨ j.val = 15 then za c else zb c

/-- Where channel `j` into device `c` comes from. -/
def frm (c : Dev nD) (j : Fin 26) : Dev nD :=
  if j.val < 6 ∨ j.val = 12 ∨ j.val = 13 ∨ 16 ≤ j.val then (if j.val % 2 = 0 then lf c else rt c)
  else if j.val = 6 ∨ j.val = 7 ∨ j.val = 14 ∨ j.val = 15 then za c else zb c

/-- The credit of a transfer depends on its size alone. -/
theorem credit_eq {sp : Space} {s : Shape} {e : EltTy} (v : View sig .tc sp s e) : v.dmaCredit = tileCredit s e := rfl

/-- The size of the transfer on cell `k`. -/
def cls : Fin 55 → Fin 5 := fun k =>
  if k.val < 2 then 0 else if k.val < 14 then 1
  else if k.val = 14 ∨ k.val = 15 ∨ k.val = 22 ∨ k.val = 23 then 2
  else if k.val < 20 ∨ (22 ≤ k.val ∧ k.val < 28) then 3
  else if k.val < 54 then 2 else 4
/-- The credit of a transfer of each size. -/
def nOf : Fin 5 → ℕ := ![tileCredit S1024x1024 .f32, tileCredit S128x1024 .bf16, tileCredit S64x1024 .bf16, tileCredit S32x1024 .bf16, 1]
/-- The credit of one transfer on cell `k`. -/
def amt (k : Fin 55) : ℕ := nOf (cls k)

theorem amt_eq (k : Fin 55) (i : Fin 5) (h : cls k = i) : amt k = nOf i := by unfold amt; rw [h]
theorem nOf_pos (i : Fin 5) : 0 < nOf i := by
  unfold nOf
  fin_cases i
  · exact tileCredit_pos _ _ (by decide)
  · exact tileCredit_pos _ _ (by decide)
  · exact tileCredit_pos _ _ (by decide)
  · exact tileCredit_pos _ _ (by decide)
  · exact Nat.one_pos

theorem credW {sp : Space} (v : View sig .tc sp S1024x1024 .f32) (k : Fin 55) (h : cls k = 0) : v.dmaCredit = amt k := by rw [amt_eq k 0 h, credit_eq]; rfl
theorem cred128 {sp : Space} (v : View sig .tc sp S128x1024 .bf16) (k : Fin 55) (h : cls k = 1) : v.dmaCredit = amt k := by rw [amt_eq k 1 h, credit_eq]; rfl
theorem cred64 {sp : Space} (v : View sig .tc sp S64x1024 .bf16) (k : Fin 55) (h : cls k = 2) : v.dmaCredit = amt k := by rw [amt_eq k 2 h, credit_eq]; rfl
theorem cred32 {sp : Space} (v : View sig .tc sp S32x1024 .bf16) (k : Fin 55) (h : cls k = 3) : v.dmaCredit = amt k := by rw [amt_eq k 3 h, credit_eq]; rfl

/-- What channel `j`'s receive cell on device `d` hands over, -/
def payR (d : Dev nD) : Fin 26 → sProp 𝕄
  | 0 => iprop(prH d 0 (tk d 3) (accT V 0 (lf d)) ∗ gv (lf d) (rows (tk d 3) 128))
  | 1 => iprop(plH d 0 (bk d 1) (accB V 0 (rt d)) ∗ gv (rt d) (rows (bk d 1) 128))
  | 2 => iprop(prH d 1 (tk d 2) (accT V 1 (lf d)) ∗ gv (lf d) (rows (tk d 2) 128) ∗ gv (lf (lf d)) (rows (tk d 2) 128))
  | 3 => iprop(plH d 1 (bk d 2) (accB V 1 (rt d)) ∗ gv (rt d) (rows (bk d 2) 128) ∗ gv (rt (rt d)) (rows (bk d 2) 128))
  | 4 => iprop(prH d 2 (tk d 1) (accT V 2 (lf d)) ∗ gv (lf d) (rows (tk d 1) 128) ∗ gv (lf (lf d)) (rows (tk d 1) 128) ∗ gv (lf (lf (lf d))) (rows (tk d 1) 128))
  | 5 => iprop(plH d 2 (bk d 3) (accB V 2 (rt d)) ∗ gv (rt d) (rows (bk d 3) 128) ∗ gv (rt (rt d)) (rows (bk d 3) 128) ∗ gv (rt (rt (rt d))) (rows (bk d 3) 128))
  | 6 => iprop(yH d 0 (bs 0 d + h0 d) (R0 V 0 (za d)) ∗ gv (za d) (rows (bs 0 d + h0 d) 64))
  | 7 => iprop(yH d 1 (bs 1 d + h0 d) (R0 V 1 (za d)) ∗ gv (za d) (rows (bs 1 d + h0 d) 64))
  | 8 => iprop(zH d 0 (bs 0 d + qk d) (Z1 V 0 (zb d)) ∗ gv (zb d) (rows (bs 0 d + qk d) 32))
  | 9 => iprop(zH d 1 (bs 1 d + qk d) (Z1 V 1 (zb d)) ∗ gv (zb d) (rows (bs 1 d + qk d) 32))
  | 10 => cb d (rows (bs 0 d + qs d) 32) fullShare (FIN V)
  | 11 => cb d (rows (bs 1 d + qs d) 32) fullShare (FIN V)
  | 12 => iprop(cb d (rows (tk d 0 + h0 d) 64) fullShare (FIN V) ∗ gv (rt d) (rows (tk d 0 + h0 d) 64) ∗ gv (rt (rt d)) (rows (tk d 0 + h0 d) 64))
  | 13 => iprop(cb d (rows (bk d 0 + h0 d) 64) fullShare (FIN V) ∗ gv (lf d) (rows (bk d 0 + h0 d) 64) ∗ gv (lf (lf d)) (rows (bk d 0 + h0 d) 64))
  | 14 => cb d (rows (bs 0 d + h1 d) 64) fullShare (FIN V)
  | 15 => cb d (rows (bs 1 d + h1 d) 64) fullShare (FIN V)
  | 16 => iprop(cb d (rows (tk d 0 + h1 d) 64) fullShare (FIN V) ∗ gv (rt d) (rows (tk d 0 + h1 d) 64) ∗ gv (rt (rt d)) (rows (tk d 0 + h1 d) 64))
  | 17 => iprop(cb d (rows (bk d 0 + h1 d) 64) fullShare (FIN V) ∗ gv (lf d) (rows (bk d 0 + h1 d) 64) ∗ gv (lf (lf d)) (rows (bk d 0 + h1 d) 64))
  | 18 => iprop(cb d (rows (tk d 3 + h0 d) 64) fullShare (FIN V) ∗ gv (rt d) (rows (tk d 3 + h0 d) 64))
  | 19 => iprop(cb d (rows (bk d 1 + h0 d) 64) fullShare (FIN V) ∗ gv (lf d) (rows (bk d 1 + h0 d) 64))
  | 20 => iprop(cb d (rows (tk d 3 + h1 d) 64) fullShare (FIN V) ∗ gv (rt d) (rows (tk d 3 + h1 d) 64))
  | 21 => iprop(cb d (rows (bk d 1 + h1 d) 64) fullShare (FIN V) ∗ gv (lf d) (rows (bk d 1 + h1 d) 64))
  | 22 => cb d (rows (tk d 2 + h0 d) 64) fullShare (FIN V)
  | 23 => cb d (rows (bk d 2 + h0 d) 64) fullShare (FIN V)
  | 24 => cb d (rows (tk d 2 + h1 d) 64) fullShare (FIN V)
  | _ => cb d (rows (bk d 2 + h1 d) 64) fullShare (FIN V)

/-- and its send cell on device `c`. -/
def payS (c : Dev nD) : Fin 26 → sProp 𝕄
  | 10 => cb c (rows (bs 0 c + qk c) 32) fullShare.left (FIN V)
  | 11 => cb c (rows (bs 1 c + qk c) 32) fullShare.left (FIN V)
  | 12 => cb c (rows (bs 0 c + h0 c) 64) fullShare.right.left (FIN V)
  | 13 => cb c (rows (bs 1 c + h0 c) 64) fullShare.right.left (FIN V)
  | 14 => cb c (rows (bs 0 c + h0 c) 64) fullShare.right.right.left (FIN V)
  | 15 => cb c (rows (bs 1 c + h0 c) 64) fullShare.right.right.left (FIN V)
  | 16 => cb c (rows (bs 0 c + h1 c) 64) fullShare.left (FIN V)
  | 17 => cb c (rows (bs 1 c + h1 c) 64) fullShare.left (FIN V)
  | 18 => cb c (rows (tk c 0 + h0 c) 64) fullShare.left (FIN V)
  | 19 => cb c (rows (bk c 0 + h0 c) 64) fullShare.left (FIN V)
  | 20 => cb c (rows (tk c 0 + h1 c) 64) fullShare.left (FIN V)
  | 21 => cb c (rows (bk c 0 + h1 c) 64) fullShare.left (FIN V)
  | 22 => cb c (rows (tk c 3 + h0 c) 64) fullShare.left (FIN V)
  | 23 => cb c (rows (bk c 1 + h0 c) 64) fullShare.left (FIN V)
  | 24 => cb c (rows (tk c 3 + h1 c) 64) fullShare.left (FIN V)
  | 25 => cb c (rows (bk c 1 + h1 c) 64) fullShare.left (FIN V)
  | _ => iprop(emp)

instance payR_storable (d : Dev nD) (j : Fin 26) : BI.Storable (upEmb : UEmb _ 𝕄) (payR V d j) := by
  unfold payR; split <;> infer_instance
instance payS_storable (d : Dev nD) (j : Fin 26) : BI.Storable (upEmb : UEmb _ 𝕄) (payS V d j) := by
  unfold payS; split <;> infer_instance

/-- What a neighbour's signal on device `d`'s barrier cell hands over. -/
def payB (d : Dev nD) : Fin 4 → sProp 𝕄
  | 0 => prW (rt d)
  | 1 => plW (lf d)
  | 2 => yW (za d)
  | _ => zW (zb d)

instance payB_storable (d : Dev nD) (j : Fin 4) : BI.Storable (upEmb : UEmb _ 𝕄) (payB (F := F) d j) := by
  unfold payB; split <;> infer_instance

/-- The channel a cell belongs to: which one, and on which end. -/
def chan (k : Fin 55) : Option (Fin 26 × Bool) :=
  (List.finRange 26).findSome? fun j => if sS j = k then some (j, false) else if sR j = k then some (j, true) else none

/-- What the one round of cell `k` on device `d` hands over. -/
def pay (d : Dev nD) (k : Fin 55) (t : Fin 4) : sProp 𝕄 :=
  if k.val = 54 then payB d t else if k.val = 0 then wqPay V d else if k.val = 1 then woPay V d
  else match chan k with
    | some (j, false) => payS V d j
    | some (j, true) => payR V d j
    | none => iprop(emp)

instance pay_storable (d : Dev nD) (k : Fin 55) (t : Fin 4) : BI.Storable (upEmb : UEmb _ 𝕄) (pay V d k t) := by
  unfold pay; (repeat' split) <;> infer_instance

theorem chan_sS (j : Fin 26) : chan (sS j) = some (j, false) := by revert j; decide +kernel
theorem chan_sR (j : Fin 26) : chan (sR j) = some (j, true) := by revert j; decide +kernel

end Cert.KernelIdeal.Pf

end
-- ==== Proof.Sched.lean ====
/-
# The schedule and one rule per kind of step

The schedule of the cells, what a device owes while it goes through its transfers in program order,
the levels that order the waits, and the rules a transfer and the three kinds of waits obey.
-/
module

public import proofs.«01_k».proof.Proof.Proto

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (V : Vals F)

local notation "𝕄" => MT nD τ sig Unit (Elt F) ℕ UU ℕ

/-! ## The schedule -/

/-- The cell of a semaphore. -/
def keyOf : SemLoc sig → Option (Fin 55)
  | .dma s => if h : 4 ≤ s.val then some ⟨s.val - 4, by have : s.val < 58 := s.isLt; omega⟩ else none
  | .reg s => if s = barrier0 then some 54 else none

theorem keyOf_csem (k : Fin 55) : keyOf (csem k) = some k := by revert k; decide +kernel

/-- Who pays what on the cells, and what it hands over. -/
def rd : Rounds.Schedule (GSem nD τ sig) (Fin 4) 𝕄 where
  duties g r := if r = 0 ∧ g.1.2 = .tc then (match keyOf g.2 with
    | some k => if k.val = 54 then Finset.univ else {0}
    | none => ∅) else ∅
  unitless _ := False
  amount g _ _ := match keyOf g.2 with
    | some k => amt k
    | none => 1
  payload g _ t := match keyOf g.2 with
    | some k => pay V g.1.1 k t
    | none => iprop(emp)
  amount_pos g _ _ _ := by
    split
    · exact nOf_pos _
    · exact Nat.one_pos

instance rd_storable (g : GSem nD τ sig) (r : ℕ) (t : Fin 4) : BI.Storable (upEmb : UEmb _ 𝕄) ((rd V).payload g r t) := by
  dsimp only [rd]; split <;> infer_instance

theorem duties_dma (c : Dev nD) (k : Fin 55) (hk : k.val ≠ 54) : (rd V).duties (kcell c k) 0 = {0} := by
  dsimp only [rd]; rw [if_pos ⟨rfl, rfl⟩, keyOf_csem]; exact if_neg hk
theorem duties_bar (c : Dev nD) : (rd V).duties (kcell c 54) 0 = Finset.univ := by
  dsimp only [rd]; rw [if_pos ⟨rfl, rfl⟩, keyOf_csem]; exact if_pos rfl
theorem duties_later (g : GSem nD τ sig) : ∀ r, 1 ≤ r → (rd V).duties g r = ∅ :=
  fun r hr => by dsimp only [rd]; exact if_neg fun h => by omega
theorem amount_at (c : Dev nD) (k : Fin 55) (r : ℕ) (t : Fin 4) : (rd V).amount (kcell c k) r t = amt k := by
  dsimp only [rd, kcell]; rw [keyOf_csem]
theorem payload_at (c : Dev nD) (k : Fin 55) (r : ℕ) (t : Fin 4) : (rd V).payload (kcell c k) r t = pay V c k t := by
  dsimp only [rd, kcell]; rw [keyOf_csem]

theorem sS_ne (j : Fin 26) : (sS j).val ≠ 54 ∧ (sS j).val ≠ 0 ∧ (sS j).val ≠ 1 := by revert j; decide +kernel
theorem sR_ne (j : Fin 26) : (sR j).val ≠ 54 ∧ (sR j).val ≠ 0 ∧ (sR j).val ≠ 1 := by revert j; decide +kernel

theorem pay_sS (c : Dev nD) (j : Fin 26) (t : Fin 4) : pay V c (sS j) t = payS V c j := by
  unfold pay; rw [if_neg (sS_ne j).1, if_neg (sS_ne j).2.1, if_neg (sS_ne j).2.2, chan_sS]
theorem pay_sR (c : Dev nD) (j : Fin 26) (t : Fin 4) : pay V c (sR j) t = payR V c j := by
  unfold pay; rw [if_neg (sR_ne j).1, if_neg (sR_ne j).2.1, if_neg (sR_ne j).2.2, chan_sR]

theorem expect_dma (c : Dev nD) (k : Fin 55) (hk : k.val ≠ 54) : (rd V).expect (kcell c k) 0 = amt k := by
  unfold Schedule.expect Schedule.amountOf; rw [duties_dma V c k hk, Finset.sum_singleton, amount_at]
theorem expect_bar (c : Dev nD) : (rd V).expect (kcell c 54) 0 = 4 := by
  unfold Schedule.expect Schedule.amountOf
  rw [duties_bar, Finset.sum_congr rfl fun d _ => amount_at V c 54 0 d, Finset.sum_const, Finset.card_univ]; rfl
theorem rest_dma (c : Dev nD) (k : Fin 55) (hk : k.val ≠ 54) :
    bigSep ((rd V).duties (kcell c k) 0 \ ∅) (fun t => (rd V).payload (kcell c k) 0 t) = pay V c k 0 := by
  rw [Finset.sdiff_empty, duties_dma V c k hk, bigSep_singleton, payload_at]
theorem rest_bar (c : Dev nD) :
    bigSep ((rd V).duties (kcell c 54) 0 \ ∅) (fun t => (rd V).payload (kcell c 54) 0 t)
      = iprop(prW (rt c) ∗ plW (lf c) ∗ yW (za c) ∗ zW (zb c)) := by
  rw [Finset.sdiff_empty, duties_bar, bigSep_univ_eq_bigSepL [0, 1, 2, 3] (by decide) (by decide), bigSepL_cons_cons, bigSepL_cons_cons,
    bigSepL_cons_cons, bigSepL_singleton, payload_at, payload_at, payload_at, payload_at]
  rfl

/-! ## What is owed, and the levels -/

/-- The `n`-th credit owed, counted from the last: on which device, -/
def otgt (c : Dev nD) (n : ℕ) : Dev nD :=
  if n < 26 then tgt c ⟨25 - n, by omega⟩ else if n = 26 then zb c else if n = 27 then za c else if n = 28 then rt c else lf c
/-- and on which cell. -/
def okey (n : ℕ) : Fin 55 := if n < 26 then sR ⟨25 - n, by omega⟩ else 54

/-- What device `c` owes when `n` of its payments are still to come. -/
def owe (c : Dev nD) : ℕ → CellTallies nD τ sig Unit
  | 0 => 0
  | n + 1 => owe c n + tallyAt (kcell (otgt c n) (okey n)) () (amt (okey n))

theorem owe_pos {c : Dev nD} {n : ℕ} {g : GSem nD τ sig} {u : Unit} (h : 0 < owe c n g u) : ∃ i, i < n ∧ g = kcell (otgt c i) (okey i) := by
  induction n with
  | zero => exact absurd h (Nat.lt_irrefl 0)
  | succ n ih =>
    unfold owe at h
    rw [Pi.add_apply, Finsupp.add_apply] at h
    rcases Nat.eq_zero_or_pos (owe c n g u) with h0 | h0
    · rw [h0, Nat.zero_add, tallyAt_apply] at h
      by_cases hg : g = kcell (otgt c n) (okey n) ∧ u = ()
      · exact ⟨n, Nat.lt_succ_self n, hg.1⟩
      · rw [if_neg hg] at h; exact absurd h (Nat.lt_irrefl 0)
    · obtain ⟨i, hi, e⟩ := ih h0
      exact ⟨i, Nat.lt_succ_of_lt hi, e⟩

def L (g : GSem nD τ sig) : Finset Unit := if g.1.2 = .tc then {()} else ∅
/-- The level of a cell: the barrier lowest, then the receive cells in program order. -/
def lvk (k : Fin 55) : ℕ := if k.val = 54 then 1 else match chan k with
  | some (j, true) => j.val + 2
  | _ => 0
def lv (g : GSem nD τ sig) (_ : Unit) : ℕ := match keyOf g.2 with
  | some k => lvk k
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (k : Fin 55) (u : Unit) : lv (kcell c k) u = lvk k := by dsimp only [lv, kcell]; rw [keyOf_csem]
theorem lvk_sR (j : Fin 26) : lvk (sR j) = j.val + 2 := by revert j; decide +kernel
theorem lvk_sS (j : Fin 26) : lvk (sS j) = 0 := by revert j; decide +kernel

theorem lvk_okey (i : ℕ) : lvk (okey i) = if i < 26 then 27 - i else 1 := by
  unfold okey; split
  · rw [lvk_sR]; dsimp only; omega
  · rfl

/-- A cell below everything still owed may be waited for. -/
theorem mayWait (c : Dev nD) (sm : SemLoc sig) (n b : ℕ) (hb : lv ((c : Thread nD τ), sm) () = b) (hn : ∀ i, i < n → b < lvk (okey i)) :
    (levAts L lv : sProp 𝕄) ⊢ MayWait (c : Thread nD τ) sm () (owe c n) :=
  MayOwe.of_cut (L := L) (lev := lv) b (fun p hp => by rw [Finset.mem_singleton.mp hp, L_tc]; exact Finset.mem_singleton_self _)
    (fun g u hg => by obtain ⟨i, hi, rfl⟩ := owe_pos hg; exact Finset.mem_singleton_self _)
    (fun p hp => by rw [Finset.mem_singleton.mp hp]; exact le_of_eq hb)
    (fun g u hg => by obtain ⟨i, hi, rfl⟩ := owe_pos hg; rw [lv_at]; exact hn i hi)

/-! ## What a device holds of its cells -/

/-- The invariants of all cells and that all are at their first round. -/
def recs (K : Dev nD × Fin 55 → ℕ) : sProp 𝕄 :=
  bigSep Finset.univ (fun p : Dev nD × Fin 55 => iprop(cellInv ER (rd V) (K p) (kcell p.1 p.2) ∗ reached ER (kcell p.1 p.2) 0))
/-- What every step may use. -/
def ctx (K : Dev nD × Fin 55 → ℕ) : sProp 𝕄 := iprop(recs V K ∗ levAts L lv)

instance recs_pers (K : Dev nD × Fin 55 → ℕ) : BI.Persistent (recs V K) := by unfold recs; infer_instance
instance ctx_pers (K : Dev nD × Fin 55 → ℕ) : BI.Persistent (ctx V K) := by unfold ctx; infer_instance

theorem recs_elim (K : Dev nD × Fin 55 → ℕ) (p : Dev nD × Fin 55) :
    recs V K ⊢ iprop(cellInv ER (rd V) (K p) (kcell p.1 p.2) ∗ reached ER (kcell p.1 p.2) 0) :=
  bigSep_elim (Finset.mem_univ p)

theorem ctx_inv (K : Dev nD × Fin 55 → ℕ) (c : Dev nD) (k : Fin 55) : ctx V K ⊢ cellInv ER (rd V) (K (c, k)) (kcell c k) := by
  unfold ctx
  iintro ⟨#H, -⟩
  ihave H' := (recs_elim V K (c, k)) $$ H
  icases H' with ⟨H1, -⟩
  iexact H1
theorem ctx_reached (K : Dev nD × Fin 55 → ℕ) (c : Dev nD) (k : Fin 55) : ctx V K ⊢ reached ER (kcell c k) 0 := by
  unfold ctx
  iintro ⟨#H, -⟩
  ihave H' := (recs_elim V K (c, k)) $$ H
  icases H' with ⟨-, H1⟩
  iexact H1

/-- What device `c` owes, its past waits forgotten. -/
def ow (c : Dev nD) (n : ℕ) : sProp 𝕄 := iprop(∃ W, owes (c : Thread nD τ) (owe c n) W)

/-- Channel `j` before its transfer, -/
def ch0 (c : Dev nD) (j : Fin 26) : sProp 𝕄 :=
  iprop(dutyTok ER (kcell c (sS j)) 0 0 ∗ dutyTok ER (kcell (tgt c j) (sR j)) 0 0 ∗ atPos ER (kcell c (sS j)) 0 ∅ 0 ∗ atPos ER (kcell c (sR j)) 0 ∅ 0
    ∗ cred (tallyAt (kcell c (sR j)) () (amt (sR j))))
/-- after it, -/
def ch1 (c : Dev nD) (j : Fin 26) : sProp 𝕄 :=
  iprop(cred (tallyAt (kcell c (sS j)) () (amt (sR j))) ∗ atPos ER (kcell c (sS j)) 0 ∅ 0 ∗ atPos ER (kcell c (sR j)) 0 ∅ 0
    ∗ cred (tallyAt (kcell c (sR j)) () (amt (sR j))))
/-- after what is received over it has come, -/
def ch2 (c : Dev nD) (j : Fin 26) : sProp 𝕄 :=
  iprop(cred (tallyAt (kcell c (sS j)) () (amt (sR j))) ∗ atPos ER (kcell c (sS j)) 0 ∅ 0 ∗ semVal (kcell c (sR j)) 0)
/-- and at the end. -/
def ch3 (c : Dev nD) (j : Fin 26) : sProp 𝕄 := iprop(semVal (kcell c (sS j)) 0 ∗ semVal (kcell c (sR j)) 0)

theorem amt_ch (j : Fin 26) : amt (sS j) = amt (sR j) := congrArg nOf (by revert j; decide +kernel)

abbrev 𝒱₀ : Variants := Variants.none

/-- A program run by device `c` ends in `Q`. -/
abbrev wpc {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (K : Dev nD × Fin 55 → ℕ)

/-- A wait on channel `j`'s receive cell: what it hands over, and the cell closes. -/
theorem step_recv (c : Dev nD) (j : Fin 26) (n : ℕ) (hn : n ≤ 25 - j.val) {sm : DmaSem sig} (hs : SemLoc.dma sm = csem (sR j))
    {sp sp' : Space} {s s' : Shape} {e e' : EltTy} {src : Memref sig .tc sp s e} {dst : Memref sig .tc sp' s' e'} {h1 : src.view.WordExact} {h2 : dst.view.WordExact}
    (hN : dst.view.dmaCredit = amt (sR j)) {α : Type} {Q : α → sProp 𝕄} {k : PUnit → Prog (TpuEff nD τ sig (Elt F) Λ₀ .tc) α} :
    iprop(ctx V K ∗ ch1 c j ∗ ow c n) ⊢ iprop(((ch2 c j ∗ ow c n ∗ payR V c j) -∗ wpc c (k ⟨⟩) Q) -∗ wpc c (.op (.waitDma2 sm src dst h1 h2) k) Q) := by
  unfold ch1 ch2 ow
  iintro ⟨#Hc, ⟨H1, H2, H3, H4⟩, ⟨%W, HO⟩⟩ Hk
  have hc : ((c : Thread nD τ), SemLoc.dma sm) = kcell c (sR j) := by rw [hs]
  rw [← hc, ← hN]
  iapply (Rounds.wp_wait_rest_token 𝒱₀ ER (rd V) (c : Thread nD τ) none (κ := K (c, sR j))
      (wpE_waitDma2_eq 𝒱₀ (c : Thread nD τ) none Set.univ) (Set.mem_univ _) () (O := owe c n) (W := W) (R := 0) (m := 0) (T := ∅)
      (by rw [hc, hN, Nat.zero_add, expect_dma V c _ (sR_ne j).1])) $$ [H3 H4 HO]
  · isplitr; · rw [hc]; iapply (ctx_inv V K c (sR j)); iexact Hc
    isplitl [H4]; · iexact H4
    isplitl [HO]; · iexact HO
    isplitr
    · iapply (mayWait c (.dma sm) n (j.val + 2) (by rw [hc, lv_at, lvk_sR]) (fun i hi => by rw [lvk_okey, if_pos (by omega)]; omega))
      unfold ctx; icases Hc with ⟨-, Hl⟩; iexact Hl
    iexact H3
  iintro ⟨HO, H3, -, Hp⟩
  rw [hc]
  ihave Hp := (Entails.of_eq ((rest_dma V c (sR j) (sR_ne j).1).trans (pay_sR V c j 0))) $$ Hp
  imod (Rounds.cell_close ER (rd V) (Set.mem_univ (K (c, sR j))) (fun h => h) (R := 0 + 1) (duties_later V (kcell c (sR j)))) $$ [H3] with H3
  · isplitr; · iapply (ctx_inv V K c (sR j)); iexact Hc
    iexact H3
  iapply Hk
  rw [hN]
  isplitl [H1 H2 H3]
  · isplitl [H1]; · iexact H1
    isplitl [H2]; · iexact H2
    iexact H3
  isplitl [HO]; · iexists _; iexact HO
  iexact Hp

/-- A wait on channel `j`'s send cell, nothing being owed any more. -/
theorem step_swait (c : Dev nD) (j : Fin 26) {sm : DmaSem sig} (hs : SemLoc.dma sm = csem (sS j))
    {sp sp' : Space} {s s' : Shape} {e e' : EltTy} {src : Memref sig .tc sp s e} {dst : Memref sig .tc sp' s' e'} {h1 : src.view.WordExact} {h2 : dst.view.WordExact}
    (hN : dst.view.dmaCredit = amt (sR j)) {α : Type} {Q : α → sProp 𝕄} {k : PUnit → Prog (TpuEff nD τ sig (Elt F) Λ₀ .tc) α} :
    iprop(ctx V K ∗ ch2 c j ∗ ow c 0) ⊢ iprop(((ch3 c j ∗ ow c 0 ∗ payS V c j) -∗ wpc c (k ⟨⟩) Q) -∗ wpc c (.op (.waitDma2 sm src dst h1 h2) k) Q) := by
  unfold ch2 ch3 ow
  iintro ⟨#Hc, ⟨H1, H2, H3⟩, ⟨%W, HO⟩⟩ Hk
  have hc : ((c : Thread nD τ), SemLoc.dma sm) = kcell c (sS j) := by rw [hs]
  rw [← hc, ← hN]
  iapply (Rounds.wp_wait_rest_token 𝒱₀ ER (rd V) (c : Thread nD τ) none (κ := K (c, sS j))
      (wpE_waitDma2_eq 𝒱₀ (c : Thread nD τ) none Set.univ) (Set.mem_univ _) () (O := owe c 0) (W := W) (R := 0) (m := 0) (T := ∅)
      (by rw [hc, hN, Nat.zero_add, expect_dma V c _ (sS_ne j).1, amt_ch])) $$ [H1 H2 HO]
  · isplitr; · rw [hc]; iapply (ctx_inv V K c (sS j)); iexact Hc
    isplitl [H1]; · iexact H1
    isplitl [HO]; · iexact HO
    isplitr
    · iapply (mayWait c (.dma sm) 0 0 (by rw [hc, lv_at, lvk_sS]) (fun i hi => absurd hi (Nat.not_lt_zero i)))
      unfold ctx; icases Hc with ⟨-, Hl⟩; iexact Hl
    iexact H2
  iintro ⟨HO, H2, -, Hp⟩
  rw [hc]
  ihave Hp := (Entails.of_eq ((rest_dma V c (sS j) (sS_ne j).1).trans (pay_sS V c j 0))) $$ Hp
  imod (Rounds.cell_close ER (rd V) (Set.mem_univ (K (c, sS j))) (fun h => h) (R := 0 + 1) (duties_later V (kcell c (sS j)))) $$ [H2] with H2
  · isplitr; · iapply (ctx_inv V K c (sS j)); iexact Hc
    iexact H2
  iapply Hk
  isplitl [H2 H3]
  · isplitl [H2]; · iexact H2
    iexact H3
  isplitl [HO]; · iexists _; iexact HO
  iexact Hp

/-- A transfer on channel `j` whose source goes to the receiver with what lands. -/
theorem step_give (c : Dev nD) (j : Fin 26) {d : Dev nD} (hd : d = tgt c j) (n : ℕ) (hn : n = 25 - j.val)
    {sa sb : DmaSem sig} (ha : SemLoc.dma sa = csem (sS j)) (hb : SemLoc.dma sb = csem (sR j))
    {sp sp' : Space} {s : Shape} {e : EltTy} {src : Memref sig .tc sp s e} {dst : Memref sig .tc sp' s e}
    {hsc : (dst : Memref sig (Dev.tc d : Thread nD τ).2.kind sp' s e).view.ref.isScScratch = false}
    {h1 : src.view.WordExact} {h2 : dst.view.WordExact}
    {h3 : DmaTarget.Typed sp (.dma sb) (.remote (Dev.tc d : Thread nD τ) dst (.dma sa) hsc)}
    (hN : dst.view.dmaCredit = amt (sR j))
    {fs : Buf (Elt F) (src.view.loc (c : Thread nD τ))} {fd : Buf (Elt F) (dst.view.loc (Dev.tc d : Thread nD τ))} (G : sProp 𝕄)
    (hS : (emp : sProp 𝕄) ⊢ payS V c j)
    (hR : iprop(((dst.view.loc (Dev.tc d : Thread nD τ) ↦[dst.view.set]{fullShare} (dst.view.write (Elt F) fd (src.view.read (Elt F) fs) Finset.univ)) ∗ G)
      ∗ (src.view.loc (c : Thread nD τ) ↦[src.view.set]{fullShare} fs)) ⊢ payR V d j)
    {α : Type} {Q : α → sProp 𝕄} {k : PUnit → Prog (TpuEff nD τ sig (Elt F) Λ₀ .tc) α} :
    iprop(ctx V K ∗ ch0 c j ∗ ow c (n + 1) ∗ (src.view.loc (c : Thread nD τ) ↦[src.view.set]{fullShare} fs)
        ∗ (dst.view.loc (Dev.tc d : Thread nD τ) ↦[dst.view.set]{fullShare} fd) ∗ G)
      ⊢ iprop(((ch1 c j ∗ ow c n) -∗ wpc c (k ⟨⟩) Q)
        -∗ wpc c (.op (.enqueueDma src (.remote (Dev.tc d : Thread nD τ) dst (.dma sa) hsc) (.dma sb) h1 h2 h3) k) Q) := by
  subst hd
  unfold ch0 ch1 ow
  iintro ⟨#Hc, ⟨H1, H2, H3, H4, H5⟩, ⟨%W, HO⟩, Hs, Hd, HG⟩ Hk
  have hca : ((c : Thread nD τ), SemLoc.dma sa) = kcell c (sS j) := by rw [ha]
  have hcb : ((Dev.tc (tgt c j) : Thread nD τ), SemLoc.dma sb) = kcell (tgt c j) (sR j) := by rw [hb]
  have hlt : n < 26 := by omega
  have hj : (⟨25 - n, by omega⟩ : Fin 26) = j := Fin.ext (by have := j.isLt; dsimp only; omega)
  have ho : owe c (n + 1) = owe c n + tallyAt ((Dev.tc (tgt c j) : Thread nD τ), SemLoc.dma sb) () (amt (sR j)) := by
    rw [hcb]; dsimp only [owe, otgt, okey]; rw [if_pos hlt, if_pos hlt, hj]
  iapply (Rounds.wp_send_landing_pointsTo_with 𝒱₀ ER (rd V) (c : Thread nD τ) none (κ₁ := K (c, sS j)) (κ₂ := K (tgt c j, sR j))
    (r₁ := 0) (r₂ := 0) (d₁ := 0) (d₂ := 0) (fd := fd) (F := G) (q := fullShare)
    (by rw [hca, duties_dma V c _ (sS_ne j).1]; exact Finset.mem_singleton_self _)
    (by rw [hcb, duties_dma V _ _ (sR_ne j).1]; exact Finset.mem_singleton_self _)
    () () (amt (sR j)) ((View.amount_dma _ _).trans hN) (by rw [hca, amount_at, amt_ch]) (by rw [hcb, amount_at]) (owe c n) ho (W := W)
    (by rw [hca, payload_at, pay_sS]; exact hS) (by rw [hcb, payload_at, pay_sR]; exact hR)) $$ [H1 H2 HO Hs Hd HG]
  · isplitr; · rw [hca]; iapply (ctx_inv V K c (sS j)); iexact Hc
    isplitr; · rw [hcb]; iapply (ctx_inv V K (tgt c j) (sR j)); iexact Hc
    isplitl [Hs]; · iexact Hs
    isplitl [Hd HG]
    · isplitl [Hd]; · iexact Hd
      iexact HG
    isplitl [HO]; · iexact HO
    isplitl [H1]; · rw [hca]; iexact H1
    isplitr; · rw [hca]; iapply (ctx_reached V K c (sS j)); iexact Hc
    isplitl [H2]; · rw [hcb]; iexact H2
    rw [hcb]; iapply (ctx_reached V K (tgt c j) (sR j)); iexact Hc
  iintro ⟨Hcr, HO⟩
  iapply Hk
  isplitr [HO]
  · isplitl [Hcr]; · rw [hca]; iexact Hcr
    isplitl [H3]; · iexact H3
    isplitl [H4]; · iexact H4
    iexact H5
  iexists W; iexact HO

/-- A transfer on channel `j` whose source comes back with the wait on its send cell. -/
theorem step_send (c : Dev nD) (j : Fin 26) {d : Dev nD} (hd : d = tgt c j) (n : ℕ) (hn : n = 25 - j.val)
    {sa sb : DmaSem sig} (ha : SemLoc.dma sa = csem (sS j)) (hb : SemLoc.dma sb = csem (sR j))
    {sp sp' : Space} {s : Shape} {e : EltTy} {src : Memref sig .tc sp s e} {dst : Memref sig .tc sp' s e}
    {hsc : (dst : Memref sig (Dev.tc d : Thread nD τ).2.kind sp' s e).view.ref.isScScratch = false}
    {h1 : src.view.WordExact} {h2 : dst.view.WordExact}
    {h3 : DmaTarget.Typed sp (.dma sb) (.remote (Dev.tc d : Thread nD τ) dst (.dma sa) hsc)}
    (hN : dst.view.dmaCredit = amt (sR j)) {q : PosShare TreeShare}
    {fs : Buf (Elt F) (src.view.loc (c : Thread nD τ))} {fd : Buf (Elt F) (dst.view.loc (Dev.tc d : Thread nD τ))} (G : sProp 𝕄)
    (hS : (src.view.loc (c : Thread nD τ) ↦[src.view.set]{q} fs) ⊢ payS V c j)
    (hR : iprop((dst.view.loc (Dev.tc d : Thread nD τ) ↦[dst.view.set]{fullShare} (dst.view.write (Elt F) fd (src.view.read (Elt F) fs) Finset.univ)) ∗ G)
      ⊢ payR V d j)
    {α : Type} {Q : α → sProp 𝕄} {k : PUnit → Prog (TpuEff nD τ sig (Elt F) Λ₀ .tc) α} :
    iprop(ctx V K ∗ ch0 c j ∗ ow c (n + 1) ∗ (src.view.loc (c : Thread nD τ) ↦[src.view.set]{q} fs)
        ∗ (dst.view.loc (Dev.tc d : Thread nD τ) ↦[dst.view.set]{fullShare} fd) ∗ G)
      ⊢ iprop(((ch1 c j ∗ ow c n) -∗ wpc c (k ⟨⟩) Q)
        -∗ wpc c (.op (.enqueueDma src (.remote (Dev.tc d : Thread nD τ) dst (.dma sa) hsc) (.dma sb) h1 h2 h3) k) Q) := by
  subst hd
  unfold ch0 ch1 ow
  iintro ⟨#Hc, ⟨H1, H2, H3, H4, H5⟩, ⟨%W, HO⟩, Hs, Hd, HG⟩ Hk
  have hca : ((c : Thread nD τ), SemLoc.dma sa) = kcell c (sS j) := by rw [ha]
  have hcb : ((Dev.tc (tgt c j) : Thread nD τ), SemLoc.dma sb) = kcell (tgt c j) (sR j) := by rw [hb]
  have hlt : n < 26 := by omega
  have hj : (⟨25 - n, by omega⟩ : Fin 26) = j := Fin.ext (by have := j.isLt; dsimp only; omega)
  have ho : owe c (n + 1) = owe c n + tallyAt ((Dev.tc (tgt c j) : Thread nD τ), SemLoc.dma sb) () (amt (sR j)) := by
    rw [hcb]; dsimp only [owe, otgt, okey]; rw [if_pos hlt, if_pos hlt, hj]
  iapply (Rounds.wp_send_pointsTo_with 𝒱₀ ER (rd V) (c : Thread nD τ) none (κ₁ := K (c, sS j)) (κ₂ := K (tgt c j, sR j))
    (r₁ := 0) (r₂ := 0) (d₁ := 0) (d₂ := 0) (fd := fd) (F := G) (q := q)
    (by rw [hca, duties_dma V c _ (sS_ne j).1]; exact Finset.mem_singleton_self _)
    (by rw [hcb, duties_dma V _ _ (sR_ne j).1]; exact Finset.mem_singleton_self _)
    () () (amt (sR j)) ((View.amount_dma _ _).trans hN) (by rw [hca, amount_at, amt_ch]) (by rw [hcb, amount_at]) (owe c n) ho (W := W)
    (by rw [hca, payload_at, pay_sS]; exact hS) (by rw [hcb, payload_at, pay_sR]; exact hR)) $$ [H1 H2 HO Hs Hd HG]
  · isplitr; · rw [hca]; iapply (ctx_inv V K c (sS j)); iexact Hc
    isplitr; · rw [hcb]; iapply (ctx_inv V K (tgt c j) (sR j)); iexact Hc
    isplitl [Hs]; · iexact Hs
    isplitl [Hd HG]
    · isplitl [Hd]; · iexact Hd
      iexact HG
    isplitl [HO]; · iexact HO
    isplitl [H1]; · rw [hca]; iexact H1
    isplitr; · rw [hca]; iapply (ctx_reached V K c (sS j)); iexact Hc
    isplitl [H2]; · rw [hcb]; iexact H2
    rw [hcb]; iapply (ctx_reached V K (tgt c j) (sR j)); iexact Hc
  iintro ⟨Hcr, HO⟩
  iapply Hk
  isplitr [HO]
  · isplitl [Hcr]; · rw [hca]; iexact Hcr
    isplitl [H3]; · iexact H3
    isplitl [H4]; · iexact H4
    iexact H5
  iexists W; iexact HO

end Cert.KernelIdeal.Pf

end
-- ==== Proof.Steps.lean ====
/-
# The steps on the buffers

Loads, stores and transfers on row blocks of the two 1024 by 1024 buffers and on the landing slots,
each with the rows it touches and what they hold.
-/
module

public import proofs.«01_k».proof.Proof.Sched

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (V : Vals F)

local notation "𝕄" => MT nD τ sig Unit (Elt F) ℕ UU ℕ

/-- Rows `S` of device `d`'s result buffer, holding `A`. -/
def ob (d : Dev nD) (S : Finset S1024x1024.Idx) (A : S1024x1024.Idx → Elt F .f32) : sProp 𝕄 :=
  iprop(((d : Thread nD τ).loc cc0_stg3_0) ↦[S]{fullShare} A)

/-- A block of rows holding `A` holds any `B` equal to it there. -/
theorem cb_congr {c : Dev nD} {S : Finset S1024x1024.Idx} {q : PosShare TreeShare} {A B : Mat F} (h : ∀ i ∈ S, A i = B i) :
    cb c S q A = cb c S q B := by unfold cb; exact pointsTo_congr h

/-- The whole block of rows, as the slice reads it. -/
theorem read_c {n a : ℕ} {off : Fin 2 → ℕ} {inb} (hoff : off = ![a, 0]) (A : Mat F) (x : (⟨2, ![n, 1024]⟩ : Shape).Idx) (i : S1024x1024.Idx) (h : At a x i) :
    (cM.slice (Rect.unit (s := S1024x1024) off ![n, 1024] inb) (fun _ => rfl)).view.read (Elt F) A x = A i :=
  congrArg A (At.uniq (at_emb (inb := inb) hoff x) h)

/-- Loading a block of rows of the buffer. -/
theorem ld_c (c : Dev nD) {n a : ℕ} {off : Fin 2 → ℕ} {inb} (hoff : off = ![a, 0]) {q : PosShare TreeShare} {A : Mat F}
    {hl : cM.view.LoadsAt (Rect.unit (s := S1024x1024) off ![n, 1024] inb).toLoadRect}
    {α : Type} {Q : α → sProp 𝕄} {k : ((⟨2, ![n, 1024]⟩ : Shape).Idx → Elt F .bf16) → Prog (TpuEff nD τ sig (Elt F) Λ₀ .tc) α} :
    cb c (rows a n) q A ⊢ iprop((cb c (rows a n) q A -∗ ∀ v, ⌜∀ x i, At a x i → v x = A i⌝ -∗ wpc c (k v) Q)
      -∗ wpc c (.op (.load cM (Rect.unit (s := S1024x1024) off ![n, 1024] inb).toLoadRect hl) k) Q) := by
  unfold cb
  iintro H Hk
  iapply (wp_load_rect 𝒱₀ (c : Thread nD τ) none Set.univ (m := cM) (r := Rect.unit (s := S1024x1024) off ![n, 1024] inb) (S := rows a n) (set_c (inb := inb) hoff).subset) $$ H
  iintro H
  ispecialize Hk $$ H %((cM.access (Rect.unit (s := S1024x1024) off ![n, 1024] inb)).read (Elt F) A) []
  · ipureintro; exact read_c (inb := inb) hoff A
  iexact Hk

/-- Storing a block of rows of the buffer. -/
theorem st_c (c : Dev nD) {n a : ℕ} {off : Fin 2 → ℕ} {inb} (hoff : off = ![a, 0]) {A : Mat F} (B : Mat F)
    {w : (⟨2, ![n, 1024]⟩ : Shape).Idx → Elt F .bf16} (hw : ∀ x i, At a x i → w x = B i)
    {hx : (cM.access (Rect.unit (s := S1024x1024) off ![n, 1024] inb)).Stores Finset.univ} {hm}
    {α : Type} {Q : α → sProp 𝕄} {k : PUnit → Prog (TpuEff nD τ sig (Elt F) Λ₀ .tc) α} :
    cb c (rows a n) fullShare A ⊢ iprop((cb c (rows a n) fullShare B -∗ wpc c (k ⟨⟩) Q)
      -∗ wpc c (.op (.store cM (Rect.unit (s := S1024x1024) off ![n, 1024] inb) w Finset.univ hx hm) k) Q) := by
  unfold cb
  iintro H Hk
  iapply (wp_store 𝒱₀ (c : Thread nD τ) none Set.univ (m := cM) (r := Rect.unit (s := S1024x1024) off ![n, 1024] inb) (Mk := Finset.univ) (S := rows a n) (by
    rw [View.setOn_univ]; exact (set_c (inb := inb) hoff).subset)) $$ H
  iintro H
  iapply Hk
  ihave H9 := (Entails.of_eq (pointsTo_congr (fun i hi => (write_c (inb := inb) hoff B A w hw i hi)))) $$ H
  iexact H9

/-- What a store through rows of the result buffer leaves there. -/
theorem write_o {n a : ℕ} {off : Fin 2 → ℕ} {inb} (hoff : off = ![a, 0]) (A f : S1024x1024.Idx → Elt F .f32)
    (w : (⟨2, ![n, 1024]⟩ : Shape).Idx → Elt F .f32) (hw : ∀ x i, At a x i → w x = A i) :
    ∀ i ∈ rows a n, (oM.access (Rect.unit (s := S1024x1024) off ![n, 1024] inb)).write (Elt F) f w Finset.univ i = A i := by
  intro i hi
  rw [← set_o (inb := inb) hoff] at hi
  obtain ⟨x, -, hx⟩ := Finset.mem_map.mp hi
  have h := View.write_emb_of_mem (v := oM.access (Rect.unit (s := S1024x1024) off ![n, 1024] inb)) (Val := Elt F) f w (Finset.mem_univ x)
  have hx' : (oM.access (Rect.unit (s := S1024x1024) off ![n, 1024] inb)).emb x = i := hx
  rw [← hx']
  refine Eq.trans h ?_
  exact hw x _ (at_emb hoff x)

/-- Loading a block of rows of the result buffer, whatever they hold. -/
theorem ld_o (c : Dev nD) {n a : ℕ} {off : Fin 2 → ℕ} {inb} (hoff : off = ![a, 0]) {A : S1024x1024.Idx → Elt F .f32}
    {hl : oM.view.LoadsAt (Rect.unit (s := S1024x1024) off ![n, 1024] inb).toLoadRect}
    {α : Type} {Q : α → sProp 𝕄} {k : ((⟨2, ![n, 1024]⟩ : Shape).Idx → Elt F .f32) → Prog (TpuEff nD τ sig (Elt F) Λ₀ .tc) α} :
    ob c (rows a n) A ⊢ iprop((ob c (rows a n) A -∗ ∀ v, wpc c (k v) Q)
      -∗ wpc c (.op (.load oM (Rect.unit (s := S1024x1024) off ![n, 1024] inb).toLoadRect hl) k) Q) := by
  unfold ob
  iintro H Hk
  iapply (wp_load_rect 𝒱₀ (c : Thread nD τ) none Set.univ (m := oM) (r := Rect.unit (s := S1024x1024) off ![n, 1024] inb) (S := rows a n) (set_o (inb := inb) hoff).subset) $$ H
  iintro H
  ispecialize Hk $$ H %((oM.access (Rect.unit (s := S1024x1024) off ![n, 1024] inb)).read (Elt F) A)
  iexact Hk

/-- Storing a block of rows of the result buffer. -/
theorem st_o (c : Dev nD) {n a : ℕ} {off : Fin 2 → ℕ} {inb} (hoff : off = ![a, 0]) {A : S1024x1024.Idx → Elt F .f32} (B : S1024x1024.Idx → Elt F .f32)
    {w : (⟨2, ![n, 1024]⟩ : Shape).Idx → Elt F .f32} (hw : ∀ x i, At a x i → w x = B i)
    {hx : (oM.access (Rect.unit (s := S1024x1024) off ![n, 1024] inb)).Stores Finset.univ} {hm}
    {α : Type} {Q : α → sProp 𝕄} {k : PUnit → Prog (TpuEff nD τ sig (Elt F) Λ₀ .tc) α} :
    ob c (rows a n) A ⊢ iprop((ob c (rows a n) B -∗ wpc c (k ⟨⟩) Q)
      -∗ wpc c (.op (.store oM (Rect.unit (s := S1024x1024) off ![n, 1024] inb) w Finset.univ hx hm) k) Q) := by
  unfold ob
  iintro H Hk
  iapply (wp_store 𝒱₀ (c : Thread nD τ) none Set.univ (m := oM) (r := Rect.unit (s := S1024x1024) off ![n, 1024] inb) (Mk := Finset.univ) (S := rows a n) (by
    rw [View.setOn_univ]; exact (set_o (inb := inb) hoff).subset)) $$ H
  iintro H
  iapply Hk
  ihave H9 := (Entails.of_eq (pointsTo_congr (fun i hi => (write_o (inb := inb) hoff B A w hw i hi)))) $$ H
  iexact H9

variable (K : Dev nD × Fin 55 → ℕ)

/-- A transfer of final rows to the same rows of another device. -/
theorem send_c (c : Dev nD) (j : Fin 26) {d : Dev nD} (hd : d = tgt c j) (n' : ℕ) (hn : n' = 25 - j.val)
    {sa sb : DmaSem sig} (ha : SemLoc.dma sa = csem (sS j)) (hb : SemLoc.dma sb = csem (sR j))
    {n a : ℕ} {off : Fin 2 → ℕ} {inb} (hoff : off = ![a, 0])
    {hsc : (cM.slice (Rect.unit (s := S1024x1024) off ![n, 1024] inb) (fun _ => rfl) : Memref sig (Dev.tc d : Thread nD τ).2.kind .vmem ⟨2, ![n, 1024]⟩ .bf16).view.ref.isScScratch = false}
    {h1 h2} {h3}
    (hN : (cM.slice (Rect.unit (s := S1024x1024) off ![n, 1024] inb) (fun _ => rfl)).view.dmaCredit = amt (sR j)) {q : PosShare TreeShare}
    (G : sProp 𝕄) (A : Mat F)
    (hS : cb c (rows a n) q A ⊢ payS V c j) (hR : iprop(cb d (rows a n) fullShare A ∗ G) ⊢ payR V d j)
    {α : Type} {Q : α → sProp 𝕄} {k : PUnit → Prog (TpuEff nD τ sig (Elt F) Λ₀ .tc) α} :
    iprop(ctx V K ∗ ch0 c j ∗ ow c (n' + 1) ∗ cb c (rows a n) q A ∗ gv d (rows a n) ∗ G)
      ⊢ iprop(((ch1 c j ∗ ow c n') -∗ wpc c (k ⟨⟩) Q)
        -∗ wpc c (.op (.enqueueDma (cM.slice (Rect.unit (s := S1024x1024) off ![n, 1024] inb) (fun _ => rfl))
          (.remote (Dev.tc d : Thread nD τ) (cM.slice (Rect.unit (s := S1024x1024) off ![n, 1024] inb) (fun _ => rfl)) (.dma sa) hsc) (.dma sb) h1 h2 h3) k) Q) := by
  iintro ⟨#Hc, Hch, HO, Hs, Hd, HG⟩
  unfold gv
  icases Hd with ⟨%B, Hd⟩
  iapply (step_send V K c j hd n' hn ha hb (src := cM.slice (Rect.unit (s := S1024x1024) off ![n, 1024] inb) (fun _ => rfl))
    (dst := cM.slice (Rect.unit (s := S1024x1024) off ![n, 1024] inb) (fun _ => rfl)) hN (q := q) (fs := A) (fd := B) G
    (by rw [set_c hoff]; exact hS)
    (by
      rw [set_c hoff]
      refine BIBase.Entails.trans ?_ hR
      iintro ⟨H1, H2⟩
      isplitl [H1]
      · unfold cb
        ihave H9 := (Entails.of_eq (pointsTo_congr (fun i hi => (write_c (inb := inb) hoff A B _ (read_c (inb := inb) hoff A) i hi)))) $$ H1
        iexact H9
      iexact H2))
  isplitr; · iexact Hc
  isplitl [Hch]; · iexact Hch
  isplitl [HO]; · iexact HO
  isplitl [Hs]
  · rw [set_c hoff]; unfold cb; iexact Hs
  isplitl [Hd]
  · rw [set_c hoff]; unfold cb; iexact Hd
  iexact HG

/-- A transfer of rows into slot `s` of `prM`, the rows going with it. -/
theorem send_pr (c : Dev nD) (j : Fin 26) {d : Dev nD} (hd : d = tgt c j) (n' : ℕ) (hn : n' = 25 - j.val)
    {sa sb : DmaSem sig} (ha : SemLoc.dma sa = csem (sS j)) (hb : SemLoc.dma sb = csem (sR j))
    (s : Fin 3) {a : ℕ} {off : Fin 2 → ℕ} {inb} {inb'} (hoff : off = ![a, 0])
    {hsc : (prSlot s.val inb' : Memref sig (Dev.tc d : Thread nD τ).2.kind .vmem S128x1024 .bf16).view.ref.isScScratch = false}
    {h1 h2} {h3}
    (hN : (prSlot s.val inb').view.dmaCredit = amt (sR j))
    (G : sProp 𝕄) (A : Mat F)
    (hS : (emp : sProp 𝕄) ⊢ payS V c j) (hR : iprop(prH d s a A ∗ gv c (rows a 128) ∗ G) ⊢ payR V d j)
    {α : Type} {Q : α → sProp 𝕄} {k : PUnit → Prog (TpuEff nD τ sig (Elt F) Λ₀ .tc) α} :
    iprop(ctx V K ∗ ch0 c j ∗ ow c (n' + 1) ∗ cb c (rows a 128) fullShare A ∗ prG d s.val ∗ G)
      ⊢ iprop(((ch1 c j ∗ ow c n') -∗ wpc c (k ⟨⟩) Q)
        -∗ wpc c (.op (.enqueueDma (cM.slice (Rect.unit (s := S1024x1024) off S128x1024.size inb) (fun _ => rfl))
          (.remote (Dev.tc d : Thread nD τ) (prSlot s.val inb') (.dma sa) hsc) (.dma sb) h1 h2 h3) k) Q) := by
  iintro ⟨#Hc, Hch, HO, Hs, Hd, HG⟩
  unfold prG
  icases Hd with ⟨%B, Hd⟩
  iapply (step_give V K c j hd n' hn ha hb (src := cM.slice (Rect.unit (s := S1024x1024) off ![128, 1024] inb) (fun _ => rfl))
    (dst := prSlot s.val inb') hN (fs := A) (fd := B) G hS
    (by
      rw [set_c hoff, set_pr]
      refine BIBase.Entails.trans ?_ hR
      iintro ⟨⟨H1, H2⟩, H3⟩
      isplitl [H1]
      · unfold prH
        iexists _
        isplitr [H1]
        swap
        · iexact H1
        ipureintro
        intro x i h
        exact (write_pr (inb := inb') B _ x).trans (read_c (inb := inb) hoff A x i h)
      isplitl [H3]
      · unfold gv cb; iexists A; iexact H3
      iexact H2))
  isplitr; · iexact Hc
  isplitl [Hch]; · iexact Hch
  isplitl [HO]; · iexact HO
  isplitl [Hs]
  · rw [set_c hoff]; unfold cb; iexact Hs
  isplitl [Hd]
  · rw [set_pr]; iexact Hd
  iexact HG

/-- Loading slot `s` of `prM`. -/
theorem ld_pr (c : Dev nD) (s : Fin 3) {a : ℕ} {A : Mat F} {inb}
    {hl : prM.view.LoadsAt (Rect.unit (s := S3x128x1024) ![s.val, 0, 0] S1x128x1024.size inb).toLoadRect}
    {α : Type} {Q : α → sProp 𝕄} {k : (S1x128x1024.Idx → Elt F .bf16) → Prog (TpuEff nD τ sig (Elt F) Λ₀ .tc) α} :
    prH c s a A ⊢ iprop((prG c s.val -∗ ∀ w, ⌜∀ x i, At a x i → shapeCast S128x1024 w shapeCasts_S1x128x1024_S128x1024 x = A i⌝ -∗ wpc c (k w) Q)
      -∗ wpc c (.op (.load prM (Rect.unit (s := S3x128x1024) ![s.val, 0, 0] S1x128x1024.size inb).toLoadRect hl) k) Q) := by
  unfold prH
  iintro ⟨%f, %hf, H⟩ Hk
  iapply (wp_load_rect 𝒱₀ (c : Thread nD τ) none Set.univ (m := prM) (r := Rect.unit (s := S3x128x1024) ![s.val, 0, 0] S1x128x1024.size inb) (S := prSet s.val) (by
    rw [← set_prrect (inb := inb)]; exact (View.set_slice_whole _ _).subset)) $$ H
  iintro H
  ispecialize Hk $$ [H] %((prM.access (Rect.unit (s := S3x128x1024) ![s.val, 0, 0] S1x128x1024.size inb)).read (Elt F) f) []
  · unfold prG; iexists f; iexact H
  · ipureintro; intro x i h; exact hf x i h
  iexact Hk

/-- A transfer of rows into slot `s` of `plM`, the rows going with it. -/
theorem send_pl (c : Dev nD) (j : Fin 26) {d : Dev nD} (hd : d = tgt c j) (n' : ℕ) (hn : n' = 25 - j.val)
    {sa sb : DmaSem sig} (ha : SemLoc.dma sa = csem (sS j)) (hb : SemLoc.dma sb = csem (sR j))
    (s : Fin 3) {a : ℕ} {off : Fin 2 → ℕ} {inb} {inb'} (hoff : off = ![a, 0])
    {hsc : (plSlot s.val inb' : Memref sig (Dev.tc d : Thread nD τ).2.kind .vmem S128x1024 .bf16).view.ref.isScScratch = false}
    {h1 h2} {h3}
    (hN : (plSlot s.val inb').view.dmaCredit = amt (sR j))
    (G : sProp 𝕄) (A : Mat F)
    (hS : (emp : sProp 𝕄) ⊢ payS V c j) (hR : iprop(plH d s a A ∗ gv c (rows a 128) ∗ G) ⊢ payR V d j)
    {α : Type} {Q : α → sProp 𝕄} {k : PUnit → Prog (TpuEff nD τ sig (Elt F) Λ₀ .tc) α} :
    iprop(ctx V K ∗ ch0 c j ∗ ow c (n' + 1) ∗ cb c (rows a 128) fullShare A ∗ plG d s.val ∗ G)
      ⊢ iprop(((ch1 c j ∗ ow c n') -∗ wpc c (k ⟨⟩) Q)
        -∗ wpc c (.op (.enqueueDma (cM.slice (Rect.unit (s := S1024x1024) off S128x1024.size inb) (fun _ => rfl))
          (.remote (Dev.tc d : Thread nD τ) (plSlot s.val inb') (.dma sa) hsc) (.dma sb) h1 h2 h3) k) Q) := by
  iintro ⟨#Hc, Hch, HO, Hs, Hd, HG⟩
  unfold plG
  icases Hd with ⟨%B, Hd⟩
  iapply (step_give V K c j hd n' hn ha hb (src := cM.slice (Rect.unit (s := S1024x1024) off ![128, 1024] inb) (fun _ => rfl))
    (dst := plSlot s.val inb') hN (fs := A) (fd := B) G hS
    (by
      rw [set_c hoff, set_pl]
      refine BIBase.Entails.trans ?_ hR
      iintro ⟨⟨H1, H2⟩, H3⟩
      isplitl [H1]
      · unfold plH
        iexists _
        isplitr [H1]
        swap
        · iexact H1
        ipureintro
        intro x i h
        exact (write_pl (inb := inb') B _ x).trans (read_c (inb := inb) hoff A x i h)
      isplitl [H3]
      · unfold gv cb; iexists A; iexact H3
      iexact H2))
  isplitr; · iexact Hc
  isplitl [Hch]; · iexact Hch
  isplitl [HO]; · iexact HO
  isplitl [Hs]
  · rw [set_c hoff]; unfold cb; iexact Hs
  isplitl [Hd]
  · rw [set_pl]; iexact Hd
  iexact HG

/-- Loading slot `s` of `plM`. -/
theorem ld_pl (c : Dev nD) (s : Fin 3) {a : ℕ} {A : Mat F} {inb}
    {hl : plM.view.LoadsAt (Rect.unit (s := S3x128x1024) ![s.val, 0, 0] S1x128x1024.size inb).toLoadRect}
    {α : Type} {Q : α → sProp 𝕄} {k : (S1x128x1024.Idx → Elt F .bf16) → Prog (TpuEff nD τ sig (Elt F) Λ₀ .tc) α} :
    plH c s a A ⊢ iprop((plG c s.val -∗ ∀ w, ⌜∀ x i, At a x i → shapeCast S128x1024 w shapeCasts_S1x128x1024_S128x1024 x = A i⌝ -∗ wpc c (k w) Q)
      -∗ wpc c (.op (.load plM (Rect.unit (s := S3x128x1024) ![s.val, 0, 0] S1x128x1024.size inb).toLoadRect hl) k) Q) := by
  unfold plH
  iintro ⟨%f, %hf, H⟩ Hk
  iapply (wp_load_rect 𝒱₀ (c : Thread nD τ) none Set.univ (m := plM) (r := Rect.unit (s := S3x128x1024) ![s.val, 0, 0] S1x128x1024.size inb) (S := plSet s.val) (by
    rw [← set_plrect (inb := inb)]; exact (View.set_slice_whole _ _).subset)) $$ H
  iintro H
  ispecialize Hk $$ [H] %((plM.access (Rect.unit (s := S3x128x1024) ![s.val, 0, 0] S1x128x1024.size inb)).read (Elt F) f) []
  · unfold plG; iexists f; iexact H
  · ipureintro; intro x i h; exact hf x i h
  iexact Hk

/-- A transfer of rows into slot `s` of `yM`, the rows going with it. -/
theorem send_y (c : Dev nD) (j : Fin 26) {d : Dev nD} (hd : d = tgt c j) (n' : ℕ) (hn : n' = 25 - j.val)
    {sa sb : DmaSem sig} (ha : SemLoc.dma sa = csem (sS j)) (hb : SemLoc.dma sb = csem (sR j))
    (s : Fin 2) {a : ℕ} {off : Fin 2 → ℕ} {inb} {inb'} (hoff : off = ![a, 0])
    {hsc : (ySlot s.val inb' : Memref sig (Dev.tc d : Thread nD τ).2.kind .vmem S64x1024 .bf16).view.ref.isScScratch = false}
    {h1 h2} {h3}
    (hN : (ySlot s.val inb').view.dmaCredit = amt (sR j))
    (G : sProp 𝕄) (A : Mat F)
    (hS : (emp : sProp 𝕄) ⊢ payS V c j) (hR : iprop(yH d s a A ∗ gv c (rows a 64) ∗ G) ⊢ payR V d j)
    {α : Type} {Q : α → sProp 𝕄} {k : PUnit → Prog (TpuEff nD τ sig (Elt F) Λ₀ .tc) α} :
    iprop(ctx V K ∗ ch0 c j ∗ ow c (n' + 1) ∗ cb c (rows a 64) fullShare A ∗ yG d s.val ∗ G)
      ⊢ iprop(((ch1 c j ∗ ow c n') -∗ wpc c (k ⟨⟩) Q)
        -∗ wpc c (.op (.enqueueDma (cM.slice (Rect.unit (s := S1024x1024) off S64x1024.size inb) (fun _ => rfl))
          (.remote (Dev.tc d : Thread nD τ) (ySlot s.val inb') (.dma sa) hsc) (.dma sb) h1 h2 h3) k) Q) := by
  iintro ⟨#Hc, Hch, HO, Hs, Hd, HG⟩
  unfold yG
  icases Hd with ⟨%B, Hd⟩
  iapply (step_give V K c j hd n' hn ha hb (src := cM.slice (Rect.unit (s := S1024x1024) off ![64, 1024] inb) (fun _ => rfl))
    (dst := ySlot s.val inb') hN (fs := A) (fd := B) G hS
    (by
      rw [set_c hoff, set_y]
      refine BIBase.Entails.trans ?_ hR
      iintro ⟨⟨H1, H2⟩, H3⟩
      isplitl [H1]
      · unfold yH
        iexists _
        isplitr [H1]
        swap
        · iexact H1
        ipureintro
        intro x i h
        exact (write_y (inb := inb') B _ x).trans (read_c (inb := inb) hoff A x i h)
      isplitl [H3]
      · unfold gv cb; iexists A; iexact H3
      iexact H2))
  isplitr; · iexact Hc
  isplitl [Hch]; · iexact Hch
  isplitl [HO]; · iexact HO
  isplitl [Hs]
  · rw [set_c hoff]; unfold cb; iexact Hs
  isplitl [Hd]
  · rw [set_y]; iexact Hd
  iexact HG

/-- Loading slot `s` of `yM`. -/
theorem ld_y (c : Dev nD) (s : Fin 2) {a : ℕ} {A : Mat F} {inb}
    {hl : yM.view.LoadsAt (Rect.unit (s := S2x64x1024) ![s.val, 0, 0] S1x64x1024.size inb).toLoadRect}
    {α : Type} {Q : α → sProp 𝕄} {k : (S1x64x1024.Idx → Elt F .bf16) → Prog (TpuEff nD τ sig (Elt F) Λ₀ .tc) α} :
    yH c s a A ⊢ iprop((yG c s.val -∗ ∀ w, ⌜∀ x i, At a x i → shapeCast S64x1024 w shapeCasts_S1x64x1024_S64x1024 x = A i⌝ -∗ wpc c (k w) Q)
      -∗ wpc c (.op (.load yM (Rect.unit (s := S2x64x1024) ![s.val, 0, 0] S1x64x1024.size inb).toLoadRect hl) k) Q) := by
  unfold yH
  iintro ⟨%f, %hf, H⟩ Hk
  iapply (wp_load_rect 𝒱₀ (c : Thread nD τ) none Set.univ (m := yM) (r := Rect.unit (s := S2x64x1024) ![s.val, 0, 0] S1x64x1024.size inb) (S := ySet s.val) (by
    rw [← set_yrect (inb := inb)]; exact (View.set_slice_whole _ _).subset)) $$ H
  iintro H
  ispecialize Hk $$ [H] %((yM.access (Rect.unit (s := S2x64x1024) ![s.val, 0, 0] S1x64x1024.size inb)).read (Elt F) f) []
  · unfold yG; iexists f; iexact H
  · ipureintro; intro x i h; exact hf x i h
  iexact Hk

/-- A transfer of rows into slot `s` of `zM`, the rows going with it. -/
theorem send_z (c : Dev nD) (j : Fin 26) {d : Dev nD} (hd : d = tgt c j) (n' : ℕ) (hn : n' = 25 - j.val)
    {sa sb : DmaSem sig} (ha : SemLoc.dma sa = csem (sS j)) (hb : SemLoc.dma sb = csem (sR j))
    (s : Fin 2) {a : ℕ} {off : Fin 2 → ℕ} {inb} {inb'} (hoff : off = ![a, 0])
    {hsc : (zSlot s.val inb' : Memref sig (Dev.tc d : Thread nD τ).2.kind .vmem S32x1024 .bf16).view.ref.isScScratch = false}
    {h1 h2} {h3}
    (hN : (zSlot s.val inb').view.dmaCredit = amt (sR j))
    (G : sProp 𝕄) (A : Mat F)
    (hS : (emp : sProp 𝕄) ⊢ payS V c j) (hR : iprop(zH d s a A ∗ gv c (rows a 32) ∗ G) ⊢ payR V d j)
    {α : Type} {Q : α → sProp 𝕄} {k : PUnit → Prog (TpuEff nD τ sig (Elt F) Λ₀ .tc) α} :
    iprop(ctx V K ∗ ch0 c j ∗ ow c (n' + 1) ∗ cb c (rows a 32) fullShare A ∗ zG d s.val ∗ G)
      ⊢ iprop(((ch1 c j ∗ ow c n') -∗ wpc c (k ⟨⟩) Q)
        -∗ wpc c (.op (.enqueueDma (cM.slice (Rect.unit (s := S1024x1024) off S32x1024.size inb) (fun _ => rfl))
          (.remote (Dev.tc d : Thread nD τ) (zSlot s.val inb') (.dma sa) hsc) (.dma sb) h1 h2 h3) k) Q) := by
  iintro ⟨#Hc, Hch, HO, Hs, Hd, HG⟩
  unfold zG
  icases Hd with ⟨%B, Hd⟩
  iapply (step_give V K c j hd n' hn ha hb (src := cM.slice (Rect.unit (s := S1024x1024) off ![32, 1024] inb) (fun _ => rfl))
    (dst := zSlot s.val inb') hN (fs := A) (fd := B) G hS
    (by
      rw [set_c hoff, set_z]
      refine BIBase.Entails.trans ?_ hR
      iintro ⟨⟨H1, H2⟩, H3⟩
      isplitl [H1]
      · unfold zH
        iexists _
        isplitr [H1]
        swap
        · iexact H1
        ipureintro
        intro x i h
        exact (write_z (inb := inb') B _ x).trans (read_c (inb := inb) hoff A x i h)
      isplitl [H3]
      · unfold gv cb; iexists A; iexact H3
      iexact H2))
  isplitr; · iexact Hc
  isplitl [Hch]; · iexact Hch
  isplitl [HO]; · iexact HO
  isplitl [Hs]
  · rw [set_c hoff]; unfold cb; iexact Hs
  isplitl [Hd]
  · rw [set_z]; iexact Hd
  iexact HG

/-- Loading slot `s` of `zM`. -/
theorem ld_z (c : Dev nD) (s : Fin 2) {a : ℕ} {A : Mat F} {inb}
    {hl : zM.view.LoadsAt (Rect.unit (s := S2x32x1024) ![s.val, 0, 0] S1x32x1024.size inb).toLoadRect}
    {α : Type} {Q : α → sProp 𝕄} {k : (S1x32x1024.Idx → Elt F .bf16) → Prog (TpuEff nD τ sig (Elt F) Λ₀ .tc) α} :
    zH c s a A ⊢ iprop((zG c s.val -∗ ∀ w, ⌜∀ x i, At a x i → shapeCast S32x1024 w shapeCasts_S1x32x1024_S32x1024 x = A i⌝ -∗ wpc c (k w) Q)
      -∗ wpc c (.op (.load zM (Rect.unit (s := S2x32x1024) ![s.val, 0, 0] S1x32x1024.size inb).toLoadRect hl) k) Q) := by
  unfold zH
  iintro ⟨%f, %hf, H⟩ Hk
  iapply (wp_load_rect 𝒱₀ (c : Thread nD τ) none Set.univ (m := zM) (r := Rect.unit (s := S2x32x1024) ![s.val, 0, 0] S1x32x1024.size inb) (S := zSet s.val) (by
    rw [← set_zrect (inb := inb)]; exact (View.set_slice_whole _ _).subset)) $$ H
  iintro H
  ispecialize Hk $$ [H] %((zM.access (Rect.unit (s := S2x32x1024) ![s.val, 0, 0] S1x32x1024.size inb)).read (Elt F) f) []
  · unfold zG; iexists f; iexact H
  · ipureintro; intro x i h; exact hf x i h
  iexact Hk

end Cert.KernelIdeal.Pf

end
-- ==== Proof.Start.lean ====
/-
# The barrier and the two local copies

Each device tells its four neighbours that its landing buffers may be written, and hands these over with the
signals; the wait on its own barrier semaphore gives it theirs. Meanwhile its part of the two weight arrays is
copied in.
-/
module

public import proofs.«01_k».proof.Proof.Steps

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (V : Vals F)

local notation "𝕄" => MT nD τ sig Unit (Elt F) ℕ UU ℕ

variable (K : Dev nD × Fin 55 → ℕ)

theorem pay_bar (d : Dev nD) (t : Fin 4) : pay V d 54 t = payB d t := by unfold pay; rw [if_pos (by decide)]
theorem pay_wq (d : Dev nD) (t : Fin 4) : pay V d 0 t = wqPay V d := by unfold pay; rw [if_neg (by decide), if_pos (by decide)]
theorem pay_wo (d : Dev nD) (t : Fin 4) : pay V d 1 t = woPay V d := by unfold pay; rw [if_neg (by decide), if_neg (by decide), if_pos (by decide)]

/-- A signal on a neighbour's barrier cell. -/
theorem step_sig (c : Dev nD) {d : Dev nD} (t : Fin 4) (n : ℕ) (ho : otgt c n = d) (hk : okey n = 54) (P : sProp 𝕄) (hP : P ⊢ payB d t)
    {sm : Sem sig} (hs : SemLoc.reg sm = csem 54)
    {α : Type} {Q : α → sProp 𝕄} {k : PUnit → Prog (TpuEff nD τ sig (Elt F) Λ₀ .tc) α} :
    iprop(ctx V K ∗ dutyTok ER (kcell d 54) 0 t ∗ ow c (n + 1) ∗ P)
      ⊢ iprop((ow c n -∗ wpc c (k ⟨⟩) Q) -∗ wpc c (.op (.semSignal (Dev.tc d : Thread nD τ) sm (1#32 : BitVec 32).toInt) k) Q) := by
  unfold ow
  iintro ⟨#Hc, Ht, ⟨%W, HO⟩, HP⟩ Hk
  have hc : ((Dev.tc d : Thread nD τ), SemLoc.reg sm) = kcell d 54 := by rw [hs]
  have ha : amt 54 = 1 := (amt_eq 54 4 (by decide)).trans rfl
  have hoo : owe c (n + 1) = owe c n + tallyAt ((Dev.tc d : Thread nD τ), SemLoc.reg sm) () 1 := by
    rw [hc]; dsimp only [owe]; rw [ho, hk, ha]
  iapply (Rounds.wp_signal 𝒱₀ ER (rd V) (c : Thread nD τ) none (dst := (Dev.tc d : Thread nD τ)) (κ := K (d, 54)) (sem := sm) (r := 0)
      (d := t) (k' := 1) (by rw [hc, duties_bar]; exact Finset.mem_univ _) (by rw [hc, amount_at, ha]) () (owe c n) hoo (W := W)) $$ [Ht HO HP]
  · isplitr; · rw [hc]; iapply (ctx_inv V K d 54); iexact Hc
    isplitl [HO]; · iexact HO
    isplitl [Ht]; · rw [hc]; iexact Ht
    isplitl [HP]
    · rw [hc, payload_at, pay_bar]; iapply hP; iexact HP
    rw [hc]; iapply (ctx_reached V K d 54); iexact Hc
  iintro HO
  iapply Hk
  iexists W; iexact HO

/-- The wait on the barrier cell: the four neighbours' landing buffers. -/
theorem step_bar (c : Dev nD) {sm : Sem sig} (hs : SemLoc.reg sm = csem 54)
    {α : Type} {Q : α → sProp 𝕄} {k : PUnit → Prog (TpuEff nD τ sig (Elt F) Λ₀ .tc) α} :
    iprop(ctx V K ∗ cred (tallyAt (kcell c 54) () 4) ∗ atPos ER (kcell c 54) 0 ∅ 0 ∗ ow c 26)
      ⊢ iprop(((semVal (kcell c 54) 0 ∗ ow c 26 ∗ prW (rt c) ∗ plW (lf c) ∗ yW (za c) ∗ zW (zb c)) -∗ wpc c (k ⟨⟩) Q)
        -∗ wpc c (.op (.semWait sm (4#32 : BitVec 32).toInt) k) Q) := by
  unfold ow
  iintro ⟨#Hc, H1, H2, ⟨%W, HO⟩⟩ Hk
  have hc : ((c : Thread nD τ), SemLoc.reg sm) = kcell c 54 := by rw [hs]
  rw [← hc]
  iapply (Rounds.wp_wait_rest_token 𝒱₀ ER (rd V) (c : Thread nD τ) none (κ := K (c, 54)) (k' := 4)
      (wpE_semWait_eq 𝒱₀ (c : Thread nD τ) none Set.univ) (Set.mem_univ _) () (O := owe c 26) (W := W) (R := 0) (m := 0) (T := ∅)
      (by rw [hc, expect_bar])) $$ [H1 H2 HO]
  · isplitr; · rw [hc]; iapply (ctx_inv V K c 54); iexact Hc
    isplitl [H1]; · iexact H1
    isplitl [HO]; · iexact HO
    isplitr
    · iapply (mayWait c (.reg sm) 26 1 (by rw [hc, lv_at]; rfl) (fun i hi => by rw [lvk_okey, if_pos hi]; omega))
      unfold ctx; icases Hc with ⟨-, Hl⟩; iexact Hl
    iexact H2
  iintro ⟨HO, H2, -, Hp⟩
  rw [hc]
  ihave Hp := (Entails.of_eq (rest_bar V c)) $$ Hp
  imod (Rounds.cell_close ER (rd V) (Set.mem_univ (K (c, 54))) (fun h => h) (R := 0 + 1) (duties_later V (kcell c 54))) $$ [H2] with H2
  · isplitr; · iapply (ctx_inv V K c 54); iexact Hc
    iexact H2
  iapply Hk
  isplitl [H2]; · iexact H2
  isplitl [HO]; · iexists _; iexact HO
  iexact Hp

/-- A local copy's cell before the copy -/
def lc0 (c : Dev nD) (k : Fin 55) : sProp 𝕄 := iprop(dutyTok ER (kcell c k) 0 0 ∗ atPos ER (kcell c k) 0 ∅ 0)
/-- and after its start. -/
def lc1 (c : Dev nD) (k : Fin 55) : sProp 𝕄 := iprop(cred (tallyAt (kcell c k) () (amt k)) ∗ atPos ER (kcell c k) 0 ∅ 0)

/-- A wait on a local copy. -/
theorem step_lwait (c : Dev nD) (kk : Fin 55) (h54 : kk.val ≠ 54) (hl : lvk kk = 0) (n : ℕ) {sm : DmaSem sig} (hs : SemLoc.dma sm = csem kk)
    {sp sp' : Space} {s s' : Shape} {e e' : EltTy} {src : Memref sig .tc sp s e} {dst : Memref sig .tc sp' s' e'} {h1 : src.view.WordExact} {h2 : dst.view.WordExact}
    (hN : dst.view.dmaCredit = amt kk) (hn : ∀ i, i < n → 0 < lvk (okey i)) {α : Type} {Q : α → sProp 𝕄} {k : PUnit → Prog (TpuEff nD τ sig (Elt F) Λ₀ .tc) α} :
    iprop(ctx V K ∗ lc1 c kk ∗ ow c n) ⊢ iprop(((semVal (kcell c kk) 0 ∗ ow c n ∗ pay V c kk 0) -∗ wpc c (k ⟨⟩) Q) -∗ wpc c (.op (.waitDma2 sm src dst h1 h2) k) Q) := by
  unfold lc1 ow
  iintro ⟨#Hc, ⟨H1, H2⟩, ⟨%W, HO⟩⟩ Hk
  have hc : ((c : Thread nD τ), SemLoc.dma sm) = kcell c kk := by rw [hs]
  rw [← hc, ← hN]
  iapply (Rounds.wp_wait_rest_token 𝒱₀ ER (rd V) (c : Thread nD τ) none (κ := K (c, kk))
      (wpE_waitDma2_eq 𝒱₀ (c : Thread nD τ) none Set.univ) (Set.mem_univ _) () (O := owe c n) (W := W) (R := 0) (m := 0) (T := ∅)
      (by rw [hc, hN, Nat.zero_add, expect_dma V c _ h54])) $$ [H1 H2 HO]
  · isplitr; · rw [hc]; iapply (ctx_inv V K c kk); iexact Hc
    isplitl [H1]; · iexact H1
    isplitl [HO]; · iexact HO
    isplitr
    · iapply (mayWait c (.dma sm) n 0 (by rw [hc, lv_at, hl]) hn)
      unfold ctx; icases Hc with ⟨-, Hl⟩; iexact Hl
    iexact H2
  iintro ⟨HO, H2, -, Hp⟩
  rw [hc]
  ihave Hp := (Entails.of_eq (rest_dma V c kk h54)) $$ Hp
  imod (Rounds.cell_close ER (rd V) (Set.mem_univ (K (c, kk))) (fun h => h) (R := 0 + 1) (duties_later V (kcell c kk))) $$ [H2] with H2
  · isplitr; · iapply (ctx_inv V K c kk); iexact Hc
    iexact H2
  iapply Hk
  isplitl [H2]; · iexact H2
  isplitl [HO]; · iexists _; iexact HO
  iexact Hp

theorem wq_dst (c : Dev nD) (f w : S1024x1024.Idx → Elt F .f32) :
    iprop((Memref.whole cc0_scratch0).view.loc (c : Thread nD τ) ↦[(Memref.whole cc0_scratch0).view.set]{fullShare} ((Memref.whole cc0_scratch0).view.write (Elt F) f w Finset.univ))
      ⊢ (((c : Thread nD τ).loc cc0_scratch0) ↦{fullShare} w : sProp 𝕄) := by
  have h1 : (Memref.whole cc0_scratch0).view.set = Finset.univ := View.set_whole cc0_scratch0
  have h2 : (Memref.whole cc0_scratch0).view.write (Elt F) f w Finset.univ = w := View.write_whole_univ cc0_scratch0 f w
  rw [h1, h2]
theorem wq_src (c : Dev nD) (f : S1024x1024.Idx → Elt F .f32) :
    (((c : Thread nD τ).loc cc0_scratch0) ↦{fullShare} f : sProp 𝕄)
      ⊢ iprop((Memref.whole cc0_scratch0).view.loc (c : Thread nD τ) ↦[(Memref.whole cc0_scratch0).view.set]{fullShare} f) := by
  have h1 : (Memref.whole cc0_scratch0).view.set = Finset.univ := View.set_whole cc0_scratch0
  rw [h1]

/-- The start of the copy of the query weights. -/
theorem step_wq (c : Dev nD) {sm : DmaSem sig} (hs : SemLoc.dma sm = csem 0) {h1 h2} {h3} (f : S1024x1024.Idx → Elt F .f32)
    {α : Type} {Q : α → sProp 𝕄} {k : PUnit → Prog (TpuEff nD τ sig (Elt F) Λ₀ .tc) α} :
    iprop(ctx V K ∗ lc0 c 0 ∗ (((c : Thread nD τ).loc main_arg1) ↦[(wqSrc c).view.set]{fullShare} V.wq c)
        ∗ (((c : Thread nD τ).loc cc0_scratch0) ↦{fullShare} f))
      ⊢ iprop((lc1 c 0 -∗ wpc c (k ⟨⟩) Q)
        -∗ wpc c (.op (.enqueueDma (wqSrc c) (.here (Memref.whole cc0_scratch0)) (.dma sm) h1 h2 h3) k) Q) := by
  unfold lc0 lc1
  iintro ⟨#Hc, ⟨H1, H2⟩, Hs, Hd⟩ Hk
  have hc : ((c : Thread nD τ), SemLoc.dma sm) = kcell c 0 := by rw [hs]
  iapply (Rounds.wp_copy_pointsTo 𝒱₀ ER (rd V) (c : Thread nD τ) none (κ := K (c, 0)) (r := 0) (d := 0) (src := wqSrc c) (dst := Memref.whole cc0_scratch0)
    (fs := V.wq c) (fd := f) (q := fullShare)
    (by rw [hc, duties_dma V c 0 (by decide)]; exact Finset.mem_singleton_self _) () (amt 0) ((View.amount_dma _ _).trans (credW _ 0 (by decide)))
    (by rw [hc, amount_at])
    (by
      rw [hc, payload_at, pay_wq]
      unfold wqPay
      iintro ⟨A, B⟩
      isplitl [B]; · iexact B
      iapply (wq_dst c f (wqV V c)); iexact A)) $$ [H1 Hs Hd]
  · isplitr; · rw [hc]; iapply (ctx_inv V K c 0); iexact Hc
    isplitl [Hs]; · iexact Hs
    isplitl [Hd]; · iapply (wq_src c f); iexact Hd
    isplitl [H1]; · rw [hc]; iexact H1
    rw [hc]; iapply (ctx_reached V K c 0); iexact Hc
  iintro Hcr
  iapply Hk
  isplitl [Hcr]; · rw [hc]; iexact Hcr
  iexact H2

theorem wo_dst (c : Dev nD) (f w : S1024x1024.Idx → Elt F .f32) :
    iprop((Memref.whole cc0_scratch1).view.loc (c : Thread nD τ) ↦[(Memref.whole cc0_scratch1).view.set]{fullShare} ((Memref.whole cc0_scratch1).view.write (Elt F) f w Finset.univ))
      ⊢ (((c : Thread nD τ).loc cc0_scratch1) ↦{fullShare} w : sProp 𝕄) := by
  have h1 : (Memref.whole cc0_scratch1).view.set = Finset.univ := View.set_whole cc0_scratch1
  have h2 : (Memref.whole cc0_scratch1).view.write (Elt F) f w Finset.univ = w := View.write_whole_univ cc0_scratch1 f w
  rw [h1, h2]
theorem wo_src (c : Dev nD) (f : S1024x1024.Idx → Elt F .f32) :
    (((c : Thread nD τ).loc cc0_scratch1) ↦{fullShare} f : sProp 𝕄)
      ⊢ iprop((Memref.whole cc0_scratch1).view.loc (c : Thread nD τ) ↦[(Memref.whole cc0_scratch1).view.set]{fullShare} f) := by
  have h1 : (Memref.whole cc0_scratch1).view.set = Finset.univ := View.set_whole cc0_scratch1
  rw [h1]

/-- The start of the copy of the output weights. -/
theorem step_wo (c : Dev nD) {sm : DmaSem sig} (hs : SemLoc.dma sm = csem 1) {h1 h2} {h3} (f : S1024x1024.Idx → Elt F .f32)
    {α : Type} {Q : α → sProp 𝕄} {k : PUnit → Prog (TpuEff nD τ sig (Elt F) Λ₀ .tc) α} :
    iprop(ctx V K ∗ lc0 c 1 ∗ (((c : Thread nD τ).loc main_arg4) ↦[(woSrc c).view.set]{fullShare} V.wo c)
        ∗ (((c : Thread nD τ).loc cc0_scratch1) ↦{fullShare} f))
      ⊢ iprop((lc1 c 1 -∗ wpc c (k ⟨⟩) Q)
        -∗ wpc c (.op (.enqueueDma (woSrc c) (.here (Memref.whole cc0_scratch1)) (.dma sm) h1 h2 h3) k) Q) := by
  unfold lc0 lc1
  iintro ⟨#Hc, ⟨H1, H2⟩, Hs, Hd⟩ Hk
  have hc : ((c : Thread nD τ), SemLoc.dma sm) = kcell c 1 := by rw [hs]
  iapply (Rounds.wp_copy_pointsTo 𝒱₀ ER (rd V) (c : Thread nD τ) none (κ := K (c, 1)) (r := 0) (d := 0) (src := woSrc c) (dst := Memref.whole cc0_scratch1)
    (fs := V.wo c) (fd := f) (q := fullShare)
    (by rw [hc, duties_dma V c 1 (by decide)]; exact Finset.mem_singleton_self _) () (amt 1) ((View.amount_dma _ _).trans (credW _ 1 (by decide)))
    (by rw [hc, amount_at])
    (by
      rw [hc, payload_at, pay_wo]
      unfold woPay
      iintro ⟨A, B⟩
      isplitl [B]; · iexact B
      iapply (wo_dst c f (woV V c)); iexact A)) $$ [H1 Hs Hd]
  · isplitr; · rw [hc]; iapply (ctx_inv V K c 1); iexact Hc
    isplitl [Hs]; · iexact Hs
    isplitl [Hd]; · iapply (wo_src c f); iexact Hd
    isplitl [H1]; · rw [hc]; iexact H1
    rw [hc]; iapply (ctx_reached V K c 1); iexact Hc
  iintro Hcr
  iapply Hk
  isplitl [Hcr]; · rw [hc]; iexact Hcr
  iexact H2

end Cert.KernelIdeal.Pf

end
-- ==== Proof.Moves.lean ====
/-
# The moves of the body

Whole loads of the operands, the loads of a block of rows, and the three moves that the exchange is made of: add
what landed to the device's own rows, copy a block of rows to the result, and the loads and stores between them.
-/
module

public import proofs.«01_k».proof.Proof.Start

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (V : Vals F)

local notation "𝕄" => MT nD τ sig Unit (Elt F) ℕ UU ℕ

variable (K : Dev nD × Fin 55 → ℕ)

theorem wp_step {α β : Type} (c : Dev nD) (p : Prog (TpuEff nD τ sig (Elt F) Λ₀ .tc) α) (k : α → Prog (TpuEff nD τ sig (Elt F) Λ₀ .tc) β) (Q : β → sProp 𝕄) :
    wpc c p (fun a => wpc c (k a) Q) ⊢ wpc c (p >>= k) Q := Entails.of_eq (wp_bind _ _ _ p k Q).symm

/-! ## Whole operands -/

theorem full_emb {inb} (x : S1024x1024.Idx) : (Rect.unit (s := S1024x1024) ![0, 0] S1024x1024.size inb).emb x = x := by
  have h := at_emb (n := 1024) (a := 0) (off := ![0, 0]) (inb := inb) rfl x
  exact At.uniq h ⟨(Nat.zero_add _).symm, rfl⟩

theorem full_set {inb} : (Rect.unit (s := S1024x1024) ![0, 0] S1024x1024.size inb).set = Finset.univ := by
  refine (set_rect (n := 1024) (a := 0) (off := ![0, 0]) (inb := inb) rfl).trans ?_
  ext i; rw [mem_rows]; have := (i 0).isLt; simp only [Finset.mem_univ, iff_true]
  exact ⟨Nat.zero_le _, by rw [Nat.zero_add]; exact this⟩

/-- The activations as they stand on device `c`. -/
def at_x (c : Dev nD) (f : S1024x1024.Idx → Elt F .f32) : sProp 𝕄 := iprop(((c : Thread nD τ).loc cc0_stg0_0) ↦{fullShare} f)

set_option backward.proofsInPublic true in
/-- Element `y` of the 256 rows from row `a`. -/
def rowIx (a : ℕ) (y : S256x1024.Idx) : S1024x1024.Idx :=
  Fin.cons (α := fun k => Fin (S1024x1024.size k)) ⟨(a + (y 0).val) % 1024, Nat.mod_lt _ (by decide)⟩ (Fin.cons (α := fun k => Fin (S1024x1024.size (Fin.succ k))) (y 1) finZeroElim)

theorem rowIx_at {a : ℕ} (ha : a + 256 ≤ 1024) (y : S256x1024.Idx) : At a y (rowIx a y) := by
  refine ⟨?_, rfl⟩
  have h : (y 0).val < 256 := (y 0).isLt
  exact Nat.mod_eq_of_lt (by omega)

/-- The 256 rows of `f` from row `a`. -/
def blk {α : Type} (a : ℕ) (f : S1024x1024.Idx → α) : S256x1024.Idx → α := fun y => f (rowIx a y)

theorem ldr_x (c : Dev nD) {a : ℕ} {off : Fin 2 → ℕ} {inb} (hoff : off = ![a, 0]) (ha : a + 256 ≤ 1024) {f : S1024x1024.Idx → Elt F .f32}
    {hl : (Memref.whole cc0_stg0_0).view.LoadsAt (Rect.unit (s := S1024x1024) off S256x1024.size inb).toLoadRect}
    {α : Type} {Q : α → sProp 𝕄} {k : (S256x1024.Idx → Elt F .f32) → Prog (TpuEff nD τ sig (Elt F) Λ₀ .tc) α} :
    at_x c f ⊢ iprop((at_x c f -∗ wpc c (k (blk a f)) Q)
      -∗ wpc c (.op (.load (Memref.whole cc0_stg0_0) (Rect.unit (s := S1024x1024) off S256x1024.size inb).toLoadRect hl) k) Q) := by
  have hv : ((Memref.whole cc0_stg0_0).access (Rect.unit (s := S1024x1024) off S256x1024.size inb)).read (Elt F) f = blk a f :=
    funext fun x => congrArg f (At.uniq (at_emb (n := 256) (inb := inb) hoff x) (rowIx_at ha x))
  unfold at_x
  iintro H Hk
  iapply (wp_load_rect 𝒱₀ (c : Thread nD τ) none Set.univ (m := Memref.whole cc0_stg0_0) (r := Rect.unit (s := S1024x1024) off S256x1024.size inb) (S := Finset.univ) (Finset.subset_univ _)) $$ H
  iintro H
  rw [hv]
  iapply Hk
  iexact H

/-- The keys as they stand on device `c`. -/
def at_k (c : Dev nD) (f : S1024x1024.Idx → Elt F .f32) : sProp 𝕄 := iprop(((c : Thread nD τ).loc cc0_stg1_0) ↦{fullShare} f)

theorem ld_k (c : Dev nD) {inb} {f : S1024x1024.Idx → Elt F .f32}
    {hl : (Memref.whole cc0_stg1_0).view.LoadsAt (Rect.unit (s := S1024x1024) ![0, 0] S1024x1024.size inb).toLoadRect}
    {α : Type} {Q : α → sProp 𝕄} {k : (S1024x1024.Idx → Elt F .f32) → Prog (TpuEff nD τ sig (Elt F) Λ₀ .tc) α} :
    at_k c f ⊢ iprop((at_k c f -∗ wpc c (k f) Q)
      -∗ wpc c (.op (.load (Memref.whole cc0_stg1_0) (Rect.unit (s := S1024x1024) ![0, 0] S1024x1024.size inb).toLoadRect hl) k) Q) := by
  have hv : ((Memref.whole cc0_stg1_0).access (Rect.unit (s := S1024x1024) ![0, 0] S1024x1024.size inb)).read (Elt F) f = f := funext fun x => congrArg f (full_emb (inb := inb) x)
  unfold at_k
  iintro H Hk
  iapply (wp_load_rect 𝒱₀ (c : Thread nD τ) none Set.univ (m := Memref.whole cc0_stg1_0) (r := Rect.unit (s := S1024x1024) ![0, 0] S1024x1024.size inb) (S := Finset.univ) (Finset.subset_univ _)) $$ H
  iintro H
  rw [hv]
  iapply Hk
  iexact H

/-- The values as they stand on device `c`. -/
def at_v (c : Dev nD) (f : S1024x1024.Idx → Elt F .f32) : sProp 𝕄 := iprop(((c : Thread nD τ).loc cc0_stg2_0) ↦{fullShare} f)

theorem ld_v (c : Dev nD) {inb} {f : S1024x1024.Idx → Elt F .f32}
    {hl : (Memref.whole cc0_stg2_0).view.LoadsAt (Rect.unit (s := S1024x1024) ![0, 0] S1024x1024.size inb).toLoadRect}
    {α : Type} {Q : α → sProp 𝕄} {k : (S1024x1024.Idx → Elt F .f32) → Prog (TpuEff nD τ sig (Elt F) Λ₀ .tc) α} :
    at_v c f ⊢ iprop((at_v c f -∗ wpc c (k f) Q)
      -∗ wpc c (.op (.load (Memref.whole cc0_stg2_0) (Rect.unit (s := S1024x1024) ![0, 0] S1024x1024.size inb).toLoadRect hl) k) Q) := by
  have hv : ((Memref.whole cc0_stg2_0).access (Rect.unit (s := S1024x1024) ![0, 0] S1024x1024.size inb)).read (Elt F) f = f := funext fun x => congrArg f (full_emb (inb := inb) x)
  unfold at_v
  iintro H Hk
  iapply (wp_load_rect 𝒱₀ (c : Thread nD τ) none Set.univ (m := Memref.whole cc0_stg2_0) (r := Rect.unit (s := S1024x1024) ![0, 0] S1024x1024.size inb) (S := Finset.univ) (Finset.subset_univ _)) $$ H
  iintro H
  rw [hv]
  iapply Hk
  iexact H

/-- The query weights as they stand on device `c`. -/
def at_q (c : Dev nD) (f : S1024x1024.Idx → Elt F .f32) : sProp 𝕄 := iprop(((c : Thread nD τ).loc cc0_scratch0) ↦{fullShare} f)

theorem ld_q (c : Dev nD) {inb} {f : S1024x1024.Idx → Elt F .f32}
    {hl : (Memref.whole cc0_scratch0).view.LoadsAt (Rect.unit (s := S1024x1024) ![0, 0] S1024x1024.size inb).toLoadRect}
    {α : Type} {Q : α → sProp 𝕄} {k : (S1024x1024.Idx → Elt F .f32) → Prog (TpuEff nD τ sig (Elt F) Λ₀ .tc) α} :
    at_q c f ⊢ iprop((at_q c f -∗ wpc c (k f) Q)
      -∗ wpc c (.op (.load (Memref.whole cc0_scratch0) (Rect.unit (s := S1024x1024) ![0, 0] S1024x1024.size inb).toLoadRect hl) k) Q) := by
  have hv : ((Memref.whole cc0_scratch0).access (Rect.unit (s := S1024x1024) ![0, 0] S1024x1024.size inb)).read (Elt F) f = f := funext fun x => congrArg f (full_emb (inb := inb) x)
  unfold at_q
  iintro H Hk
  iapply (wp_load_rect 𝒱₀ (c : Thread nD τ) none Set.univ (m := Memref.whole cc0_scratch0) (r := Rect.unit (s := S1024x1024) ![0, 0] S1024x1024.size inb) (S := Finset.univ) (Finset.subset_univ _)) $$ H
  iintro H
  rw [hv]
  iapply Hk
  iexact H

/-- The output weights as they stand on device `c`. -/
def at_w (c : Dev nD) (f : S1024x1024.Idx → Elt F .f32) : sProp 𝕄 := iprop(((c : Thread nD τ).loc cc0_scratch1) ↦{fullShare} f)

theorem ld_w (c : Dev nD) {inb} {f : S1024x1024.Idx → Elt F .f32}
    {hl : (Memref.whole cc0_scratch1).view.LoadsAt (Rect.unit (s := S1024x1024) ![0, 0] S1024x1024.size inb).toLoadRect}
    {α : Type} {Q : α → sProp 𝕄} {k : (S1024x1024.Idx → Elt F .f32) → Prog (TpuEff nD τ sig (Elt F) Λ₀ .tc) α} :
    at_w c f ⊢ iprop((at_w c f -∗ wpc c (k f) Q)
      -∗ wpc c (.op (.load (Memref.whole cc0_scratch1) (Rect.unit (s := S1024x1024) ![0, 0] S1024x1024.size inb).toLoadRect hl) k) Q) := by
  have hv : ((Memref.whole cc0_scratch1).access (Rect.unit (s := S1024x1024) ![0, 0] S1024x1024.size inb)).read (Elt F) f = f := funext fun x => congrArg f (full_emb (inb := inb) x)
  unfold at_w
  iintro H Hk
  iapply (wp_load_rect 𝒱₀ (c : Thread nD τ) none Set.univ (m := Memref.whole cc0_scratch1) (r := Rect.unit (s := S1024x1024) ![0, 0] S1024x1024.size inb) (S := Finset.univ) (Finset.subset_univ _)) $$ H
  iintro H
  rw [hv]
  iapply Hk
  iexact H

/-- The mask as they stand on device `c`. -/
def at_m (c : Dev nD) (f : S1024x1024.Idx → Elt F .bf16) : sProp 𝕄 := iprop(((c : Thread nD τ).loc cc0_scratch3) ↦{fullShare} f)

theorem ldr_m (c : Dev nD) {a : ℕ} {off : Fin 2 → ℕ} {inb} (hoff : off = ![a, 0]) (ha : a + 256 ≤ 1024) {f : S1024x1024.Idx → Elt F .bf16}
    {hl : (Memref.whole cc0_scratch3).view.LoadsAt (Rect.unit (s := S1024x1024) off S256x1024.size inb).toLoadRect}
    {α : Type} {Q : α → sProp 𝕄} {k : (S256x1024.Idx → Elt F .bf16) → Prog (TpuEff nD τ sig (Elt F) Λ₀ .tc) α} :
    at_m c f ⊢ iprop((at_m c f -∗ wpc c (k (blk a f)) Q)
      -∗ wpc c (.op (.load (Memref.whole cc0_scratch3) (Rect.unit (s := S1024x1024) off S256x1024.size inb).toLoadRect hl) k) Q) := by
  have hv : ((Memref.whole cc0_scratch3).access (Rect.unit (s := S1024x1024) off S256x1024.size inb)).read (Elt F) f = blk a f :=
    funext fun x => congrArg f (At.uniq (at_emb (n := 256) (inb := inb) hoff x) (rowIx_at ha x))
  unfold at_m
  iintro H Hk
  iapply (wp_load_rect 𝒱₀ (c : Thread nD τ) none Set.univ (m := Memref.whole cc0_scratch3) (r := Rect.unit (s := S1024x1024) off S256x1024.size inb) (S := Finset.univ) (Finset.subset_univ _)) $$ H
  iintro H
  rw [hv]
  iapply Hk
  iexact H

/-- The mask's buffer, first read, then filled. -/
theorem st_m (c : Dev nD) {inb inb'} {w : S1024x1024.Idx → Elt F .bf16}
    {hl : (Memref.whole cc0_scratch3).view.LoadsAt (Rect.unit (s := S1024x1024) ![0, 0] S1024x1024.size inb).toLoadRect}
    {hx : ((Memref.whole cc0_scratch3).access (Rect.unit (s := S1024x1024) ![0, 0] S1024x1024.size inb')).Stores Finset.univ} {hm}
    {α : Type} {Q : α → sProp 𝕄} {k : PUnit → Prog (TpuEff nD τ sig (Elt F) Λ₀ .tc) α} :
    iprop(∃ f, at_m c f) ⊢ iprop((at_m c w -∗ wpc c (k ⟨⟩) Q)
      -∗ wpc c (.op (.load (Memref.whole cc0_scratch3) (Rect.unit (s := S1024x1024) ![0, 0] S1024x1024.size inb).toLoadRect hl)
        (fun _ => .op (.store (Memref.whole cc0_scratch3) (Rect.unit (s := S1024x1024) ![0, 0] S1024x1024.size inb') w Finset.univ hx hm) k)) Q) := by
  have hv : ∀ f, ((Memref.whole cc0_scratch3).access (Rect.unit (s := S1024x1024) ![0, 0] S1024x1024.size inb')).write (Elt F) f w Finset.univ = w := fun f => funext fun x => by
    have h := View.write_emb_of_mem (v := (Memref.whole cc0_scratch3).access (Rect.unit (s := S1024x1024) ![0, 0] S1024x1024.size inb')) (Val := Elt F) f w (Finset.mem_univ x)
    have e : ((Memref.whole cc0_scratch3).access (Rect.unit (s := S1024x1024) ![0, 0] S1024x1024.size inb')).emb x = x := full_emb (inb := inb') x
    exact (congrArg (((Memref.whole cc0_scratch3).access (Rect.unit (s := S1024x1024) ![0, 0] S1024x1024.size inb')).write (Elt F) f w Finset.univ) e.symm).trans h
  unfold at_m
  iintro ⟨%f, H⟩ Hk
  iapply (wp_load_rect 𝒱₀ (c : Thread nD τ) none Set.univ (m := Memref.whole cc0_scratch3) (r := Rect.unit (s := S1024x1024) ![0, 0] S1024x1024.size inb) (S := Finset.univ) (Finset.subset_univ _)) $$ H
  iintro H
  iapply (wp_store 𝒱₀ (c : Thread nD τ) none Set.univ (m := Memref.whole cc0_scratch3) (r := Rect.unit (s := S1024x1024) ![0, 0] S1024x1024.size inb') (Mk := Finset.univ) (S := Finset.univ) (Finset.subset_univ _)) $$ H
  iintro H
  rw [hv]
  iapply Hk
  iexact H

/-! ## A block of rows -/

/-- Rows of the buffer, first read, then overwritten. -/
theorem fill_c (c : Dev nD) {n a : ℕ} {off : Fin 2 → ℕ} {inb inb'} (hoff : off = ![a, 0]) {A : Mat F} (B : Mat F)
    {w : (⟨2, ![n, 1024]⟩ : Shape).Idx → Elt F .bf16} (hw : ∀ x i, At a x i → w x = B i)
    {hl : cM.view.LoadsAt (Rect.unit (s := S1024x1024) off ![n, 1024] inb').toLoadRect}
    {hx : (cM.access (Rect.unit (s := S1024x1024) off ![n, 1024] inb)).Stores Finset.univ} {hm}
    {α : Type} {Q : α → sProp 𝕄} {k : PUnit → Prog (TpuEff nD τ sig (Elt F) Λ₀ .tc) α} :
    cb c (rows a n) fullShare A ⊢ iprop((cb c (rows a n) fullShare B -∗ wpc c (k ⟨⟩) Q)
      -∗ wpc c (.op (.load cM (Rect.unit (s := S1024x1024) off ![n, 1024] inb').toLoadRect hl)
        (fun _ => .op (.store cM (Rect.unit (s := S1024x1024) off ![n, 1024] inb) w Finset.univ hx hm) k)) Q) := by
  iintro H Hk
  iapply (ld_c c (inb := inb') hoff) $$ H
  iintro H %_ %_
  iapply (st_c c hoff B hw) $$ H
  iintro H
  iapply Hk
  iexact H

/-- The same rows of the result, first read, then overwritten. -/
theorem fill_o (c : Dev nD) {n a : ℕ} {off : Fin 2 → ℕ} {inb inb'} (hoff : off = ![a, 0]) {A : S1024x1024.Idx → Elt F .f32} (B : S1024x1024.Idx → Elt F .f32)
    {w : (⟨2, ![n, 1024]⟩ : Shape).Idx → Elt F .f32} (hw : ∀ x i, At a x i → w x = B i)
    {hl : oM.view.LoadsAt (Rect.unit (s := S1024x1024) off ![n, 1024] inb').toLoadRect}
    {hx : (oM.access (Rect.unit (s := S1024x1024) off ![n, 1024] inb)).Stores Finset.univ} {hm}
    {α : Type} {Q : α → sProp 𝕄} {k : PUnit → Prog (TpuEff nD τ sig (Elt F) Λ₀ .tc) α} :
    ob c (rows a n) A ⊢ iprop((ob c (rows a n) B -∗ wpc c (k ⟨⟩) Q)
      -∗ wpc c (.op (.load oM (Rect.unit (s := S1024x1024) off ![n, 1024] inb').toLoadRect hl)
        (fun _ => .op (.store oM (Rect.unit (s := S1024x1024) off ![n, 1024] inb) w Finset.univ hx hm) k)) Q) := by
  iintro H Hk
  iapply (ld_o c (inb := inb') hoff) $$ H
  iintro H %_
  iapply (st_o c hoff B hw) $$ H
  iintro H
  iapply Hk
  iexact H

/-- What the result holds: the final sums, widened. -/
def OUT (V : Vals F) : S1024x1024.Idx → Elt F .f32 := fun i => FloatOps.extf (φ := .bf16) .f32 bitsLt_bf16_f32 (FIN V i)

/-- Rows of the final sums copied to the result. -/
theorem copy_o (c : Dev nD) {n a : ℕ} {off : Fin 2 → ℕ} {inb inb' inb''} (hoff : off = ![a, 0]) {q : PosShare TreeShare} {A : S1024x1024.Idx → Elt F .f32}
    {pay : ((⟨2, ![n, 1024]⟩ : Shape).Idx → Elt F .bf16) → (⟨2, ![n, 1024]⟩ : Shape).Idx → Elt F .f32}
    (hp : ∀ v x, pay v x = FloatOps.extf (φ := .bf16) .f32 bitsLt_bf16_f32 (v x))
    {hl : cM.view.LoadsAt (Rect.unit (s := S1024x1024) off ![n, 1024] inb).toLoadRect}
    {hl' : oM.view.LoadsAt (Rect.unit (s := S1024x1024) off ![n, 1024] inb').toLoadRect}
    {hx : (oM.access (Rect.unit (s := S1024x1024) off ![n, 1024] inb'')).Stores Finset.univ} {hm}
    {α : Type} {Q : α → sProp 𝕄} {k : PUnit → Prog (TpuEff nD τ sig (Elt F) Λ₀ .tc) α} :
    iprop(cb c (rows a n) q (FIN V) ∗ ob c (rows a n) A) ⊢ iprop(((cb c (rows a n) q (FIN V) ∗ ob c (rows a n) (OUT V)) -∗ wpc c (k ⟨⟩) Q)
      -∗ wpc c (.op (.load cM (Rect.unit (s := S1024x1024) off ![n, 1024] inb).toLoadRect hl)
        (fun v => .op (.load oM (Rect.unit (s := S1024x1024) off ![n, 1024] inb').toLoadRect hl')
          (fun _ => .op (.store oM (Rect.unit (s := S1024x1024) off ![n, 1024] inb'') (pay v) Finset.univ hx hm) k))) Q) := by
  iintro ⟨H, Ho⟩ Hk
  iapply (ld_c c (inb := inb) hoff) $$ H
  iintro H %v %hv
  iapply (fill_o c hoff (OUT V) (fun x i h => by rw [hp, hv x i h]; rfl)) $$ Ho
  iintro Ho
  iapply Hk
  isplitl [H]; · iexact H
  iexact Ho

/-- What landed in a slot of `prM` added to the device's own rows. -/
theorem acc_pr (c : Dev nD) (s : Fin 3) {a : ℕ} {off : Fin 2 → ℕ} {inb inb' inb'' inb3} (hoff : off = ![a, 0]) {A B : Mat F} (C : Mat F)
    (hC : ∀ i, plus (A i) (B i) = C i)
    {pay : (S128x1024.Idx → Elt F .bf16) → (S1x128x1024.Idx → Elt F .bf16) → S128x1024.Idx → Elt F .bf16}
    (hp : ∀ v w x, pay v w x = plus (v x) (shapeCast S128x1024 w shapeCasts_S1x128x1024_S128x1024 x))
    {hl : cM.view.LoadsAt (Rect.unit (s := S1024x1024) off S128x1024.size inb).toLoadRect}
    {hl' : prM.view.LoadsAt (Rect.unit (s := S3x128x1024) ![s.val, 0, 0] S1x128x1024.size inb').toLoadRect}
    {hl3 : cM.view.LoadsAt (Rect.unit (s := S1024x1024) off S128x1024.size inb3).toLoadRect}
    {hx : (cM.access (Rect.unit (s := S1024x1024) off S128x1024.size inb'')).Stores Finset.univ} {hm}
    {α : Type} {Q : α → sProp 𝕄} {k : PUnit → Prog (TpuEff nD τ sig (Elt F) Λ₀ .tc) α} :
    iprop(cb c (rows a 128) fullShare A ∗ prH c s a B) ⊢ iprop(((cb c (rows a 128) fullShare C ∗ prG c s.val) -∗ wpc c (k ⟨⟩) Q)
      -∗ wpc c (.op (.load cM (Rect.unit (s := S1024x1024) off S128x1024.size inb).toLoadRect hl)
        (fun v => .op (.load prM (Rect.unit (s := S3x128x1024) ![s.val, 0, 0] S1x128x1024.size inb').toLoadRect hl')
          (fun w => .op (.load cM (Rect.unit (s := S1024x1024) off S128x1024.size inb3).toLoadRect hl3)
            (fun _ => .op (.store cM (Rect.unit (s := S1024x1024) off S128x1024.size inb'') (pay v w) Finset.univ hx hm) k)))) Q) := by
  iintro ⟨H, Hs⟩ Hk
  iapply (ld_c c (n := 128) (inb := inb) hoff) $$ H
  iintro H %v %hv
  iapply (ld_pr c s (inb := inb')) $$ Hs
  iintro Hs %w %hw
  iapply (fill_c c (n := 128) hoff C (fun x i h => by rw [hp, hv x i h, hw x i h, hC])) $$ H
  iintro H
  iapply Hk
  isplitl [H]; · iexact H
  iexact Hs

/-- What landed in a slot of `plM` added to the device's own rows. -/
theorem acc_pl (c : Dev nD) (s : Fin 3) {a : ℕ} {off : Fin 2 → ℕ} {inb inb' inb'' inb3} (hoff : off = ![a, 0]) {A B : Mat F} (C : Mat F)
    (hC : ∀ i, plus (A i) (B i) = C i)
    {pay : (S128x1024.Idx → Elt F .bf16) → (S1x128x1024.Idx → Elt F .bf16) → S128x1024.Idx → Elt F .bf16}
    (hp : ∀ v w x, pay v w x = plus (v x) (shapeCast S128x1024 w shapeCasts_S1x128x1024_S128x1024 x))
    {hl : cM.view.LoadsAt (Rect.unit (s := S1024x1024) off S128x1024.size inb).toLoadRect}
    {hl' : plM.view.LoadsAt (Rect.unit (s := S3x128x1024) ![s.val, 0, 0] S1x128x1024.size inb').toLoadRect}
    {hl3 : cM.view.LoadsAt (Rect.unit (s := S1024x1024) off S128x1024.size inb3).toLoadRect}
    {hx : (cM.access (Rect.unit (s := S1024x1024) off S128x1024.size inb'')).Stores Finset.univ} {hm}
    {α : Type} {Q : α → sProp 𝕄} {k : PUnit → Prog (TpuEff nD τ sig (Elt F) Λ₀ .tc) α} :
    iprop(cb c (rows a 128) fullShare A ∗ plH c s a B) ⊢ iprop(((cb c (rows a 128) fullShare C ∗ plG c s.val) -∗ wpc c (k ⟨⟩) Q)
      -∗ wpc c (.op (.load cM (Rect.unit (s := S1024x1024) off S128x1024.size inb).toLoadRect hl)
        (fun v => .op (.load plM (Rect.unit (s := S3x128x1024) ![s.val, 0, 0] S1x128x1024.size inb').toLoadRect hl')
          (fun w => .op (.load cM (Rect.unit (s := S1024x1024) off S128x1024.size inb3).toLoadRect hl3)
            (fun _ => .op (.store cM (Rect.unit (s := S1024x1024) off S128x1024.size inb'') (pay v w) Finset.univ hx hm) k)))) Q) := by
  iintro ⟨H, Hs⟩ Hk
  iapply (ld_c c (n := 128) (inb := inb) hoff) $$ H
  iintro H %v %hv
  iapply (ld_pl c s (inb := inb')) $$ Hs
  iintro Hs %w %hw
  iapply (fill_c c (n := 128) hoff C (fun x i h => by rw [hp, hv x i h, hw x i h, hC])) $$ H
  iintro H
  iapply Hk
  isplitl [H]; · iexact H
  iexact Hs

/-- What landed in a slot of `yM` added to the device's own rows. -/
theorem acc_y (c : Dev nD) (s : Fin 2) {a : ℕ} {off : Fin 2 → ℕ} {inb inb' inb'' inb3} (hoff : off = ![a, 0]) {A B : Mat F} (C : Mat F)
    (hC : ∀ i, plus (A i) (B i) = C i)
    {pay : (S64x1024.Idx → Elt F .bf16) → (S1x64x1024.Idx → Elt F .bf16) → S64x1024.Idx → Elt F .bf16}
    (hp : ∀ v w x, pay v w x = plus (v x) (shapeCast S64x1024 w shapeCasts_S1x64x1024_S64x1024 x))
    {hl : cM.view.LoadsAt (Rect.unit (s := S1024x1024) off S64x1024.size inb).toLoadRect}
    {hl' : yM.view.LoadsAt (Rect.unit (s := S2x64x1024) ![s.val, 0, 0] S1x64x1024.size inb').toLoadRect}
    {hl3 : cM.view.LoadsAt (Rect.unit (s := S1024x1024) off S64x1024.size inb3).toLoadRect}
    {hx : (cM.access (Rect.unit (s := S1024x1024) off S64x1024.size inb'')).Stores Finset.univ} {hm}
    {α : Type} {Q : α → sProp 𝕄} {k : PUnit → Prog (TpuEff nD τ sig (Elt F) Λ₀ .tc) α} :
    iprop(cb c (rows a 64) fullShare A ∗ yH c s a B) ⊢ iprop(((cb c (rows a 64) fullShare C ∗ yG c s.val) -∗ wpc c (k ⟨⟩) Q)
      -∗ wpc c (.op (.load cM (Rect.unit (s := S1024x1024) off S64x1024.size inb).toLoadRect hl)
        (fun v => .op (.load yM (Rect.unit (s := S2x64x1024) ![s.val, 0, 0] S1x64x1024.size inb').toLoadRect hl')
          (fun w => .op (.load cM (Rect.unit (s := S1024x1024) off S64x1024.size inb3).toLoadRect hl3)
            (fun _ => .op (.store cM (Rect.unit (s := S1024x1024) off S64x1024.size inb'') (pay v w) Finset.univ hx hm) k)))) Q) := by
  iintro ⟨H, Hs⟩ Hk
  iapply (ld_c c (n := 64) (inb := inb) hoff) $$ H
  iintro H %v %hv
  iapply (ld_y c s (inb := inb')) $$ Hs
  iintro Hs %w %hw
  iapply (fill_c c (n := 64) hoff C (fun x i h => by rw [hp, hv x i h, hw x i h, hC])) $$ H
  iintro H
  iapply Hk
  isplitl [H]; · iexact H
  iexact Hs

/-- What landed in a slot of `zM` added to the device's own rows. -/
theorem acc_z (c : Dev nD) (s : Fin 2) {a : ℕ} {off : Fin 2 → ℕ} {inb inb' inb'' inb3} (hoff : off = ![a, 0]) {A B : Mat F} (C : Mat F)
    (hC : ∀ i, plus (A i) (B i) = C i)
    {pay : (S32x1024.Idx → Elt F .bf16) → (S1x32x1024.Idx → Elt F .bf16) → S32x1024.Idx → Elt F .bf16}
    (hp : ∀ v w x, pay v w x = plus (v x) (shapeCast S32x1024 w shapeCasts_S1x32x1024_S32x1024 x))
    {hl : cM.view.LoadsAt (Rect.unit (s := S1024x1024) off S32x1024.size inb).toLoadRect}
    {hl' : zM.view.LoadsAt (Rect.unit (s := S2x32x1024) ![s.val, 0, 0] S1x32x1024.size inb').toLoadRect}
    {hl3 : cM.view.LoadsAt (Rect.unit (s := S1024x1024) off S32x1024.size inb3).toLoadRect}
    {hx : (cM.access (Rect.unit (s := S1024x1024) off S32x1024.size inb'')).Stores Finset.univ} {hm}
    {α : Type} {Q : α → sProp 𝕄} {k : PUnit → Prog (TpuEff nD τ sig (Elt F) Λ₀ .tc) α} :
    iprop(cb c (rows a 32) fullShare A ∗ zH c s a B) ⊢ iprop(((cb c (rows a 32) fullShare C ∗ zG c s.val) -∗ wpc c (k ⟨⟩) Q)
      -∗ wpc c (.op (.load cM (Rect.unit (s := S1024x1024) off S32x1024.size inb).toLoadRect hl)
        (fun v => .op (.load zM (Rect.unit (s := S2x32x1024) ![s.val, 0, 0] S1x32x1024.size inb').toLoadRect hl')
          (fun w => .op (.load cM (Rect.unit (s := S1024x1024) off S32x1024.size inb3).toLoadRect hl3)
            (fun _ => .op (.store cM (Rect.unit (s := S1024x1024) off S32x1024.size inb'') (pay v w) Finset.univ hx hm) k)))) Q) := by
  iintro ⟨H, Hs⟩ Hk
  iapply (ld_c c (n := 32) (inb := inb) hoff) $$ H
  iintro H %v %hv
  iapply (ld_z c s (inb := inb')) $$ Hs
  iintro Hs %w %hw
  iapply (fill_c c (n := 32) hoff C (fun x i h => by rw [hp, hv x i h, hw x i h, hC])) $$ H
  iintro H
  iapply Hk
  isplitl [H]; · iexact H
  iexact Hs

end Cert.KernelIdeal.Pf

end
-- ==== Proof.Offs.lean ====
/-
# Where the transfers lie and lead

The printed row offsets in closed form, and the printed target devices as neighbours.
-/
module

public import proofs.«01_k».proof.Proof.Moves

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

theorem o3 (c : Dev nD) : k0_off3 c = ![tk c 0, 0] := by revert c; decide +kernel
theorem o4 (c : Dev nD) : k0_off4 c = ![tk c 0, 0] := by revert c; decide +kernel
theorem o5 (c : Dev nD) : k0_off5 c = ![bk c 0, 0] := by revert c; decide +kernel
theorem o6_1 (c : Dev nD) : k0_off6 c 1#32 = ![tk c 1, 0] := by revert c; decide +kernel
theorem o6_2 (c : Dev nD) : k0_off6 c 2#32 = ![tk c 2, 0] := by revert c; decide +kernel
theorem o6_3 (c : Dev nD) : k0_off6 c 3#32 = ![tk c 3, 0] := by revert c; decide +kernel
theorem o7_1 (c : Dev nD) : k0_off7 c 1#32 = ![tk c 1, 0] := by revert c; decide +kernel
theorem o7_2 (c : Dev nD) : k0_off7 c 2#32 = ![tk c 2, 0] := by revert c; decide +kernel
theorem o7_3 (c : Dev nD) : k0_off7 c 3#32 = ![tk c 3, 0] := by revert c; decide +kernel
theorem o8_1 (c : Dev nD) : k0_off8 c 1#32 = ![bk c 1, 0] := by revert c; decide +kernel
theorem o8_2 (c : Dev nD) : k0_off8 c 2#32 = ![bk c 2, 0] := by revert c; decide +kernel
theorem o8_3 (c : Dev nD) : k0_off8 c 3#32 = ![bk c 3, 0] := by revert c; decide +kernel
theorem o9_2 (c : Dev nD) : k0_off9 c 2#32 = ![tk c 2, 0] := by revert c; decide +kernel
theorem o9_3 (c : Dev nD) : k0_off9 c 3#32 = ![tk c 3, 0] := by revert c; decide +kernel
theorem o10_1 (c : Dev nD) : k0_off10 c 1#32 = ![bk c 1, 0] := by revert c; decide +kernel
theorem o10_2 (c : Dev nD) : k0_off10 c 2#32 = ![bk c 2, 0] := by revert c; decide +kernel
theorem o11 (c : Dev nD) : k0_off11 c = ![tk c 1 + h1 c, 0] := by revert c; decide +kernel
theorem o12 (c : Dev nD) : k0_off12 c = ![bk c 3 + h1 c, 0] := by revert c; decide +kernel
theorem o13 (c : Dev nD) : k0_off13 c = ![tk c 1 + h0 c, 0] := by revert c; decide +kernel
theorem o14_0 (c : Dev nD) : k0_off14 c 0#32 = ![bk c 0 + h0 c, 0] := by revert c; decide +kernel
theorem o14_1 (c : Dev nD) : k0_off14 c 1#32 = ![bk c 1 + h0 c, 0] := by revert c; decide +kernel
theorem o14_2 (c : Dev nD) : k0_off14 c 2#32 = ![bk c 2 + h0 c, 0] := by revert c; decide +kernel
theorem o14_3 (c : Dev nD) : k0_off14 c 3#32 = ![bk c 3 + h0 c, 0] := by revert c; decide +kernel
theorem o15 (c : Dev nD) : k0_off15 c = ![tk c 1 + qs c, 0] := by revert c; decide +kernel
theorem o16 (c : Dev nD) : k0_off16 c = ![bk c 3 + qs c, 0] := by revert c; decide +kernel
theorem o17 (c : Dev nD) : k0_off17 c = ![tk c 1 + qk c, 0] := by revert c; decide +kernel
theorem o18 (c : Dev nD) : k0_off18 c = ![bk c 3 + qk c, 0] := by revert c; decide +kernel
theorem o19 (c : Dev nD) : k0_off19 c = ![tk c 1 + qk c, 0] := by revert c; decide +kernel
theorem o20 (c : Dev nD) : k0_off20 c = ![bk c 3 + qk c, 0] := by revert c; decide +kernel
theorem o21_0 (c : Dev nD) : k0_off21 c 0#32 = ![tk c 1 + h0 c, 0] := by revert c; decide +kernel
theorem o21_1 (c : Dev nD) : k0_off21 c 1#32 = ![tk c 0 + h0 c, 0] := by revert c; decide +kernel
theorem o21_2 (c : Dev nD) : k0_off21 c 2#32 = ![tk c 3 + h0 c, 0] := by revert c; decide +kernel
theorem o22_0 (c : Dev nD) : k0_off22 c 0#32 = ![bk c 3 + h0 c, 0] := by revert c; decide +kernel
theorem o22_1 (c : Dev nD) : k0_off22 c 1#32 = ![bk c 0 + h0 c, 0] := by revert c; decide +kernel
theorem o22_2 (c : Dev nD) : k0_off22 c 2#32 = ![bk c 1 + h0 c, 0] := by revert c; decide +kernel
theorem o23 (c : Dev nD) : k0_off23 c = ![tk c 1 + h0 c, 0] := by revert c; decide +kernel
theorem o24 (c : Dev nD) : k0_off24 c = ![bk c 3 + h0 c, 0] := by revert c; decide +kernel
theorem o25_0 (c : Dev nD) : k0_off25 c 0#32 = ![tk c 1 + h1 c, 0] := by revert c; decide +kernel
theorem o25_1 (c : Dev nD) : k0_off25 c 1#32 = ![tk c 0 + h1 c, 0] := by revert c; decide +kernel
theorem o25_2 (c : Dev nD) : k0_off25 c 2#32 = ![tk c 3 + h1 c, 0] := by revert c; decide +kernel
theorem o26_0 (c : Dev nD) : k0_off26 c 0#32 = ![bk c 3 + h1 c, 0] := by revert c; decide +kernel
theorem o26_1 (c : Dev nD) : k0_off26 c 1#32 = ![bk c 0 + h1 c, 0] := by revert c; decide +kernel
theorem o26_2 (c : Dev nD) : k0_off26 c 2#32 = ![bk c 1 + h1 c, 0] := by revert c; decide +kernel
theorem o27 (c : Dev nD) : k0_off27 c = ![tk c 1 + h1 c, 0] := by revert c; decide +kernel
theorem o28_0 (c : Dev nD) : k0_off28 c 0#32 = ![bk c 0 + h1 c, 0] := by revert c; decide +kernel
theorem o28_1 (c : Dev nD) : k0_off28 c 1#32 = ![bk c 1 + h1 c, 0] := by revert c; decide +kernel
theorem o28_2 (c : Dev nD) : k0_off28 c 2#32 = ![bk c 2 + h1 c, 0] := by revert c; decide +kernel
theorem o28_3 (c : Dev nD) : k0_off28 c 3#32 = ![bk c 3 + h1 c, 0] := by revert c; decide +kernel
theorem o29_0 (c : Dev nD) : k0_off29 c 0#32 = ![tk c 0 + h0 c, 0] := by revert c; decide +kernel
theorem o29_1 (c : Dev nD) : k0_off29 c 1#32 = ![tk c 3 + h0 c, 0] := by revert c; decide +kernel
theorem o29_2 (c : Dev nD) : k0_off29 c 2#32 = ![tk c 2 + h0 c, 0] := by revert c; decide +kernel
theorem o30_0 (c : Dev nD) : k0_off30 c 0#32 = ![tk c 0 + h1 c, 0] := by revert c; decide +kernel
theorem o30_1 (c : Dev nD) : k0_off30 c 1#32 = ![tk c 3 + h1 c, 0] := by revert c; decide +kernel
theorem o30_2 (c : Dev nD) : k0_off30 c 2#32 = ![tk c 2 + h1 c, 0] := by revert c; decide +kernel

theorem dv1 (c : Dev nD) : (⟨k0_dev1 c, k0_dev1_lt c⟩ : Dev nD) = lf c := by revert c; decide +kernel
theorem dv2 (c : Dev nD) : (⟨k0_dev2 c, k0_dev2_lt c⟩ : Dev nD) = rt c := by revert c; decide +kernel
theorem dv3 (c : Dev nD) : (⟨k0_dev3 c, k0_dev3_lt c⟩ : Dev nD) = za c := by revert c; decide +kernel
theorem dv4 (c : Dev nD) : (⟨k0_dev4 c, k0_dev4_lt c⟩ : Dev nD) = zb c := by revert c; decide +kernel
theorem dv5 (c : Dev nD) : (⟨k0_dev5 c, k0_dev5_lt c⟩ : Dev nD) = rt c := by revert c; decide +kernel
theorem dv6 (c : Dev nD) : (⟨k0_dev6 c, k0_dev6_lt c⟩ : Dev nD) = lf c := by revert c; decide +kernel
theorem dv7 (c : Dev nD) : (⟨k0_dev7 c, k0_dev7_lt c⟩ : Dev nD) = rt c := by revert c; decide +kernel
theorem dv8 (c : Dev nD) : (⟨k0_dev8 c, k0_dev8_lt c⟩ : Dev nD) = lf c := by revert c; decide +kernel
theorem dv9 (c : Dev nD) : (⟨k0_dev9 c, k0_dev9_lt c⟩ : Dev nD) = rt c := by revert c; decide +kernel
theorem dv10 (c : Dev nD) : (⟨k0_dev10 c, k0_dev10_lt c⟩ : Dev nD) = lf c := by revert c; decide +kernel
theorem dv11 (c : Dev nD) : (⟨k0_dev11 c, k0_dev11_lt c⟩ : Dev nD) = za c := by revert c; decide +kernel
theorem dv12 (c : Dev nD) : (⟨k0_dev12 c, k0_dev12_lt c⟩ : Dev nD) = za c := by revert c; decide +kernel
theorem dv13 (c : Dev nD) : (⟨k0_dev13 c, k0_dev13_lt c⟩ : Dev nD) = zb c := by revert c; decide +kernel
theorem dv14 (c : Dev nD) : (⟨k0_dev14 c, k0_dev14_lt c⟩ : Dev nD) = zb c := by revert c; decide +kernel
theorem dv15 (c : Dev nD) : (⟨k0_dev15 c, k0_dev15_lt c⟩ : Dev nD) = zb c := by revert c; decide +kernel
theorem dv16 (c : Dev nD) : (⟨k0_dev16 c, k0_dev16_lt c⟩ : Dev nD) = zb c := by revert c; decide +kernel
theorem dv17 (c : Dev nD) : (⟨k0_dev17 c, k0_dev17_lt c⟩ : Dev nD) = rt c := by revert c; decide +kernel
theorem dv18 (c : Dev nD) : (⟨k0_dev18 c, k0_dev18_lt c⟩ : Dev nD) = lf c := by revert c; decide +kernel
theorem dv19 (c : Dev nD) : (⟨k0_dev19 c, k0_dev19_lt c⟩ : Dev nD) = za c := by revert c; decide +kernel
theorem dv20 (c : Dev nD) : (⟨k0_dev20 c, k0_dev20_lt c⟩ : Dev nD) = za c := by revert c; decide +kernel
theorem dv21 (c : Dev nD) : (⟨k0_dev21 c, k0_dev21_lt c⟩ : Dev nD) = rt c := by revert c; decide +kernel
theorem dv22 (c : Dev nD) : (⟨k0_dev22 c, k0_dev22_lt c⟩ : Dev nD) = lf c := by revert c; decide +kernel
theorem dv23 (c : Dev nD) : (⟨k0_dev23 c, k0_dev23_lt c⟩ : Dev nD) = rt c := by revert c; decide +kernel
theorem dv24 (c : Dev nD) : (⟨k0_dev24 c, k0_dev24_lt c⟩ : Dev nD) = lf c := by revert c; decide +kernel
theorem dv25 (c : Dev nD) : (⟨k0_dev25 c, k0_dev25_lt c⟩ : Dev nD) = rt c := by revert c; decide +kernel
theorem dv26 (c : Dev nD) : (⟨k0_dev26 c, k0_dev26_lt c⟩ : Dev nD) = lf c := by revert c; decide +kernel
theorem dv27 (c : Dev nD) : (⟨k0_dev27 c, k0_dev27_lt c⟩ : Dev nD) = rt c := by revert c; decide +kernel
theorem dv28 (c : Dev nD) : (⟨k0_dev28 c, k0_dev28_lt c⟩ : Dev nD) = lf c := by revert c; decide +kernel
theorem dv29 (c : Dev nD) : (⟨k0_dev29 c, k0_dev29_lt c⟩ : Dev nD) = rt c := by revert c; decide +kernel
theorem dv30 (c : Dev nD) : (⟨k0_dev30 c, k0_dev30_lt c⟩ : Dev nD) = lf c := by revert c; decide +kernel

end Cert.KernelIdeal.Pf

end
-- ==== Proof.Split.lean ====
/-
# Cutting and joining

The blocks of rows cut into halves and quarters and joined again, the shares of a block, the slots of a landing
buffer, and the neighbours' names for the same rows.
-/
module

public import proofs.«01_k».proof.Proof.Offs

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (V : Vals F)

local notation "𝕄" => MT nD τ sig Unit (Elt F) ℕ UU ℕ

/-! ## Sets of rows -/

theorem rows_add (a n m : ℕ) : rows a (n + m) = rows a n ∪ rows (a + n) m := by
  ext i; rw [Finset.mem_union, mem_rows, mem_rows, mem_rows]; omega
theorem rows_disj (a n m : ℕ) : Disjoint (rows a n) (rows (a + n) m) := by
  rw [Finset.disjoint_left]; intro i h1 h2; rw [mem_rows] at h1 h2; omega
theorem rows_all : rows 0 1024 = Finset.univ := by
  ext i; rw [mem_rows]; have : (i 0).val < 1024 := (i 0).isLt; simp only [Finset.mem_univ, iff_true]; omega

/-! ## Cutting -/

variable (c d : Dev nD) (q : PosShare TreeShare) (A : Mat F) (f : S1024x1024.Idx → Elt F .f32)

theorem cb_add (a n m b : ℕ) (hb : b = a + n) : cb c (rows a (n + m)) q A ⊣⊢ iprop(cb c (rows a n) q A ∗ cb c (rows b m) q A) := by
  subst hb; unfold cb; rw [rows_add]; exact pointsTo_union (rows_disj a n m)
theorem ob_add (a n m b : ℕ) (hb : b = a + n) : ob c (rows a (n + m)) f ⊣⊢ iprop(ob c (rows a n) f ∗ ob c (rows b m) f) := by
  subst hb; unfold ob; rw [rows_add]; exact pointsTo_union (rows_disj a n m)

theorem cb_two (k : ℕ) : cb c (rows (tk c k) 256) q A ⊣⊢ iprop(cb c (rows (tk c k) 128) q A ∗ cb c (rows (bk c k) 128) q A) :=
  cb_add c q A (tk c k) 128 128 (bk c k) rfl
theorem ob_two (k : ℕ) : ob c (rows (tk c k) 256) f ⊣⊢ iprop(ob c (rows (tk c k) 128) f ∗ ob c (rows (bk c k) 128) f) :=
  ob_add c f (tk c k) 128 128 (bk c k) rfl

theorem h_cases : (h0 c = 0 ∧ h1 c = 64) ∨ (h0 c = 64 ∧ h1 c = 0) := by revert c; decide
theorem q_cases : (qk c = h0 c ∧ qs c = h0 c + 32) ∨ (qk c = h0 c + 32 ∧ qs c = h0 c) := by revert c; decide

theorem bi_swap {P Q R : sProp 𝕄} (h : P ⊣⊢ iprop(Q ∗ R)) : P ⊣⊢ iprop(R ∗ Q) := by
  constructor
  · refine h.1.trans ?_
    iintro ⟨A, B⟩
    isplitl [B]; · iexact B
    iexact A
  · refine BIBase.Entails.trans ?_ h.2
    iintro ⟨A, B⟩
    isplitl [B]; · iexact B
    iexact A

theorem cb_half (a : ℕ) : cb d (rows a 128) q A ⊣⊢ iprop(cb d (rows (a + h0 c) 64) q A ∗ cb d (rows (a + h1 c) 64) q A) := by
  rcases h_cases c with ⟨e0, e1⟩ | ⟨e0, e1⟩ <;> rw [e0, e1]
  · exact cb_add d q A a 64 64 (a + 64) rfl
  · exact bi_swap (cb_add d q A a 64 64 (a + 64) rfl)
theorem ob_half (a : ℕ) : ob d (rows a 128) f ⊣⊢ iprop(ob d (rows (a + h0 c) 64) f ∗ ob d (rows (a + h1 c) 64) f) := by
  rcases h_cases c with ⟨e0, e1⟩ | ⟨e0, e1⟩ <;> rw [e0, e1]
  · exact ob_add d f a 64 64 (a + 64) rfl
  · exact bi_swap (ob_add d f a 64 64 (a + 64) rfl)
theorem cb_quar (a : ℕ) : cb d (rows (a + h0 c) 64) q A ⊣⊢ iprop(cb d (rows (a + qk c) 32) q A ∗ cb d (rows (a + qs c) 32) q A) := by
  rcases q_cases c with ⟨e0, e1⟩ | ⟨e0, e1⟩ <;> rw [e0, e1]
  · exact cb_add d q A (a + h0 c) 32 32 _ (by omega)
  · exact bi_swap (cb_add d q A (a + h0 c) 32 32 _ (by omega))
theorem cb_share (S : Finset S1024x1024.Idx) : cb c S q A ⊣⊢ iprop(cb c S q.left A ∗ cb c S q.right A) := by
  unfold cb; exact pointsTo_share (PosShare.mem_left_op_right q)
theorem gv_half (a : ℕ) : gv (F := F) d (rows a 128) ⊢ iprop(gv d (rows (a + h0 c) 64) ∗ gv d (rows (a + h1 c) 64)) := by
  unfold gv
  iintro ⟨%A, H⟩
  ihave H := (cb_half c d fullShare A a).1 $$ H
  icases H with ⟨H1, H2⟩
  isplitl [H1]
  · iexists A; iexact H1
  iexists A; iexact H2

/-- The whole buffer as its four chunks, from the device's own. -/
theorem chunks (X : ℕ → sProp 𝕄) (W : sProp 𝕄) (h : W ⊣⊢ iprop(X 0 ∗ X 256 ∗ X 512 ∗ X 768)) :
    W ⊣⊢ iprop(X (tk c 0) ∗ X (tk c 3) ∗ X (tk c 1) ∗ X (tk c 2)) := by
  have hc : c.val % 4 = 0 ∨ c.val % 4 = 1 ∨ c.val % 4 = 2 ∨ c.val % 4 = 3 := by omega
  unfold tk
  rcases hc with e | e | e | e <;> rw [e]
  all_goals
    constructor
    · refine h.1.trans ?_
      iintro ⟨A, B, C, D⟩
      first
      | (isplitl [A]; · iexact A
         isplitl [D]; · iexact D
         isplitl [B]; · iexact B
         iexact C)
      | (isplitl [B]; · iexact B
         isplitl [A]; · iexact A
         isplitl [C]; · iexact C
         iexact D)
      | (isplitl [C]; · iexact C
         isplitl [B]; · iexact B
         isplitl [D]; · iexact D
         iexact A)
      | (isplitl [D]; · iexact D
         isplitl [C]; · iexact C
         isplitl [A]; · iexact A
         iexact B)
    · refine BIBase.Entails.trans ?_ h.2
      iintro ⟨A, B, C, D⟩
      first
      | (isplitl [A]; · iexact A
         isplitl [C]; · iexact C
         isplitl [D]; · iexact D
         iexact B)
      | (isplitl [B]; · iexact B
         isplitl [A]; · iexact A
         isplitl [C]; · iexact C
         iexact D)
      | (isplitl [D]; · iexact D
         isplitl [B]; · iexact B
         isplitl [A]; · iexact A
         iexact C)
      | (isplitl [C]; · iexact C
         isplitl [D]; · iexact D
         isplitl [B]; · iexact B
         iexact A)

theorem four {P A B C D AB CD : sProp 𝕄} (h : P ⊣⊢ iprop(AB ∗ CD)) (h1 : AB ⊣⊢ iprop(A ∗ B)) (h2 : CD ⊣⊢ iprop(C ∗ D)) : P ⊣⊢ iprop(A ∗ B ∗ C ∗ D) := by
  constructor
  · refine h.1.trans ?_
    iintro ⟨X, Y⟩
    ihave X := h1.1 $$ X
    ihave Y := h2.1 $$ Y
    icases X with ⟨X1, X2⟩
    isplitl [X1]; · iexact X1
    isplitl [X2]; · iexact X2
    iexact Y
  · refine BIBase.Entails.trans ?_ h.2
    iintro ⟨A, B, C⟩
    isplitl [A B]
    · iapply h1.2
      isplitl [A]; · iexact A
      iexact B
    iapply h2.2; iexact C

theorem cb_all : cb c Finset.univ q A ⊣⊢ iprop(cb c (rows (tk c 0) 256) q A ∗ cb c (rows (tk c 3) 256) q A ∗ cb c (rows (tk c 1) 256) q A ∗ cb c (rows (tk c 2) 256) q A) := by
  refine chunks c (fun a => cb c (rows a 256) q A) _ ?_
  rw [← rows_all]
  exact four (cb_add c q A 0 512 512 512 rfl) (cb_add c q A 0 256 256 256 rfl) (cb_add c q A 512 256 256 768 rfl)
theorem ob_all : ob c Finset.univ f ⊣⊢ iprop(ob c (rows (tk c 0) 256) f ∗ ob c (rows (tk c 3) 256) f ∗ ob c (rows (tk c 1) 256) f ∗ ob c (rows (tk c 2) 256) f) := by
  refine chunks c (fun a => ob c (rows a 256) f) _ ?_
  rw [← rows_all]
  exact four (ob_add c f 0 512 512 512 rfl) (ob_add c f 0 256 256 256 rfl) (ob_add c f 512 256 256 768 rfl)

/-! ## The slots of a landing buffer -/

theorem pr_slots : (prW d : sProp 𝕄) ⊣⊢ iprop(prG d 0 ∗ prG d 1 ∗ prG d 2) := by
  have hU : (Finset.univ : Finset S3x128x1024.Idx) = prSet 0 ∪ (prSet 1 ∪ prSet 2) := by
    ext i; have : (i 0).val < 3 := (i 0).isLt; unfold prSet; simp only [Finset.mem_union, Finset.mem_filter, Finset.mem_univ, true_and, true_iff]; omega
  have h1 : Disjoint (prSet 0) (prSet 1 ∪ prSet 2) := by
    rw [Finset.disjoint_left]; intro i; unfold prSet; simp only [Finset.mem_union, Finset.mem_filter, Finset.mem_univ, true_and]; omega
  have h2 : Disjoint (prSet 1) (prSet 2) := by
    rw [Finset.disjoint_left]; intro i; unfold prSet; simp only [Finset.mem_filter, Finset.mem_univ, true_and]; omega
  unfold prW prG
  constructor
  · iintro ⟨%f, H⟩
    ihave H := (Entails.of_eq (by rw [hU])) $$ H
    ihave H := (pointsTo_union (ℓ := ((d : Thread nD τ).loc cc0_scratch4)) h1).1 $$ H
    icases H with ⟨H0, H⟩
    ihave H := (pointsTo_union (ℓ := ((d : Thread nD τ).loc cc0_scratch4)) h2).1 $$ H
    icases H with ⟨H1, H2⟩
    isplitl [H0]; · iexists f; iexact H0
    isplitl [H1]; · iexists f; iexact H1
    iexists f; iexact H2
  · iintro ⟨⟨%f0, H0⟩, ⟨%f1, H1⟩, ⟨%f2, H2⟩⟩
    ihave H := (pointsTo_join (ℓ := ((d : Thread nD τ).loc cc0_scratch4)) h2) $$ [H1 H2]
    · isplitl [H1]; · iexact H1
      iexact H2
    ihave H := (pointsTo_join (ℓ := ((d : Thread nD τ).loc cc0_scratch4)) h1) $$ [H0 H]
    · isplitl [H0]; · iexact H0
      iexact H
    iexists _; rw [hU]; iexact H

theorem pl_slots : (plW d : sProp 𝕄) ⊣⊢ iprop(plG d 0 ∗ plG d 1 ∗ plG d 2) := by
  have hU : (Finset.univ : Finset S3x128x1024.Idx) = plSet 0 ∪ (plSet 1 ∪ plSet 2) := by
    ext i; have : (i 0).val < 3 := (i 0).isLt; unfold plSet; simp only [Finset.mem_union, Finset.mem_filter, Finset.mem_univ, true_and, true_iff]; omega
  have h1 : Disjoint (plSet 0) (plSet 1 ∪ plSet 2) := by
    rw [Finset.disjoint_left]; intro i; unfold plSet; simp only [Finset.mem_union, Finset.mem_filter, Finset.mem_univ, true_and]; omega
  have h2 : Disjoint (plSet 1) (plSet 2) := by
    rw [Finset.disjoint_left]; intro i; unfold plSet; simp only [Finset.mem_filter, Finset.mem_univ, true_and]; omega
  unfold plW plG
  constructor
  · iintro ⟨%f, H⟩
    ihave H := (Entails.of_eq (by rw [hU])) $$ H
    ihave H := (pointsTo_union (ℓ := ((d : Thread nD τ).loc cc0_scratch5)) h1).1 $$ H
    icases H with ⟨H0, H⟩
    ihave H := (pointsTo_union (ℓ := ((d : Thread nD τ).loc cc0_scratch5)) h2).1 $$ H
    icases H with ⟨H1, H2⟩
    isplitl [H0]; · iexists f; iexact H0
    isplitl [H1]; · iexists f; iexact H1
    iexists f; iexact H2
  · iintro ⟨⟨%f0, H0⟩, ⟨%f1, H1⟩, ⟨%f2, H2⟩⟩
    ihave H := (pointsTo_join (ℓ := ((d : Thread nD τ).loc cc0_scratch5)) h2) $$ [H1 H2]
    · isplitl [H1]; · iexact H1
      iexact H2
    ihave H := (pointsTo_join (ℓ := ((d : Thread nD τ).loc cc0_scratch5)) h1) $$ [H0 H]
    · isplitl [H0]; · iexact H0
      iexact H
    iexists _; rw [hU]; iexact H

theorem y_slots : (yW d : sProp 𝕄) ⊣⊢ iprop(yG d 0 ∗ yG d 1) := by
  have hU : (Finset.univ : Finset S2x64x1024.Idx) = ySet 0 ∪ ySet 1 := by
    ext i; have : (i 0).val < 2 := (i 0).isLt; unfold ySet; simp only [Finset.mem_union, Finset.mem_filter, Finset.mem_univ, true_and, true_iff]; omega
  have h1 : Disjoint (ySet 0) (ySet 1) := by
    rw [Finset.disjoint_left]; intro i; unfold ySet; simp only [Finset.mem_filter, Finset.mem_univ, true_and]; omega
  unfold yW yG
  constructor
  · iintro ⟨%f, H⟩
    ihave H := (Entails.of_eq (by rw [hU])) $$ H
    ihave H := (pointsTo_union (ℓ := ((d : Thread nD τ).loc cc0_scratch6)) h1).1 $$ H
    icases H with ⟨H0, H1⟩
    isplitl [H0]; · iexists f; iexact H0
    iexists f; iexact H1
  · iintro ⟨⟨%f0, H0⟩, ⟨%f1, H1⟩⟩
    ihave H := (pointsTo_join (ℓ := ((d : Thread nD τ).loc cc0_scratch6)) h1) $$ [H0 H1]
    · isplitl [H0]; · iexact H0
      iexact H1
    iexists _; rw [hU]; iexact H

theorem z_slots : (zW d : sProp 𝕄) ⊣⊢ iprop(zG d 0 ∗ zG d 1) := by
  have hU : (Finset.univ : Finset S2x32x1024.Idx) = zSet 0 ∪ zSet 1 := by
    ext i; have : (i 0).val < 2 := (i 0).isLt; unfold zSet; simp only [Finset.mem_union, Finset.mem_filter, Finset.mem_univ, true_and, true_iff]; omega
  have h1 : Disjoint (zSet 0) (zSet 1) := by
    rw [Finset.disjoint_left]; intro i; unfold zSet; simp only [Finset.mem_filter, Finset.mem_univ, true_and]; omega
  unfold zW zG
  constructor
  · iintro ⟨%f, H⟩
    ihave H := (Entails.of_eq (by rw [hU])) $$ H
    ihave H := (pointsTo_union (ℓ := ((d : Thread nD τ).loc cc0_scratch7)) h1).1 $$ H
    icases H with ⟨H0, H1⟩
    isplitl [H0]; · iexists f; iexact H0
    iexists f; iexact H1
  · iintro ⟨⟨%f0, H0⟩, ⟨%f1, H1⟩⟩
    ihave H := (pointsTo_join (ℓ := ((d : Thread nD τ).loc cc0_scratch7)) h1) $$ [H0 H1]
    · isplitl [H0]; · iexact H0
      iexact H1
    iexists _; rw [hU]; iexact H

/-! ## The neighbours' names for the same rows -/
theorem tk_rt_3 : tk (rt c) 3 = tk c 0 := by revert c; decide +kernel
theorem tk_rt_2 : tk (rt c) 2 = tk c 3 := by revert c; decide +kernel
theorem tk_rt_1 : tk (rt c) 1 = tk c 2 := by revert c; decide +kernel
theorem tk_rt_0 : tk (rt c) 0 = tk c 1 := by revert c; decide +kernel
theorem bk_lf_1 : bk (lf c) 1 = bk c 0 := by revert c; decide +kernel
theorem bk_lf_2 : bk (lf c) 2 = bk c 1 := by revert c; decide +kernel
theorem bk_lf_3 : bk (lf c) 3 = bk c 2 := by revert c; decide +kernel
theorem bk_lf_0 : bk (lf c) 0 = bk c 3 := by revert c; decide +kernel
theorem h0_rt : h0 (rt c) = h0 c := by revert c; decide +kernel
theorem h0_lf : h0 (lf c) = h0 c := by revert c; decide +kernel
theorem h1_rt : h1 (rt c) = h1 c := by revert c; decide +kernel
theorem h1_lf : h1 (lf c) = h1 c := by revert c; decide +kernel
theorem h0_za : h0 (za c) = h1 c := by revert c; decide +kernel
theorem h1_za : h1 (za c) = h0 c := by revert c; decide +kernel
theorem qk_zb : qk (zb c) = qs c := by revert c; decide +kernel
theorem qs_zb : qs (zb c) = qk c := by revert c; decide +kernel
theorem tk_za_1 : tk (za c) 1 = tk c 1 := by revert c; decide +kernel
theorem bk_za_3 : bk (za c) 3 = bk c 3 := by revert c; decide +kernel
theorem tk_zb_1 : tk (zb c) 1 = tk c 1 := by revert c; decide +kernel
theorem bk_zb_3 : bk (zb c) 3 = bk c 3 := by revert c; decide +kernel
theorem bs_0_za : bs 0 (za c) = tk c 1 := by revert c; decide +kernel
theorem bs_1_za : bs 1 (za c) = bk c 3 := by revert c; decide +kernel
theorem bs_0_zb : bs 0 (zb c) = tk c 1 := by revert c; decide +kernel
theorem bs_1_zb : bs 1 (zb c) = bk c 3 := by revert c; decide +kernel

/-! ## The final sums on the rows where they are formed -/

theorem owner_q : ∀ r : Fin 1024, (tk c 1 + qk c ≤ r.val ∧ r.val < tk c 1 + qk c + 32 → owner r.val = c ∧ r.val / 128 % 2 = 0)
    ∧ (bk c 3 + qk c ≤ r.val ∧ r.val < bk c 3 + qk c + 32 → owner r.val = c ∧ r.val / 128 % 2 = 1) := by
  revert c; decide +kernel

theorem fin_T : cb c (rows (tk c 1 + qk c) 32) q (Z2 V 0 c) = cb c (rows (tk c 1 + qk c) 32) q (FIN V) :=
  cb_congr fun i hi => by
    rw [mem_rows] at hi
    have h := (owner_q c (i 0)).1 hi
    show _ = Z2 V ((i 0).val / 128 % 2) (owner (i 0).val) i
    rw [h.1, h.2]
theorem fin_B : cb c (rows (bk c 3 + qk c) 32) q (Z2 V 1 c) = cb c (rows (bk c 3 + qk c) 32) q (FIN V) :=
  cb_congr fun i hi => by
    rw [mem_rows] at hi
    have h := (owner_q c (i 0)).2 hi
    show _ = Z2 V ((i 0).val / 128 % 2) (owner (i 0).val) i
    rw [h.1, h.2]

end Cert.KernelIdeal.Pf

end
-- ==== Proof.Land.lean ====
/-
# What each transfer delivers

For each channel: what the sender knows about what lands, together with what it gives along, is what the receive
cell of the target hands over; and a share left behind is what its own send cell hands back.
-/
module

public import proofs.«01_k».proof.Proof.Split

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (V : Vals F)

local notation "𝕄" => MT nD τ sig Unit (Elt F) ℕ UU ℕ

variable (c : Dev nD)
theorem sep_emp' {A B C : sProp 𝕄} (h : iprop(A ∗ B) ⊢ C) : iprop(A ∗ B ∗ emp) ⊢ C := by
  refine BIBase.Entails.trans ?_ h
  iintro ⟨A, B, -⟩
  isplitl [A]; · iexact A
  iexact B
theorem one_emp' {A C : sProp 𝕄} (h : A ⊢ C) : iprop(A ∗ emp) ⊢ C := by
  refine BIBase.Entails.trans ?_ h
  iintro ⟨A, -⟩
  iexact A

theorem land0 : iprop(prH (rt c) 0 (tk c 0) (accT V 0 c) ∗ gv c (rows (tk c 0) 128) ∗ emp) ⊢ payR V (rt c) 0 := by
  have e : payR V (rt c) 0 = _ := show iprop(prH (rt c) 0 (tk (rt c) 3) (accT V 0 (lf (rt c))) ∗ gv (lf (rt c)) (rows (tk (rt c) 3) 128)) = _ by rw [tk_rt_3, lf_rt]
  rw [e]
  exact sep_emp' (BI.Entails.refl _)

theorem land1 : iprop(plH (lf c) 0 (bk c 0) (accB V 0 c) ∗ gv c (rows (bk c 0) 128) ∗ emp) ⊢ payR V (lf c) 1 := by
  have e : payR V (lf c) 1 = _ := show iprop(plH (lf c) 0 (bk (lf c) 1) (accB V 0 (rt (lf c))) ∗ gv (rt (lf c)) (rows (bk (lf c) 1) 128)) = _ by rw [bk_lf_1, rt_lf]
  rw [e]
  exact sep_emp' (BI.Entails.refl _)

theorem land2 : iprop(prH (rt c) 1 (tk c 3) (accT V 1 c) ∗ gv c (rows (tk c 3) 128) ∗ gv (lf c) (rows (tk c 3) 128)) ⊢ payR V (rt c) 2 := by
  have e : payR V (rt c) 2 = _ := show iprop(prH (rt c) 1 (tk (rt c) 2) (accT V 1 (lf (rt c))) ∗ gv (lf (rt c)) (rows (tk (rt c) 2) 128) ∗ gv (lf (lf (rt c))) (rows (tk (rt c) 2) 128)) = _ by rw [tk_rt_2, lf_rt]
  rw [e]

theorem land3 : iprop(plH (lf c) 1 (bk c 1) (accB V 1 c) ∗ gv c (rows (bk c 1) 128) ∗ gv (rt c) (rows (bk c 1) 128)) ⊢ payR V (lf c) 3 := by
  have e : payR V (lf c) 3 = _ := show iprop(plH (lf c) 1 (bk (lf c) 2) (accB V 1 (rt (lf c))) ∗ gv (rt (lf c)) (rows (bk (lf c) 2) 128) ∗ gv (rt (rt (lf c))) (rows (bk (lf c) 2) 128)) = _ by rw [bk_lf_2, rt_lf]
  rw [e]

theorem land4 : iprop(prH (rt c) 2 (tk c 2) (accT V 2 c) ∗ gv c (rows (tk c 2) 128) ∗ gv (lf c) (rows (tk c 2) 128) ∗ gv (lf (lf c)) (rows (tk c 2) 128)) ⊢ payR V (rt c) 4 := by
  have e : payR V (rt c) 4 = _ := show iprop(prH (rt c) 2 (tk (rt c) 1) (accT V 2 (lf (rt c))) ∗ gv (lf (rt c)) (rows (tk (rt c) 1) 128) ∗ gv (lf (lf (rt c))) (rows (tk (rt c) 1) 128) ∗ gv (lf (lf (lf (rt c)))) (rows (tk (rt c) 1) 128)) = _ by rw [tk_rt_1, lf_rt]
  rw [e]

theorem land5 : iprop(plH (lf c) 2 (bk c 2) (accB V 2 c) ∗ gv c (rows (bk c 2) 128) ∗ gv (rt c) (rows (bk c 2) 128) ∗ gv (rt (rt c)) (rows (bk c 2) 128)) ⊢ payR V (lf c) 5 := by
  have e : payR V (lf c) 5 = _ := show iprop(plH (lf c) 2 (bk (lf c) 3) (accB V 2 (rt (lf c))) ∗ gv (rt (lf c)) (rows (bk (lf c) 3) 128) ∗ gv (rt (rt (lf c))) (rows (bk (lf c) 3) 128) ∗ gv (rt (rt (rt (lf c)))) (rows (bk (lf c) 3) 128)) = _ by rw [bk_lf_3, rt_lf]
  rw [e]

theorem land6 : iprop(yH (za c) 0 (tk c 1 + h1 c) (R0 V 0 c) ∗ gv c (rows (tk c 1 + h1 c) 64) ∗ emp) ⊢ payR V (za c) 6 := by
  have e : payR V (za c) 6 = _ := show iprop(yH (za c) 0 (bs 0 (za c) + h0 (za c)) (R0 V 0 (za (za c))) ∗ gv (za (za c)) (rows (bs 0 (za c) + h0 (za c)) 64)) = _ by rw [bs_0_za, h0_za, za_za]
  rw [e]
  exact sep_emp' (BI.Entails.refl _)

theorem land7 : iprop(yH (za c) 1 (bk c 3 + h1 c) (R0 V 1 c) ∗ gv c (rows (bk c 3 + h1 c) 64) ∗ emp) ⊢ payR V (za c) 7 := by
  have e : payR V (za c) 7 = _ := show iprop(yH (za c) 1 (bs 1 (za c) + h0 (za c)) (R0 V 1 (za (za c))) ∗ gv (za (za c)) (rows (bs 1 (za c) + h0 (za c)) 64)) = _ by rw [bs_1_za, h0_za, za_za]
  rw [e]
  exact sep_emp' (BI.Entails.refl _)

theorem land8 : iprop(zH (zb c) 0 (tk c 1 + qs c) (Z1 V 0 c) ∗ gv c (rows (tk c 1 + qs c) 32) ∗ emp) ⊢ payR V (zb c) 8 := by
  have e : payR V (zb c) 8 = _ := show iprop(zH (zb c) 0 (bs 0 (zb c) + qk (zb c)) (Z1 V 0 (zb (zb c))) ∗ gv (zb (zb c)) (rows (bs 0 (zb c) + qk (zb c)) 32)) = _ by rw [bs_0_zb, qk_zb, zb_zb]
  rw [e]
  exact sep_emp' (BI.Entails.refl _)

theorem land9 : iprop(zH (zb c) 1 (bk c 3 + qs c) (Z1 V 1 c) ∗ gv c (rows (bk c 3 + qs c) 32) ∗ emp) ⊢ payR V (zb c) 9 := by
  have e : payR V (zb c) 9 = _ := show iprop(zH (zb c) 1 (bs 1 (zb c) + qk (zb c)) (Z1 V 1 (zb (zb c))) ∗ gv (zb (zb c)) (rows (bs 1 (zb c) + qk (zb c)) 32)) = _ by rw [bs_1_zb, qk_zb, zb_zb]
  rw [e]
  exact sep_emp' (BI.Entails.refl _)

theorem land10 : iprop(cb (zb c) (rows (tk c 1 + qk c) 32) fullShare (FIN V) ∗ emp) ⊢ payR V (zb c) 10 := by
  have e : payR V (zb c) 10 = _ := show cb (zb c) (rows (bs 0 (zb c) + qs (zb c)) 32) fullShare (FIN V) = _ by rw [bs_0_zb, qs_zb]
  rw [e]
  exact one_emp' (BI.Entails.refl _)

theorem land11 : iprop(cb (zb c) (rows (bk c 3 + qk c) 32) fullShare (FIN V) ∗ emp) ⊢ payR V (zb c) 11 := by
  have e : payR V (zb c) 11 = _ := show cb (zb c) (rows (bs 1 (zb c) + qs (zb c)) 32) fullShare (FIN V) = _ by rw [bs_1_zb, qs_zb]
  rw [e]
  exact one_emp' (BI.Entails.refl _)

theorem land12 : iprop(cb (rt c) (rows (tk c 1 + h0 c) 64) fullShare (FIN V) ∗ gv (lf (lf c)) (rows (tk c 1 + h0 c) 64) ∗ gv (lf c) (rows (tk c 1 + h0 c) 64)) ⊢ payR V (rt c) 12 := by
  have e : payR V (rt c) 12 = _ := show iprop(cb (rt c) (rows (tk (rt c) 0 + h0 (rt c)) 64) fullShare (FIN V) ∗ gv (rt (rt c)) (rows (tk (rt c) 0 + h0 (rt c)) 64) ∗ gv (rt (rt (rt c))) (rows (tk (rt c) 0 + h0 (rt c)) 64)) = _ by rw [tk_rt_0, h0_rt, rt3, ← lf2]
  rw [e]

theorem land13 : iprop(cb (lf c) (rows (bk c 3 + h0 c) 64) fullShare (FIN V) ∗ gv (rt (rt c)) (rows (bk c 3 + h0 c) 64) ∗ gv (rt c) (rows (bk c 3 + h0 c) 64)) ⊢ payR V (lf c) 13 := by
  have e : payR V (lf c) 13 = _ := show iprop(cb (lf c) (rows (bk (lf c) 0 + h0 (lf c)) 64) fullShare (FIN V) ∗ gv (lf (lf c)) (rows (bk (lf c) 0 + h0 (lf c)) 64) ∗ gv (lf (lf (lf c))) (rows (bk (lf c) 0 + h0 (lf c)) 64)) = _ by rw [bk_lf_0, h0_lf, lf3, lf2]
  rw [e]

theorem land14 : iprop(cb (za c) (rows (tk c 1 + h0 c) 64) fullShare (FIN V) ∗ emp) ⊢ payR V (za c) 14 := by
  have e : payR V (za c) 14 = _ := show cb (za c) (rows (bs 0 (za c) + h1 (za c)) 64) fullShare (FIN V) = _ by rw [bs_0_za, h1_za]
  rw [e]
  exact one_emp' (BI.Entails.refl _)

theorem land15 : iprop(cb (za c) (rows (bk c 3 + h0 c) 64) fullShare (FIN V) ∗ emp) ⊢ payR V (za c) 15 := by
  have e : payR V (za c) 15 = _ := show cb (za c) (rows (bs 1 (za c) + h1 (za c)) 64) fullShare (FIN V) = _ by rw [bs_1_za, h1_za]
  rw [e]
  exact one_emp' (BI.Entails.refl _)

theorem land16 : iprop(cb (rt c) (rows (tk c 1 + h1 c) 64) fullShare (FIN V) ∗ gv (lf (lf c)) (rows (tk c 1 + h1 c) 64) ∗ gv (lf c) (rows (tk c 1 + h1 c) 64)) ⊢ payR V (rt c) 16 := by
  have e : payR V (rt c) 16 = _ := show iprop(cb (rt c) (rows (tk (rt c) 0 + h1 (rt c)) 64) fullShare (FIN V) ∗ gv (rt (rt c)) (rows (tk (rt c) 0 + h1 (rt c)) 64) ∗ gv (rt (rt (rt c))) (rows (tk (rt c) 0 + h1 (rt c)) 64)) = _ by rw [tk_rt_0, h1_rt, rt3, ← lf2]
  rw [e]

theorem land17 : iprop(cb (lf c) (rows (bk c 3 + h1 c) 64) fullShare (FIN V) ∗ gv (rt (rt c)) (rows (bk c 3 + h1 c) 64) ∗ gv (rt c) (rows (bk c 3 + h1 c) 64)) ⊢ payR V (lf c) 17 := by
  have e : payR V (lf c) 17 = _ := show iprop(cb (lf c) (rows (bk (lf c) 0 + h1 (lf c)) 64) fullShare (FIN V) ∗ gv (lf (lf c)) (rows (bk (lf c) 0 + h1 (lf c)) 64) ∗ gv (lf (lf (lf c))) (rows (bk (lf c) 0 + h1 (lf c)) 64)) = _ by rw [bk_lf_0, h1_lf, lf3, lf2]
  rw [e]

theorem land18 : iprop(cb (rt c) (rows (tk c 0 + h0 c) 64) fullShare (FIN V) ∗ gv (rt (rt c)) (rows (tk c 0 + h0 c) 64)) ⊢ payR V (rt c) 18 := by
  have e : payR V (rt c) 18 = _ := show iprop(cb (rt c) (rows (tk (rt c) 3 + h0 (rt c)) 64) fullShare (FIN V) ∗ gv (rt (rt c)) (rows (tk (rt c) 3 + h0 (rt c)) 64)) = _ by rw [tk_rt_3, h0_rt]
  rw [e]

theorem land19 : iprop(cb (lf c) (rows (bk c 0 + h0 c) 64) fullShare (FIN V) ∗ gv (lf (lf c)) (rows (bk c 0 + h0 c) 64)) ⊢ payR V (lf c) 19 := by
  have e : payR V (lf c) 19 = _ := show iprop(cb (lf c) (rows (bk (lf c) 1 + h0 (lf c)) 64) fullShare (FIN V) ∗ gv (lf (lf c)) (rows (bk (lf c) 1 + h0 (lf c)) 64)) = _ by rw [bk_lf_1, h0_lf]
  rw [e]

theorem land20 : iprop(cb (rt c) (rows (tk c 0 + h1 c) 64) fullShare (FIN V) ∗ gv (rt (rt c)) (rows (tk c 0 + h1 c) 64)) ⊢ payR V (rt c) 20 := by
  have e : payR V (rt c) 20 = _ := show iprop(cb (rt c) (rows (tk (rt c) 3 + h1 (rt c)) 64) fullShare (FIN V) ∗ gv (rt (rt c)) (rows (tk (rt c) 3 + h1 (rt c)) 64)) = _ by rw [tk_rt_3, h1_rt]
  rw [e]

theorem land21 : iprop(cb (lf c) (rows (bk c 0 + h1 c) 64) fullShare (FIN V) ∗ gv (lf (lf c)) (rows (bk c 0 + h1 c) 64)) ⊢ payR V (lf c) 21 := by
  have e : payR V (lf c) 21 = _ := show iprop(cb (lf c) (rows (bk (lf c) 1 + h1 (lf c)) 64) fullShare (FIN V) ∗ gv (lf (lf c)) (rows (bk (lf c) 1 + h1 (lf c)) 64)) = _ by rw [bk_lf_1, h1_lf]
  rw [e]

theorem land22 : iprop(cb (rt c) (rows (tk c 3 + h0 c) 64) fullShare (FIN V) ∗ emp) ⊢ payR V (rt c) 22 := by
  have e : payR V (rt c) 22 = _ := show cb (rt c) (rows (tk (rt c) 2 + h0 (rt c)) 64) fullShare (FIN V) = _ by rw [tk_rt_2, h0_rt]
  rw [e]
  exact one_emp' (BI.Entails.refl _)

theorem land23 : iprop(cb (lf c) (rows (bk c 1 + h0 c) 64) fullShare (FIN V) ∗ emp) ⊢ payR V (lf c) 23 := by
  have e : payR V (lf c) 23 = _ := show cb (lf c) (rows (bk (lf c) 2 + h0 (lf c)) 64) fullShare (FIN V) = _ by rw [bk_lf_2, h0_lf]
  rw [e]
  exact one_emp' (BI.Entails.refl _)

theorem land24 : iprop(cb (rt c) (rows (tk c 3 + h1 c) 64) fullShare (FIN V) ∗ emp) ⊢ payR V (rt c) 24 := by
  have e : payR V (rt c) 24 = _ := show cb (rt c) (rows (tk (rt c) 2 + h1 (rt c)) 64) fullShare (FIN V) = _ by rw [tk_rt_2, h1_rt]
  rw [e]
  exact one_emp' (BI.Entails.refl _)

theorem land25 : iprop(cb (lf c) (rows (bk c 1 + h1 c) 64) fullShare (FIN V) ∗ emp) ⊢ payR V (lf c) 25 := by
  have e : payR V (lf c) 25 = _ := show cb (lf c) (rows (bk (lf c) 2 + h1 (lf c)) 64) fullShare (FIN V) = _ by rw [bk_lf_2, h1_lf]
  rw [e]
  exact one_emp' (BI.Entails.refl _)

variable (K : Dev nD × Fin 55 → ℕ)

theorem fin_step {α : Type} (c : Dev nD) (x : α) (Q : α → sProp 𝕄) : Q x ⊢ wpc c (.ret x) Q := by
  refine BIBase.Entails.trans ?_ (Entails.of_eq (wp_ret _ _ _ x Q).symm)
  exact fupd_intro

theorem tk_le (c : Dev nD) (k : ℕ) : tk c k + 256 ≤ 1024 := by unfold tk; omega

theorem snd_pr (c : Dev nD) (j : Fin 26) (e : Dev nD) (he : e = tgt c j) {d : Dev nD} (hd : d = e) (n' : ℕ) (hn : n' = 25 - j.val)
    {sa sb : DmaSem sig} (ha : SemLoc.dma sa = csem (sS j)) (hb : SemLoc.dma sb = csem (sR j))
    (s : Fin 3) {a : ℕ} {off : Fin 2 → ℕ} {inb} {inb'} (hoff : off = ![a, 0])
    {hsc : (prSlot s.val inb' : Memref sig (Dev.tc d : Thread nD τ).2.kind .vmem S128x1024 .bf16).view.ref.isScScratch = false}
    {h1 h2} {h3}
    (hN : (prSlot s.val inb').view.dmaCredit = amt (sR j))
    (G : sProp 𝕄) (A : Mat F)
    (hS : (emp : sProp 𝕄) ⊢ payS V c j) (hR : iprop(prH e s a A ∗ gv c (rows a 128) ∗ G) ⊢ payR V e j)
    {α : Type} {Q : α → sProp 𝕄} {k : PUnit → Prog (TpuEff nD τ sig (Elt F) Λ₀ .tc) α} :
    iprop(ctx V K ∗ ch0 c j ∗ ow c (n' + 1) ∗ cb c (rows a 128) fullShare A ∗ prG e s.val ∗ G)
      ⊢ iprop(((ch1 c j ∗ ow c n') -∗ wpc c (k ⟨⟩) Q)
        -∗ wpc c (.op (.enqueueDma (cM.slice (Rect.unit (s := S1024x1024) off ![128, 1024] inb) (fun _ => rfl))
          (.remote (Dev.tc d : Thread nD τ) (prSlot s.val inb') (.dma sa) hsc) (.dma sb) h1 h2 h3) k) Q) := by
  subst hd
  exact send_pr V K c j he n' hn ha hb s hoff hN G A hS hR

theorem snd_pl (c : Dev nD) (j : Fin 26) (e : Dev nD) (he : e = tgt c j) {d : Dev nD} (hd : d = e) (n' : ℕ) (hn : n' = 25 - j.val)
    {sa sb : DmaSem sig} (ha : SemLoc.dma sa = csem (sS j)) (hb : SemLoc.dma sb = csem (sR j))
    (s : Fin 3) {a : ℕ} {off : Fin 2 → ℕ} {inb} {inb'} (hoff : off = ![a, 0])
    {hsc : (plSlot s.val inb' : Memref sig (Dev.tc d : Thread nD τ).2.kind .vmem S128x1024 .bf16).view.ref.isScScratch = false}
    {h1 h2} {h3}
    (hN : (plSlot s.val inb').view.dmaCredit = amt (sR j))
    (G : sProp 𝕄) (A : Mat F)
    (hS : (emp : sProp 𝕄) ⊢ payS V c j) (hR : iprop(plH e s a A ∗ gv c (rows a 128) ∗ G) ⊢ payR V e j)
    {α : Type} {Q : α → sProp 𝕄} {k : PUnit → Prog (TpuEff nD τ sig (Elt F) Λ₀ .tc) α} :
    iprop(ctx V K ∗ ch0 c j ∗ ow c (n' + 1) ∗ cb c (rows a 128) fullShare A ∗ plG e s.val ∗ G)
      ⊢ iprop(((ch1 c j ∗ ow c n') -∗ wpc c (k ⟨⟩) Q)
        -∗ wpc c (.op (.enqueueDma (cM.slice (Rect.unit (s := S1024x1024) off ![128, 1024] inb) (fun _ => rfl))
          (.remote (Dev.tc d : Thread nD τ) (plSlot s.val inb') (.dma sa) hsc) (.dma sb) h1 h2 h3) k) Q) := by
  subst hd
  exact send_pl V K c j he n' hn ha hb s hoff hN G A hS hR

theorem snd_y (c : Dev nD) (j : Fin 26) (e : Dev nD) (he : e = tgt c j) {d : Dev nD} (hd : d = e) (n' : ℕ) (hn : n' = 25 - j.val)
    {sa sb : DmaSem sig} (ha : SemLoc.dma sa = csem (sS j)) (hb : SemLoc.dma sb = csem (sR j))
    (s : Fin 2) {a : ℕ} {off : Fin 2 → ℕ} {inb} {inb'} (hoff : off = ![a, 0])
    {hsc : (ySlot s.val inb' : Memref sig (Dev.tc d : Thread nD τ).2.kind .vmem S64x1024 .bf16).view.ref.isScScratch = false}
    {h1 h2} {h3}
    (hN : (ySlot s.val inb').view.dmaCredit = amt (sR j))
    (G : sProp 𝕄) (A : Mat F)
    (hS : (emp : sProp 𝕄) ⊢ payS V c j) (hR : iprop(yH e s a A ∗ gv c (rows a 64) ∗ G) ⊢ payR V e j)
    {α : Type} {Q : α → sProp 𝕄} {k : PUnit → Prog (TpuEff nD τ sig (Elt F) Λ₀ .tc) α} :
    iprop(ctx V K ∗ ch0 c j ∗ ow c (n' + 1) ∗ cb c (rows a 64) fullShare A ∗ yG e s.val ∗ G)
      ⊢ iprop(((ch1 c j ∗ ow c n') -∗ wpc c (k ⟨⟩) Q)
        -∗ wpc c (.op (.enqueueDma (cM.slice (Rect.unit (s := S1024x1024) off ![64, 1024] inb) (fun _ => rfl))
          (.remote (Dev.tc d : Thread nD τ) (ySlot s.val inb') (.dma sa) hsc) (.dma sb) h1 h2 h3) k) Q) := by
  subst hd
  exact send_y V K c j he n' hn ha hb s hoff hN G A hS hR

theorem snd_z (c : Dev nD) (j : Fin 26) (e : Dev nD) (he : e = tgt c j) {d : Dev nD} (hd : d = e) (n' : ℕ) (hn : n' = 25 - j.val)
    {sa sb : DmaSem sig} (ha : SemLoc.dma sa = csem (sS j)) (hb : SemLoc.dma sb = csem (sR j))
    (s : Fin 2) {a : ℕ} {off : Fin 2 → ℕ} {inb} {inb'} (hoff : off = ![a, 0])
    {hsc : (zSlot s.val inb' : Memref sig (Dev.tc d : Thread nD τ).2.kind .vmem S32x1024 .bf16).view.ref.isScScratch = false}
    {h1 h2} {h3}
    (hN : (zSlot s.val inb').view.dmaCredit = amt (sR j))
    (G : sProp 𝕄) (A : Mat F)
    (hS : (emp : sProp 𝕄) ⊢ payS V c j) (hR : iprop(zH e s a A ∗ gv c (rows a 32) ∗ G) ⊢ payR V e j)
    {α : Type} {Q : α → sProp 𝕄} {k : PUnit → Prog (TpuEff nD τ sig (Elt F) Λ₀ .tc) α} :
    iprop(ctx V K ∗ ch0 c j ∗ ow c (n' + 1) ∗ cb c (rows a 32) fullShare A ∗ zG e s.val ∗ G)
      ⊢ iprop(((ch1 c j ∗ ow c n') -∗ wpc c (k ⟨⟩) Q)
        -∗ wpc c (.op (.enqueueDma (cM.slice (Rect.unit (s := S1024x1024) off ![32, 1024] inb) (fun _ => rfl))
          (.remote (Dev.tc d : Thread nD τ) (zSlot s.val inb') (.dma sa) hsc) (.dma sb) h1 h2 h3) k) Q) := by
  subst hd
  exact send_z V K c j he n' hn ha hb s hoff hN G A hS hR

theorem snd_c (c : Dev nD) (j : Fin 26) (e : Dev nD) (he : e = tgt c j) {d : Dev nD} (hd : d = e) (n' : ℕ) (hn : n' = 25 - j.val)
    {sa sb : DmaSem sig} (ha : SemLoc.dma sa = csem (sS j)) (hb : SemLoc.dma sb = csem (sR j))
    {n a : ℕ} {off : Fin 2 → ℕ} {inb} (hoff : off = ![a, 0])
    {hsc : (cM.slice (Rect.unit (s := S1024x1024) off ![n, 1024] inb) (fun _ => rfl) : Memref sig (Dev.tc d : Thread nD τ).2.kind .vmem ⟨2, ![n, 1024]⟩ .bf16).view.ref.isScScratch = false}
    {h1 h2} {h3}
    (hN : (cM.slice (Rect.unit (s := S1024x1024) off ![n, 1024] inb) (fun _ => rfl)).view.dmaCredit = amt (sR j)) (q : PosShare TreeShare)
    (G : sProp 𝕄) (A : Mat F)
    (hS : cb c (rows a n) q A ⊢ payS V c j) (hR : iprop(cb e (rows a n) fullShare A ∗ G) ⊢ payR V e j)
    {α : Type} {Q : α → sProp 𝕄} {k : PUnit → Prog (TpuEff nD τ sig (Elt F) Λ₀ .tc) α} :
    iprop(ctx V K ∗ ch0 c j ∗ ow c (n' + 1) ∗ cb c (rows a n) q A ∗ gv e (rows a n) ∗ G)
      ⊢ iprop(((ch1 c j ∗ ow c n') -∗ wpc c (k ⟨⟩) Q)
        -∗ wpc c (.op (.enqueueDma (cM.slice (Rect.unit (s := S1024x1024) off ![n, 1024] inb) (fun _ => rfl))
          (.remote (Dev.tc d : Thread nD τ) (cM.slice (Rect.unit (s := S1024x1024) off ![n, 1024] inb) (fun _ => rfl)) (.dma sa) hsc) (.dma sb) h1 h2 h3) k) Q) := by
  subst hd
  exact send_c V K c j he n' hn ha hb hoff hN G A hS hR

end Cert.KernelIdeal.Pf

end
-- ==== Proof.PartsA.lean ====
/-
# The body, part by part: the attention of the first chunks and the ring
-/
module

public import proofs.«01_k».proof.Proof.Land

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (V : Vals F)

local notation "𝕄" => MT nD τ sig Unit (Elt F) ℕ UU ℕ

variable (K : Dev nD × Fin 55 → ℕ)

/-- The device finds its place. -/
theorem part1 (c : Dev nD)
    {Q : (Σ' (d0 : Dev nD) (v2 : BitVec 32) (v20 : BitVec 32) (v21 : BitVec 32) (v38 : BitVec 32) (v39 : BitVec 32), BitVec 32) → sProp 𝕄} :
    iprop(ctx V K)
      ⊢ iprop((∀ (z0 : BitVec 32) (z1 : BitVec 32) (z2 : BitVec 32) (z3 : BitVec 32) (z4 : BitVec 32) (z5 : BitVec 32), Q ⟨c, z0, z1, z2, z3, z4, z5⟩) -∗ wpc c (k0_part1 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19) Q) := by
  rw [k0_part1_eq_skeleton]; unfold k0_part1_skel
  simp only [semSignalWord, semWaitWord, Prog.lift, Prog.bind_op, Prog.bind_ret, Prog.pure_eq_ret]
  iintro #Hc Hk
  simp only [wp_deviceId]
  iapply fin_step
  iapply Hk

/-- The weights are fetched and the four neighbours greeted. -/
theorem part2 (c : Dev nD)  {v2 : BitVec 32} {v20 : BitVec 32} {v39 : BitVec 32} {c1_i32_13 : BitVec 32}
    {Q : (Σ' (v42 : BitVec 32) (v46 : BitVec 32) (v47 : BitVec 32) (v48 : BitVec 32) (v62 : IVec S1024x1024 32) (c64_i32 : BitVec 32) (v64 : IVec S1024x1024 32), IVec S1024x1024 32) → sProp 𝕄} :
    iprop(ctx V K ∗ lc0 c 0 ∗ (((c : Thread nD τ).loc main_arg1) ↦[(wqSrc c).view.set]{fullShare} V.wq c) ∗ (∃ f, ((c : Thread nD τ).loc cc0_scratch0) ↦{fullShare} f) ∗ lc0 c 1 ∗ (((c : Thread nD τ).loc main_arg4) ↦[(woSrc c).view.set]{fullShare} V.wo c) ∗ (∃ f, ((c : Thread nD τ).loc cc0_scratch1) ↦{fullShare} f) ∗ dutyTok ER (kcell (lf c) 54) 0 0 ∗ ow c 30 ∗ prW c ∗ dutyTok ER (kcell (rt c) 54) 0 1 ∗ plW c ∗ dutyTok ER (kcell (za c) 54) 0 2 ∗ yW c ∗ dutyTok ER (kcell (zb c) 54) 0 3 ∗ zW c ∗ cred (tallyAt (kcell c 54) () 4) ∗ atPos ER (kcell c 54) 0 ∅ 0)
      ⊢ iprop((∀ (z0 : BitVec 32) (z1 : BitVec 32) (z2 : BitVec 32) (z3 : BitVec 32), (lc1 c 0 ∗ lc1 c 1 ∗ semVal (kcell c 54) 0 ∗ ow c 26 ∗ prG (rt c) 0 ∗ prG (rt c) 1 ∗ prG (rt c) 2 ∗ plG (lf c) 0 ∗ plG (lf c) 1 ∗ plG (lf c) 2 ∗ yG (za c) 0 ∗ yG (za c) 1 ∗ zG (zb c) 0 ∗ zG (zb c) 1) -∗ Q ⟨z0, z1, z2, z3, (iota .tc S1024x1024 32 [0] iota_S1024x1024_d0_w32), 64#32, k0_pay1, k0_pay2⟩) -∗ wpc c (k0_part2 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v2 v20 v39 c1_i32_13) Q) := by
  rw [k0_part2_eq_skeleton]; unfold k0_part2_skel
  simp only [semSignalWord, semWaitWord, Prog.lift, Prog.bind_op, Prog.bind_ret, Prog.pure_eq_ret]
  iintro ⟨#Hc, q0, wqs, wqd, w0, wos, wod, sg0, ow, W0, sg1, W1, sg2, W2, sg3, W3, bc, bp⟩ Hk
  icases wqd with ⟨%fq, wqd⟩
  iapply (step_wq V K c rfl fq) $$ [q0 wqs wqd]
  · isplitr; · iexact Hc
    isplitl [q0]; · iexact q0
    isplitl [wqs]; · iexact wqs
    iexact wqd
  iintro q0
  icases wod with ⟨%fw, wod⟩
  iapply (step_wo V K c rfl fw) $$ [w0 wos wod]
  · isplitr; · iexact Hc
    isplitl [w0]; · iexact w0
    isplitl [wos]; · iexact wos
    iexact wod
  iintro w0
  rw [dv1 c]
  iapply (step_sig V K c 0 29 rfl rfl (prW c) (Entails.of_eq (show prW c = prW (rt (lf c)) by rw [rt_lf])) rfl) $$ [sg0 ow W0]
  · isplitr; · iexact Hc
    isplitl [sg0]; · iexact sg0
    isplitl [ow]; · iexact ow
    iexact W0
  iintro ow
  rw [dv2 c]
  iapply (step_sig V K c 1 28 rfl rfl (plW c) (Entails.of_eq (show plW c = plW (lf (rt c)) by rw [lf_rt])) rfl) $$ [sg1 ow W1]
  · isplitr; · iexact Hc
    isplitl [sg1]; · iexact sg1
    isplitl [ow]; · iexact ow
    iexact W1
  iintro ow
  rw [dv3 c]
  iapply (step_sig V K c 2 27 rfl rfl (yW c) (Entails.of_eq (show yW c = yW (za (za c)) by rw [za_za])) rfl) $$ [sg2 ow W2]
  · isplitr; · iexact Hc
    isplitl [sg2]; · iexact sg2
    isplitl [ow]; · iexact ow
    iexact W2
  iintro ow
  rw [dv4 c]
  iapply (step_sig V K c 3 26 rfl rfl (zW c) (Entails.of_eq (show zW c = zW (zb (zb c)) by rw [zb_zb])) rfl) $$ [sg3 ow W3]
  · isplitr; · iexact Hc
    isplitl [sg3]; · iexact sg3
    isplitl [ow]; · iexact ow
    iexact W3
  iintro ow
  iapply (step_bar V K c rfl) $$ [bc bp ow]
  · isplitr; · iexact Hc
    isplitl [bc]; · iexact bc
    isplitl [bp]; · iexact bp
    iexact ow
  iintro ⟨bc, ow, N0, N1, N2, N3⟩
  ihave N0 := ((pr_slots (rt c)).1) $$ N0
  icases N0 with ⟨N0_0, N0_1, N0_2⟩
  ihave N1 := ((pl_slots (lf c)).1) $$ N1
  icases N1 with ⟨N1_0, N1_1, N1_2⟩
  ihave N2 := ((y_slots (za c)).1) $$ N2
  icases N2 with ⟨N2_0, N2_1⟩
  ihave N3 := ((z_slots (zb c)).1) $$ N3
  icases N3 with ⟨N3_0, N3_1⟩
  iapply fin_step
  iapply Hk
  isplitl [q0]; · iexact q0
  isplitl [w0]; · iexact w0
  isplitl [bc]; · iexact bc
  isplitl [ow]; · iexact ow
  isplitl [N0_0]; · iexact N0_0
  isplitl [N0_1]; · iexact N0_1
  isplitl [N0_2]; · iexact N0_2
  isplitl [N1_0]; · iexact N1_0
  isplitl [N1_1]; · iexact N1_1
  isplitl [N1_2]; · iexact N1_2
  isplitl [N2_0]; · iexact N2_0
  isplitl [N2_1]; · iexact N2_1
  isplitl [N3_0]; · iexact N3_0
  iexact N3_1

/-- The mask, first half. -/
theorem part3 (c : Dev nD) {v62 : IVec S1024x1024 32} {c64_i32 : BitVec 32} {v64 : IVec S1024x1024 32} {v67 : IVec S1024x1024 32}
    {Q : (Σ' (v86 : IVec S1024x1024 32) (v111 : IVec S1024x1024 32) (v112 : IVec S1024x1024 1), IVec S1024x1024 1) → sProp 𝕄} :
    iprop(Q ⟨k0_pay3 v62 c64_i32 v64 v67, k0_pay4, k0_pay5 v62 c64_i32 v64 v67, k0_pay6⟩) ⊢ (wpc c (k0_part3 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 v62 c64_i32 v64 v67) Q) := by
  rw [k0_part3_eq_skeleton]; unfold k0_part3_skel
  simp only [Prog.pure_eq_ret]
  iintro Hk
  iapply fin_step
  iapply Hk

/-- The mask is stored and the operands are loaded. -/
theorem part4 (c : Dev nD)  {v20 : BitVec 32} {v86 : IVec S1024x1024 32} {v111 : IVec S1024x1024 32} {v112 : IVec S1024x1024 1} {v114 : IVec S1024x1024 1} {Xk : S1024x1024.Idx → Elt F .f32} {Xv : S1024x1024.Idx → Elt F .f32}
    {Q : (Σ' (v131 : FVec F S1024x1024 .bf16) (v134 : FVec F S1024x1024 .bf16) (v139 : FVec F S1024x1024 .bf16) (v142 : FVec F S1024x1024 .bf16) (v144 : BitVec 32) (v146 : BitVec 32), BitVec 32) → sProp 𝕄} :
    iprop(ctx V K ∗ (∃ f, at_m c f) ∗ at_k c Xk ∗ at_v c Xv ∗ lc1 c 0 ∗ ow c 26 ∗ lc1 c 1)
      ⊢ iprop((∀ (z0 : BitVec 32) (z1 : BitVec 32) (z2 : BitVec 32), (at_m c (k0_pay7 (F := F) v86 v111 v112 v114) ∗ at_k c Xk ∗ at_v c Xv ∗ semVal (kcell c 0) 0 ∗ (((c : Thread nD τ).loc main_arg1) ↦[(wqSrc c).view.set]{fullShare} V.wq c) ∗ at_q c (wqV V c) ∗ semVal (kcell c 1) 0 ∗ ow c 26 ∗ (((c : Thread nD τ).loc main_arg4) ↦[(woSrc c).view.set]{fullShare} V.wo c) ∗ at_w c (woV V c)) -∗ Q ⟨k0_pay8 Xk, k0_pay9 Xv, k0_pay10 (wqV V c), k0_pay11 (woV V c), z0, z1, z2⟩) -∗ wpc c (k0_part4 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v20 v86 v111 v112 v114) Q) := by
  rw [k0_part4_eq_skeleton]; unfold k0_part4_skel
  simp only [semSignalWord, semWaitWord, Prog.lift, Prog.bind_op, Prog.bind_ret, Prog.pure_eq_ret]
  iintro ⟨#Hc, mk, ks, vs, q0, ow, w0⟩ Hk
  iapply (st_m c) $$ [mk]
  · iexact mk
  iintro mk
  iapply (ld_k c) $$ [ks]
  · iexact ks
  iintro ks
  iapply (ld_v c) $$ [vs]
  · iexact vs
  iintro vs
  iapply (step_lwait V K c 0 (by decide) (by decide) 26 rfl (credW _ _ (by decide)) (fun i hi => by rw [lvk_okey, if_pos hi]; omega)) $$ [q0 ow]
  · isplitr; · iexact Hc
    isplitl [q0]; · iexact q0
    iexact ow
  iintro ⟨q0, ow, wqs⟩
  ihave wqs := (Entails.of_eq (pay_wq V c 0)) $$ wqs
  unfold wqPay
  icases wqs with ⟨wqs, wqd⟩
  ihave wqd := (Entails.of_eq (show iprop(((c : Thread nD τ).loc cc0_scratch0) ↦{fullShare} wqV V c) = at_q c (wqV V c) from rfl)) $$ wqd
  iapply (ld_q c) $$ [wqd]
  · iexact wqd
  iintro wqd
  iapply (step_lwait V K c 1 (by decide) (by decide) 26 rfl (credW _ _ (by decide)) (fun i hi => by rw [lvk_okey, if_pos hi]; omega)) $$ [w0 ow]
  · isplitr; · iexact Hc
    isplitl [w0]; · iexact w0
    iexact ow
  iintro ⟨w0, ow, wos⟩
  ihave wos := (Entails.of_eq (pay_wo V c 0)) $$ wos
  unfold woPay
  icases wos with ⟨wos, wod⟩
  ihave wod := (Entails.of_eq (show iprop(((c : Thread nD τ).loc cc0_scratch1) ↦{fullShare} woV V c) = at_w c (woV V c) from rfl)) $$ wod
  iapply (ld_w c) $$ [wod]
  · iexact wod
  iintro wod
  iapply fin_step
  iapply Hk
  isplitl [mk]; · iexact mk
  isplitl [ks]; · iexact ks
  isplitl [vs]; · iexact vs
  isplitl [q0]; · iexact q0
  isplitl [wqs]; · iexact wqs
  isplitl [wqd]; · iexact wqd
  isplitl [w0]; · iexact w0
  isplitl [ow]; · iexact ow
  isplitl [wos]; · iexact wos
  iexact wod

/-- Part 5 of the body. -/
theorem part5 (c : Dev nD)  {v20 : BitVec 32} {v131 : FVec F S1024x1024 .bf16} {v134 : FVec F S1024x1024 .bf16} {v139 : FVec F S1024x1024 .bf16} {X : S1024x1024.Idx → Elt F .f32} {M : Mat F}
    {Q : (Σ' (v150 : BitVec 32) (v152 : BitVec 32) (v154 : BitVec 32) (v155 : BitVec 32) (v160 : FVec F S256x1024 .f32) (v162 : Vec F S256x1024 .bf16) (v178 : FVec F S256x128 .f32) (v189 : FVec F S256x1 .f32) (v190 : FVec F S256x1024 .bf16), FVec F S1024x128 .bf16) → sProp 𝕄} :
    iprop(ctx V K ∗ at_x c X ∗ at_m c M)
      ⊢ iprop((∀ (z0 : BitVec 32) (z1 : BitVec 32) (z2 : BitVec 32) (z3 : BitVec 32), (at_x c X ∗ at_m c M) -∗ Q ⟨z0, z1, z2, z3, k0_pay12 v139 (blk (tk c 0) X), (blk (tk c 0) M), k0_pay13 v131 v134 v139 (blk (tk c 0) X) (blk (tk c 0) M), k0_pay15 v131 v139 (blk (tk c 0) X) (blk (tk c 0) M), k0_pay16 v131 v139 (blk (tk c 0) X) (blk (tk c 0) M), k0_pay17 v134⟩) -∗ wpc c (k0_part5 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v20 v131 v134 v139) Q) := by
  rw [k0_part5_eq_skeleton]; unfold k0_part5_skel
  simp only [semSignalWord, semWaitWord, Prog.lift, Prog.bind_op, Prog.bind_ret, Prog.pure_eq_ret]
  iintro ⟨#Hc, xs, mk⟩ Hk
  iapply (ldr_x c (o3 c) (tk_le c _)) $$ [xs]
  · iexact xs
  iintro xs
  iapply (ldr_m c (o3 c) (tk_le c _)) $$ [mk]
  · iexact mk
  iintro mk
  iapply fin_step
  iapply Hk
  isplitl [xs]; · iexact xs
  iexact mk

/-- Part 6 of the body. -/
theorem part6 (c : Dev nD) {v131 : FVec F S1024x1024 .bf16} {v134 : FVec F S1024x1024 .bf16} {v160 : FVec F S256x1024 .f32} {v162 : Vec F S256x1024 .bf16} {v189 : FVec F S256x1 .f32} {v190 : FVec F S256x1024 .bf16} {v191 : FVec F S1024x128 .bf16}
    {Q : (Σ' (v194 : FVec F S256x128 .f32) (v210 : FVec F S256x128 .f32) (v226 : FVec F S256x128 .f32) (v237 : FVec F S256x1 .f32) (v238 : FVec F S256x1024 .bf16), FVec F S1024x128 .bf16) → sProp 𝕄} :
    iprop(Q ⟨k0_pay18 v189 v190 v191, k0_pay19 v131 v134 v160 v162, k0_pay20 v131 v134 v160 v162, k0_pay22 v131 v160 v162, k0_pay23 v131 v160 v162, k0_pay24 v134⟩) ⊢ (wpc c (k0_part6 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 v131 v134 v160 v162 v189 v190 v191) Q) := by
  rw [k0_part6_eq_skeleton]; unfold k0_part6_skel
  simp only [Prog.pure_eq_ret]
  iintro Hk
  iapply fin_step
  iapply Hk

/-- Part 7 of the body. -/
theorem part7 (c : Dev nD) {v131 : FVec F S1024x1024 .bf16} {v134 : FVec F S1024x1024 .bf16} {v160 : FVec F S256x1024 .f32} {v162 : Vec F S256x1024 .bf16} {v237 : FVec F S256x1 .f32} {v238 : FVec F S256x1024 .bf16} {v239 : FVec F S1024x128 .bf16}
    {Q : (Σ' (v242 : FVec F S256x128 .f32) (v258 : FVec F S256x128 .f32) (v274 : FVec F S256x128 .f32) (v285 : FVec F S256x1 .f32) (v286 : FVec F S256x1024 .bf16), FVec F S1024x128 .bf16) → sProp 𝕄} :
    iprop(Q ⟨k0_pay25 v237 v238 v239, k0_pay26 v131 v134 v160 v162, k0_pay27 v131 v134 v160 v162, k0_pay29 v131 v160 v162, k0_pay30 v131 v160 v162, k0_pay31 v134⟩) ⊢ (wpc c (k0_part7 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 v131 v134 v160 v162 v237 v238 v239) Q) := by
  rw [k0_part7_eq_skeleton]; unfold k0_part7_skel
  simp only [Prog.pure_eq_ret]
  iintro Hk
  iapply fin_step
  iapply Hk

/-- Part 8 of the body. -/
theorem part8 (c : Dev nD)  {v20 : BitVec 32} {v42 : BitVec 32} {v46 : BitVec 32} {v142 : FVec F S1024x1024 .bf16} {v155 : BitVec 32} {v178 : FVec F S256x128 .f32} {v194 : FVec F S256x128 .f32} {v210 : FVec F S256x128 .f32} {v226 : FVec F S256x128 .f32} {v242 : FVec F S256x128 .f32} {v258 : FVec F S256x128 .f32} {v274 : FVec F S256x128 .f32} {v285 : FVec F S256x1 .f32} {v286 : FVec F S256x1024 .bf16} {v287 : FVec F S1024x128 .bf16} {A0 : Mat F} (hw : ∀ (x : S256x1024.Idx) i, At (tk c 0) x i → (k0_pay32 v142 v178 v194 v210 v226 v242 v258 v274 v285 v286 v287) x = V.P c i)
    {Q : (Σ' (v320 : BitVec 32), BitVec 32) → sProp 𝕄} :
    iprop(ctx V K ∗ cb c (rows (tk c 0) 256) fullShare (A0) ∗ ch0 c 0 ∗ ow c 26 ∗ prG (rt c) 0 ∗ ch0 c 1 ∗ plG (lf c) 0)
      ⊢ iprop((∀ (z0 : BitVec 32) (z1 : BitVec 32), (ch1 c 0 ∗ ch1 c 1 ∗ ow c 24) -∗ Q ⟨z0, z1⟩) -∗ wpc c (k0_part8 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v20 v42 v46 v142 v155 v178 v194 v210 v226 v242 v258 v274 v285 v286 v287) Q) := by
  rw [k0_part8_eq_skeleton]; unfold k0_part8_skel
  simp only [semSignalWord, semWaitWord, Prog.lift, Prog.bind_op, Prog.bind_ret, Prog.pure_eq_ret]
  iintro ⟨#Hc, C0, ch0, ow, N0_0, ch1, N1_0⟩ Hk
  iapply (fill_c c (n := 256) (o3 c) (V.P c) hw) $$ [C0]
  · iexact C0
  iintro C0
  ihave C0 := ((cb_two c fullShare (V.P c) 0).1) $$ C0
  icases C0 with ⟨T0, B0⟩
  iapply (snd_pr V K c 0 (rt c) rfl (dv5 c) 25 rfl rfl rfl 0 (o4 c) (cred128 _ _ (by decide)) iprop(emp) (accT V 0 c) (BI.Entails.refl _) (land0 V c)) $$ [ch0 ow T0 N0_0]
  · isplitr; · iexact Hc
    isplitl [ch0]; · iexact ch0
    isplitl [ow]; · iexact ow
    isplitl [T0]; · iexact T0
    isplitl [N0_0]; · iexact N0_0
    iempintro
  iintro ⟨ch0, ow⟩
  iapply (snd_pl V K c 1 (lf c) rfl (dv6 c) 24 rfl rfl rfl 0 (o5 c) (cred128 _ _ (by decide)) iprop(emp) (accB V 0 c) (BI.Entails.refl _) (land1 V c)) $$ [ch1 ow B0 N1_0]
  · isplitr; · iexact Hc
    isplitl [ch1]; · iexact ch1
    isplitl [ow]; · iexact ow
    isplitl [B0]; · iexact B0
    isplitl [N1_0]; · iexact N1_0
    iempintro
  iintro ⟨ch1, ow⟩
  iapply fin_step
  iapply Hk
  isplitl [ch0]; · iexact ch0
  isplitl [ch1]; · iexact ch1
  iexact ow

/-- Part 9 of the body. -/
theorem part9 (c : Dev nD)  {v131 : FVec F S1024x1024 .bf16} {v134 : FVec F S1024x1024 .bf16} {v139 : FVec F S1024x1024 .bf16} {v320 : BitVec 32} {c4_i32_130 : BitVec 32} {X : S1024x1024.Idx → Elt F .f32} {M : Mat F}
    {Q : (Σ' (v322 : BitVec 32) (v327 : FVec F S256x1024 .f32) (v329 : Vec F S256x1024 .bf16) (v345 : FVec F S256x128 .f32) (v361 : FVec F S256x128 .f32), FVec F S256x1024 .f32) → sProp 𝕄} :
    iprop(ctx V K ∗ at_x c X ∗ at_m c M)
      ⊢ iprop((∀ (z0 : BitVec 32), (at_x c X ∗ at_m c M) -∗ Q ⟨z0, k0_pay33 v139 (blk (tk c 3) X), (blk (tk c 3) M), k0_pay34 v131 v134 v139 (blk (tk c 3) X) (blk (tk c 3) M), k0_pay35 v131 v134 v139 (blk (tk c 3) X) (blk (tk c 3) M), k0_pay36 v131 v139 (blk (tk c 3) X) (blk (tk c 3) M)⟩) -∗ wpc c (k0_part9 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v131 v134 v139 v320 c4_i32_130) Q) := by
  rw [k0_part9_eq_skeleton]; unfold k0_part9_skel
  simp only [semSignalWord, semWaitWord, Prog.lift, Prog.bind_op, Prog.bind_ret, Prog.pure_eq_ret]
  iintro ⟨#Hc, xs, mk⟩ Hk
  iapply (ldr_x c (o6_3 c) (tk_le c _)) $$ [xs]
  · iexact xs
  iintro xs
  iapply (ldr_m c (o6_3 c) (tk_le c _)) $$ [mk]
  · iexact mk
  iintro mk
  iapply fin_step
  iapply Hk
  isplitl [xs]; · iexact xs
  iexact mk

/-- Part 10 of the body. -/
theorem part10 (c : Dev nD) {v131 : FVec F S1024x1024 .bf16} {v134 : FVec F S1024x1024 .bf16} {v327 : FVec F S256x1024 .f32} {v329 : Vec F S256x1024 .bf16} {v367 : FVec F S256x1024 .f32}
    {Q : (Σ' (v377 : FVec F S256x128 .f32) (v393 : FVec F S256x128 .f32) (v409 : FVec F S256x128 .f32), FVec F S256x1024 .f32) → sProp 𝕄} :
    iprop(Q ⟨k0_pay37 v134 v367, k0_pay38 v131 v134 v327 v329, k0_pay39 v131 v134 v327 v329, k0_pay40 v131 v327 v329⟩) ⊢ (wpc c (k0_part10 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 v131 v134 v327 v329 v367) Q) := by
  rw [k0_part10_eq_skeleton]; unfold k0_part10_skel
  simp only [Prog.pure_eq_ret]
  iintro Hk
  iapply fin_step
  iapply Hk

/-- Part 11 of the body. -/
theorem part11 (c : Dev nD) {v131 : FVec F S1024x1024 .bf16} {v134 : FVec F S1024x1024 .bf16} {v142 : FVec F S1024x1024 .bf16} {v322 : BitVec 32} {v327 : FVec F S256x1024 .f32} {v329 : Vec F S256x1024 .bf16} {v345 : FVec F S256x128 .f32} {v361 : FVec F S256x128 .f32} {v377 : FVec F S256x128 .f32} {v393 : FVec F S256x128 .f32} {v409 : FVec F S256x128 .f32} {v415 : FVec F S256x1024 .f32}
    {Q : (FVec F S256x1024 .bf16) → sProp 𝕄} :
    iprop(Q (k0_pay41 v131 v134 v142 v327 v329 v345 v361 v377 v393 v409 v415)) ⊢ (wpc c (k0_part11 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 v131 v134 v142 v322 v327 v329 v345 v361 v377 v393 v409 v415) Q) := by
  rw [k0_part11_eq_skeleton]; unfold k0_part11_skel
  simp only [Prog.pure_eq_ret]
  iintro Hk
  iapply fin_step
  iapply Hk

/-- Part 12 of the body. -/
theorem part12 (c : Dev nD)  {v20 : BitVec 32} {v131 : FVec F S1024x1024 .bf16} {v134 : FVec F S1024x1024 .bf16} {v139 : FVec F S1024x1024 .bf16} {v461 : FVec F S256x1024 .bf16} {X : S1024x1024.Idx → Elt F .f32} {M : Mat F} {A0 : Mat F} (hw : ∀ (x : S256x1024.Idx) i, At (tk c 3) x i → (k0_pay42 v461) x = V.P c i)
    {Q : (Σ' (v468 : BitVec 32) (v473 : FVec F S256x1024 .f32) (v475 : Vec F S256x1024 .bf16) (v491 : FVec F S256x128 .f32), FVec F S256x128 .f32) → sProp 𝕄} :
    iprop(ctx V K ∗ cb c (rows (tk c 3) 256) fullShare (A0) ∗ at_x c X ∗ at_m c M)
      ⊢ iprop((∀ (z0 : BitVec 32), (cb c (rows (tk c 3) 128) fullShare (V.P c) ∗ cb c (rows (bk c 3) 128) fullShare (V.P c) ∗ at_x c X ∗ at_m c M) -∗ Q ⟨z0, k0_pay43 v139 (blk (tk c 1) X), (blk (tk c 1) M), k0_pay44 v131 v134 v139 (blk (tk c 1) X) (blk (tk c 1) M), k0_pay45 v131 v134 v139 (blk (tk c 1) X) (blk (tk c 1) M)⟩) -∗ wpc c (k0_part12 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v20 v131 v134 v139 v461) Q) := by
  rw [k0_part12_eq_skeleton]; unfold k0_part12_skel
  simp only [semSignalWord, semWaitWord, Prog.lift, Prog.bind_op, Prog.bind_ret, Prog.pure_eq_ret]
  iintro ⟨#Hc, C3, xs, mk⟩ Hk
  iapply (fill_c c (n := 256) (o6_3 c) (V.P c) hw) $$ [C3]
  · iexact C3
  iintro C3
  ihave C3 := ((cb_two c fullShare (V.P c) 3).1) $$ C3
  icases C3 with ⟨T3, B3⟩
  iapply (ldr_x c (o6_1 c) (tk_le c _)) $$ [xs]
  · iexact xs
  iintro xs
  iapply (ldr_m c (o6_1 c) (tk_le c _)) $$ [mk]
  · iexact mk
  iintro mk
  iapply fin_step
  iapply Hk
  isplitl [T3]; · iexact T3
  isplitl [B3]; · iexact B3
  isplitl [xs]; · iexact xs
  iexact mk

/-- Part 13 of the body. -/
theorem part13 (c : Dev nD) {v131 : FVec F S1024x1024 .bf16} {v134 : FVec F S1024x1024 .bf16} {v473 : FVec F S256x1024 .f32} {v475 : Vec F S256x1024 .bf16}
    {Q : (Σ' (v523 : FVec F S256x128 .f32) (v539 : FVec F S256x128 .f32), FVec F S256x128 .f32) → sProp 𝕄} :
    iprop(Q ⟨k0_pay46 v131 v134 v473 v475, k0_pay47 v131 v134 v473 v475, k0_pay48 v131 v134 v473 v475⟩) ⊢ (wpc c (k0_part13 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 v131 v134 v473 v475) Q) := by
  rw [k0_part13_eq_skeleton]; unfold k0_part13_skel
  simp only [Prog.pure_eq_ret]
  iintro Hk
  iapply fin_step
  iapply Hk

/-- Part 14 of the body. -/
theorem part14 (c : Dev nD) {v131 : FVec F S1024x1024 .bf16} {v134 : FVec F S1024x1024 .bf16} {v473 : FVec F S256x1024 .f32} {v475 : Vec F S256x1024 .bf16}
    {Q : (Σ' (v571 : FVec F S256x128 .f32) (v587 : FVec F S256x128 .f32), FVec F S256x128 .f32) → sProp 𝕄} :
    iprop(Q ⟨k0_pay49 v131 v134 v473 v475, k0_pay50 v131 v134 v473 v475, k0_pay51 v131 v134 v473 v475⟩) ⊢ (wpc c (k0_part14 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 v131 v134 v473 v475) Q) := by
  rw [k0_part14_eq_skeleton]; unfold k0_part14_skel
  simp only [Prog.pure_eq_ret]
  iintro Hk
  iapply fin_step
  iapply Hk

/-- Part 15 of the body. -/
theorem part15 (c : Dev nD)  {v42 : BitVec 32} {v46 : BitVec 32} {v142 : FVec F S1024x1024 .bf16} {v144 : BitVec 32} {v468 : BitVec 32} {v491 : FVec F S256x128 .f32} {v507 : FVec F S256x128 .f32} {v523 : FVec F S256x128 .f32} {v539 : FVec F S256x128 .f32} {v555 : FVec F S256x128 .f32} {v571 : FVec F S256x128 .f32} {v587 : FVec F S256x128 .f32} {v603 : FVec F S256x128 .f32} {A0 : Mat F} (hw : ∀ (x : S256x1024.Idx) i, At (tk c 1) x i → (k0_pay52 v142 v491 v507 v523 v539 v555 v571 v587 v603) x = V.P c i)
    {Q : (PUnit) → sProp 𝕄} :
    iprop(ctx V K ∗ cb c (rows (tk c 1) 256) fullShare (A0) ∗ ch1 c 0 ∗ ow c 24 ∗ cb c (rows (tk c 3) 128) fullShare (V.P c) ∗ ch1 c 1)
      ⊢ iprop(((cb c (rows (tk c 1) 128) fullShare (V.P c) ∗ cb c (rows (bk c 1) 128) fullShare (V.P c) ∗ ch2 c 0 ∗ gv (lf c) (rows (tk c 3) 128) ∗ cb c (rows (tk c 3) 128) fullShare (accT V 1 c) ∗ prG c 0 ∗ ch2 c 1 ∗ ow c 24 ∗ plH c 0 (bk c 1) (accB V 0 (rt c)) ∗ gv (rt c) (rows (bk c 1) 128)) -∗ Q ⟨⟩) -∗ wpc c (k0_part15 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v42 v46 v142 v144 v468 v491 v507 v523 v539 v555 v571 v587 v603) Q) := by
  rw [k0_part15_eq_skeleton]; unfold k0_part15_skel
  simp only [semSignalWord, semWaitWord, Prog.lift, Prog.bind_op, Prog.bind_ret, Prog.pure_eq_ret]
  iintro ⟨#Hc, C1, ch0, ow, T3, ch1⟩ Hk
  iapply (fill_c c (n := 256) (o6_1 c) (V.P c) hw) $$ [C1]
  · iexact C1
  iintro C1
  ihave C1 := ((cb_two c fullShare (V.P c) 1).1) $$ C1
  icases C1 with ⟨T1, B1⟩
  iapply (step_recv V K c 0 24 (by decide) rfl (cred128 _ _ (by decide))) $$ [ch0 ow]
  · isplitr; · iexact Hc
    isplitl [ch0]; · iexact ch0
    iexact ow
  iintro ⟨ch0, ow, r0_0⟩
  ihave r0_0 := (Entails.of_eq (show payR V c 0 = iprop(prH c 0 (tk c 3) (accT V 0 (lf c)) ∗ gv (lf c) (rows (tk c 3) 128)) from rfl)) $$ r0_0
  icases r0_0 with ⟨r0_0, r0_1⟩
  iapply (acc_pr c 0 (o7_3 c) (A := V.P c) (B := accT V 0 (lf c)) (accT V 1 c) (fun _ => rfl) (fun v w x => by exact congrFun (shapeCast_self (addf v (shapeCast S128x1024 w shapeCasts_S1x128x1024_S128x1024)) shapeCasts_S128x1024_S128x1024) x)) $$ [T3 r0_0]
  · isplitl [T3]; · iexact T3
    iexact r0_0
  iintro ⟨T3, r0_0⟩
  iapply (step_recv V K c 1 24 (by decide) rfl (cred128 _ _ (by decide))) $$ [ch1 ow]
  · isplitr; · iexact Hc
    isplitl [ch1]; · iexact ch1
    iexact ow
  iintro ⟨ch1, ow, r1_0⟩
  ihave r1_0 := (Entails.of_eq (show payR V c 1 = iprop(plH c 0 (bk c 1) (accB V 0 (rt c)) ∗ gv (rt c) (rows (bk c 1) 128)) from rfl)) $$ r1_0
  icases r1_0 with ⟨r1_0, r1_1⟩
  iapply fin_step
  iapply Hk
  isplitl [T1]; · iexact T1
  isplitl [B1]; · iexact B1
  isplitl [ch0]; · iexact ch0
  isplitl [r0_1]; · iexact r0_1
  isplitl [T3]; · iexact T3
  isplitl [r0_0]; · iexact r0_0
  isplitl [ch1]; · iexact ch1
  isplitl [ow]; · iexact ow
  isplitl [r1_0]; · iexact r1_0
  iexact r1_1

/-- Part 16 of the body. -/
theorem part16 (c : Dev nD)  {v42 : BitVec 32} {v46 : BitVec 32} {v144 : BitVec 32} {v150 : BitVec 32}
    {Q : (PUnit) → sProp 𝕄} :
    iprop(ctx V K ∗ cb c (rows (bk c 1) 128) fullShare (V.P c) ∗ plH c 0 (bk c 1) (accB V 0 (rt c)) ∗ ch0 c 2 ∗ ow c 24 ∗ cb c (rows (tk c 3) 128) fullShare (accT V 1 c) ∗ prG (rt c) 1 ∗ gv (lf c) (rows (tk c 3) 128))
      ⊢ iprop(((cb c (rows (bk c 1) 128) fullShare (accB V 1 c) ∗ plG c 0 ∗ ch1 c 2 ∗ ow c 23) -∗ Q ⟨⟩) -∗ wpc c (k0_part16 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v42 v46 v144 v150) Q) := by
  rw [k0_part16_eq_skeleton]; unfold k0_part16_skel
  simp only [semSignalWord, semWaitWord, Prog.lift, Prog.bind_op, Prog.bind_ret, Prog.pure_eq_ret]
  iintro ⟨#Hc, B1, r1_0, ch2, ow, T3, N0_1, r0_1⟩ Hk
  iapply (acc_pl c 0 (o8_1 c) (A := V.P c) (B := accB V 0 (rt c)) (accB V 1 c) (fun _ => rfl) (fun v w x => by exact congrFun (shapeCast_self (addf v (shapeCast S128x1024 w shapeCasts_S1x128x1024_S128x1024)) shapeCasts_S128x1024_S128x1024) x)) $$ [B1 r1_0]
  · isplitl [B1]; · iexact B1
    iexact r1_0
  iintro ⟨B1, r1_0⟩
  iapply (snd_pr V K c 2 (rt c) rfl (dv7 c) 23 rfl rfl rfl 1 (o9_3 c) (cred128 _ _ (by decide)) iprop(gv (lf c) (rows (tk c 3) 128)) (accT V 1 c) (BI.Entails.refl _) (land2 V c)) $$ [ch2 ow T3 N0_1 r0_1]
  · isplitr; · iexact Hc
    isplitl [ch2]; · iexact ch2
    isplitl [ow]; · iexact ow
    isplitl [T3]; · iexact T3
    isplitl [N0_1]; · iexact N0_1
    iexact r0_1
  iintro ⟨ch2, ow⟩
  iapply fin_step
  iapply Hk
  isplitl [B1]; · iexact B1
  isplitl [r1_0]; · iexact r1_0
  isplitl [ch2]; · iexact ch2
  iexact ow

/-- Part 17 of the body. -/
theorem part17 (c : Dev nD)  {v20 : BitVec 32} {v131 : FVec F S1024x1024 .bf16} {v134 : FVec F S1024x1024 .bf16} {v139 : FVec F S1024x1024 .bf16} {X : S1024x1024.Idx → Elt F .f32} {M : Mat F}
    {Q : (Σ' (v670 : BitVec 32) (v675 : FVec F S256x1024 .f32) (v677 : Vec F S256x1024 .bf16) (v693 : FVec F S256x128 .f32) (v709 : FVec F S256x128 .f32) (v711 : FVec F S256x128 .bf16), FVec F S1024x128 .bf16) → sProp 𝕄} :
    iprop(ctx V K ∗ ch0 c 3 ∗ ow c 23 ∗ cb c (rows (bk c 1) 128) fullShare (accB V 1 c) ∗ plG (lf c) 1 ∗ gv (rt c) (rows (bk c 1) 128) ∗ at_x c X ∗ at_m c M)
      ⊢ iprop((∀ (z0 : BitVec 32), (ch1 c 3 ∗ ow c 22 ∗ at_x c X ∗ at_m c M) -∗ Q ⟨z0, k0_pay55 v139 (blk (tk c 2) X), (blk (tk c 2) M), k0_pay56 v131 v134 v139 (blk (tk c 2) X) (blk (tk c 2) M), k0_pay57 v131 v134 v139 (blk (tk c 2) X) (blk (tk c 2) M), k0_pay58 v139 (blk (tk c 2) X), k0_pay59 v131⟩) -∗ wpc c (k0_part17 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v20 v131 v134 v139) Q) := by
  rw [k0_part17_eq_skeleton]; unfold k0_part17_skel
  simp only [semSignalWord, semWaitWord, Prog.lift, Prog.bind_op, Prog.bind_ret, Prog.pure_eq_ret]
  iintro ⟨#Hc, ch3, ow, B1, N1_1, r1_1, xs, mk⟩ Hk
  iapply (snd_pl V K c 3 (lf c) rfl (dv8 c) 22 rfl rfl rfl 1 (o10_1 c) (cred128 _ _ (by decide)) iprop(gv (rt c) (rows (bk c 1) 128)) (accB V 1 c) (BI.Entails.refl _) (land3 V c)) $$ [ch3 ow B1 N1_1 r1_1]
  · isplitr; · iexact Hc
    isplitl [ch3]; · iexact ch3
    isplitl [ow]; · iexact ow
    isplitl [B1]; · iexact B1
    isplitl [N1_1]; · iexact N1_1
    iexact r1_1
  iintro ⟨ch3, ow⟩
  iapply (ldr_x c (o6_2 c) (tk_le c _)) $$ [xs]
  · iexact xs
  iintro xs
  iapply (ldr_m c (o6_2 c) (tk_le c _)) $$ [mk]
  · iexact mk
  iintro mk
  iapply fin_step
  iapply Hk
  isplitl [ch3]; · iexact ch3
  isplitl [ow]; · iexact ow
  isplitl [xs]; · iexact xs
  iexact mk

/-- Part 18 of the body. -/
theorem part18 (c : Dev nD) {v131 : FVec F S1024x1024 .bf16} {v134 : FVec F S1024x1024 .bf16} {v675 : FVec F S256x1024 .f32} {v677 : Vec F S256x1024 .bf16} {v711 : FVec F S256x128 .bf16} {v712 : FVec F S1024x128 .bf16}
    {Q : (Σ' (v725 : FVec F S256x128 .f32) (v741 : FVec F S256x128 .f32) (v757 : FVec F S256x128 .f32) (v759 : FVec F S256x128 .bf16), FVec F S1024x128 .bf16) → sProp 𝕄} :
    iprop(Q ⟨k0_pay60 v134 v677 v711 v712, k0_pay61 v131 v134 v675 v677, k0_pay62 v131 v134 v675 v677, k0_pay63 v675, k0_pay64 v131⟩) ⊢ (wpc c (k0_part18 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 v131 v134 v675 v677 v711 v712) Q) := by
  rw [k0_part18_eq_skeleton]; unfold k0_part18_skel
  simp only [Prog.pure_eq_ret]
  iintro Hk
  iapply fin_step
  iapply Hk

/-- Part 19 of the body. -/
theorem part19 (c : Dev nD) {v131 : FVec F S1024x1024 .bf16} {v134 : FVec F S1024x1024 .bf16} {v675 : FVec F S256x1024 .f32} {v677 : Vec F S256x1024 .bf16} {v693 : FVec F S256x128 .f32} {v709 : FVec F S256x128 .f32} {v725 : FVec F S256x128 .f32} {v741 : FVec F S256x128 .f32} {v757 : FVec F S256x128 .f32} {v759 : FVec F S256x128 .bf16} {v760 : FVec F S1024x128 .bf16}
    {Q : (Σ' (v807 : FVec F S256x1024 .bf16), FVec F S256x1024 .f32) → sProp 𝕄} :
    iprop(Q ⟨k0_pay65 v131 v134 v675 v677 v693 v709 v725 v741 v757 v759 v760, (constant S256x1024 .f32 0x00000000#32)⟩) ⊢ (wpc c (k0_part19 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 v131 v134 v675 v677 v693 v709 v725 v741 v757 v759 v760) Q) := by
  rw [k0_part19_eq_skeleton]; unfold k0_part19_skel
  simp only [Prog.pure_eq_ret]
  iintro Hk
  iapply fin_step
  iapply Hk

/-- Part 20 of the body. -/
theorem part20 (c : Dev nD)  {v42 : BitVec 32} {v46 : BitVec 32} {v142 : FVec F S1024x1024 .bf16} {v146 : BitVec 32} {v152 : BitVec 32} {v670 : BitVec 32} {v807 : FVec F S256x1024 .bf16} {cst_295 : FVec F S256x1024 .f32} {A0 : Mat F} (hw : ∀ (x : S256x1024.Idx) i, At (tk c 2) x i → (k0_pay66 v142 v807 cst_295) x = V.P c i)
    {Q : (Σ' (v838 : BitVec 32), BitVec 32) → sProp 𝕄} :
    iprop(ctx V K ∗ cb c (rows (tk c 2) 256) fullShare (A0) ∗ ch1 c 2 ∗ ow c 22 ∗ ch1 c 3)
      ⊢ iprop((∀ (z0 : BitVec 32) (z1 : BitVec 32), (cb c (rows (bk c 2) 128) fullShare (V.P c) ∗ ch2 c 2 ∗ gv (lf c) (rows (tk c 2) 128) ∗ gv (lf (lf c)) (rows (tk c 2) 128) ∗ cb c (rows (tk c 2) 128) fullShare (accT V 2 c) ∗ prG c 1 ∗ ch2 c 3 ∗ ow c 22 ∗ plH c 1 (bk c 2) (accB V 1 (rt c)) ∗ gv (rt c) (rows (bk c 2) 128) ∗ gv (rt (rt c)) (rows (bk c 2) 128)) -∗ Q ⟨z0, z1⟩) -∗ wpc c (k0_part20 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v42 v46 v142 v146 v152 v670 v807 cst_295) Q) := by
  rw [k0_part20_eq_skeleton]; unfold k0_part20_skel
  simp only [semSignalWord, semWaitWord, Prog.lift, Prog.bind_op, Prog.bind_ret, Prog.pure_eq_ret]
  iintro ⟨#Hc, C2, ch2, ow, ch3⟩ Hk
  iapply (fill_c c (n := 256) (o6_2 c) (V.P c) hw) $$ [C2]
  · iexact C2
  iintro C2
  ihave C2 := ((cb_two c fullShare (V.P c) 2).1) $$ C2
  icases C2 with ⟨T2, B2⟩
  iapply (step_recv V K c 2 22 (by decide) rfl (cred128 _ _ (by decide))) $$ [ch2 ow]
  · isplitr; · iexact Hc
    isplitl [ch2]; · iexact ch2
    iexact ow
  iintro ⟨ch2, ow, r2_0⟩
  ihave r2_0 := (Entails.of_eq (show payR V c 2 = iprop(prH c 1 (tk c 2) (accT V 1 (lf c)) ∗ gv (lf c) (rows (tk c 2) 128) ∗ gv (lf (lf c)) (rows (tk c 2) 128)) from rfl)) $$ r2_0
  icases r2_0 with ⟨r2_0, r2_1, r2_2⟩
  iapply (acc_pr c 1 (o7_2 c) (A := V.P c) (B := accT V 1 (lf c)) (accT V 2 c) (fun _ => rfl) (fun v w x => by exact congrFun (shapeCast_self (addf v (shapeCast S128x1024 w shapeCasts_S1x128x1024_S128x1024)) shapeCasts_S128x1024_S128x1024) x)) $$ [T2 r2_0]
  · isplitl [T2]; · iexact T2
    iexact r2_0
  iintro ⟨T2, r2_0⟩
  iapply (step_recv V K c 3 22 (by decide) rfl (cred128 _ _ (by decide))) $$ [ch3 ow]
  · isplitr; · iexact Hc
    isplitl [ch3]; · iexact ch3
    iexact ow
  iintro ⟨ch3, ow, r3_0⟩
  ihave r3_0 := (Entails.of_eq (show payR V c 3 = iprop(plH c 1 (bk c 2) (accB V 1 (rt c)) ∗ gv (rt c) (rows (bk c 2) 128) ∗ gv (rt (rt c)) (rows (bk c 2) 128)) from rfl)) $$ r3_0
  icases r3_0 with ⟨r3_0, r3_1, r3_2⟩
  iapply fin_step
  iapply Hk
  isplitl [B2]; · iexact B2
  isplitl [ch2]; · iexact ch2
  isplitl [r2_1]; · iexact r2_1
  isplitl [r2_2]; · iexact r2_2
  isplitl [T2]; · iexact T2
  isplitl [r2_0]; · iexact r2_0
  isplitl [ch3]; · iexact ch3
  isplitl [ow]; · iexact ow
  isplitl [r3_0]; · iexact r3_0
  isplitl [r3_1]; · iexact r3_1
  iexact r3_2

/-- Part 21 of the body. -/
theorem part21 (c : Dev nD)  {v42 : BitVec 32} {v46 : BitVec 32} {v146 : BitVec 32} {v152 : BitVec 32} {v838 : BitVec 32} {c128_i32_319 : BitVec 32}
    {Q : (PUnit) → sProp 𝕄} :
    iprop(ctx V K ∗ cb c (rows (bk c 2) 128) fullShare (V.P c) ∗ plH c 1 (bk c 2) (accB V 1 (rt c)) ∗ ch0 c 4 ∗ ow c 22 ∗ cb c (rows (tk c 2) 128) fullShare (accT V 2 c) ∗ prG (rt c) 2 ∗ gv (lf c) (rows (tk c 2) 128) ∗ gv (lf (lf c)) (rows (tk c 2) 128) ∗ ch0 c 5 ∗ plG (lf c) 2 ∗ gv (rt c) (rows (bk c 2) 128) ∗ gv (rt (rt c)) (rows (bk c 2) 128))
      ⊢ iprop(((plG c 1 ∗ ch1 c 4 ∗ ch1 c 5 ∗ ow c 20) -∗ Q ⟨⟩) -∗ wpc c (k0_part21 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v42 v46 v146 v152 v838 c128_i32_319) Q) := by
  rw [k0_part21_eq_skeleton]; unfold k0_part21_skel
  simp only [semSignalWord, semWaitWord, Prog.lift, Prog.bind_op, Prog.bind_ret, Prog.pure_eq_ret]
  iintro ⟨#Hc, B2, r3_0, ch4, ow, T2, N0_2, r2_1, r2_2, ch5, N1_2, r3_1, r3_2⟩ Hk
  iapply (acc_pl c 1 (o8_2 c) (A := V.P c) (B := accB V 1 (rt c)) (accB V 2 c) (fun _ => rfl) (fun v w x => by exact congrFun (shapeCast_self (addf v (shapeCast S128x1024 w shapeCasts_S1x128x1024_S128x1024)) shapeCasts_S128x1024_S128x1024) x)) $$ [B2 r3_0]
  · isplitl [B2]; · iexact B2
    iexact r3_0
  iintro ⟨B2, r3_0⟩
  iapply (snd_pr V K c 4 (rt c) rfl (dv9 c) 21 rfl rfl rfl 2 (o9_2 c) (cred128 _ _ (by decide)) iprop(gv (lf c) (rows (tk c 2) 128) ∗ gv (lf (lf c)) (rows (tk c 2) 128)) (accT V 2 c) (BI.Entails.refl _) (land4 V c)) $$ [ch4 ow T2 N0_2 r2_1 r2_2]
  · isplitr; · iexact Hc
    isplitl [ch4]; · iexact ch4
    isplitl [ow]; · iexact ow
    isplitl [T2]; · iexact T2
    isplitl [N0_2]; · iexact N0_2
    isplitl [r2_1]; · iexact r2_1
    iexact r2_2
  iintro ⟨ch4, ow⟩
  iapply (snd_pl V K c 5 (lf c) rfl (dv10 c) 20 rfl rfl rfl 2 (o10_2 c) (cred128 _ _ (by decide)) iprop(gv (rt c) (rows (bk c 2) 128) ∗ gv (rt (rt c)) (rows (bk c 2) 128)) (accB V 2 c) (BI.Entails.refl _) (land5 V c)) $$ [ch5 ow B2 N1_2 r3_1 r3_2]
  · isplitr; · iexact Hc
    isplitl [ch5]; · iexact ch5
    isplitl [ow]; · iexact ow
    isplitl [B2]; · iexact B2
    isplitl [N1_2]; · iexact N1_2
    isplitl [r3_1]; · iexact r3_1
    iexact r3_2
  iintro ⟨ch5, ow⟩
  iapply fin_step
  iapply Hk
  isplitl [r3_0]; · iexact r3_0
  isplitl [ch4]; · iexact ch4
  isplitl [ch5]; · iexact ch5
  iexact ow

/-- Part 22 of the body. -/
theorem part22 (c : Dev nD)  {v42 : BitVec 32} {v46 : BitVec 32} {v148 : BitVec 32} {v154 : BitVec 32}
    {Q : (Σ' (v895 : BitVec 32), FVec F S128x1024 .bf16) → sProp 𝕄} :
    iprop(ctx V K ∗ ch1 c 4 ∗ ow c 20 ∗ cb c (rows (tk c 1) 128) fullShare (V.P c) ∗ ch1 c 5 ∗ cb c (rows (bk c 3) 128) fullShare (V.P c))
      ⊢ iprop((∀ (z0 : BitVec 32) (v900 : FVec F S128x1024 .bf16), (⌜∀ (x : S128x1024.Idx) i, At (bk c 3) x i → v900 x = (R0 V 1 c) i⌝ ∗ ch2 c 4 ∗ gv (lf c) (rows (tk c 1 + h0 c) 64) ∗ gv (lf c) (rows (tk c 1 + h1 c) 64) ∗ gv (lf (lf c)) (rows (tk c 1 + h0 c) 64) ∗ gv (lf (lf c)) (rows (tk c 1 + h1 c) 64) ∗ gv (rt c) (rows (tk c 1 + h0 c) 64) ∗ gv (rt c) (rows (tk c 1 + h1 c) 64) ∗ prG c 2 ∗ cb c (rows (tk c 1 + h0 c) 64) fullShare (R0 V 0 c) ∗ cb c (rows (tk c 1 + h1 c) 64) fullShare (R0 V 0 c) ∗ ch2 c 5 ∗ ow c 20 ∗ gv (rt c) (rows (bk c 3 + h0 c) 64) ∗ gv (rt c) (rows (bk c 3 + h1 c) 64) ∗ gv (rt (rt c)) (rows (bk c 3 + h0 c) 64) ∗ gv (rt (rt c)) (rows (bk c 3 + h1 c) 64) ∗ gv (lf c) (rows (bk c 3 + h0 c) 64) ∗ gv (lf c) (rows (bk c 3 + h1 c) 64) ∗ cb c (rows (bk c 3) 128) fullShare (V.P c) ∗ plG c 2) -∗ Q ⟨z0, v900⟩) -∗ wpc c (k0_part22 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v42 v46 v148 v154) Q) := by
  rw [k0_part22_eq_skeleton]; unfold k0_part22_skel
  simp only [semSignalWord, semWaitWord, Prog.lift, Prog.bind_op, Prog.bind_ret, Prog.pure_eq_ret]
  iintro ⟨#Hc, ch4, ow, T1, ch5, B3⟩ Hk
  iapply (step_recv V K c 4 20 (by decide) rfl (cred128 _ _ (by decide))) $$ [ch4 ow]
  · isplitr; · iexact Hc
    isplitl [ch4]; · iexact ch4
    iexact ow
  iintro ⟨ch4, ow, r4_0⟩
  ihave r4_0 := (Entails.of_eq (show payR V c 4 = iprop(prH c 2 (tk c 1) (accT V 2 (lf c)) ∗ gv (lf c) (rows (tk c 1) 128) ∗ gv (lf (lf c)) (rows (tk c 1) 128) ∗ gv (lf (lf (lf c))) (rows (tk c 1) 128)) from rfl)) $$ r4_0
  icases r4_0 with ⟨r4_0, r4_1, r4_2, r4_3⟩
  ihave r4_3 := (Entails.of_eq (by rw [lf3])) $$ r4_3
  ihave r4_1 := (gv_half c (lf c) (tk c 1)) $$ r4_1
  icases r4_1 with ⟨gT1h0, gT1h1⟩
  ihave r4_2 := (gv_half c (lf (lf c)) (tk c 1)) $$ r4_2
  icases r4_2 with ⟨gT2h0, gT2h1⟩
  ihave r4_3 := (gv_half c (rt c) (tk c 1)) $$ r4_3
  icases r4_3 with ⟨gT3h0, gT3h1⟩
  iapply (acc_pr c 2 (o7_1 c) (A := V.P c) (B := accT V 2 (lf c)) (R0 V 0 c) (fun _ => rfl) (fun v w x => by exact congrFun (shapeCast_self (addf v (shapeCast S128x1024 w shapeCasts_S1x128x1024_S128x1024)) shapeCasts_S128x1024_S128x1024) x)) $$ [T1 r4_0]
  · isplitl [T1]; · iexact T1
    iexact r4_0
  iintro ⟨T1, r4_0⟩
  ihave T1 := ((cb_half c c fullShare _ (tk c 1)).1) $$ T1
  icases T1 with ⟨Th0, Th1⟩
  iapply (step_recv V K c 5 20 (by decide) rfl (cred128 _ _ (by decide))) $$ [ch5 ow]
  · isplitr; · iexact Hc
    isplitl [ch5]; · iexact ch5
    iexact ow
  iintro ⟨ch5, ow, r5_0⟩
  ihave r5_0 := (Entails.of_eq (show payR V c 5 = iprop(plH c 2 (bk c 3) (accB V 2 (rt c)) ∗ gv (rt c) (rows (bk c 3) 128) ∗ gv (rt (rt c)) (rows (bk c 3) 128) ∗ gv (rt (rt (rt c))) (rows (bk c 3) 128)) from rfl)) $$ r5_0
  icases r5_0 with ⟨r5_0, r5_1, r5_2, r5_3⟩
  ihave r5_3 := (Entails.of_eq (by rw [rt3])) $$ r5_3
  ihave r5_1 := (gv_half c (rt c) (bk c 3)) $$ r5_1
  icases r5_1 with ⟨gB1h0, gB1h1⟩
  ihave r5_2 := (gv_half c (rt (rt c)) (bk c 3)) $$ r5_2
  icases r5_2 with ⟨gB2h0, gB2h1⟩
  ihave r5_3 := (gv_half c (lf c) (bk c 3)) $$ r5_3
  icases r5_3 with ⟨gB3h0, gB3h1⟩
  iapply (ld_c c (n := 128) (o8_3 c)) $$ [B3]
  · iexact B3
  iintro B3 %v897 %hv
  iapply (ld_pl c 2) $$ [r5_0]
  · iexact r5_0
  iintro r5_0 %v898 %hz
  iapply fin_step
  iapply Hk
  isplitr; · ipureintro; intro x i h; exact congrArg₂ plus (hv x i h) (hz x i h)
  isplitl [ch4]; · iexact ch4
  isplitl [gT1h0]; · iexact gT1h0
  isplitl [gT1h1]; · iexact gT1h1
  isplitl [gT2h0]; · iexact gT2h0
  isplitl [gT2h1]; · iexact gT2h1
  isplitl [gT3h0]; · iexact gT3h0
  isplitl [gT3h1]; · iexact gT3h1
  isplitl [r4_0]; · iexact r4_0
  isplitl [Th0]; · iexact Th0
  isplitl [Th1]; · iexact Th1
  isplitl [ch5]; · iexact ch5
  isplitl [ow]; · iexact ow
  isplitl [gB1h0]; · iexact gB1h0
  isplitl [gB1h1]; · iexact gB1h1
  isplitl [gB2h0]; · iexact gB2h0
  isplitl [gB2h1]; · iexact gB2h1
  isplitl [gB3h0]; · iexact gB3h0
  isplitl [gB3h1]; · iexact gB3h1
  isplitl [B3]; · iexact B3
  iexact r5_0

/-- Part 23 of the body. -/
theorem part23 (c : Dev nD)  {v20 : BitVec 32} {v21 : BitVec 32} {v47 : BitVec 32} {v895 : BitVec 32} {v900 : FVec F S128x1024 .bf16}  (hv : ∀ (x : S128x1024.Idx) i, At (bk c 3) x i → v900 x = (R0 V 1 c) i)
    {Q : (Σ' (v907 : BitVec 32), BitVec 32) → sProp 𝕄} :
    iprop(ctx V K ∗ cb c (rows (bk c 3) 128) fullShare (V.P c) ∗ ch0 c 6 ∗ ow c 20 ∗ cb c (rows (tk c 1 + h1 c) 64) fullShare (R0 V 0 c) ∗ yG (za c) 0)
      ⊢ iprop((∀ (z0 : BitVec 32) (z1 : BitVec 32), (cb c (rows (bk c 3 + h0 c) 64) fullShare (R0 V 1 c) ∗ cb c (rows (bk c 3 + h1 c) 64) fullShare (R0 V 1 c) ∗ ch1 c 6 ∗ ow c 19) -∗ Q ⟨z0, z1⟩) -∗ wpc c (k0_part23 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v20 v21 v47 v895 v900) Q) := by
  rw [k0_part23_eq_skeleton]; unfold k0_part23_skel
  simp only [semSignalWord, semWaitWord, Prog.lift, Prog.bind_op, Prog.bind_ret, Prog.pure_eq_ret]
  iintro ⟨#Hc, B3, ch6, ow, Th1, N2_0⟩ Hk
  iapply (fill_c c (n := 128) (o8_3 c) (R0 V 1 c) (fun x i h => (congrFun (shapeCast_self v900 shapeCasts_S128x1024_S128x1024) x).trans (hv x i h))) $$ [B3]
  · iexact B3
  iintro B3
  ihave B3 := ((cb_half c c fullShare _ (bk c 3)).1) $$ B3
  icases B3 with ⟨Bh0, Bh1⟩
  iapply (snd_y V K c 6 (za c) rfl (dv11 c) 19 rfl rfl rfl 0 (o11 c) (cred64 _ _ (by decide)) iprop(emp) (R0 V 0 c) (BI.Entails.refl _) (land6 V c)) $$ [ch6 ow Th1 N2_0]
  · isplitr; · iexact Hc
    isplitl [ch6]; · iexact ch6
    isplitl [ow]; · iexact ow
    isplitl [Th1]; · iexact Th1
    isplitl [N2_0]; · iexact N2_0
    iempintro
  iintro ⟨ch6, ow⟩
  iapply fin_step
  iapply Hk
  isplitl [Bh0]; · iexact Bh0
  isplitl [Bh1]; · iexact Bh1
  isplitl [ch6]; · iexact ch6
  iexact ow

end Cert.KernelIdeal.Pf

end
-- ==== Proof.PartsB.lean ====
/-
# The body, part by part: across the planes and round again
-/
module

public import proofs.«01_k».proof.Proof.Land

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (V : Vals F)

local notation "𝕄" => MT nD τ sig Unit (Elt F) ℕ UU ℕ

variable (K : Dev nD × Fin 55 → ℕ)

/-- Part 24 of the body. -/
theorem part24 (c : Dev nD)  {v21 : BitVec 32} {v47 : BitVec 32} {v907 : BitVec 32} {v911 : BitVec 32}
    {Q : (BitVec 32) → sProp 𝕄} :
    iprop(ctx V K ∗ ch0 c 7 ∗ ow c 19 ∗ cb c (rows (bk c 3 + h1 c) 64) fullShare (R0 V 1 c) ∗ yG (za c) 1 ∗ ch1 c 6 ∗ cb c (rows (tk c 1 + h0 c) 64) fullShare (R0 V 0 c))
      ⊢ iprop((∀ (z0 : BitVec 32), (ch2 c 6 ∗ gv (za c) (rows (tk c 1 + h0 c) 64) ∗ yG c 0 ∗ cb c (rows (tk c 1 + qk c) 32) fullShare (Z1 V 0 c) ∗ cb c (rows (tk c 1 + qs c) 32) fullShare (Z1 V 0 c) ∗ ch2 c 7 ∗ ow c 18 ∗ yH c 1 (bk c 3 + h0 c) (R0 V 1 (za c)) ∗ gv (za c) (rows (bk c 3 + h0 c) 64)) -∗ Q (z0)) -∗ wpc c (k0_part24 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v21 v47 v907 v911) Q) := by
  rw [k0_part24_eq_skeleton]; unfold k0_part24_skel
  simp only [semSignalWord, semWaitWord, Prog.lift, Prog.bind_op, Prog.bind_ret, Prog.pure_eq_ret]
  iintro ⟨#Hc, ch7, ow, Bh1, N2_1, ch6, Th0⟩ Hk
  iapply (snd_y V K c 7 (za c) rfl (dv12 c) 18 rfl rfl rfl 1 (o12 c) (cred64 _ _ (by decide)) iprop(emp) (R0 V 1 c) (BI.Entails.refl _) (land7 V c)) $$ [ch7 ow Bh1 N2_1]
  · isplitr; · iexact Hc
    isplitl [ch7]; · iexact ch7
    isplitl [ow]; · iexact ow
    isplitl [Bh1]; · iexact Bh1
    isplitl [N2_1]; · iexact N2_1
    iempintro
  iintro ⟨ch7, ow⟩
  iapply (step_recv V K c 6 18 (by decide) rfl (cred64 _ _ (by decide))) $$ [ch6 ow]
  · isplitr; · iexact Hc
    isplitl [ch6]; · iexact ch6
    iexact ow
  iintro ⟨ch6, ow, r6_0⟩
  ihave r6_0 := (Entails.of_eq (show payR V c 6 = iprop(yH c 0 (tk c 1 + h0 c) (R0 V 0 (za c)) ∗ gv (za c) (rows (tk c 1 + h0 c) 64)) from rfl)) $$ r6_0
  icases r6_0 with ⟨r6_0, r6_1⟩
  iapply (acc_y c 0 (o13 c) (A := R0 V 0 c) (B := R0 V 0 (za c)) (Z1 V 0 c) (fun _ => rfl) (fun v w x => by exact congrFun (shapeCast_self (addf v (shapeCast S64x1024 w shapeCasts_S1x64x1024_S64x1024)) shapeCasts_S64x1024_S64x1024) x)) $$ [Th0 r6_0]
  · isplitl [Th0]; · iexact Th0
    iexact r6_0
  iintro ⟨Th0, r6_0⟩
  ihave Th0 := ((cb_quar c c fullShare _ (tk c 1)).1) $$ Th0
  icases Th0 with ⟨Tqk, Tqs⟩
  iapply (step_recv V K c 7 18 (by decide) rfl (cred64 _ _ (by decide))) $$ [ch7 ow]
  · isplitr; · iexact Hc
    isplitl [ch7]; · iexact ch7
    iexact ow
  iintro ⟨ch7, ow, r7_0⟩
  ihave r7_0 := (Entails.of_eq (show payR V c 7 = iprop(yH c 1 (bk c 3 + h0 c) (R0 V 1 (za c)) ∗ gv (za c) (rows (bk c 3 + h0 c) 64)) from rfl)) $$ r7_0
  icases r7_0 with ⟨r7_0, r7_1⟩
  iapply fin_step
  iapply Hk
  isplitl [ch6]; · iexact ch6
  isplitl [r6_1]; · iexact r6_1
  isplitl [r6_0]; · iexact r6_0
  isplitl [Tqk]; · iexact Tqk
  isplitl [Tqs]; · iexact Tqs
  isplitl [ch7]; · iexact ch7
  isplitl [ow]; · iexact ow
  isplitl [r7_0]; · iexact r7_0
  iexact r7_1

/-- Part 25 of the body. -/
theorem part25 (c : Dev nD)  {v21 : BitVec 32} {v38 : BitVec 32} {v48 : BitVec 32} {v907 : BitVec 32} {v911 : BitVec 32} {v962 : BitVec 32}
    {Q : (BitVec 32) → sProp 𝕄} :
    iprop(ctx V K ∗ cb c (rows (bk c 3 + h0 c) 64) fullShare (R0 V 1 c) ∗ yH c 1 (bk c 3 + h0 c) (R0 V 1 (za c)) ∗ ch0 c 8 ∗ ow c 18 ∗ cb c (rows (tk c 1 + qs c) 32) fullShare (Z1 V 0 c) ∗ zG (zb c) 0)
      ⊢ iprop((∀ (z0 : BitVec 32), (yG c 1 ∗ cb c (rows (bk c 3 + qk c) 32) fullShare (Z1 V 1 c) ∗ cb c (rows (bk c 3 + qs c) 32) fullShare (Z1 V 1 c) ∗ ch1 c 8 ∗ ow c 17) -∗ Q (z0)) -∗ wpc c (k0_part25 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v21 v38 v48 v907 v911 v962) Q) := by
  rw [k0_part25_eq_skeleton]; unfold k0_part25_skel
  simp only [semSignalWord, semWaitWord, Prog.lift, Prog.bind_op, Prog.bind_ret, Prog.pure_eq_ret]
  iintro ⟨#Hc, Bh0, r7_0, ch8, ow, Tqs, N3_0⟩ Hk
  iapply (acc_y c 1 (o14_3 c) (A := R0 V 1 c) (B := R0 V 1 (za c)) (Z1 V 1 c) (fun _ => rfl) (fun v w x => by exact congrFun (shapeCast_self (addf v (shapeCast S64x1024 w shapeCasts_S1x64x1024_S64x1024)) shapeCasts_S64x1024_S64x1024) x)) $$ [Bh0 r7_0]
  · isplitl [Bh0]; · iexact Bh0
    iexact r7_0
  iintro ⟨Bh0, r7_0⟩
  ihave Bh0 := ((cb_quar c c fullShare _ (bk c 3)).1) $$ Bh0
  icases Bh0 with ⟨Bqk, Bqs⟩
  iapply (snd_z V K c 8 (zb c) rfl (dv13 c) 17 rfl rfl rfl 0 (o15 c) (cred32 _ _ (by decide)) iprop(emp) (Z1 V 0 c) (BI.Entails.refl _) (land8 V c)) $$ [ch8 ow Tqs N3_0]
  · isplitr; · iexact Hc
    isplitl [ch8]; · iexact ch8
    isplitl [ow]; · iexact ow
    isplitl [Tqs]; · iexact Tqs
    isplitl [N3_0]; · iexact N3_0
    iempintro
  iintro ⟨ch8, ow⟩
  iapply fin_step
  iapply Hk
  isplitl [r7_0]; · iexact r7_0
  isplitl [Bqk]; · iexact Bqk
  isplitl [Bqs]; · iexact Bqs
  isplitl [ch8]; · iexact ch8
  iexact ow

/-- Part 26 of the body. -/
theorem part26 (c : Dev nD)  {v48 : BitVec 32} {v907 : BitVec 32} {v911 : BitVec 32} {v974 : BitVec 32}
    {Q : (Σ' (v1023 : BitVec 32) (v1025 : Vec F S32x1024 .bf16), Vec F S1x32x1024 .bf16) → sProp 𝕄} :
    iprop(ctx V K ∗ ch0 c 9 ∗ ow c 17 ∗ cb c (rows (bk c 3 + qs c) 32) fullShare (Z1 V 1 c) ∗ zG (zb c) 1 ∗ ch1 c 8 ∗ cb c (rows (tk c 1 + qk c) 32) fullShare (Z1 V 0 c) ∗ cb c (rows (bk c 3 + qk c) 32) fullShare (Z1 V 1 c))
      ⊢ iprop((∀ (z0 : BitVec 32) (v1025 : Vec F S32x1024 .bf16) (v1026 : Vec F S1x32x1024 .bf16), (⌜∀ (x : S32x1024.Idx) i, At (bk c 3 + qk c) x i → v1025 x = (Z1 V 1 c) i⌝ ∗ ⌜∀ (x : S32x1024.Idx) i, At (bk c 3 + qk c) x i → shapeCast S32x1024 v1026 shapeCasts_S1x32x1024_S32x1024 x = (Z1 V 1 (zb c)) i⌝ ∗ ch2 c 8 ∗ gv (zb c) (rows (tk c 1 + qk c) 32) ∗ zG c 0 ∗ cb c (rows (tk c 1 + qk c) 32) fullShare.left (FIN V) ∗ cb c (rows (tk c 1 + qk c) 32) fullShare.right (FIN V) ∗ ch2 c 9 ∗ ow c 16 ∗ gv (zb c) (rows (bk c 3 + qk c) 32) ∗ cb c (rows (bk c 3 + qk c) 32) fullShare (Z1 V 1 c) ∗ zG c 1) -∗ Q ⟨z0, v1025, v1026⟩) -∗ wpc c (k0_part26 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v48 v907 v911 v974) Q) := by
  rw [k0_part26_eq_skeleton]; unfold k0_part26_skel
  simp only [semSignalWord, semWaitWord, Prog.lift, Prog.bind_op, Prog.bind_ret, Prog.pure_eq_ret]
  iintro ⟨#Hc, ch9, ow, Bqs, N3_1, ch8, Tqk, Bqk⟩ Hk
  iapply (snd_z V K c 9 (zb c) rfl (dv14 c) 16 rfl rfl rfl 1 (o16 c) (cred32 _ _ (by decide)) iprop(emp) (Z1 V 1 c) (BI.Entails.refl _) (land9 V c)) $$ [ch9 ow Bqs N3_1]
  · isplitr; · iexact Hc
    isplitl [ch9]; · iexact ch9
    isplitl [ow]; · iexact ow
    isplitl [Bqs]; · iexact Bqs
    isplitl [N3_1]; · iexact N3_1
    iempintro
  iintro ⟨ch9, ow⟩
  iapply (step_recv V K c 8 16 (by decide) rfl (cred32 _ _ (by decide))) $$ [ch8 ow]
  · isplitr; · iexact Hc
    isplitl [ch8]; · iexact ch8
    iexact ow
  iintro ⟨ch8, ow, r8_0⟩
  ihave r8_0 := (Entails.of_eq (show payR V c 8 = iprop(zH c 0 (tk c 1 + qk c) (Z1 V 0 (zb c)) ∗ gv (zb c) (rows (tk c 1 + qk c) 32)) from rfl)) $$ r8_0
  icases r8_0 with ⟨r8_0, r8_1⟩
  iapply (acc_z c 0 (o17 c) (A := Z1 V 0 c) (B := Z1 V 0 (zb c)) (Z2 V 0 c) (fun _ => rfl) (fun v w x => by exact congrFun (shapeCast_self (addf v (shapeCast S32x1024 w shapeCasts_S1x32x1024_S32x1024)) shapeCasts_S32x1024_S32x1024) x)) $$ [Tqk r8_0]
  · isplitl [Tqk]; · iexact Tqk
    iexact r8_0
  iintro ⟨Tqk, r8_0⟩
  ihave Tqk := (Entails.of_eq (fin_T V c fullShare)) $$ Tqk
  ihave Tqk := ((cb_share c fullShare (FIN V) _).1) $$ Tqk
  icases Tqk with ⟨Tqkl, Tqkr⟩
  iapply (step_recv V K c 9 16 (by decide) rfl (cred32 _ _ (by decide))) $$ [ch9 ow]
  · isplitr; · iexact Hc
    isplitl [ch9]; · iexact ch9
    iexact ow
  iintro ⟨ch9, ow, r9_0⟩
  ihave r9_0 := (Entails.of_eq (show payR V c 9 = iprop(zH c 1 (bk c 3 + qk c) (Z1 V 1 (zb c)) ∗ gv (zb c) (rows (bk c 3 + qk c) 32)) from rfl)) $$ r9_0
  icases r9_0 with ⟨r9_0, r9_1⟩
  iapply (ld_c c (n := 32) (o18 c)) $$ [Bqk]
  · iexact Bqk
  iintro Bqk %v1025 %hv
  iapply (ld_z c 1) $$ [r9_0]
  · iexact r9_0
  iintro r9_0 %v1026 %hz
  iapply fin_step
  iapply Hk
  isplitr; · ipureintro; exact hv
  isplitr; · ipureintro; exact hz
  isplitl [ch8]; · iexact ch8
  isplitl [r8_1]; · iexact r8_1
  isplitl [r8_0]; · iexact r8_0
  isplitl [Tqkl]; · iexact Tqkl
  isplitl [Tqkr]; · iexact Tqkr
  isplitl [ch9]; · iexact ch9
  isplitl [ow]; · iexact ow
  isplitl [r9_1]; · iexact r9_1
  isplitl [Bqk]; · iexact Bqk
  iexact r9_0

/-- Part 27 of the body. -/
theorem part27 (c : Dev nD)  {v48 : BitVec 32} {v907 : BitVec 32} {v911 : BitVec 32} {v974 : BitVec 32} {v1023 : BitVec 32} {v1025 : Vec F S32x1024 .bf16} {v1026 : Vec F S1x32x1024 .bf16}  (hv : ∀ (x : S32x1024.Idx) i, At (bk c 3 + qk c) x i → v1025 x = (Z1 V 1 c) i) (hz : ∀ (x : S32x1024.Idx) i, At (bk c 3 + qk c) x i → shapeCast S32x1024 v1026 shapeCasts_S1x32x1024_S32x1024 x = (Z1 V 1 (zb c)) i)
    {Q : (PUnit) → sProp 𝕄} :
    iprop(ctx V K ∗ cb c (rows (bk c 3 + qk c) 32) fullShare (Z1 V 1 c) ∗ ch0 c 10 ∗ ow c 16 ∗ cb c (rows (tk c 1 + qk c) 32) fullShare.left (FIN V) ∗ gv (zb c) (rows (tk c 1 + qk c) 32) ∗ ch0 c 11 ∗ gv (zb c) (rows (bk c 3 + qk c) 32) ∗ cb c (rows (tk c 1 + qk c) 32) fullShare.right (FIN V))
      ⊢ iprop(((cb c (rows (bk c 3 + qk c) 32) fullShare.right (FIN V) ∗ ch1 c 11 ∗ ch2 c 10 ∗ ow c 14 ∗ cb c (rows (tk c 1 + qs c) 32) fullShare.left (FIN V) ∗ cb c (rows (tk c 1 + h0 c) 64) fullShare.right.left (FIN V) ∗ cb c (rows (tk c 1 + h0 c) 64) fullShare.right.right.left (FIN V) ∗ cb c (rows (tk c 1 + h0 c) 64) fullShare.right.right.right (FIN V)) -∗ Q ⟨⟩) -∗ wpc c (k0_part27 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v48 v907 v911 v974 v1023 v1025 v1026) Q) := by
  rw [k0_part27_eq_skeleton]; unfold k0_part27_skel
  simp only [semSignalWord, semWaitWord, Prog.lift, Prog.bind_op, Prog.bind_ret, Prog.pure_eq_ret]
  iintro ⟨#Hc, Bqk, ch10, ow, Tqkl, r8_1, ch11, r9_1, Tqkr⟩ Hk
  iapply (fill_c c (n := 32) (o18 c) (Z2 V 1 c) (fun x i h => (congrFun (shapeCast_self (addf v1025 (shapeCast S32x1024 v1026 shapeCasts_S1x32x1024_S32x1024)) shapeCasts_S32x1024_S32x1024) x).trans (congrArg₂ plus (hv x i h) (hz x i h)))) $$ [Bqk]
  · iexact Bqk
  iintro Bqk
  ihave Bqk := (Entails.of_eq (fin_B V c fullShare)) $$ Bqk
  ihave Bqk := ((cb_share c fullShare (FIN V) _).1) $$ Bqk
  icases Bqk with ⟨Bqkl, Bqkr⟩
  iapply (snd_c V K c 10 (zb c) rfl (dv15 c) 15 rfl rfl rfl (o19 c) (cred32 _ _ (by decide)) fullShare.left iprop(emp) (FIN V) (BI.Entails.refl _) (land10 V c)) $$ [ch10 ow Tqkl r8_1]
  · isplitr; · iexact Hc
    isplitl [ch10]; · iexact ch10
    isplitl [ow]; · iexact ow
    isplitl [Tqkl]; · iexact Tqkl
    isplitl [r8_1]; · iexact r8_1
    iempintro
  iintro ⟨ch10, ow⟩
  iapply (snd_c V K c 11 (zb c) rfl (dv16 c) 14 rfl rfl rfl (o20 c) (cred32 _ _ (by decide)) fullShare.left iprop(emp) (FIN V) (BI.Entails.refl _) (land11 V c)) $$ [ch11 ow Bqkl r9_1]
  · isplitr; · iexact Hc
    isplitl [ch11]; · iexact ch11
    isplitl [ow]; · iexact ow
    isplitl [Bqkl]; · iexact Bqkl
    isplitl [r9_1]; · iexact r9_1
    iempintro
  iintro ⟨ch11, ow⟩
  iapply (step_recv V K c 10 14 (by decide) rfl (cred32 _ _ (by decide))) $$ [ch10 ow]
  · isplitr; · iexact Hc
    isplitl [ch10]; · iexact ch10
    iexact ow
  iintro ⟨ch10, ow, r10_0⟩
  ihave r10_0 := (Entails.of_eq (show payR V c 10 = iprop(cb c (rows (tk c 1 + qs c) 32) fullShare (FIN V)) from rfl)) $$ r10_0
  ihave r10_0 := ((cb_share c fullShare (FIN V) _).1) $$ r10_0
  icases r10_0 with ⟨X10l, X10r⟩
  ihave Tqkr := ((cb_quar c c fullShare.right (FIN V) (tk c 1)).2) $$ [Tqkr X10r]
  · isplitl [Tqkr]; · iexact Tqkr
    iexact X10r
  icases Tqkr with Tr
  ihave Tr := ((cb_share c fullShare.right (FIN V) _).1) $$ Tr
  icases Tr with ⟨Trl, Trr⟩
  ihave Trr := ((cb_share c fullShare.right.right (FIN V) _).1) $$ Trr
  icases Trr with ⟨Trrl, Trrr⟩
  iapply fin_step
  iapply Hk
  isplitl [Bqkr]; · iexact Bqkr
  isplitl [ch11]; · iexact ch11
  isplitl [ch10]; · iexact ch10
  isplitl [ow]; · iexact ow
  isplitl [X10l]; · iexact X10l
  isplitl [Trl]; · iexact Trl
  isplitl [Trrl]; · iexact Trrl
  iexact Trrr

/-- Part 28 of the body. -/
theorem part28 (c : Dev nD)  {v20 : BitVec 32} {v21 : BitVec 32}
    {Q : (Σ' (v1063 : BitVec 32) (v1065 : BitVec 32) (v1069 : BitVec 32) (v1073 : BitVec 32) (v1077 : BitVec 32) (v1080 : BitVec 32) (v1083 : BitVec 32) (v1086 : BitVec 32), BitVec 32) → sProp 𝕄} :
    iprop(ctx V K ∗ ch1 c 11 ∗ ow c 14 ∗ cb c (rows (bk c 3 + qk c) 32) fullShare.right (FIN V))
      ⊢ iprop((∀ (z0 : BitVec 32) (z1 : BitVec 32) (z2 : BitVec 32) (z3 : BitVec 32) (z4 : BitVec 32) (z5 : BitVec 32) (z6 : BitVec 32) (z7 : BitVec 32) (z8 : BitVec 32), (ch2 c 11 ∗ ow c 14 ∗ cb c (rows (bk c 3 + qs c) 32) fullShare.left (FIN V) ∗ cb c (rows (bk c 3 + h0 c) 64) fullShare.right.left (FIN V) ∗ cb c (rows (bk c 3 + h0 c) 64) fullShare.right.right.left (FIN V) ∗ cb c (rows (bk c 3 + h0 c) 64) fullShare.right.right.right (FIN V)) -∗ Q ⟨z0, z1, z2, z3, z4, z5, z6, z7, z8⟩) -∗ wpc c (k0_part28 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v20 v21) Q) := by
  rw [k0_part28_eq_skeleton]; unfold k0_part28_skel
  simp only [semSignalWord, semWaitWord, Prog.lift, Prog.bind_op, Prog.bind_ret, Prog.pure_eq_ret]
  iintro ⟨#Hc, ch11, ow, Bqkr⟩ Hk
  iapply (step_recv V K c 11 14 (by decide) rfl (cred32 _ _ (by decide))) $$ [ch11 ow]
  · isplitr; · iexact Hc
    isplitl [ch11]; · iexact ch11
    iexact ow
  iintro ⟨ch11, ow, r11_0⟩
  ihave r11_0 := (Entails.of_eq (show payR V c 11 = iprop(cb c (rows (bk c 3 + qs c) 32) fullShare (FIN V)) from rfl)) $$ r11_0
  ihave r11_0 := ((cb_share c fullShare (FIN V) _).1) $$ r11_0
  icases r11_0 with ⟨X11l, X11r⟩
  ihave Bqkr := ((cb_quar c c fullShare.right (FIN V) (bk c 3)).2) $$ [Bqkr X11r]
  · isplitl [Bqkr]; · iexact Bqkr
    iexact X11r
  icases Bqkr with Br
  ihave Br := ((cb_share c fullShare.right (FIN V) _).1) $$ Br
  icases Br with ⟨Brl, Brr⟩
  ihave Brr := ((cb_share c fullShare.right.right (FIN V) _).1) $$ Brr
  icases Brr with ⟨Brrl, Brrr⟩
  iapply fin_step
  iapply Hk
  isplitl [ch11]; · iexact ch11
  isplitl [ow]; · iexact ow
  isplitl [X11l]; · iexact X11l
  isplitl [Brl]; · iexact Brl
  isplitl [Brrl]; · iexact Brrl
  iexact Brrr

/-- Part 29 of the body. -/
theorem part29 (c : Dev nD)  {v20 : BitVec 32} {v42 : BitVec 32} {v46 : BitVec 32} {v1063 : BitVec 32} {v1069 : BitVec 32} {v1080 : BitVec 32}
    {Q : (Σ' (v1092 : BitVec 32) (v1095 : BitVec 32) (v1097 : BitVec 32) (v1099 : BitVec 32), BitVec 32) → sProp 𝕄} :
    iprop(ctx V K ∗ ch0 c 12 ∗ ow c 14 ∗ cb c (rows (tk c 1 + h0 c) 64) fullShare.right.left (FIN V) ∗ gv (rt c) (rows (tk c 1 + h0 c) 64) ∗ gv (lf (lf c)) (rows (tk c 1 + h0 c) 64) ∗ gv (lf c) (rows (tk c 1 + h0 c) 64))
      ⊢ iprop((∀ (z0 : BitVec 32) (z1 : BitVec 32) (z2 : BitVec 32) (z3 : BitVec 32) (z4 : BitVec 32), (ch1 c 12 ∗ ow c 13) -∗ Q ⟨z0, z1, z2, z3, z4⟩) -∗ wpc c (k0_part29 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v20 v42 v46 v1063 v1069 v1080) Q) := by
  rw [k0_part29_eq_skeleton]; unfold k0_part29_skel
  simp only [semSignalWord, semWaitWord, Prog.lift, Prog.bind_op, Prog.bind_ret, Prog.pure_eq_ret]
  iintro ⟨#Hc, ch12, ow, Trl, gT3h0, gT2h0, gT1h0⟩ Hk
  iapply (snd_c V K c 12 (rt c) rfl (dv17 c) 13 rfl rfl rfl (o21_0 c) (cred64 _ _ (by decide)) fullShare.right.left iprop(gv (lf (lf c)) (rows (tk c 1 + h0 c) 64) ∗ gv (lf c) (rows (tk c 1 + h0 c) 64)) (FIN V) (BI.Entails.refl _) (land12 V c)) $$ [ch12 ow Trl gT3h0 gT2h0 gT1h0]
  · isplitr; · iexact Hc
    isplitl [ch12]; · iexact ch12
    isplitl [ow]; · iexact ow
    isplitl [Trl]; · iexact Trl
    isplitl [gT3h0]; · iexact gT3h0
    isplitl [gT2h0]; · iexact gT2h0
    iexact gT1h0
  iintro ⟨ch12, ow⟩
  iapply fin_step
  iapply Hk
  isplitl [ch12]; · iexact ch12
  iexact ow

/-- Part 30 of the body. -/
theorem part30 (c : Dev nD)  {v47 : BitVec 32} {v907 : BitVec 32} {v911 : BitVec 32} {v1063 : BitVec 32} {O0 : S1024x1024.Idx → Elt F .f32}
    {Q : (PUnit) → sProp 𝕄} :
    iprop(ctx V K ∗ ch0 c 13 ∗ ow c 13 ∗ cb c (rows (bk c 3 + h0 c) 64) fullShare.right.left (FIN V) ∗ gv (lf c) (rows (bk c 3 + h0 c) 64) ∗ gv (rt (rt c)) (rows (bk c 3 + h0 c) 64) ∗ gv (rt c) (rows (bk c 3 + h0 c) 64) ∗ ch0 c 14 ∗ cb c (rows (tk c 1 + h0 c) 64) fullShare.right.right.left (FIN V) ∗ gv (za c) (rows (tk c 1 + h0 c) 64) ∗ ch0 c 15 ∗ cb c (rows (bk c 3 + h0 c) 64) fullShare.right.right.left (FIN V) ∗ gv (za c) (rows (bk c 3 + h0 c) 64) ∗ cb c (rows (tk c 1 + h0 c) 64) fullShare.right.right.right (FIN V) ∗ ob c (rows (tk c 1 + h0 c) 64) O0 ∗ cb c (rows (bk c 3 + h0 c) 64) fullShare.right.right.right (FIN V) ∗ ob c (rows (bk c 3 + h0 c) 64) O0)
      ⊢ iprop(((ch1 c 13 ∗ ch1 c 14 ∗ ch1 c 15 ∗ ow c 10 ∗ cb c (rows (tk c 1 + h0 c) 64) fullShare.right.right.right (FIN V) ∗ ob c (rows (tk c 1 + h0 c) 64) (OUT V) ∗ cb c (rows (bk c 3 + h0 c) 64) fullShare.right.right.right (FIN V) ∗ ob c (rows (bk c 3 + h0 c) 64) (OUT V)) -∗ Q ⟨⟩) -∗ wpc c (k0_part30 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v47 v907 v911 v1063) Q) := by
  rw [k0_part30_eq_skeleton]; unfold k0_part30_skel
  simp only [semSignalWord, semWaitWord, Prog.lift, Prog.bind_op, Prog.bind_ret, Prog.pure_eq_ret]
  iintro ⟨#Hc, ch13, ow, Brl, gB3h0, gB2h0, gB1h0, ch14, Trrl, r6_1, ch15, Brrl, r7_1, Trrr, OT1h0, Brrr, OB3h0⟩ Hk
  iapply (snd_c V K c 13 (lf c) rfl (dv18 c) 12 rfl rfl rfl (o22_0 c) (cred64 _ _ (by decide)) fullShare.right.left iprop(gv (rt (rt c)) (rows (bk c 3 + h0 c) 64) ∗ gv (rt c) (rows (bk c 3 + h0 c) 64)) (FIN V) (BI.Entails.refl _) (land13 V c)) $$ [ch13 ow Brl gB3h0 gB2h0 gB1h0]
  · isplitr; · iexact Hc
    isplitl [ch13]; · iexact ch13
    isplitl [ow]; · iexact ow
    isplitl [Brl]; · iexact Brl
    isplitl [gB3h0]; · iexact gB3h0
    isplitl [gB2h0]; · iexact gB2h0
    iexact gB1h0
  iintro ⟨ch13, ow⟩
  iapply (snd_c V K c 14 (za c) rfl (dv19 c) 11 rfl rfl rfl (o23 c) (cred64 _ _ (by decide)) fullShare.right.right.left iprop(emp) (FIN V) (BI.Entails.refl _) (land14 V c)) $$ [ch14 ow Trrl r6_1]
  · isplitr; · iexact Hc
    isplitl [ch14]; · iexact ch14
    isplitl [ow]; · iexact ow
    isplitl [Trrl]; · iexact Trrl
    isplitl [r6_1]; · iexact r6_1
    iempintro
  iintro ⟨ch14, ow⟩
  iapply (snd_c V K c 15 (za c) rfl (dv20 c) 10 rfl rfl rfl (o24 c) (cred64 _ _ (by decide)) fullShare.right.right.left iprop(emp) (FIN V) (BI.Entails.refl _) (land15 V c)) $$ [ch15 ow Brrl r7_1]
  · isplitr; · iexact Hc
    isplitl [ch15]; · iexact ch15
    isplitl [ow]; · iexact ow
    isplitl [Brrl]; · iexact Brrl
    isplitl [r7_1]; · iexact r7_1
    iempintro
  iintro ⟨ch15, ow⟩
  iapply (copy_o V c (o13 c) (fun v x => rfl)) $$ [Trrr OT1h0]
  · isplitl [Trrr]; · iexact Trrr
    iexact OT1h0
  iintro ⟨Trrr, OT1h0⟩
  iapply (copy_o V c (o14_3 c) (fun v x => rfl)) $$ [Brrr OB3h0]
  · isplitl [Brrr]; · iexact Brrr
    iexact OB3h0
  iintro ⟨Brrr, OB3h0⟩
  iapply fin_step
  iapply Hk
  isplitl [ch13]; · iexact ch13
  isplitl [ch14]; · iexact ch14
  isplitl [ch15]; · iexact ch15
  isplitl [ow]; · iexact ow
  isplitl [Trrr]; · iexact Trrr
  isplitl [OT1h0]; · iexact OT1h0
  isplitl [Brrr]; · iexact Brrr
  iexact OB3h0

/-- Part 31 of the body. -/
theorem part31 (c : Dev nD)  {v42 : BitVec 32} {v46 : BitVec 32} {v47 : BitVec 32} {v907 : BitVec 32} {v1065 : BitVec 32} {v1069 : BitVec 32} {v1080 : BitVec 32}
    {Q : (Σ' (v1186 : BitVec 32), Vec F S64x1024 .bf16) → sProp 𝕄} :
    iprop(ctx V K ∗ ch1 c 14 ∗ ow c 10 ∗ ch1 c 15 ∗ ch0 c 16 ∗ gv (rt c) (rows (tk c 1 + h1 c) 64) ∗ gv (lf (lf c)) (rows (tk c 1 + h1 c) 64) ∗ gv (lf c) (rows (tk c 1 + h1 c) 64) ∗ ch0 c 17 ∗ gv (lf c) (rows (bk c 3 + h1 c) 64) ∗ gv (rt (rt c)) (rows (bk c 3 + h1 c) 64) ∗ gv (rt c) (rows (bk c 3 + h1 c) 64))
      ⊢ iprop((∀ (z0 : BitVec 32) (v1188 : Vec F S64x1024 .bf16), (⌜∀ (x : S64x1024.Idx) i, At (tk c 1 + h1 c) x i → v1188 x = FIN V i⌝ ∗ ch2 c 14 ∗ ch2 c 15 ∗ cb c (rows (bk c 3 + h1 c) 64) fullShare.right (FIN V) ∗ ch1 c 16 ∗ ch1 c 17 ∗ ow c 8 ∗ cb c (rows (tk c 1 + h1 c) 64) fullShare.right (FIN V)) -∗ Q ⟨z0, v1188⟩) -∗ wpc c (k0_part31 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v42 v46 v47 v907 v1065 v1069 v1080) Q) := by
  rw [k0_part31_eq_skeleton]; unfold k0_part31_skel
  simp only [semSignalWord, semWaitWord, Prog.lift, Prog.bind_op, Prog.bind_ret, Prog.pure_eq_ret]
  iintro ⟨#Hc, ch14, ow, ch15, ch16, gT3h1, gT2h1, gT1h1, ch17, gB3h1, gB2h1, gB1h1⟩ Hk
  iapply (step_recv V K c 14 10 (by decide) rfl (cred64 _ _ (by decide))) $$ [ch14 ow]
  · isplitr; · iexact Hc
    isplitl [ch14]; · iexact ch14
    iexact ow
  iintro ⟨ch14, ow, r14_0⟩
  ihave r14_0 := (Entails.of_eq (show payR V c 14 = iprop(cb c (rows (tk c 1 + h1 c) 64) fullShare (FIN V)) from rfl)) $$ r14_0
  ihave r14_0 := ((cb_share c fullShare (FIN V) _).1) $$ r14_0
  icases r14_0 with ⟨X14l, X14r⟩
  iapply (step_recv V K c 15 10 (by decide) rfl (cred64 _ _ (by decide))) $$ [ch15 ow]
  · isplitr; · iexact Hc
    isplitl [ch15]; · iexact ch15
    iexact ow
  iintro ⟨ch15, ow, r15_0⟩
  ihave r15_0 := (Entails.of_eq (show payR V c 15 = iprop(cb c (rows (bk c 3 + h1 c) 64) fullShare (FIN V)) from rfl)) $$ r15_0
  ihave r15_0 := ((cb_share c fullShare (FIN V) _).1) $$ r15_0
  icases r15_0 with ⟨X15l, X15r⟩
  iapply (snd_c V K c 16 (rt c) rfl (dv21 c) 9 rfl rfl rfl (o25_0 c) (cred64 _ _ (by decide)) fullShare.left iprop(gv (lf (lf c)) (rows (tk c 1 + h1 c) 64) ∗ gv (lf c) (rows (tk c 1 + h1 c) 64)) (FIN V) (BI.Entails.refl _) (land16 V c)) $$ [ch16 ow X14l gT3h1 gT2h1 gT1h1]
  · isplitr; · iexact Hc
    isplitl [ch16]; · iexact ch16
    isplitl [ow]; · iexact ow
    isplitl [X14l]; · iexact X14l
    isplitl [gT3h1]; · iexact gT3h1
    isplitl [gT2h1]; · iexact gT2h1
    iexact gT1h1
  iintro ⟨ch16, ow⟩
  iapply (snd_c V K c 17 (lf c) rfl (dv22 c) 8 rfl rfl rfl (o26_0 c) (cred64 _ _ (by decide)) fullShare.left iprop(gv (rt (rt c)) (rows (bk c 3 + h1 c) 64) ∗ gv (rt c) (rows (bk c 3 + h1 c) 64)) (FIN V) (BI.Entails.refl _) (land17 V c)) $$ [ch17 ow X15l gB3h1 gB2h1 gB1h1]
  · isplitr; · iexact Hc
    isplitl [ch17]; · iexact ch17
    isplitl [ow]; · iexact ow
    isplitl [X15l]; · iexact X15l
    isplitl [gB3h1]; · iexact gB3h1
    isplitl [gB2h1]; · iexact gB2h1
    iexact gB1h1
  iintro ⟨ch17, ow⟩
  iapply (ld_c c (n := 64) (o27 c)) $$ [X14r]
  · iexact X14r
  iintro X14r %v1188 %hv
  iapply fin_step
  iapply Hk
  isplitr; · ipureintro; exact hv
  isplitl [ch14]; · iexact ch14
  isplitl [ch15]; · iexact ch15
  isplitl [X15r]; · iexact X15r
  isplitl [ch16]; · iexact ch16
  isplitl [ch17]; · iexact ch17
  isplitl [ow]; · iexact ow
  iexact X14r

/-- Part 32 of the body. -/
theorem part32 (c : Dev nD)  {v42 : BitVec 32} {v46 : BitVec 32} {v911 : BitVec 32} {v1063 : BitVec 32} {v1065 : BitVec 32} {v1089 : BitVec 32} {v1097 : BitVec 32} {v1186 : BitVec 32} {v1188 : Vec F S64x1024 .bf16} {O0 : S1024x1024.Idx → Elt F .f32} (hv : ∀ (x : S64x1024.Idx) i, At (tk c 1 + h1 c) x i → v1188 x = FIN V i)
    {Q : (Σ' (v1219 : BitVec 32), FVec F S64x1024 .f32) → sProp 𝕄} :
    iprop(ctx V K ∗ ob c (rows (tk c 1 + h1 c) 64) O0 ∗ cb c (rows (bk c 3 + h1 c) 64) fullShare.right (FIN V) ∗ ob c (rows (bk c 3 + h1 c) 64) O0 ∗ ch1 c 12 ∗ ow c 8 ∗ ob c (rows (tk c 0 + h0 c) 64) O0 ∗ ch1 c 13)
      ⊢ iprop((∀ (z0 : BitVec 32) (v1222 : FVec F S64x1024 .f32), (⌜∀ (x : S64x1024.Idx) i, At (bk c 0 + h0 c) x i → v1222 x = OUT V i⌝ ∗ ob c (rows (tk c 1 + h1 c) 64) (OUT V) ∗ cb c (rows (bk c 3 + h1 c) 64) fullShare.right (FIN V) ∗ ob c (rows (bk c 3 + h1 c) 64) (OUT V) ∗ ch2 c 12 ∗ gv (rt c) (rows (tk c 0 + h0 c) 64) ∗ gv (rt (rt c)) (rows (tk c 0 + h0 c) 64) ∗ cb c (rows (tk c 0 + h0 c) 64) fullShare.left (FIN V) ∗ cb c (rows (tk c 0 + h0 c) 64) fullShare.right (FIN V) ∗ ob c (rows (tk c 0 + h0 c) 64) (OUT V) ∗ ch2 c 13 ∗ ow c 8 ∗ gv (lf c) (rows (bk c 0 + h0 c) 64) ∗ gv (lf (lf c)) (rows (bk c 0 + h0 c) 64) ∗ cb c (rows (bk c 0 + h0 c) 64) fullShare.left (FIN V) ∗ cb c (rows (bk c 0 + h0 c) 64) fullShare.right (FIN V)) -∗ Q ⟨z0, v1222⟩) -∗ wpc c (k0_part32 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v42 v46 v911 v1063 v1065 v1089 v1097 v1186 v1188) Q) := by
  rw [k0_part32_eq_skeleton]; unfold k0_part32_skel
  simp only [semSignalWord, semWaitWord, Prog.lift, Prog.bind_op, Prog.bind_ret, Prog.pure_eq_ret]
  iintro ⟨#Hc, OT1h1, X15r, OB3h1, ch12, ow, OT0h0, ch13⟩ Hk
  iapply (fill_o c (n := 64) (o27 c) (OUT V) (fun x i h => congrArg (FloatOps.extf (φ := .bf16) .f32 bitsLt_bf16_f32) (hv x i h))) $$ [OT1h1]
  · iexact OT1h1
  iintro OT1h1
  iapply (copy_o V c (o28_3 c) (fun v x => rfl)) $$ [X15r OB3h1]
  · isplitl [X15r]; · iexact X15r
    iexact OB3h1
  iintro ⟨X15r, OB3h1⟩
  iapply (step_recv V K c 12 8 (by decide) rfl (cred64 _ _ (by decide))) $$ [ch12 ow]
  · isplitr; · iexact Hc
    isplitl [ch12]; · iexact ch12
    iexact ow
  iintro ⟨ch12, ow, r12_0⟩
  ihave r12_0 := (Entails.of_eq (show payR V c 12 = iprop(cb c (rows (tk c 0 + h0 c) 64) fullShare (FIN V) ∗ gv (rt c) (rows (tk c 0 + h0 c) 64) ∗ gv (rt (rt c)) (rows (tk c 0 + h0 c) 64)) from rfl)) $$ r12_0
  icases r12_0 with ⟨r12_0, r12_1, r12_2⟩
  ihave r12_0 := ((cb_share c fullShare (FIN V) _).1) $$ r12_0
  icases r12_0 with ⟨X12l, X12r⟩
  iapply (copy_o V c (o29_0 c) (fun v x => rfl)) $$ [X12r OT0h0]
  · isplitl [X12r]; · iexact X12r
    iexact OT0h0
  iintro ⟨X12r, OT0h0⟩
  iapply (step_recv V K c 13 8 (by decide) rfl (cred64 _ _ (by decide))) $$ [ch13 ow]
  · isplitr; · iexact Hc
    isplitl [ch13]; · iexact ch13
    iexact ow
  iintro ⟨ch13, ow, r13_0⟩
  ihave r13_0 := (Entails.of_eq (show payR V c 13 = iprop(cb c (rows (bk c 0 + h0 c) 64) fullShare (FIN V) ∗ gv (lf c) (rows (bk c 0 + h0 c) 64) ∗ gv (lf (lf c)) (rows (bk c 0 + h0 c) 64)) from rfl)) $$ r13_0
  icases r13_0 with ⟨r13_0, r13_1, r13_2⟩
  ihave r13_0 := ((cb_share c fullShare (FIN V) _).1) $$ r13_0
  icases r13_0 with ⟨X13l, X13r⟩
  iapply (ld_c c (n := 64) (o14_0 c)) $$ [X13r]
  · iexact X13r
  iintro X13r %v1221 %hv
  iapply fin_step
  iapply Hk
  isplitr; · ipureintro; intro x i h; exact congrArg (FloatOps.extf (φ := .bf16) .f32 bitsLt_bf16_f32) (hv x i h)
  isplitl [OT1h1]; · iexact OT1h1
  isplitl [X15r]; · iexact X15r
  isplitl [OB3h1]; · iexact OB3h1
  isplitl [ch12]; · iexact ch12
  isplitl [r12_1]; · iexact r12_1
  isplitl [r12_2]; · iexact r12_2
  isplitl [X12l]; · iexact X12l
  isplitl [X12r]; · iexact X12r
  isplitl [OT0h0]; · iexact OT0h0
  isplitl [ch13]; · iexact ch13
  isplitl [ow]; · iexact ow
  isplitl [r13_1]; · iexact r13_1
  isplitl [r13_2]; · iexact r13_2
  isplitl [X13l]; · iexact X13l
  iexact X13r

/-- Part 33 of the body. -/
theorem part33 (c : Dev nD)  {v42 : BitVec 32} {v46 : BitVec 32} {v1063 : BitVec 32} {v1065 : BitVec 32} {v1073 : BitVec 32} {v1083 : BitVec 32} {v1089 : BitVec 32} {v1219 : BitVec 32} {v1222 : FVec F S64x1024 .f32} {O0 : S1024x1024.Idx → Elt F .f32} (hv : ∀ (x : S64x1024.Idx) i, At (bk c 0 + h0 c) x i → v1222 x = OUT V i)
    {Q : (BitVec 32) → sProp 𝕄} :
    iprop(ctx V K ∗ ob c (rows (bk c 0 + h0 c) 64) O0 ∗ ch0 c 18 ∗ ow c 8 ∗ cb c (rows (tk c 0 + h0 c) 64) fullShare.left (FIN V) ∗ gv (rt c) (rows (tk c 0 + h0 c) 64) ∗ gv (rt (rt c)) (rows (tk c 0 + h0 c) 64) ∗ ch0 c 19 ∗ cb c (rows (bk c 0 + h0 c) 64) fullShare.left (FIN V) ∗ gv (lf c) (rows (bk c 0 + h0 c) 64) ∗ gv (lf (lf c)) (rows (bk c 0 + h0 c) 64) ∗ ch1 c 16)
      ⊢ iprop((∀ (z0 : BitVec 32), (ob c (rows (bk c 0 + h0 c) 64) (OUT V) ∗ ch1 c 18 ∗ ch1 c 19 ∗ ch2 c 16 ∗ ow c 6 ∗ gv (rt c) (rows (tk c 0 + h1 c) 64) ∗ gv (rt (rt c)) (rows (tk c 0 + h1 c) 64) ∗ cb c (rows (tk c 0 + h1 c) 64) fullShare.left (FIN V) ∗ cb c (rows (tk c 0 + h1 c) 64) fullShare.right (FIN V)) -∗ Q (z0)) -∗ wpc c (k0_part33 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v42 v46 v1063 v1065 v1073 v1083 v1089 v1219 v1222) Q) := by
  rw [k0_part33_eq_skeleton]; unfold k0_part33_skel
  simp only [semSignalWord, semWaitWord, Prog.lift, Prog.bind_op, Prog.bind_ret, Prog.pure_eq_ret]
  iintro ⟨#Hc, OB0h0, ch18, ow, X12l, r12_1, r12_2, ch19, X13l, r13_1, r13_2, ch16⟩ Hk
  iapply (fill_o c (n := 64) (o14_0 c) (OUT V) hv) $$ [OB0h0]
  · iexact OB0h0
  iintro OB0h0
  iapply (snd_c V K c 18 (rt c) rfl (dv23 c) 7 rfl rfl rfl (o21_1 c) (cred64 _ _ (by decide)) fullShare.left iprop(gv (rt (rt c)) (rows (tk c 0 + h0 c) 64)) (FIN V) (BI.Entails.refl _) (land18 V c)) $$ [ch18 ow X12l r12_1 r12_2]
  · isplitr; · iexact Hc
    isplitl [ch18]; · iexact ch18
    isplitl [ow]; · iexact ow
    isplitl [X12l]; · iexact X12l
    isplitl [r12_1]; · iexact r12_1
    iexact r12_2
  iintro ⟨ch18, ow⟩
  iapply (snd_c V K c 19 (lf c) rfl (dv24 c) 6 rfl rfl rfl (o22_1 c) (cred64 _ _ (by decide)) fullShare.left iprop(gv (lf (lf c)) (rows (bk c 0 + h0 c) 64)) (FIN V) (BI.Entails.refl _) (land19 V c)) $$ [ch19 ow X13l r13_1 r13_2]
  · isplitr; · iexact Hc
    isplitl [ch19]; · iexact ch19
    isplitl [ow]; · iexact ow
    isplitl [X13l]; · iexact X13l
    isplitl [r13_1]; · iexact r13_1
    iexact r13_2
  iintro ⟨ch19, ow⟩
  iapply (step_recv V K c 16 6 (by decide) rfl (cred64 _ _ (by decide))) $$ [ch16 ow]
  · isplitr; · iexact Hc
    isplitl [ch16]; · iexact ch16
    iexact ow
  iintro ⟨ch16, ow, r16_0⟩
  ihave r16_0 := (Entails.of_eq (show payR V c 16 = iprop(cb c (rows (tk c 0 + h1 c) 64) fullShare (FIN V) ∗ gv (rt c) (rows (tk c 0 + h1 c) 64) ∗ gv (rt (rt c)) (rows (tk c 0 + h1 c) 64)) from rfl)) $$ r16_0
  icases r16_0 with ⟨r16_0, r16_1, r16_2⟩
  ihave r16_0 := ((cb_share c fullShare (FIN V) _).1) $$ r16_0
  icases r16_0 with ⟨X16l, X16r⟩
  iapply fin_step
  iapply Hk
  isplitl [OB0h0]; · iexact OB0h0
  isplitl [ch18]; · iexact ch18
  isplitl [ch19]; · iexact ch19
  isplitl [ch16]; · iexact ch16
  isplitl [ow]; · iexact ow
  isplitl [r16_1]; · iexact r16_1
  isplitl [r16_2]; · iexact r16_2
  isplitl [X16l]; · iexact X16l
  iexact X16r

/-- Part 34 of the body. -/
theorem part34 (c : Dev nD)  {v42 : BitVec 32} {v46 : BitVec 32} {v1065 : BitVec 32} {v1073 : BitVec 32} {v1083 : BitVec 32} {v1097 : BitVec 32} {v1253 : BitVec 32} {O0 : S1024x1024.Idx → Elt F .f32}
    {Q : (Σ' (v1286 : BitVec 32), BitVec 32) → sProp 𝕄} :
    iprop(ctx V K ∗ cb c (rows (tk c 0 + h1 c) 64) fullShare.right (FIN V) ∗ ob c (rows (tk c 0 + h1 c) 64) O0 ∗ ch1 c 17 ∗ ow c 6 ∗ ob c (rows (bk c 0 + h1 c) 64) O0 ∗ ch0 c 20 ∗ cb c (rows (tk c 0 + h1 c) 64) fullShare.left (FIN V) ∗ gv (rt c) (rows (tk c 0 + h1 c) 64) ∗ gv (rt (rt c)) (rows (tk c 0 + h1 c) 64))
      ⊢ iprop((∀ (z0 : BitVec 32) (z1 : BitVec 32), (cb c (rows (tk c 0 + h1 c) 64) fullShare.right (FIN V) ∗ ob c (rows (tk c 0 + h1 c) 64) (OUT V) ∗ ch2 c 17 ∗ gv (lf c) (rows (bk c 0 + h1 c) 64) ∗ gv (lf (lf c)) (rows (bk c 0 + h1 c) 64) ∗ cb c (rows (bk c 0 + h1 c) 64) fullShare.left (FIN V) ∗ cb c (rows (bk c 0 + h1 c) 64) fullShare.right (FIN V) ∗ ob c (rows (bk c 0 + h1 c) 64) (OUT V) ∗ ch1 c 20 ∗ ow c 5) -∗ Q ⟨z0, z1⟩) -∗ wpc c (k0_part34 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v42 v46 v1065 v1073 v1083 v1097 v1253) Q) := by
  rw [k0_part34_eq_skeleton]; unfold k0_part34_skel
  simp only [semSignalWord, semWaitWord, Prog.lift, Prog.bind_op, Prog.bind_ret, Prog.pure_eq_ret]
  iintro ⟨#Hc, X16r, OT0h1, ch17, ow, OB0h1, ch20, X16l, r16_1, r16_2⟩ Hk
  iapply (copy_o V c (o30_0 c) (fun v x => rfl)) $$ [X16r OT0h1]
  · isplitl [X16r]; · iexact X16r
    iexact OT0h1
  iintro ⟨X16r, OT0h1⟩
  iapply (step_recv V K c 17 6 (by decide) rfl (cred64 _ _ (by decide))) $$ [ch17 ow]
  · isplitr; · iexact Hc
    isplitl [ch17]; · iexact ch17
    iexact ow
  iintro ⟨ch17, ow, r17_0⟩
  ihave r17_0 := (Entails.of_eq (show payR V c 17 = iprop(cb c (rows (bk c 0 + h1 c) 64) fullShare (FIN V) ∗ gv (lf c) (rows (bk c 0 + h1 c) 64) ∗ gv (lf (lf c)) (rows (bk c 0 + h1 c) 64)) from rfl)) $$ r17_0
  icases r17_0 with ⟨r17_0, r17_1, r17_2⟩
  ihave r17_0 := ((cb_share c fullShare (FIN V) _).1) $$ r17_0
  icases r17_0 with ⟨X17l, X17r⟩
  iapply (copy_o V c (o28_0 c) (fun v x => rfl)) $$ [X17r OB0h1]
  · isplitl [X17r]; · iexact X17r
    iexact OB0h1
  iintro ⟨X17r, OB0h1⟩
  iapply (snd_c V K c 20 (rt c) rfl (dv25 c) 5 rfl rfl rfl (o25_1 c) (cred64 _ _ (by decide)) fullShare.left iprop(gv (rt (rt c)) (rows (tk c 0 + h1 c) 64)) (FIN V) (BI.Entails.refl _) (land20 V c)) $$ [ch20 ow X16l r16_1 r16_2]
  · isplitr; · iexact Hc
    isplitl [ch20]; · iexact ch20
    isplitl [ow]; · iexact ow
    isplitl [X16l]; · iexact X16l
    isplitl [r16_1]; · iexact r16_1
    iexact r16_2
  iintro ⟨ch20, ow⟩
  iapply fin_step
  iapply Hk
  isplitl [X16r]; · iexact X16r
  isplitl [OT0h1]; · iexact OT0h1
  isplitl [ch17]; · iexact ch17
  isplitl [r17_1]; · iexact r17_1
  isplitl [r17_2]; · iexact r17_2
  isplitl [X17l]; · iexact X17l
  isplitl [X17r]; · iexact X17r
  isplitl [OB0h1]; · iexact OB0h1
  isplitl [ch20]; · iexact ch20
  iexact ow

/-- Part 35 of the body. -/
theorem part35 (c : Dev nD)  {v42 : BitVec 32} {v46 : BitVec 32} {v1063 : BitVec 32} {v1092 : BitVec 32} {v1099 : BitVec 32} {v1286 : BitVec 32} {c0_i32_660 : BitVec 32} {O0 : S1024x1024.Idx → Elt F .f32}
    {Q : (PUnit) → sProp 𝕄} :
    iprop(ctx V K ∗ ch0 c 21 ∗ ow c 5 ∗ cb c (rows (bk c 0 + h1 c) 64) fullShare.left (FIN V) ∗ gv (lf c) (rows (bk c 0 + h1 c) 64) ∗ gv (lf (lf c)) (rows (bk c 0 + h1 c) 64) ∗ ch1 c 18 ∗ ob c (rows (tk c 3 + h0 c) 64) O0 ∗ ch1 c 19 ∗ ob c (rows (bk c 1 + h0 c) 64) O0)
      ⊢ iprop(((ch1 c 21 ∗ ch2 c 18 ∗ gv (rt c) (rows (tk c 3 + h0 c) 64) ∗ cb c (rows (tk c 3 + h0 c) 64) fullShare.left (FIN V) ∗ cb c (rows (tk c 3 + h0 c) 64) fullShare.right (FIN V) ∗ ob c (rows (tk c 3 + h0 c) 64) (OUT V) ∗ ch2 c 19 ∗ ow c 4 ∗ gv (lf c) (rows (bk c 1 + h0 c) 64) ∗ cb c (rows (bk c 1 + h0 c) 64) fullShare.left (FIN V) ∗ cb c (rows (bk c 1 + h0 c) 64) fullShare.right (FIN V) ∗ ob c (rows (bk c 1 + h0 c) 64) (OUT V)) -∗ Q ⟨⟩) -∗ wpc c (k0_part35 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v42 v46 v1063 v1092 v1099 v1286 c0_i32_660) Q) := by
  rw [k0_part35_eq_skeleton]; unfold k0_part35_skel
  simp only [semSignalWord, semWaitWord, Prog.lift, Prog.bind_op, Prog.bind_ret, Prog.pure_eq_ret]
  iintro ⟨#Hc, ch21, ow, X17l, r17_1, r17_2, ch18, OT3h0, ch19, OB1h0⟩ Hk
  iapply (snd_c V K c 21 (lf c) rfl (dv26 c) 4 rfl rfl rfl (o26_1 c) (cred64 _ _ (by decide)) fullShare.left iprop(gv (lf (lf c)) (rows (bk c 0 + h1 c) 64)) (FIN V) (BI.Entails.refl _) (land21 V c)) $$ [ch21 ow X17l r17_1 r17_2]
  · isplitr; · iexact Hc
    isplitl [ch21]; · iexact ch21
    isplitl [ow]; · iexact ow
    isplitl [X17l]; · iexact X17l
    isplitl [r17_1]; · iexact r17_1
    iexact r17_2
  iintro ⟨ch21, ow⟩
  iapply (step_recv V K c 18 4 (by decide) rfl (cred64 _ _ (by decide))) $$ [ch18 ow]
  · isplitr; · iexact Hc
    isplitl [ch18]; · iexact ch18
    iexact ow
  iintro ⟨ch18, ow, r18_0⟩
  ihave r18_0 := (Entails.of_eq (show payR V c 18 = iprop(cb c (rows (tk c 3 + h0 c) 64) fullShare (FIN V) ∗ gv (rt c) (rows (tk c 3 + h0 c) 64)) from rfl)) $$ r18_0
  icases r18_0 with ⟨r18_0, r18_1⟩
  ihave r18_0 := ((cb_share c fullShare (FIN V) _).1) $$ r18_0
  icases r18_0 with ⟨X18l, X18r⟩
  iapply (copy_o V c (o29_1 c) (fun v x => rfl)) $$ [X18r OT3h0]
  · isplitl [X18r]; · iexact X18r
    iexact OT3h0
  iintro ⟨X18r, OT3h0⟩
  iapply (step_recv V K c 19 4 (by decide) rfl (cred64 _ _ (by decide))) $$ [ch19 ow]
  · isplitr; · iexact Hc
    isplitl [ch19]; · iexact ch19
    iexact ow
  iintro ⟨ch19, ow, r19_0⟩
  ihave r19_0 := (Entails.of_eq (show payR V c 19 = iprop(cb c (rows (bk c 1 + h0 c) 64) fullShare (FIN V) ∗ gv (lf c) (rows (bk c 1 + h0 c) 64)) from rfl)) $$ r19_0
  icases r19_0 with ⟨r19_0, r19_1⟩
  ihave r19_0 := ((cb_share c fullShare (FIN V) _).1) $$ r19_0
  icases r19_0 with ⟨X19l, X19r⟩
  iapply (copy_o V c (o14_1 c) (fun v x => rfl)) $$ [X19r OB1h0]
  · isplitl [X19r]; · iexact X19r
    iexact OB1h0
  iintro ⟨X19r, OB1h0⟩
  iapply fin_step
  iapply Hk
  isplitl [ch21]; · iexact ch21
  isplitl [ch18]; · iexact ch18
  isplitl [r18_1]; · iexact r18_1
  isplitl [X18l]; · iexact X18l
  isplitl [X18r]; · iexact X18r
  isplitl [OT3h0]; · iexact OT3h0
  isplitl [ch19]; · iexact ch19
  isplitl [ow]; · iexact ow
  isplitl [r19_1]; · iexact r19_1
  isplitl [X19l]; · iexact X19l
  isplitl [X19r]; · iexact X19r
  iexact OB1h0

/-- Part 36 of the body. -/
theorem part36 (c : Dev nD)  {v42 : BitVec 32} {v46 : BitVec 32} {v1063 : BitVec 32} {v1065 : BitVec 32} {v1077 : BitVec 32} {v1086 : BitVec 32} {v1092 : BitVec 32}
    {Q : (FVec F S64x1024 .f32) → sProp 𝕄} :
    iprop(ctx V K ∗ ch0 c 22 ∗ ow c 4 ∗ cb c (rows (tk c 3 + h0 c) 64) fullShare.left (FIN V) ∗ gv (rt c) (rows (tk c 3 + h0 c) 64) ∗ ch0 c 23 ∗ cb c (rows (bk c 1 + h0 c) 64) fullShare.left (FIN V) ∗ gv (lf c) (rows (bk c 1 + h0 c) 64) ∗ ch1 c 20)
      ⊢ iprop((∀ (v1352 : FVec F S64x1024 .f32), (⌜∀ (x : S64x1024.Idx) i, At (tk c 3 + h1 c) x i → v1352 x = OUT V i⌝ ∗ ch1 c 22 ∗ ch1 c 23 ∗ ch2 c 20 ∗ ow c 2 ∗ gv (rt c) (rows (tk c 3 + h1 c) 64) ∗ cb c (rows (tk c 3 + h1 c) 64) fullShare.left (FIN V) ∗ cb c (rows (tk c 3 + h1 c) 64) fullShare.right (FIN V)) -∗ Q (v1352)) -∗ wpc c (k0_part36 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v42 v46 v1063 v1065 v1077 v1086 v1092) Q) := by
  rw [k0_part36_eq_skeleton]; unfold k0_part36_skel
  simp only [semSignalWord, semWaitWord, Prog.lift, Prog.bind_op, Prog.bind_ret, Prog.pure_eq_ret]
  iintro ⟨#Hc, ch22, ow, X18l, r18_1, ch23, X19l, r19_1, ch20⟩ Hk
  iapply (snd_c V K c 22 (rt c) rfl (dv27 c) 3 rfl rfl rfl (o21_2 c) (cred64 _ _ (by decide)) fullShare.left iprop(emp) (FIN V) (BI.Entails.refl _) (land22 V c)) $$ [ch22 ow X18l r18_1]
  · isplitr; · iexact Hc
    isplitl [ch22]; · iexact ch22
    isplitl [ow]; · iexact ow
    isplitl [X18l]; · iexact X18l
    isplitl [r18_1]; · iexact r18_1
    iempintro
  iintro ⟨ch22, ow⟩
  iapply (snd_c V K c 23 (lf c) rfl (dv28 c) 2 rfl rfl rfl (o22_2 c) (cred64 _ _ (by decide)) fullShare.left iprop(emp) (FIN V) (BI.Entails.refl _) (land23 V c)) $$ [ch23 ow X19l r19_1]
  · isplitr; · iexact Hc
    isplitl [ch23]; · iexact ch23
    isplitl [ow]; · iexact ow
    isplitl [X19l]; · iexact X19l
    isplitl [r19_1]; · iexact r19_1
    iempintro
  iintro ⟨ch23, ow⟩
  iapply (step_recv V K c 20 2 (by decide) rfl (cred64 _ _ (by decide))) $$ [ch20 ow]
  · isplitr; · iexact Hc
    isplitl [ch20]; · iexact ch20
    iexact ow
  iintro ⟨ch20, ow, r20_0⟩
  ihave r20_0 := (Entails.of_eq (show payR V c 20 = iprop(cb c (rows (tk c 3 + h1 c) 64) fullShare (FIN V) ∗ gv (rt c) (rows (tk c 3 + h1 c) 64)) from rfl)) $$ r20_0
  icases r20_0 with ⟨r20_0, r20_1⟩
  ihave r20_0 := ((cb_share c fullShare (FIN V) _).1) $$ r20_0
  icases r20_0 with ⟨X20l, X20r⟩
  iapply (ld_c c (n := 64) (o30_1 c)) $$ [X20r]
  · iexact X20r
  iintro X20r %v1351 %hv
  iapply fin_step
  iapply Hk
  isplitr; · ipureintro; intro x i h; exact congrArg (FloatOps.extf (φ := .bf16) .f32 bitsLt_bf16_f32) (hv x i h)
  isplitl [ch22]; · iexact ch22
  isplitl [ch23]; · iexact ch23
  isplitl [ch20]; · iexact ch20
  isplitl [ow]; · iexact ow
  isplitl [r20_1]; · iexact r20_1
  isplitl [X20l]; · iexact X20l
  iexact X20r

/-- Part 37 of the body. -/
theorem part37 (c : Dev nD)  {v42 : BitVec 32} {v46 : BitVec 32} {v1065 : BitVec 32} {v1077 : BitVec 32} {v1086 : BitVec 32} {v1099 : BitVec 32} {v1352 : FVec F S64x1024 .f32} {O0 : S1024x1024.Idx → Elt F .f32} (hv : ∀ (x : S64x1024.Idx) i, At (tk c 3 + h1 c) x i → v1352 x = OUT V i)
    {Q : (PUnit) → sProp 𝕄} :
    iprop(ctx V K ∗ ob c (rows (tk c 3 + h1 c) 64) O0 ∗ ch1 c 21 ∗ ow c 2 ∗ ob c (rows (bk c 1 + h1 c) 64) O0 ∗ ch0 c 24 ∗ cb c (rows (tk c 3 + h1 c) 64) fullShare.left (FIN V) ∗ gv (rt c) (rows (tk c 3 + h1 c) 64))
      ⊢ iprop(((ob c (rows (tk c 3 + h1 c) 64) (OUT V) ∗ ch2 c 21 ∗ gv (lf c) (rows (bk c 1 + h1 c) 64) ∗ cb c (rows (bk c 1 + h1 c) 64) fullShare.left (FIN V) ∗ cb c (rows (bk c 1 + h1 c) 64) fullShare.right (FIN V) ∗ ob c (rows (bk c 1 + h1 c) 64) (OUT V) ∗ ch1 c 24 ∗ ow c 1) -∗ Q ⟨⟩) -∗ wpc c (k0_part37 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v42 v46 v1065 v1077 v1086 v1099 v1352) Q) := by
  rw [k0_part37_eq_skeleton]; unfold k0_part37_skel
  simp only [semSignalWord, semWaitWord, Prog.lift, Prog.bind_op, Prog.bind_ret, Prog.pure_eq_ret]
  iintro ⟨#Hc, OT3h1, ch21, ow, OB1h1, ch24, X20l, r20_1⟩ Hk
  iapply (fill_o c (n := 64) (o30_1 c) (OUT V) hv) $$ [OT3h1]
  · iexact OT3h1
  iintro OT3h1
  iapply (step_recv V K c 21 2 (by decide) rfl (cred64 _ _ (by decide))) $$ [ch21 ow]
  · isplitr; · iexact Hc
    isplitl [ch21]; · iexact ch21
    iexact ow
  iintro ⟨ch21, ow, r21_0⟩
  ihave r21_0 := (Entails.of_eq (show payR V c 21 = iprop(cb c (rows (bk c 1 + h1 c) 64) fullShare (FIN V) ∗ gv (lf c) (rows (bk c 1 + h1 c) 64)) from rfl)) $$ r21_0
  icases r21_0 with ⟨r21_0, r21_1⟩
  ihave r21_0 := ((cb_share c fullShare (FIN V) _).1) $$ r21_0
  icases r21_0 with ⟨X21l, X21r⟩
  iapply (copy_o V c (o28_1 c) (fun v x => rfl)) $$ [X21r OB1h1]
  · isplitl [X21r]; · iexact X21r
    iexact OB1h1
  iintro ⟨X21r, OB1h1⟩
  iapply (snd_c V K c 24 (rt c) rfl (dv29 c) 1 rfl rfl rfl (o25_2 c) (cred64 _ _ (by decide)) fullShare.left iprop(emp) (FIN V) (BI.Entails.refl _) (land24 V c)) $$ [ch24 ow X20l r20_1]
  · isplitr; · iexact Hc
    isplitl [ch24]; · iexact ch24
    isplitl [ow]; · iexact ow
    isplitl [X20l]; · iexact X20l
    isplitl [r20_1]; · iexact r20_1
    iempintro
  iintro ⟨ch24, ow⟩
  iapply fin_step
  iapply Hk
  isplitl [OT3h1]; · iexact OT3h1
  isplitl [ch21]; · iexact ch21
  isplitl [r21_1]; · iexact r21_1
  isplitl [X21l]; · iexact X21l
  isplitl [X21r]; · iexact X21r
  isplitl [OB1h1]; · iexact OB1h1
  isplitl [ch24]; · iexact ch24
  iexact ow

/-- Part 38 of the body. -/
theorem part38 (c : Dev nD)  {v42 : BitVec 32} {v46 : BitVec 32} {v1063 : BitVec 32} {v1095 : BitVec 32} {v1101 : BitVec 32} {O0 : S1024x1024.Idx → Elt F .f32}
    {Q : (BitVec 32) → sProp 𝕄} :
    iprop(ctx V K ∗ ch0 c 25 ∗ ow c 1 ∗ cb c (rows (bk c 1 + h1 c) 64) fullShare.left (FIN V) ∗ gv (lf c) (rows (bk c 1 + h1 c) 64) ∗ ch1 c 22 ∗ ob c (rows (tk c 2 + h0 c) 64) O0 ∗ ch1 c 23 ∗ ob c (rows (bk c 2 + h0 c) 64) O0)
      ⊢ iprop((∀ (z0 : BitVec 32), (ch1 c 25 ∗ ch2 c 22 ∗ cb c (rows (tk c 2 + h0 c) 64) fullShare (FIN V) ∗ ob c (rows (tk c 2 + h0 c) 64) (OUT V) ∗ ch2 c 23 ∗ ow c 0 ∗ cb c (rows (bk c 2 + h0 c) 64) fullShare (FIN V) ∗ ob c (rows (bk c 2 + h0 c) 64) (OUT V)) -∗ Q (z0)) -∗ wpc c (k0_part38 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v42 v46 v1063 v1095 v1101) Q) := by
  rw [k0_part38_eq_skeleton]; unfold k0_part38_skel
  simp only [semSignalWord, semWaitWord, Prog.lift, Prog.bind_op, Prog.bind_ret, Prog.pure_eq_ret]
  iintro ⟨#Hc, ch25, ow, X21l, r21_1, ch22, OT2h0, ch23, OB2h0⟩ Hk
  iapply (snd_c V K c 25 (lf c) rfl (dv30 c) 0 rfl rfl rfl (o26_2 c) (cred64 _ _ (by decide)) fullShare.left iprop(emp) (FIN V) (BI.Entails.refl _) (land25 V c)) $$ [ch25 ow X21l r21_1]
  · isplitr; · iexact Hc
    isplitl [ch25]; · iexact ch25
    isplitl [ow]; · iexact ow
    isplitl [X21l]; · iexact X21l
    isplitl [r21_1]; · iexact r21_1
    iempintro
  iintro ⟨ch25, ow⟩
  iapply (step_recv V K c 22 0 (by decide) rfl (cred64 _ _ (by decide))) $$ [ch22 ow]
  · isplitr; · iexact Hc
    isplitl [ch22]; · iexact ch22
    iexact ow
  iintro ⟨ch22, ow, r22_0⟩
  ihave r22_0 := (Entails.of_eq (show payR V c 22 = iprop(cb c (rows (tk c 2 + h0 c) 64) fullShare (FIN V)) from rfl)) $$ r22_0
  iapply (copy_o V c (o29_2 c) (fun v x => rfl)) $$ [r22_0 OT2h0]
  · isplitl [r22_0]; · iexact r22_0
    iexact OT2h0
  iintro ⟨r22_0, OT2h0⟩
  iapply (step_recv V K c 23 0 (by decide) rfl (cred64 _ _ (by decide))) $$ [ch23 ow]
  · isplitr; · iexact Hc
    isplitl [ch23]; · iexact ch23
    iexact ow
  iintro ⟨ch23, ow, r23_0⟩
  ihave r23_0 := (Entails.of_eq (show payR V c 23 = iprop(cb c (rows (bk c 2 + h0 c) 64) fullShare (FIN V)) from rfl)) $$ r23_0
  iapply (copy_o V c (o14_2 c) (fun v x => rfl)) $$ [r23_0 OB2h0]
  · isplitl [r23_0]; · iexact r23_0
    iexact OB2h0
  iintro ⟨r23_0, OB2h0⟩
  iapply fin_step
  iapply Hk
  isplitl [ch25]; · iexact ch25
  isplitl [ch22]; · iexact ch22
  isplitl [r22_0]; · iexact r22_0
  isplitl [OT2h0]; · iexact OT2h0
  isplitl [ch23]; · iexact ch23
  isplitl [ow]; · iexact ow
  isplitl [r23_0]; · iexact r23_0
  iexact OB2h0

/-- Part 39 of the body. -/
theorem part39 (c : Dev nD)  {v46 : BitVec 32} {v1065 : BitVec 32} {v1095 : BitVec 32} {v1101 : BitVec 32} {v1417 : BitVec 32} {O0 : S1024x1024.Idx → Elt F .f32}
    {Q : (PUnit) → sProp 𝕄} :
    iprop(ctx V K ∗ ch1 c 24 ∗ ow c 0 ∗ ob c (rows (tk c 2 + h1 c) 64) O0 ∗ ch1 c 25 ∗ ob c (rows (bk c 2 + h1 c) 64) O0 ∗ ch2 c 0)
      ⊢ iprop(((ch2 c 24 ∗ cb c (rows (tk c 2 + h1 c) 64) fullShare (FIN V) ∗ ob c (rows (tk c 2 + h1 c) 64) (OUT V) ∗ ch2 c 25 ∗ cb c (rows (bk c 2 + h1 c) 64) fullShare (FIN V) ∗ ob c (rows (bk c 2 + h1 c) 64) (OUT V) ∗ ch3 c 0 ∗ ow c 0) -∗ Q ⟨⟩) -∗ wpc c (k0_part39 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c v46 v1065 v1095 v1101 v1417) Q) := by
  rw [k0_part39_eq_skeleton]; unfold k0_part39_skel
  simp only [semSignalWord, semWaitWord, Prog.lift, Prog.bind_op, Prog.bind_ret, Prog.pure_eq_ret]
  iintro ⟨#Hc, ch24, ow, OT2h1, ch25, OB2h1, ch0⟩ Hk
  iapply (step_recv V K c 24 0 (by decide) rfl (cred64 _ _ (by decide))) $$ [ch24 ow]
  · isplitr; · iexact Hc
    isplitl [ch24]; · iexact ch24
    iexact ow
  iintro ⟨ch24, ow, r24_0⟩
  ihave r24_0 := (Entails.of_eq (show payR V c 24 = iprop(cb c (rows (tk c 2 + h1 c) 64) fullShare (FIN V)) from rfl)) $$ r24_0
  iapply (copy_o V c (o30_2 c) (fun v x => rfl)) $$ [r24_0 OT2h1]
  · isplitl [r24_0]; · iexact r24_0
    iexact OT2h1
  iintro ⟨r24_0, OT2h1⟩
  iapply (step_recv V K c 25 0 (by decide) rfl (cred64 _ _ (by decide))) $$ [ch25 ow]
  · isplitr; · iexact Hc
    isplitl [ch25]; · iexact ch25
    iexact ow
  iintro ⟨ch25, ow, r25_0⟩
  ihave r25_0 := (Entails.of_eq (show payR V c 25 = iprop(cb c (rows (bk c 2 + h1 c) 64) fullShare (FIN V)) from rfl)) $$ r25_0
  iapply (copy_o V c (o28_2 c) (fun v x => rfl)) $$ [r25_0 OB2h1]
  · isplitl [r25_0]; · iexact r25_0
    iexact OB2h1
  iintro ⟨r25_0, OB2h1⟩
  iapply (step_swait V K c 0 rfl (cred128 _ _ (by decide))) $$ [ch0 ow]
  · isplitr; · iexact Hc
    isplitl [ch0]; · iexact ch0
    iexact ow
  iintro ⟨ch0, ow, s0⟩
  iclear s0
  iapply fin_step
  iapply Hk
  isplitl [ch24]; · iexact ch24
  isplitl [r24_0]; · iexact r24_0
  isplitl [OT2h1]; · iexact OT2h1
  isplitl [ch25]; · iexact ch25
  isplitl [r25_0]; · iexact r25_0
  isplitl [OB2h1]; · iexact OB2h1
  isplitl [ch0]; · iexact ch0
  iexact ow

/-- Part 40 of the body. -/
theorem part40 (c : Dev nD)
    {Q : (PUnit) → sProp 𝕄} :
    iprop(ctx V K ∗ ch2 c 1 ∗ ow c 0 ∗ ch2 c 2 ∗ ch2 c 3 ∗ ch2 c 4)
      ⊢ iprop(((ch3 c 1 ∗ ch3 c 2 ∗ ch3 c 3 ∗ ch3 c 4 ∗ ow c 0) -∗ Q ⟨⟩) -∗ wpc c (k0_part40 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c) Q) := by
  rw [k0_part40_eq_skeleton]; unfold k0_part40_skel
  simp only [semSignalWord, semWaitWord, Prog.lift, Prog.bind_op, Prog.bind_ret, Prog.pure_eq_ret]
  iintro ⟨#Hc, ch1, ow, ch2, ch3, ch4⟩ Hk
  iapply (step_swait V K c 1 rfl (cred128 _ _ (by decide))) $$ [ch1 ow]
  · isplitr; · iexact Hc
    isplitl [ch1]; · iexact ch1
    iexact ow
  iintro ⟨ch1, ow, s1⟩
  iclear s1
  iapply (step_swait V K c 2 rfl (cred128 _ _ (by decide))) $$ [ch2 ow]
  · isplitr; · iexact Hc
    isplitl [ch2]; · iexact ch2
    iexact ow
  iintro ⟨ch2, ow, s2⟩
  iclear s2
  iapply (step_swait V K c 3 rfl (cred128 _ _ (by decide))) $$ [ch3 ow]
  · isplitr; · iexact Hc
    isplitl [ch3]; · iexact ch3
    iexact ow
  iintro ⟨ch3, ow, s3⟩
  iclear s3
  iapply (step_swait V K c 4 rfl (cred128 _ _ (by decide))) $$ [ch4 ow]
  · isplitr; · iexact Hc
    isplitl [ch4]; · iexact ch4
    iexact ow
  iintro ⟨ch4, ow, s4⟩
  iclear s4
  iapply fin_step
  iapply Hk
  isplitl [ch1]; · iexact ch1
  isplitl [ch2]; · iexact ch2
  isplitl [ch3]; · iexact ch3
  isplitl [ch4]; · iexact ch4
  iexact ow

/-- Part 41 of the body. -/
theorem part41 (c : Dev nD)
    {Q : (PUnit) → sProp 𝕄} :
    iprop(ctx V K ∗ ch2 c 5 ∗ ow c 0 ∗ ch2 c 6 ∗ ch2 c 7 ∗ ch2 c 8 ∗ ch2 c 9)
      ⊢ iprop(((ch3 c 5 ∗ ch3 c 6 ∗ ch3 c 7 ∗ ch3 c 8 ∗ ch3 c 9 ∗ ow c 0) -∗ Q ⟨⟩) -∗ wpc c (k0_part41 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c) Q) := by
  rw [k0_part41_eq_skeleton]; unfold k0_part41_skel
  simp only [semSignalWord, semWaitWord, Prog.lift, Prog.bind_op, Prog.bind_ret, Prog.pure_eq_ret]
  iintro ⟨#Hc, ch5, ow, ch6, ch7, ch8, ch9⟩ Hk
  iapply (step_swait V K c 5 rfl (cred128 _ _ (by decide))) $$ [ch5 ow]
  · isplitr; · iexact Hc
    isplitl [ch5]; · iexact ch5
    iexact ow
  iintro ⟨ch5, ow, s5⟩
  iclear s5
  iapply (step_swait V K c 6 rfl (cred64 _ _ (by decide))) $$ [ch6 ow]
  · isplitr; · iexact Hc
    isplitl [ch6]; · iexact ch6
    iexact ow
  iintro ⟨ch6, ow, s6⟩
  iclear s6
  iapply (step_swait V K c 7 rfl (cred64 _ _ (by decide))) $$ [ch7 ow]
  · isplitr; · iexact Hc
    isplitl [ch7]; · iexact ch7
    iexact ow
  iintro ⟨ch7, ow, s7⟩
  iclear s7
  iapply (step_swait V K c 8 rfl (cred32 _ _ (by decide))) $$ [ch8 ow]
  · isplitr; · iexact Hc
    isplitl [ch8]; · iexact ch8
    iexact ow
  iintro ⟨ch8, ow, s8⟩
  iclear s8
  iapply (step_swait V K c 9 rfl (cred32 _ _ (by decide))) $$ [ch9 ow]
  · isplitr; · iexact Hc
    isplitl [ch9]; · iexact ch9
    iexact ow
  iintro ⟨ch9, ow, s9⟩
  iclear s9
  iapply fin_step
  iapply Hk
  isplitl [ch5]; · iexact ch5
  isplitl [ch6]; · iexact ch6
  isplitl [ch7]; · iexact ch7
  isplitl [ch8]; · iexact ch8
  isplitl [ch9]; · iexact ch9
  iexact ow

/-- Part 42 of the body. -/
theorem part42 (c : Dev nD)
    {Q : (PUnit) → sProp 𝕄} :
    iprop(ctx V K ∗ ch2 c 10 ∗ ow c 0 ∗ ch2 c 11 ∗ ch2 c 12 ∗ ch2 c 13 ∗ ch2 c 14 ∗ ch2 c 15)
      ⊢ iprop(((ch3 c 10 ∗ cb c (rows (tk c 1 + qk c) 32) fullShare.left (FIN V) ∗ ch3 c 11 ∗ cb c (rows (bk c 3 + qk c) 32) fullShare.left (FIN V) ∗ ch3 c 12 ∗ cb c (rows (tk c 1 + h0 c) 64) fullShare.right.left (FIN V) ∗ ch3 c 13 ∗ cb c (rows (bk c 3 + h0 c) 64) fullShare.right.left (FIN V) ∗ ch3 c 14 ∗ cb c (rows (tk c 1 + h0 c) 64) fullShare.right.right.left (FIN V) ∗ ch3 c 15 ∗ ow c 0 ∗ cb c (rows (bk c 3 + h0 c) 64) fullShare.right.right.left (FIN V)) -∗ Q ⟨⟩) -∗ wpc c (k0_part42 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c) Q) := by
  rw [k0_part42_eq_skeleton]; unfold k0_part42_skel
  simp only [semSignalWord, semWaitWord, Prog.lift, Prog.bind_op, Prog.bind_ret, Prog.pure_eq_ret]
  iintro ⟨#Hc, ch10, ow, ch11, ch12, ch13, ch14, ch15⟩ Hk
  iapply (step_swait V K c 10 rfl (cred32 _ _ (by decide))) $$ [ch10 ow]
  · isplitr; · iexact Hc
    isplitl [ch10]; · iexact ch10
    iexact ow
  iintro ⟨ch10, ow, s10⟩
  ihave s10 := (Entails.of_eq (show payS V c 10 = cb c (rows (tk c 1 + qk c) 32) fullShare.left (FIN V) from rfl)) $$ s10
  iapply (step_swait V K c 11 rfl (cred32 _ _ (by decide))) $$ [ch11 ow]
  · isplitr; · iexact Hc
    isplitl [ch11]; · iexact ch11
    iexact ow
  iintro ⟨ch11, ow, s11⟩
  ihave s11 := (Entails.of_eq (show payS V c 11 = cb c (rows (bk c 3 + qk c) 32) fullShare.left (FIN V) from rfl)) $$ s11
  iapply (step_swait V K c 12 rfl (cred64 _ _ (by decide))) $$ [ch12 ow]
  · isplitr; · iexact Hc
    isplitl [ch12]; · iexact ch12
    iexact ow
  iintro ⟨ch12, ow, s12⟩
  ihave s12 := (Entails.of_eq (show payS V c 12 = cb c (rows (tk c 1 + h0 c) 64) fullShare.right.left (FIN V) from rfl)) $$ s12
  iapply (step_swait V K c 13 rfl (cred64 _ _ (by decide))) $$ [ch13 ow]
  · isplitr; · iexact Hc
    isplitl [ch13]; · iexact ch13
    iexact ow
  iintro ⟨ch13, ow, s13⟩
  ihave s13 := (Entails.of_eq (show payS V c 13 = cb c (rows (bk c 3 + h0 c) 64) fullShare.right.left (FIN V) from rfl)) $$ s13
  iapply (step_swait V K c 14 rfl (cred64 _ _ (by decide))) $$ [ch14 ow]
  · isplitr; · iexact Hc
    isplitl [ch14]; · iexact ch14
    iexact ow
  iintro ⟨ch14, ow, s14⟩
  ihave s14 := (Entails.of_eq (show payS V c 14 = cb c (rows (tk c 1 + h0 c) 64) fullShare.right.right.left (FIN V) from rfl)) $$ s14
  iapply (step_swait V K c 15 rfl (cred64 _ _ (by decide))) $$ [ch15 ow]
  · isplitr; · iexact Hc
    isplitl [ch15]; · iexact ch15
    iexact ow
  iintro ⟨ch15, ow, s15⟩
  ihave s15 := (Entails.of_eq (show payS V c 15 = cb c (rows (bk c 3 + h0 c) 64) fullShare.right.right.left (FIN V) from rfl)) $$ s15
  iapply fin_step
  iapply Hk
  isplitl [ch10]; · iexact ch10
  isplitl [s10]; · iexact s10
  isplitl [ch11]; · iexact ch11
  isplitl [s11]; · iexact s11
  isplitl [ch12]; · iexact ch12
  isplitl [s12]; · iexact s12
  isplitl [ch13]; · iexact ch13
  isplitl [s13]; · iexact s13
  isplitl [ch14]; · iexact ch14
  isplitl [s14]; · iexact s14
  isplitl [ch15]; · iexact ch15
  isplitl [ow]; · iexact ow
  iexact s15

/-- Part 43 of the body. -/
theorem part43 (c : Dev nD)
    {Q : (PUnit) → sProp 𝕄} :
    iprop(ctx V K ∗ ch2 c 16 ∗ ow c 0 ∗ ch2 c 17 ∗ ch2 c 18 ∗ ch2 c 19 ∗ ch2 c 20 ∗ ch2 c 21)
      ⊢ iprop(((ch3 c 16 ∗ cb c (rows (tk c 1 + h1 c) 64) fullShare.left (FIN V) ∗ ch3 c 17 ∗ cb c (rows (bk c 3 + h1 c) 64) fullShare.left (FIN V) ∗ ch3 c 18 ∗ cb c (rows (tk c 0 + h0 c) 64) fullShare.left (FIN V) ∗ ch3 c 19 ∗ cb c (rows (bk c 0 + h0 c) 64) fullShare.left (FIN V) ∗ ch3 c 20 ∗ cb c (rows (tk c 0 + h1 c) 64) fullShare.left (FIN V) ∗ ch3 c 21 ∗ ow c 0 ∗ cb c (rows (bk c 0 + h1 c) 64) fullShare.left (FIN V)) -∗ Q ⟨⟩) -∗ wpc c (k0_part43 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19 c) Q) := by
  rw [k0_part43_eq_skeleton]; unfold k0_part43_skel
  simp only [semSignalWord, semWaitWord, Prog.lift, Prog.bind_op, Prog.bind_ret, Prog.pure_eq_ret]
  iintro ⟨#Hc, ch16, ow, ch17, ch18, ch19, ch20, ch21⟩ Hk
  iapply (step_swait V K c 16 rfl (cred64 _ _ (by decide))) $$ [ch16 ow]
  · isplitr; · iexact Hc
    isplitl [ch16]; · iexact ch16
    iexact ow
  iintro ⟨ch16, ow, s16⟩
  ihave s16 := (Entails.of_eq (show payS V c 16 = cb c (rows (tk c 1 + h1 c) 64) fullShare.left (FIN V) from rfl)) $$ s16
  iapply (step_swait V K c 17 rfl (cred64 _ _ (by decide))) $$ [ch17 ow]
  · isplitr; · iexact Hc
    isplitl [ch17]; · iexact ch17
    iexact ow
  iintro ⟨ch17, ow, s17⟩
  ihave s17 := (Entails.of_eq (show payS V c 17 = cb c (rows (bk c 3 + h1 c) 64) fullShare.left (FIN V) from rfl)) $$ s17
  iapply (step_swait V K c 18 rfl (cred64 _ _ (by decide))) $$ [ch18 ow]
  · isplitr; · iexact Hc
    isplitl [ch18]; · iexact ch18
    iexact ow
  iintro ⟨ch18, ow, s18⟩
  ihave s18 := (Entails.of_eq (show payS V c 18 = cb c (rows (tk c 0 + h0 c) 64) fullShare.left (FIN V) from rfl)) $$ s18
  iapply (step_swait V K c 19 rfl (cred64 _ _ (by decide))) $$ [ch19 ow]
  · isplitr; · iexact Hc
    isplitl [ch19]; · iexact ch19
    iexact ow
  iintro ⟨ch19, ow, s19⟩
  ihave s19 := (Entails.of_eq (show payS V c 19 = cb c (rows (bk c 0 + h0 c) 64) fullShare.left (FIN V) from rfl)) $$ s19
  iapply (step_swait V K c 20 rfl (cred64 _ _ (by decide))) $$ [ch20 ow]
  · isplitr; · iexact Hc
    isplitl [ch20]; · iexact ch20
    iexact ow
  iintro ⟨ch20, ow, s20⟩
  ihave s20 := (Entails.of_eq (show payS V c 20 = cb c (rows (tk c 0 + h1 c) 64) fullShare.left (FIN V) from rfl)) $$ s20
  iapply (step_swait V K c 21 rfl (cred64 _ _ (by decide))) $$ [ch21 ow]
  · isplitr; · iexact Hc
    isplitl [ch21]; · iexact ch21
    iexact ow
  iintro ⟨ch21, ow, s21⟩
  ihave s21 := (Entails.of_eq (show payS V c 21 = cb c (rows (bk c 0 + h1 c) 64) fullShare.left (FIN V) from rfl)) $$ s21
  iapply fin_step
  iapply Hk
  isplitl [ch16]; · iexact ch16
  isplitl [s16]; · iexact s16
  isplitl [ch17]; · iexact ch17
  isplitl [s17]; · iexact s17
  isplitl [ch18]; · iexact ch18
  isplitl [s18]; · iexact s18
  isplitl [ch19]; · iexact ch19
  isplitl [s19]; · iexact s19
  isplitl [ch20]; · iexact ch20
  isplitl [s20]; · iexact s20
  isplitl [ch21]; · iexact ch21
  isplitl [ow]; · iexact ow
  iexact s21

end Cert.KernelIdeal.Pf

end
-- ==== Proof.Body.lean ====
/-
# The body of one device, from its first line to its last
-/
module

public import proofs.«01_k».proof.Proof.PartsA
public import proofs.«01_k».proof.Proof.PartsB

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (V : Vals F)

local notation "𝕄" => MT nD τ sig Unit (Elt F) ℕ UU ℕ

variable (K : Dev nD × Fin 55 → ℕ)

set_option maxHeartbeats 4000000
set_option maxRecDepth 20000

/-- The mask the body lays down: nought where a key may be read, the large number below elsewhere. -/
def maskV : Mat F :=
  let c64_i32 : BitVec 32 := 64#32
  let v62 : IVec S1024x1024 32 := (iota .tc S1024x1024 32 [0] iota_S1024x1024_d0_w32)
  let v64 : IVec S1024x1024 32 := k0_pay1
  let v67 : IVec S1024x1024 32 := k0_pay2
  let v86 : IVec S1024x1024 32 := k0_pay3 v62 c64_i32 v64 v67
  let v111 : IVec S1024x1024 32 := k0_pay4
  let v112 : IVec S1024x1024 1 := k0_pay5 v62 c64_i32 v64 v67
  let v114 : IVec S1024x1024 1 := k0_pay6
  k0_pay7 (F := F) v86 v111 v112 v114
/-- The first 256 rows worked on: their attention, as the body puts its steps together. -/
def chA (v131 v134 v139 v142 : FVec F S1024x1024 .bf16) (xb : Vec F S256x1024 .f32) (mb : Vec F S256x1024 .bf16) : FVec F S256x1024 .bf16 :=
  let v160 : FVec F S256x1024 .f32 := k0_pay12 v139 xb
  let v162 : Vec F S256x1024 .bf16 := mb
  let v178 : FVec F S256x128 .f32 := k0_pay13 v131 v134 v139 xb mb
  let v189 : FVec F S256x1 .f32 := k0_pay15 v131 v139 xb mb
  let v190 : FVec F S256x1024 .bf16 := k0_pay16 v131 v139 xb mb
  let v191 : FVec F S1024x128 .bf16 := k0_pay17 v134
  let v194 : FVec F S256x128 .f32 := k0_pay18 v189 v190 v191
  let v210 : FVec F S256x128 .f32 := k0_pay19 v131 v134 v160 v162
  let v226 : FVec F S256x128 .f32 := k0_pay20 v131 v134 v160 v162
  let v237 : FVec F S256x1 .f32 := k0_pay22 v131 v160 v162
  let v238 : FVec F S256x1024 .bf16 := k0_pay23 v131 v160 v162
  let v239 : FVec F S1024x128 .bf16 := k0_pay24 v134
  let v242 : FVec F S256x128 .f32 := k0_pay25 v237 v238 v239
  let v258 : FVec F S256x128 .f32 := k0_pay26 v131 v134 v160 v162
  let v274 : FVec F S256x128 .f32 := k0_pay27 v131 v134 v160 v162
  let v285 : FVec F S256x1 .f32 := k0_pay29 v131 v160 v162
  let v286 : FVec F S256x1024 .bf16 := k0_pay30 v131 v160 v162
  let v287 : FVec F S1024x128 .bf16 := k0_pay31 v134
  k0_pay32 v142 v178 v194 v210 v226 v242 v258 v274 v285 v286 v287

/-- The second 256 rows, before they are laid in the buffer. -/
def chB1 (v131 v134 v139 v142 : FVec F S1024x1024 .bf16) (xb : Vec F S256x1024 .f32) (mb : Vec F S256x1024 .bf16) : FVec F S256x1024 .bf16 :=
  let v327 : FVec F S256x1024 .f32 := k0_pay33 v139 xb
  let v329 : Vec F S256x1024 .bf16 := mb
  let v345 : FVec F S256x128 .f32 := k0_pay34 v131 v134 v139 xb mb
  let v361 : FVec F S256x128 .f32 := k0_pay35 v131 v134 v139 xb mb
  let v367 : FVec F S256x1024 .f32 := k0_pay36 v131 v139 xb mb
  let v377 : FVec F S256x128 .f32 := k0_pay37 v134 v367
  let v393 : FVec F S256x128 .f32 := k0_pay38 v131 v134 v327 v329
  let v409 : FVec F S256x128 .f32 := k0_pay39 v131 v134 v327 v329
  let v415 : FVec F S256x1024 .f32 := k0_pay40 v131 v327 v329
  k0_pay41 v131 v134 v142 v327 v329 v345 v361 v377 v393 v409 v415

/-- The second 256 rows. -/
def chB (v131 v134 v139 v142 : FVec F S1024x1024 .bf16) (xb : Vec F S256x1024 .f32) (mb : Vec F S256x1024 .bf16) : FVec F S256x1024 .bf16 :=
  k0_pay42 (chB1 v131 v134 v139 v142 xb mb)

/-- The third. -/
def chC (v131 v134 v139 v142 : FVec F S1024x1024 .bf16) (xb : Vec F S256x1024 .f32) (mb : Vec F S256x1024 .bf16) : FVec F S256x1024 .bf16 :=
  let v473 : FVec F S256x1024 .f32 := k0_pay43 v139 xb
  let v475 : Vec F S256x1024 .bf16 := mb
  let v491 : FVec F S256x128 .f32 := k0_pay44 v131 v134 v139 xb mb
  let v507 : FVec F S256x128 .f32 := k0_pay45 v131 v134 v139 xb mb
  let v523 : FVec F S256x128 .f32 := k0_pay46 v131 v134 v473 v475
  let v539 : FVec F S256x128 .f32 := k0_pay47 v131 v134 v473 v475
  let v555 : FVec F S256x128 .f32 := k0_pay48 v131 v134 v473 v475
  let v571 : FVec F S256x128 .f32 := k0_pay49 v131 v134 v473 v475
  let v587 : FVec F S256x128 .f32 := k0_pay50 v131 v134 v473 v475
  let v603 : FVec F S256x128 .f32 := k0_pay51 v131 v134 v473 v475
  k0_pay52 v142 v491 v507 v523 v539 v555 v571 v587 v603

/-- The fourth. -/
def chD (v131 v134 v139 v142 : FVec F S1024x1024 .bf16) (xb : Vec F S256x1024 .f32) (mb : Vec F S256x1024 .bf16) : FVec F S256x1024 .bf16 :=
  let v675 : FVec F S256x1024 .f32 := k0_pay55 v139 xb
  let v677 : Vec F S256x1024 .bf16 := mb
  let v693 : FVec F S256x128 .f32 := k0_pay56 v131 v134 v139 xb mb
  let v709 : FVec F S256x128 .f32 := k0_pay57 v131 v134 v139 xb mb
  let v711 : FVec F S256x128 .bf16 := k0_pay58 v139 xb
  let v712 : FVec F S1024x128 .bf16 := k0_pay59 v131
  let v725 : FVec F S256x128 .f32 := k0_pay60 v134 v677 v711 v712
  let v741 : FVec F S256x128 .f32 := k0_pay61 v131 v134 v675 v677
  let v757 : FVec F S256x128 .f32 := k0_pay62 v131 v134 v675 v677
  let v759 : FVec F S256x128 .bf16 := k0_pay63 v675
  let v760 : FVec F S1024x128 .bf16 := k0_pay64 v131
  let v807 : FVec F S256x1024 .bf16 := k0_pay65 v131 v134 v675 v677 v693 v709 v725 v741 v757 v759 v760
  let cst_295 : FVec F S256x1024 .f32 := (constant S256x1024 .f32 0x00000000#32)
  k0_pay66 v142 v807 cst_295

/-- What the last waits find. -/
def lastR (X Xk Xv : S1024x1024.Idx → Elt F .f32) (c : Dev nD) : sProp 𝕄 :=
  iprop(semVal (kcell c 54) 0 ∗ at_k c Xk ∗ at_v c Xv ∗ semVal (kcell c 0) 0 ∗ (((c : Thread nD τ).loc main_arg1) ↦[(wqSrc c).view.set]{fullShare} V.wq c) ∗ at_q c (wqV V c) ∗ semVal (kcell c 1) 0 ∗ (((c : Thread nD τ).loc main_arg4) ↦[(woSrc c).view.set]{fullShare} V.wo c) ∗ at_w c (woV V c) ∗ prG c 0 ∗ plG c 0 ∗ at_x c X ∗ at_m c maskV ∗ prG c 1 ∗ plG c 1 ∗ prG c 2 ∗ plG c 2 ∗ yG c 0 ∗ yG c 1 ∗ zG c 0 ∗ zG c 1 ∗ cb c (rows (tk c 1 + qs c) 32) fullShare.left (FIN V) ∗ cb c (rows (bk c 3 + qs c) 32) fullShare.left (FIN V) ∗ cb c (rows (tk c 1 + h0 c) 64) fullShare.right.right.right (FIN V) ∗ ob c (rows (tk c 1 + h0 c) 64) (OUT V) ∗ cb c (rows (bk c 3 + h0 c) 64) fullShare.right.right.right (FIN V) ∗ ob c (rows (bk c 3 + h0 c) 64) (OUT V) ∗ cb c (rows (tk c 1 + h1 c) 64) fullShare.right (FIN V) ∗ ob c (rows (tk c 1 + h1 c) 64) (OUT V) ∗ cb c (rows (bk c 3 + h1 c) 64) fullShare.right (FIN V) ∗ ob c (rows (bk c 3 + h1 c) 64) (OUT V) ∗ cb c (rows (tk c 0 + h0 c) 64) fullShare.right (FIN V) ∗ ob c (rows (tk c 0 + h0 c) 64) (OUT V) ∗ cb c (rows (bk c 0 + h0 c) 64) fullShare.right (FIN V) ∗ ob c (rows (bk c 0 + h0 c) 64) (OUT V) ∗ cb c (rows (tk c 0 + h1 c) 64) fullShare.right (FIN V) ∗ ob c (rows (tk c 0 + h1 c) 64) (OUT V) ∗ cb c (rows (bk c 0 + h1 c) 64) fullShare.right (FIN V) ∗ ob c (rows (bk c 0 + h1 c) 64) (OUT V) ∗ cb c (rows (tk c 3 + h0 c) 64) fullShare.right (FIN V) ∗ ob c (rows (tk c 3 + h0 c) 64) (OUT V) ∗ cb c (rows (bk c 1 + h0 c) 64) fullShare.right (FIN V) ∗ ob c (rows (bk c 1 + h0 c) 64) (OUT V) ∗ cb c (rows (tk c 3 + h1 c) 64) fullShare.right (FIN V) ∗ ob c (rows (tk c 3 + h1 c) 64) (OUT V) ∗ cb c (rows (bk c 1 + h1 c) 64) fullShare.right (FIN V) ∗ ob c (rows (bk c 1 + h1 c) 64) (OUT V) ∗ ch3 c 22 ∗ cb c (rows (tk c 2 + h0 c) 64) fullShare (FIN V) ∗ ob c (rows (tk c 2 + h0 c) 64) (OUT V) ∗ ch3 c 23 ∗ cb c (rows (bk c 2 + h0 c) 64) fullShare (FIN V) ∗ ob c (rows (bk c 2 + h0 c) 64) (OUT V) ∗ ch2 c 24 ∗ cb c (rows (tk c 2 + h1 c) 64) fullShare (FIN V) ∗ ob c (rows (tk c 2 + h1 c) 64) (OUT V) ∗ ch2 c 25 ∗ cb c (rows (bk c 2 + h1 c) 64) fullShare (FIN V) ∗ ob c (rows (bk c 2 + h1 c) 64) (OUT V) ∗ ch3 c 0 ∗ ch3 c 1 ∗ ch3 c 2 ∗ ch3 c 3 ∗ ch3 c 4 ∗ ch3 c 5 ∗ ch3 c 6 ∗ ch3 c 7 ∗ ch3 c 8 ∗ ch3 c 9 ∗ ch3 c 10 ∗ cb c (rows (tk c 1 + qk c) 32) fullShare.left (FIN V) ∗ ch3 c 11 ∗ cb c (rows (bk c 3 + qk c) 32) fullShare.left (FIN V) ∗ ch3 c 12 ∗ cb c (rows (tk c 1 + h0 c) 64) fullShare.right.left (FIN V) ∗ ch3 c 13 ∗ cb c (rows (bk c 3 + h0 c) 64) fullShare.right.left (FIN V) ∗ ch3 c 14 ∗ cb c (rows (tk c 1 + h0 c) 64) fullShare.right.right.left (FIN V) ∗ ch3 c 15 ∗ cb c (rows (bk c 3 + h0 c) 64) fullShare.right.right.left (FIN V) ∗ ch3 c 16 ∗ cb c (rows (tk c 1 + h1 c) 64) fullShare.left (FIN V) ∗ ch3 c 17 ∗ cb c (rows (bk c 3 + h1 c) 64) fullShare.left (FIN V) ∗ ch3 c 18 ∗ cb c (rows (tk c 0 + h0 c) 64) fullShare.left (FIN V) ∗ ch3 c 19 ∗ cb c (rows (bk c 0 + h0 c) 64) fullShare.left (FIN V) ∗ ch3 c 20 ∗ cb c (rows (tk c 0 + h1 c) 64) fullShare.left (FIN V) ∗ ch3 c 21 ∗ ow c 0 ∗ cb c (rows (bk c 0 + h1 c) 64) fullShare.left (FIN V) ∗ cb c (rows (tk c 3 + h0 c) 64) fullShare.left (FIN V) ∗ cb c (rows (bk c 1 + h0 c) 64) fullShare.left (FIN V))

/-- The body but for its last two waits. -/
theorem run44 (c : Dev nD) {X Xk Xv : S1024x1024.Idx → Elt F .f32} {A0 : Mat F} {O0 : S1024x1024.Idx → Elt F .f32}
    (hA : ∀ (x : S256x1024.Idx) i, At (tk c 0) x i → chA (k0_pay8 Xk) (k0_pay9 Xv) (k0_pay10 (wqV V c)) (k0_pay11 (woV V c)) (blk (tk c 0) X) (blk (tk c 0) maskV) x = V.P c i)
    (hB : ∀ (x : S256x1024.Idx) i, At (tk c 3) x i → chB (k0_pay8 Xk) (k0_pay9 Xv) (k0_pay10 (wqV V c)) (k0_pay11 (woV V c)) (blk (tk c 3) X) (blk (tk c 3) maskV) x = V.P c i)
    (hC : ∀ (x : S256x1024.Idx) i, At (tk c 1) x i → chC (k0_pay8 Xk) (k0_pay9 Xv) (k0_pay10 (wqV V c)) (k0_pay11 (woV V c)) (blk (tk c 1) X) (blk (tk c 1) maskV) x = V.P c i)
    (hD : ∀ (x : S256x1024.Idx) i, At (tk c 2) x i → chD (k0_pay8 Xk) (k0_pay9 Xv) (k0_pay10 (wqV V c)) (k0_pay11 (woV V c)) (blk (tk c 2) X) (blk (tk c 2) maskV) x = V.P c i)
    {Q : Dev nD → sProp 𝕄} :
    iprop(ctx V K ∗ lc0 c 0 ∗ lc0 c 1 ∗ (((c : Thread nD τ).loc main_arg1) ↦[(wqSrc c).view.set]{fullShare} V.wq c) ∗ (((c : Thread nD τ).loc main_arg4) ↦[(woSrc c).view.set]{fullShare} V.wo c) ∗ (∃ f, ((c : Thread nD τ).loc cc0_scratch0) ↦{fullShare} f) ∗ (∃ f, ((c : Thread nD τ).loc cc0_scratch1) ↦{fullShare} f) ∗ dutyTok ER (kcell (lf c) 54) 0 0 ∗ dutyTok ER (kcell (rt c) 54) 0 1 ∗ dutyTok ER (kcell (za c) 54) 0 2 ∗ dutyTok ER (kcell (zb c) 54) 0 3 ∗ cred (tallyAt (kcell c 54) () 4) ∗ atPos ER (kcell c 54) 0 ∅ 0 ∗ ow c 30 ∗ prW c ∗ plW c ∗ yW c ∗ zW c ∗ (∃ f, at_m c f) ∗ at_x c X ∗ at_k c Xk ∗ at_v c Xv ∗ cb c Finset.univ fullShare A0 ∗ ob c Finset.univ O0 ∗ (ch0 c 0 ∗ ch0 c 1 ∗ ch0 c 2 ∗ ch0 c 3 ∗ ch0 c 4 ∗ ch0 c 5 ∗ ch0 c 6 ∗ ch0 c 7 ∗ ch0 c 8 ∗ ch0 c 9 ∗ ch0 c 10 ∗ ch0 c 11 ∗ ch0 c 12 ∗ ch0 c 13 ∗ ch0 c 14 ∗ ch0 c 15 ∗ ch0 c 16 ∗ ch0 c 17 ∗ ch0 c 18 ∗ ch0 c 19 ∗ ch0 c 20 ∗ ch0 c 21 ∗ ch0 c 22 ∗ ch0 c 23 ∗ ch0 c 24 ∗ ch0 c 25))
      ⊢ iprop((lastR V X Xk Xv c -∗ Q c) -∗ wpc c (k0_part44 (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19) Q) := by
  rw [k0_part44_eq_skeleton]; unfold k0_part44_skel
  iintro ⟨#Hc, q0, w0, wqs, wos, wqd, wod, sg0, sg1, sg2, sg3, bc, bp, ow, W0, W1, W2, W3, mk, xs, ks, vs, CC, OO, CH⟩ Hk
  icases CH with ⟨ch0, ch1, ch2, ch3, ch4, ch5, ch6, ch7, ch8, ch9, ch10, ch11, ch12, ch13, ch14, ch15, ch16, ch17, ch18, ch19, ch20, ch21, ch22, ch23, ch24, ch25⟩
  ihave CC := (cb_all c fullShare A0).1 $$ CC
  icases CC with ⟨C0, C3, C1, C2⟩
  ihave OO := (ob_all c O0).1 $$ OO
  icases OO with ⟨O0, O3, O1, O2⟩
  ihave O0 := (ob_two c O0 0).1 $$ O0
  icases O0 with ⟨OT0, OB0⟩
  ihave OT0 := (ob_half c c O0 (tk c 0)).1 $$ OT0
  icases OT0 with ⟨OT0h0, OT0h1⟩
  ihave OB0 := (ob_half c c O0 (bk c 0)).1 $$ OB0
  icases OB0 with ⟨OB0h0, OB0h1⟩
  ihave O1 := (ob_two c O0 1).1 $$ O1
  icases O1 with ⟨OT1, OB1⟩
  ihave OT1 := (ob_half c c O0 (tk c 1)).1 $$ OT1
  icases OT1 with ⟨OT1h0, OT1h1⟩
  ihave OB1 := (ob_half c c O0 (bk c 1)).1 $$ OB1
  icases OB1 with ⟨OB1h0, OB1h1⟩
  ihave O2 := (ob_two c O0 2).1 $$ O2
  icases O2 with ⟨OT2, OB2⟩
  ihave OT2 := (ob_half c c O0 (tk c 2)).1 $$ OT2
  icases OT2 with ⟨OT2h0, OT2h1⟩
  ihave OB2 := (ob_half c c O0 (bk c 2)).1 $$ OB2
  icases OB2 with ⟨OB2h0, OB2h1⟩
  ihave O3 := (ob_two c O0 3).1 $$ O3
  icases O3 with ⟨OT3, OB3⟩
  ihave OT3 := (ob_half c c O0 (tk c 3)).1 $$ OT3
  icases OT3 with ⟨OT3h0, OT3h1⟩
  ihave OB3 := (ob_half c c O0 (bk c 3)).1 $$ OB3
  icases OB3 with ⟨OB3h0, OB3h1⟩
  iapply (wp_step c _ _ _)
  iapply (part1 V K c ) $$ []
  · iexact Hc
  iintro %z0_1 %z1_1 %z2_1 %z3_1 %z4_1 %z5_1
  try dsimp only
  iapply (wp_step c _ _ _)
  iapply (part2 V K c ) $$ [q0 wqs wqd w0 wos wod sg0 ow W0 sg1 W1 sg2 W2 sg3 W3 bc bp]
  · isplitr; · iexact Hc
    isplitl [q0]; · iexact q0
    isplitl [wqs]; · iexact wqs
    isplitl [wqd]; · iexact wqd
    isplitl [w0]; · iexact w0
    isplitl [wos]; · iexact wos
    isplitl [wod]; · iexact wod
    isplitl [sg0]; · iexact sg0
    isplitl [ow]; · iexact ow
    isplitl [W0]; · iexact W0
    isplitl [sg1]; · iexact sg1
    isplitl [W1]; · iexact W1
    isplitl [sg2]; · iexact sg2
    isplitl [W2]; · iexact W2
    isplitl [sg3]; · iexact sg3
    isplitl [W3]; · iexact W3
    isplitl [bc]; · iexact bc
    iexact bp
  iintro %z0_2 %z1_2 %z2_2 %z3_2 ⟨q0, w0, bc, ow, N0_0, N0_1, N0_2, N1_0, N1_1, N1_2, N2_0, N2_1, N3_0, N3_1⟩
  try dsimp only
  iapply (wp_step c _ _ _)
  iapply (part3 c)
  try dsimp only
  iapply (wp_step c _ _ _)
  iapply (part4 V K c ) $$ [mk ks vs q0 ow w0]
  · isplitr; · iexact Hc
    isplitl [mk]; · iexact mk
    isplitl [ks]; · iexact ks
    isplitl [vs]; · iexact vs
    isplitl [q0]; · iexact q0
    isplitl [ow]; · iexact ow
    iexact w0
  iintro %z0_4 %z1_4 %z2_4 ⟨mk, ks, vs, q0, wqs, wqd, w0, ow, wos, wod⟩
  try dsimp only
  iapply (wp_step c _ _ _)
  iapply (part5 V K c ) $$ [xs mk]
  · isplitr; · iexact Hc
    isplitl [xs]; · iexact xs
    iexact mk
  iintro %z0_5 %z1_5 %z2_5 %z3_5 ⟨xs, mk⟩
  try dsimp only
  iapply (wp_step c _ _ _)
  iapply (part6 c)
  try dsimp only
  iapply (wp_step c _ _ _)
  iapply (part7 c)
  try dsimp only
  iapply (wp_step c _ _ _)
  iapply (part8 V K c (hw := fun x i h => hA x i h)) $$ [C0 ch0 ow N0_0 ch1 N1_0]
  · isplitr; · iexact Hc
    isplitl [C0]; · iexact C0
    isplitl [ch0]; · iexact ch0
    isplitl [ow]; · iexact ow
    isplitl [N0_0]; · iexact N0_0
    isplitl [ch1]; · iexact ch1
    iexact N1_0
  iintro %z0_8 %z1_8 ⟨ch0, ch1, ow⟩
  try dsimp only
  iapply (wp_step c _ _ _)
  iapply (part9 V K c ) $$ [xs mk]
  · isplitr; · iexact Hc
    isplitl [xs]; · iexact xs
    iexact mk
  iintro %z0_9 ⟨xs, mk⟩
  try dsimp only
  iapply (wp_step c _ _ _)
  iapply (part10 c)
  try dsimp only
  iapply (wp_step c _ _ _)
  iapply (part11 c)
  try dsimp only
  iapply (wp_step c _ _ _)
  iapply (part12 V K c (v461 := chB1 (k0_pay8 Xk) (k0_pay9 Xv) (k0_pay10 (wqV V c)) (k0_pay11 (woV V c)) (blk (tk c 3) X) (blk (tk c 3) maskV)) (hw := fun x i h => hB x i h)) $$ [C3 xs mk]
  · isplitr; · iexact Hc
    isplitl [C3]; · iexact C3
    isplitl [xs]; · iexact xs
    iexact mk
  iintro %z0_12 ⟨T3, B3, xs, mk⟩
  try dsimp only
  iapply (wp_step c _ _ _)
  iapply (part13 c)
  try dsimp only
  iapply (wp_step c _ _ _)
  iapply (part14 c)
  try dsimp only
  iapply (wp_step c _ _ _)
  iapply (part15 V K c (hw := fun x i h => hC x i h)) $$ [C1 ch0 ow T3 ch1]
  · isplitr; · iexact Hc
    isplitl [C1]; · iexact C1
    isplitl [ch0]; · iexact ch0
    isplitl [ow]; · iexact ow
    isplitl [T3]; · iexact T3
    iexact ch1
  iintro  ⟨T1, B1, ch0, r0_1, T3, r0_0, ch1, ow, r1_0, r1_1⟩
  try dsimp only
  iapply (wp_step c _ _ _)
  iapply (part16 V K c ) $$ [B1 r1_0 ch2 ow T3 N0_1 r0_1]
  · isplitr; · iexact Hc
    isplitl [B1]; · iexact B1
    isplitl [r1_0]; · iexact r1_0
    isplitl [ch2]; · iexact ch2
    isplitl [ow]; · iexact ow
    isplitl [T3]; · iexact T3
    isplitl [N0_1]; · iexact N0_1
    iexact r0_1
  iintro  ⟨B1, r1_0, ch2, ow⟩
  try dsimp only
  iapply (wp_step c _ _ _)
  iapply (part17 V K c ) $$ [ch3 ow B1 N1_1 r1_1 xs mk]
  · isplitr; · iexact Hc
    isplitl [ch3]; · iexact ch3
    isplitl [ow]; · iexact ow
    isplitl [B1]; · iexact B1
    isplitl [N1_1]; · iexact N1_1
    isplitl [r1_1]; · iexact r1_1
    isplitl [xs]; · iexact xs
    iexact mk
  iintro %z0_17 ⟨ch3, ow, xs, mk⟩
  try dsimp only
  iapply (wp_step c _ _ _)
  iapply (part18 c)
  try dsimp only
  iapply (wp_step c _ _ _)
  iapply (part19 c)
  try dsimp only
  iapply (wp_step c _ _ _)
  iapply (part20 V K c (hw := fun x i h => hD x i h)) $$ [C2 ch2 ow ch3]
  · isplitr; · iexact Hc
    isplitl [C2]; · iexact C2
    isplitl [ch2]; · iexact ch2
    isplitl [ow]; · iexact ow
    iexact ch3
  iintro %z0_20 %z1_20 ⟨B2, ch2, r2_1, r2_2, T2, r2_0, ch3, ow, r3_0, r3_1, r3_2⟩
  try dsimp only
  iapply (wp_step c _ _ _)
  iapply (part21 V K c ) $$ [B2 r3_0 ch4 ow T2 N0_2 r2_1 r2_2 ch5 N1_2 r3_1 r3_2]
  · isplitr; · iexact Hc
    isplitl [B2]; · iexact B2
    isplitl [r3_0]; · iexact r3_0
    isplitl [ch4]; · iexact ch4
    isplitl [ow]; · iexact ow
    isplitl [T2]; · iexact T2
    isplitl [N0_2]; · iexact N0_2
    isplitl [r2_1]; · iexact r2_1
    isplitl [r2_2]; · iexact r2_2
    isplitl [ch5]; · iexact ch5
    isplitl [N1_2]; · iexact N1_2
    isplitl [r3_1]; · iexact r3_1
    iexact r3_2
  iintro  ⟨r3_0, ch4, ch5, ow⟩
  try dsimp only
  iapply (wp_step c _ _ _)
  iapply (part22 V K c ) $$ [ch4 ow T1 ch5 B3]
  · isplitr; · iexact Hc
    isplitl [ch4]; · iexact ch4
    isplitl [ow]; · iexact ow
    isplitl [T1]; · iexact T1
    isplitl [ch5]; · iexact ch5
    iexact B3
  iintro %z0_22 %v900_22 ⟨%hv, ch4, gT1h0, gT1h1, gT2h0, gT2h1, gT3h0, gT3h1, r4_0, Th0, Th1, ch5, ow, gB1h0, gB1h1, gB2h0, gB2h1, gB3h0, gB3h1, B3, r5_0⟩
  try dsimp only
  iapply (wp_step c _ _ _)
  iapply (part23 V K c (hv := hv)) $$ [B3 ch6 ow Th1 N2_0]
  · isplitr; · iexact Hc
    isplitl [B3]; · iexact B3
    isplitl [ch6]; · iexact ch6
    isplitl [ow]; · iexact ow
    isplitl [Th1]; · iexact Th1
    iexact N2_0
  iintro %z0_23 %z1_23 ⟨Bh0, Bh1, ch6, ow⟩
  try dsimp only
  iapply (wp_step c _ _ _)
  iapply (part24 V K c ) $$ [ch7 ow Bh1 N2_1 ch6 Th0]
  · isplitr; · iexact Hc
    isplitl [ch7]; · iexact ch7
    isplitl [ow]; · iexact ow
    isplitl [Bh1]; · iexact Bh1
    isplitl [N2_1]; · iexact N2_1
    isplitl [ch6]; · iexact ch6
    iexact Th0
  iintro %z0_24 ⟨ch6, r6_1, r6_0, Tqk, Tqs, ch7, ow, r7_0, r7_1⟩
  try dsimp only
  iapply (wp_step c _ _ _)
  iapply (part25 V K c ) $$ [Bh0 r7_0 ch8 ow Tqs N3_0]
  · isplitr; · iexact Hc
    isplitl [Bh0]; · iexact Bh0
    isplitl [r7_0]; · iexact r7_0
    isplitl [ch8]; · iexact ch8
    isplitl [ow]; · iexact ow
    isplitl [Tqs]; · iexact Tqs
    iexact N3_0
  iintro %z0_25 ⟨r7_0, Bqk, Bqs, ch8, ow⟩
  try dsimp only
  iapply (wp_step c _ _ _)
  iapply (part26 V K c ) $$ [ch9 ow Bqs N3_1 ch8 Tqk Bqk]
  · isplitr; · iexact Hc
    isplitl [ch9]; · iexact ch9
    isplitl [ow]; · iexact ow
    isplitl [Bqs]; · iexact Bqs
    isplitl [N3_1]; · iexact N3_1
    isplitl [ch8]; · iexact ch8
    isplitl [Tqk]; · iexact Tqk
    iexact Bqk
  iintro %z0_26 %v1025_26 %v1026_26 ⟨%hv, %hz, ch8, r8_1, r8_0, Tqkl, Tqkr, ch9, ow, r9_1, Bqk, r9_0⟩
  try dsimp only
  iapply (wp_step c _ _ _)
  iapply (part27 V K c (hv := hv) (hz := hz)) $$ [Bqk ch10 ow Tqkl r8_1 ch11 r9_1 Tqkr]
  · isplitr; · iexact Hc
    isplitl [Bqk]; · iexact Bqk
    isplitl [ch10]; · iexact ch10
    isplitl [ow]; · iexact ow
    isplitl [Tqkl]; · iexact Tqkl
    isplitl [r8_1]; · iexact r8_1
    isplitl [ch11]; · iexact ch11
    isplitl [r9_1]; · iexact r9_1
    iexact Tqkr
  iintro  ⟨Bqkr, ch11, ch10, ow, X10l, Trl, Trrl, Trrr⟩
  try dsimp only
  iapply (wp_step c _ _ _)
  iapply (part28 V K c ) $$ [ch11 ow Bqkr]
  · isplitr; · iexact Hc
    isplitl [ch11]; · iexact ch11
    isplitl [ow]; · iexact ow
    iexact Bqkr
  iintro %z0_28 %z1_28 %z2_28 %z3_28 %z4_28 %z5_28 %z6_28 %z7_28 %z8_28 ⟨ch11, ow, X11l, Brl, Brrl, Brrr⟩
  try dsimp only
  iapply (wp_step c _ _ _)
  iapply (part29 V K c ) $$ [ch12 ow Trl gT3h0 gT2h0 gT1h0]
  · isplitr; · iexact Hc
    isplitl [ch12]; · iexact ch12
    isplitl [ow]; · iexact ow
    isplitl [Trl]; · iexact Trl
    isplitl [gT3h0]; · iexact gT3h0
    isplitl [gT2h0]; · iexact gT2h0
    iexact gT1h0
  iintro %z0_29 %z1_29 %z2_29 %z3_29 %z4_29 ⟨ch12, ow⟩
  try dsimp only
  iapply (wp_step c _ _ _)
  iapply (part30 V K c ) $$ [ch13 ow Brl gB3h0 gB2h0 gB1h0 ch14 Trrl r6_1 ch15 Brrl r7_1 Trrr OT1h0 Brrr OB3h0]
  · isplitr; · iexact Hc
    isplitl [ch13]; · iexact ch13
    isplitl [ow]; · iexact ow
    isplitl [Brl]; · iexact Brl
    isplitl [gB3h0]; · iexact gB3h0
    isplitl [gB2h0]; · iexact gB2h0
    isplitl [gB1h0]; · iexact gB1h0
    isplitl [ch14]; · iexact ch14
    isplitl [Trrl]; · iexact Trrl
    isplitl [r6_1]; · iexact r6_1
    isplitl [ch15]; · iexact ch15
    isplitl [Brrl]; · iexact Brrl
    isplitl [r7_1]; · iexact r7_1
    isplitl [Trrr]; · iexact Trrr
    isplitl [OT1h0]; · iexact OT1h0
    isplitl [Brrr]; · iexact Brrr
    iexact OB3h0
  iintro  ⟨ch13, ch14, ch15, ow, Trrr, OT1h0, Brrr, OB3h0⟩
  try dsimp only
  iapply (wp_step c _ _ _)
  iapply (part31 V K c ) $$ [ch14 ow ch15 ch16 gT3h1 gT2h1 gT1h1 ch17 gB3h1 gB2h1 gB1h1]
  · isplitr; · iexact Hc
    isplitl [ch14]; · iexact ch14
    isplitl [ow]; · iexact ow
    isplitl [ch15]; · iexact ch15
    isplitl [ch16]; · iexact ch16
    isplitl [gT3h1]; · iexact gT3h1
    isplitl [gT2h1]; · iexact gT2h1
    isplitl [gT1h1]; · iexact gT1h1
    isplitl [ch17]; · iexact ch17
    isplitl [gB3h1]; · iexact gB3h1
    isplitl [gB2h1]; · iexact gB2h1
    iexact gB1h1
  iintro %z0_31 %v1188_31 ⟨%hv, ch14, ch15, X15r, ch16, ch17, ow, X14r⟩
  try dsimp only
  iapply (wp_step c _ _ _)
  iapply (part32 V K c (hv := hv)) $$ [OT1h1 X15r OB3h1 ch12 ow OT0h0 ch13]
  · isplitr; · iexact Hc
    isplitl [OT1h1]; · iexact OT1h1
    isplitl [X15r]; · iexact X15r
    isplitl [OB3h1]; · iexact OB3h1
    isplitl [ch12]; · iexact ch12
    isplitl [ow]; · iexact ow
    isplitl [OT0h0]; · iexact OT0h0
    iexact ch13
  iintro %z0_32 %v1222_32 ⟨%hv, OT1h1, X15r, OB3h1, ch12, r12_1, r12_2, X12l, X12r, OT0h0, ch13, ow, r13_1, r13_2, X13l, X13r⟩
  try dsimp only
  iapply (wp_step c _ _ _)
  iapply (part33 V K c (hv := hv)) $$ [OB0h0 ch18 ow X12l r12_1 r12_2 ch19 X13l r13_1 r13_2 ch16]
  · isplitr; · iexact Hc
    isplitl [OB0h0]; · iexact OB0h0
    isplitl [ch18]; · iexact ch18
    isplitl [ow]; · iexact ow
    isplitl [X12l]; · iexact X12l
    isplitl [r12_1]; · iexact r12_1
    isplitl [r12_2]; · iexact r12_2
    isplitl [ch19]; · iexact ch19
    isplitl [X13l]; · iexact X13l
    isplitl [r13_1]; · iexact r13_1
    isplitl [r13_2]; · iexact r13_2
    iexact ch16
  iintro %z0_33 ⟨OB0h0, ch18, ch19, ch16, ow, r16_1, r16_2, X16l, X16r⟩
  try dsimp only
  iapply (wp_step c _ _ _)
  iapply (part34 V K c ) $$ [X16r OT0h1 ch17 ow OB0h1 ch20 X16l r16_1 r16_2]
  · isplitr; · iexact Hc
    isplitl [X16r]; · iexact X16r
    isplitl [OT0h1]; · iexact OT0h1
    isplitl [ch17]; · iexact ch17
    isplitl [ow]; · iexact ow
    isplitl [OB0h1]; · iexact OB0h1
    isplitl [ch20]; · iexact ch20
    isplitl [X16l]; · iexact X16l
    isplitl [r16_1]; · iexact r16_1
    iexact r16_2
  iintro %z0_34 %z1_34 ⟨X16r, OT0h1, ch17, r17_1, r17_2, X17l, X17r, OB0h1, ch20, ow⟩
  try dsimp only
  iapply (wp_step c _ _ _)
  iapply (part35 V K c ) $$ [ch21 ow X17l r17_1 r17_2 ch18 OT3h0 ch19 OB1h0]
  · isplitr; · iexact Hc
    isplitl [ch21]; · iexact ch21
    isplitl [ow]; · iexact ow
    isplitl [X17l]; · iexact X17l
    isplitl [r17_1]; · iexact r17_1
    isplitl [r17_2]; · iexact r17_2
    isplitl [ch18]; · iexact ch18
    isplitl [OT3h0]; · iexact OT3h0
    isplitl [ch19]; · iexact ch19
    iexact OB1h0
  iintro  ⟨ch21, ch18, r18_1, X18l, X18r, OT3h0, ch19, ow, r19_1, X19l, X19r, OB1h0⟩
  try dsimp only
  iapply (wp_step c _ _ _)
  iapply (part36 V K c ) $$ [ch22 ow X18l r18_1 ch23 X19l r19_1 ch20]
  · isplitr; · iexact Hc
    isplitl [ch22]; · iexact ch22
    isplitl [ow]; · iexact ow
    isplitl [X18l]; · iexact X18l
    isplitl [r18_1]; · iexact r18_1
    isplitl [ch23]; · iexact ch23
    isplitl [X19l]; · iexact X19l
    isplitl [r19_1]; · iexact r19_1
    iexact ch20
  iintro %v1352_36 ⟨%hv, ch22, ch23, ch20, ow, r20_1, X20l, X20r⟩
  try dsimp only
  iapply (wp_step c _ _ _)
  iapply (part37 V K c (hv := hv)) $$ [OT3h1 ch21 ow OB1h1 ch24 X20l r20_1]
  · isplitr; · iexact Hc
    isplitl [OT3h1]; · iexact OT3h1
    isplitl [ch21]; · iexact ch21
    isplitl [ow]; · iexact ow
    isplitl [OB1h1]; · iexact OB1h1
    isplitl [ch24]; · iexact ch24
    isplitl [X20l]; · iexact X20l
    iexact r20_1
  iintro  ⟨OT3h1, ch21, r21_1, X21l, X21r, OB1h1, ch24, ow⟩
  try dsimp only
  iapply (wp_step c _ _ _)
  iapply (part38 V K c ) $$ [ch25 ow X21l r21_1 ch22 OT2h0 ch23 OB2h0]
  · isplitr; · iexact Hc
    isplitl [ch25]; · iexact ch25
    isplitl [ow]; · iexact ow
    isplitl [X21l]; · iexact X21l
    isplitl [r21_1]; · iexact r21_1
    isplitl [ch22]; · iexact ch22
    isplitl [OT2h0]; · iexact OT2h0
    isplitl [ch23]; · iexact ch23
    iexact OB2h0
  iintro %z0_38 ⟨ch25, ch22, r22_0, OT2h0, ch23, ow, r23_0, OB2h0⟩
  try dsimp only
  iapply (wp_step c _ _ _)
  iapply (part39 V K c ) $$ [ch24 ow OT2h1 ch25 OB2h1 ch0]
  · isplitr; · iexact Hc
    isplitl [ch24]; · iexact ch24
    isplitl [ow]; · iexact ow
    isplitl [OT2h1]; · iexact OT2h1
    isplitl [ch25]; · iexact ch25
    isplitl [OB2h1]; · iexact OB2h1
    iexact ch0
  iintro  ⟨ch24, r24_0, OT2h1, ch25, r25_0, OB2h1, ch0, ow⟩
  try dsimp only
  iapply (wp_step c _ _ _)
  iapply (part40 V K c ) $$ [ch1 ow ch2 ch3 ch4]
  · isplitr; · iexact Hc
    isplitl [ch1]; · iexact ch1
    isplitl [ow]; · iexact ow
    isplitl [ch2]; · iexact ch2
    isplitl [ch3]; · iexact ch3
    iexact ch4
  iintro  ⟨ch1, ch2, ch3, ch4, ow⟩
  try dsimp only
  iapply (wp_step c _ _ _)
  iapply (part41 V K c ) $$ [ch5 ow ch6 ch7 ch8 ch9]
  · isplitr; · iexact Hc
    isplitl [ch5]; · iexact ch5
    isplitl [ow]; · iexact ow
    isplitl [ch6]; · iexact ch6
    isplitl [ch7]; · iexact ch7
    isplitl [ch8]; · iexact ch8
    iexact ch9
  iintro  ⟨ch5, ch6, ch7, ch8, ch9, ow⟩
  try dsimp only
  iapply (wp_step c _ _ _)
  iapply (part42 V K c ) $$ [ch10 ow ch11 ch12 ch13 ch14 ch15]
  · isplitr; · iexact Hc
    isplitl [ch10]; · iexact ch10
    isplitl [ow]; · iexact ow
    isplitl [ch11]; · iexact ch11
    isplitl [ch12]; · iexact ch12
    isplitl [ch13]; · iexact ch13
    isplitl [ch14]; · iexact ch14
    iexact ch15
  iintro  ⟨ch10, s10, ch11, s11, ch12, s12, ch13, s13, ch14, s14, ch15, ow, s15⟩
  try dsimp only
  iapply (wp_step c _ _ _)
  iapply (part43 V K c ) $$ [ch16 ow ch17 ch18 ch19 ch20 ch21]
  · isplitr; · iexact Hc
    isplitl [ch16]; · iexact ch16
    isplitl [ow]; · iexact ow
    isplitl [ch17]; · iexact ch17
    isplitl [ch18]; · iexact ch18
    isplitl [ch19]; · iexact ch19
    isplitl [ch20]; · iexact ch20
    iexact ch21
  iintro  ⟨ch16, s16, ch17, s17, ch18, s18, ch19, s19, ch20, s20, ch21, ow, s21⟩
  try dsimp only
  simp only [Prog.lift, Prog.bind_op, Prog.bind_ret, Prog.pure_eq_ret]
  iapply (step_swait V K c 22 rfl (cred64 _ _ (by decide))) $$ [ch22 ow]
  · isplitr; · iexact Hc
    isplitl [ch22]; · iexact ch22
    iexact ow
  iintro ⟨ch22, ow, s22⟩
  ihave s22 := (Entails.of_eq (show payS V c 22 = cb c (rows (tk c 3 + h0 c) 64) fullShare.left (FIN V) from rfl)) $$ s22
  iapply (step_swait V K c 23 rfl (cred64 _ _ (by decide))) $$ [ch23 ow]
  · isplitr; · iexact Hc
    isplitl [ch23]; · iexact ch23
    iexact ow
  iintro ⟨ch23, ow, s23⟩
  ihave s23 := (Entails.of_eq (show payS V c 23 = cb c (rows (bk c 1 + h0 c) 64) fullShare.left (FIN V) from rfl)) $$ s23
  iapply fin_step
  iapply Hk
  unfold lastR
  isplitl [bc]; · iexact bc
  isplitl [ks]; · iexact ks
  isplitl [vs]; · iexact vs
  isplitl [q0]; · iexact q0
  isplitl [wqs]; · iexact wqs
  isplitl [wqd]; · iexact wqd
  isplitl [w0]; · iexact w0
  isplitl [wos]; · iexact wos
  isplitl [wod]; · iexact wod
  isplitl [r0_0]; · iexact r0_0
  isplitl [r1_0]; · iexact r1_0
  isplitl [xs]; · iexact xs
  isplitl [mk]; · iexact mk
  isplitl [r2_0]; · iexact r2_0
  isplitl [r3_0]; · iexact r3_0
  isplitl [r4_0]; · iexact r4_0
  isplitl [r5_0]; · iexact r5_0
  isplitl [r6_0]; · iexact r6_0
  isplitl [r7_0]; · iexact r7_0
  isplitl [r8_0]; · iexact r8_0
  isplitl [r9_0]; · iexact r9_0
  isplitl [X10l]; · iexact X10l
  isplitl [X11l]; · iexact X11l
  isplitl [Trrr]; · iexact Trrr
  isplitl [OT1h0]; · iexact OT1h0
  isplitl [Brrr]; · iexact Brrr
  isplitl [OB3h0]; · iexact OB3h0
  isplitl [X14r]; · iexact X14r
  isplitl [OT1h1]; · iexact OT1h1
  isplitl [X15r]; · iexact X15r
  isplitl [OB3h1]; · iexact OB3h1
  isplitl [X12r]; · iexact X12r
  isplitl [OT0h0]; · iexact OT0h0
  isplitl [X13r]; · iexact X13r
  isplitl [OB0h0]; · iexact OB0h0
  isplitl [X16r]; · iexact X16r
  isplitl [OT0h1]; · iexact OT0h1
  isplitl [X17r]; · iexact X17r
  isplitl [OB0h1]; · iexact OB0h1
  isplitl [X18r]; · iexact X18r
  isplitl [OT3h0]; · iexact OT3h0
  isplitl [X19r]; · iexact X19r
  isplitl [OB1h0]; · iexact OB1h0
  isplitl [X20r]; · iexact X20r
  isplitl [OT3h1]; · iexact OT3h1
  isplitl [X21r]; · iexact X21r
  isplitl [OB1h1]; · iexact OB1h1
  isplitl [ch22]; · iexact ch22
  isplitl [r22_0]; · iexact r22_0
  isplitl [OT2h0]; · iexact OT2h0
  isplitl [ch23]; · iexact ch23
  isplitl [r23_0]; · iexact r23_0
  isplitl [OB2h0]; · iexact OB2h0
  isplitl [ch24]; · iexact ch24
  isplitl [r24_0]; · iexact r24_0
  isplitl [OT2h1]; · iexact OT2h1
  isplitl [ch25]; · iexact ch25
  isplitl [r25_0]; · iexact r25_0
  isplitl [OB2h1]; · iexact OB2h1
  isplitl [ch0]; · iexact ch0
  isplitl [ch1]; · iexact ch1
  isplitl [ch2]; · iexact ch2
  isplitl [ch3]; · iexact ch3
  isplitl [ch4]; · iexact ch4
  isplitl [ch5]; · iexact ch5
  isplitl [ch6]; · iexact ch6
  isplitl [ch7]; · iexact ch7
  isplitl [ch8]; · iexact ch8
  isplitl [ch9]; · iexact ch9
  isplitl [ch10]; · iexact ch10
  isplitl [s10]; · iexact s10
  isplitl [ch11]; · iexact ch11
  isplitl [s11]; · iexact s11
  isplitl [ch12]; · iexact ch12
  isplitl [s12]; · iexact s12
  isplitl [ch13]; · iexact ch13
  isplitl [s13]; · iexact s13
  isplitl [ch14]; · iexact ch14
  isplitl [s14]; · iexact s14
  isplitl [ch15]; · iexact ch15
  isplitl [s15]; · iexact s15
  isplitl [ch16]; · iexact ch16
  isplitl [s16]; · iexact s16
  isplitl [ch17]; · iexact ch17
  isplitl [s17]; · iexact s17
  isplitl [ch18]; · iexact ch18
  isplitl [s18]; · iexact s18
  isplitl [ch19]; · iexact ch19
  isplitl [s19]; · iexact s19
  isplitl [ch20]; · iexact ch20
  isplitl [s20]; · iexact s20
  isplitl [ch21]; · iexact ch21
  isplitl [ow]; · iexact ow
  isplitl [s21]; · iexact s21
  isplitl [s22]; · iexact s22
  iexact s23

/-- What a device has when its body is done. -/
def doneR (X Xk Xv : S1024x1024.Idx → Elt F .f32) (c : Dev nD) : sProp 𝕄 :=
  iprop(ow c 0 ∗ semVal (kcell c 54) 0 ∗ semVal (kcell c 0) 0 ∗ semVal (kcell c 1) 0 ∗ (((c : Thread nD τ).loc main_arg1) ↦[(wqSrc c).view.set]{fullShare} V.wq c) ∗ (((c : Thread nD τ).loc main_arg4) ↦[(woSrc c).view.set]{fullShare} V.wo c) ∗ at_q c (wqV V c) ∗ at_w c (woV V c) ∗ at_x c X ∗ at_k c Xk ∗ at_v c Xv ∗ at_m c maskV ∗ cb c Finset.univ fullShare (FIN V) ∗ ob c Finset.univ (OUT V) ∗ prW c ∗ plW c ∗ yW c ∗ zW c ∗ (ch3 c 0 ∗ ch3 c 1 ∗ ch3 c 2 ∗ ch3 c 3 ∗ ch3 c 4 ∗ ch3 c 5 ∗ ch3 c 6 ∗ ch3 c 7 ∗ ch3 c 8 ∗ ch3 c 9 ∗ ch3 c 10 ∗ ch3 c 11 ∗ ch3 c 12 ∗ ch3 c 13 ∗ ch3 c 14 ∗ ch3 c 15 ∗ ch3 c 16 ∗ ch3 c 17 ∗ ch3 c 18 ∗ ch3 c 19 ∗ ch3 c 20 ∗ ch3 c 21 ∗ ch3 c 22 ∗ ch3 c 23 ∗ ch3 c 24 ∗ ch3 c 25))

/-- The body. -/
theorem run_body (c : Dev nD) {X Xk Xv : S1024x1024.Idx → Elt F .f32} {A0 : Mat F} {O0 : S1024x1024.Idx → Elt F .f32}
    (hA : ∀ (x : S256x1024.Idx) i, At (tk c 0) x i → chA (k0_pay8 Xk) (k0_pay9 Xv) (k0_pay10 (wqV V c)) (k0_pay11 (woV V c)) (blk (tk c 0) X) (blk (tk c 0) maskV) x = V.P c i)
    (hB : ∀ (x : S256x1024.Idx) i, At (tk c 3) x i → chB (k0_pay8 Xk) (k0_pay9 Xv) (k0_pay10 (wqV V c)) (k0_pay11 (woV V c)) (blk (tk c 3) X) (blk (tk c 3) maskV) x = V.P c i)
    (hC : ∀ (x : S256x1024.Idx) i, At (tk c 1) x i → chC (k0_pay8 Xk) (k0_pay9 Xv) (k0_pay10 (wqV V c)) (k0_pay11 (woV V c)) (blk (tk c 1) X) (blk (tk c 1) maskV) x = V.P c i)
    (hD : ∀ (x : S256x1024.Idx) i, At (tk c 2) x i → chD (k0_pay8 Xk) (k0_pay9 Xv) (k0_pay10 (wqV V c)) (k0_pay11 (woV V c)) (blk (tk c 2) X) (blk (tk c 2) maskV) x = V.P c i)
    {Q : PUnit → sProp 𝕄} :
    iprop(ctx V K ∗ lc0 c 0 ∗ lc0 c 1 ∗ (((c : Thread nD τ).loc main_arg1) ↦[(wqSrc c).view.set]{fullShare} V.wq c) ∗ (((c : Thread nD τ).loc main_arg4) ↦[(woSrc c).view.set]{fullShare} V.wo c) ∗ (∃ f, ((c : Thread nD τ).loc cc0_scratch0) ↦{fullShare} f) ∗ (∃ f, ((c : Thread nD τ).loc cc0_scratch1) ↦{fullShare} f) ∗ dutyTok ER (kcell (lf c) 54) 0 0 ∗ dutyTok ER (kcell (rt c) 54) 0 1 ∗ dutyTok ER (kcell (za c) 54) 0 2 ∗ dutyTok ER (kcell (zb c) 54) 0 3 ∗ cred (tallyAt (kcell c 54) () 4) ∗ atPos ER (kcell c 54) 0 ∅ 0 ∗ ow c 30 ∗ prW c ∗ plW c ∗ yW c ∗ zW c ∗ (∃ f, at_m c f) ∗ at_x c X ∗ at_k c Xk ∗ at_v c Xv ∗ cb c Finset.univ fullShare A0 ∗ ob c Finset.univ O0 ∗ (ch0 c 0 ∗ ch0 c 1 ∗ ch0 c 2 ∗ ch0 c 3 ∗ ch0 c 4 ∗ ch0 c 5 ∗ ch0 c 6 ∗ ch0 c 7 ∗ ch0 c 8 ∗ ch0 c 9 ∗ ch0 c 10 ∗ ch0 c 11 ∗ ch0 c 12 ∗ ch0 c 13 ∗ ch0 c 14 ∗ ch0 c 15 ∗ ch0 c 16 ∗ ch0 c 17 ∗ ch0 c 18 ∗ ch0 c 19 ∗ ch0 c 20 ∗ ch0 c 21 ∗ ch0 c 22 ∗ ch0 c 23 ∗ ch0 c 24 ∗ ch0 c 25))
      ⊢ iprop((doneR V X Xk Xv c -∗ Q ⟨⟩) -∗ wpc c (cc0__body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19) Q) := by
  rw [cc0__body_eq_skeleton]; unfold cc0__body_skel
  iintro ⟨#Hc, H⟩ Hk
  iapply (wp_step c _ _ _)
  iapply (run44 V K c hA hB hC hD) $$ [H]
  · isplitr; · iexact Hc
    iexact H
  iintro H
  unfold lastR
  icases H with ⟨bc, ks, vs, q0, wqs, wqd, w0, wos, wod, r0_0, r1_0, xs, mk, r2_0, r3_0, r4_0, r5_0, r6_0, r7_0, r8_0, r9_0, X10l, X11l, Trrr, OT1h0, Brrr, OB3h0, X14r, OT1h1, X15r, OB3h1, X12r, OT0h0, X13r, OB0h0, X16r, OT0h1, X17r, OB0h1, X18r, OT3h0, X19r, OB1h0, X20r, OT3h1, X21r, OB1h1, ch22, r22_0, OT2h0, ch23, r23_0, OB2h0, ch24, r24_0, OT2h1, ch25, r25_0, OB2h1, ch0, ch1, ch2, ch3, ch4, ch5, ch6, ch7, ch8, ch9, ch10, s10, ch11, s11, ch12, s12, ch13, s13, ch14, s14, ch15, s15, ch16, s16, ch17, s17, ch18, s18, ch19, s19, ch20, s20, ch21, ow, s21, s22, s23⟩
  try dsimp only
  simp only [Prog.lift, Prog.bind_op, Prog.bind_ret, Prog.pure_eq_ret]
  iapply (step_swait V K c 24 rfl (cred64 _ _ (by decide))) $$ [ch24 ow]
  · isplitr; · iexact Hc
    isplitl [ch24]; · iexact ch24
    iexact ow
  iintro ⟨ch24, ow, s24⟩
  ihave s24 := (Entails.of_eq (show payS V c 24 = cb c (rows (tk c 3 + h1 c) 64) fullShare.left (FIN V) from rfl)) $$ s24
  iapply (step_swait V K c 25 rfl (cred64 _ _ (by decide))) $$ [ch25 ow]
  · isplitr; · iexact Hc
    isplitl [ch25]; · iexact ch25
    iexact ow
  iintro ⟨ch25, ow, s25⟩
  ihave s25 := (Entails.of_eq (show payS V c 25 = cb c (rows (bk c 1 + h1 c) 64) fullShare.left (FIN V) from rfl)) $$ s25
  ihave s10 := ((cb_quar c c fullShare.left (FIN V) (tk c 1)).2) $$ [s10 X10l]
  · isplitl [s10]; · iexact s10
    iexact X10l
  ihave s14 := ((cb_share c fullShare.right.right (FIN V) (rows (tk c 1 + h0 c) 64)).2) $$ [s14 Trrr]
  · isplitl [s14]; · iexact s14
    iexact Trrr
  ihave s12 := ((cb_share c fullShare.right (FIN V) (rows (tk c 1 + h0 c) 64)).2) $$ [s12 s14]
  · isplitl [s12]; · iexact s12
    iexact s14
  ihave s10 := ((cb_share c fullShare (FIN V) (rows (tk c 1 + h0 c) 64)).2) $$ [s10 s12]
  · isplitl [s10]; · iexact s10
    iexact s12
  icases s10 with ZT0
  ihave s16 := ((cb_share c fullShare (FIN V) (rows (tk c 1 + h1 c) 64)).2) $$ [s16 X14r]
  · isplitl [s16]; · iexact s16
    iexact X14r
  icases s16 with ZT1
  ihave ZT0 := ((cb_half c c fullShare (FIN V) (tk c 1)).2) $$ [ZT0 ZT1]
  · isplitl [ZT0]; · iexact ZT0
    iexact ZT1
  icases ZT0 with ZT
  ihave s11 := ((cb_quar c c fullShare.left (FIN V) (bk c 3)).2) $$ [s11 X11l]
  · isplitl [s11]; · iexact s11
    iexact X11l
  ihave s15 := ((cb_share c fullShare.right.right (FIN V) (rows (bk c 3 + h0 c) 64)).2) $$ [s15 Brrr]
  · isplitl [s15]; · iexact s15
    iexact Brrr
  ihave s13 := ((cb_share c fullShare.right (FIN V) (rows (bk c 3 + h0 c) 64)).2) $$ [s13 s15]
  · isplitl [s13]; · iexact s13
    iexact s15
  ihave s11 := ((cb_share c fullShare (FIN V) (rows (bk c 3 + h0 c) 64)).2) $$ [s11 s13]
  · isplitl [s11]; · iexact s11
    iexact s13
  icases s11 with ZB0
  ihave s17 := ((cb_share c fullShare (FIN V) (rows (bk c 3 + h1 c) 64)).2) $$ [s17 X15r]
  · isplitl [s17]; · iexact s17
    iexact X15r
  icases s17 with ZB1
  ihave ZB0 := ((cb_half c c fullShare (FIN V) (bk c 3)).2) $$ [ZB0 ZB1]
  · isplitl [ZB0]; · iexact ZB0
    iexact ZB1
  icases ZB0 with ZB
  ihave s18 := ((cb_share c fullShare (FIN V) (rows (tk c 0 + h0 c) 64)).2) $$ [s18 X12r]
  · isplitl [s18]; · iexact s18
    iexact X12r
  ihave s20 := ((cb_share c fullShare (FIN V) (rows (tk c 0 + h1 c) 64)).2) $$ [s20 X16r]
  · isplitl [s20]; · iexact s20
    iexact X16r
  ihave s18 := ((cb_half c c fullShare (FIN V) (tk c 0)).2) $$ [s18 s20]
  · isplitl [s18]; · iexact s18
    iexact s20
  icases s18 with YT0
  ihave s19 := ((cb_share c fullShare (FIN V) (rows (bk c 0 + h0 c) 64)).2) $$ [s19 X13r]
  · isplitl [s19]; · iexact s19
    iexact X13r
  ihave s21 := ((cb_share c fullShare (FIN V) (rows (bk c 0 + h1 c) 64)).2) $$ [s21 X17r]
  · isplitl [s21]; · iexact s21
    iexact X17r
  ihave s19 := ((cb_half c c fullShare (FIN V) (bk c 0)).2) $$ [s19 s21]
  · isplitl [s19]; · iexact s19
    iexact s21
  icases s19 with YB0
  ihave s22 := ((cb_share c fullShare (FIN V) (rows (tk c 3 + h0 c) 64)).2) $$ [s22 X18r]
  · isplitl [s22]; · iexact s22
    iexact X18r
  ihave s24 := ((cb_share c fullShare (FIN V) (rows (tk c 3 + h1 c) 64)).2) $$ [s24 X20r]
  · isplitl [s24]; · iexact s24
    iexact X20r
  ihave s22 := ((cb_half c c fullShare (FIN V) (tk c 3)).2) $$ [s22 s24]
  · isplitl [s22]; · iexact s22
    iexact s24
  icases s22 with YT3
  ihave s23 := ((cb_share c fullShare (FIN V) (rows (bk c 1 + h0 c) 64)).2) $$ [s23 X19r]
  · isplitl [s23]; · iexact s23
    iexact X19r
  ihave s25 := ((cb_share c fullShare (FIN V) (rows (bk c 1 + h1 c) 64)).2) $$ [s25 X21r]
  · isplitl [s25]; · iexact s25
    iexact X21r
  ihave s23 := ((cb_half c c fullShare (FIN V) (bk c 1)).2) $$ [s23 s25]
  · isplitl [s23]; · iexact s23
    iexact s25
  icases s23 with YB1
  ihave r22_0 := ((cb_half c c fullShare (FIN V) (tk c 2)).2) $$ [r22_0 r24_0]
  · isplitl [r22_0]; · iexact r22_0
    iexact r24_0
  icases r22_0 with YT2
  ihave r23_0 := ((cb_half c c fullShare (FIN V) (bk c 2)).2) $$ [r23_0 r25_0]
  · isplitl [r23_0]; · iexact r23_0
    iexact r25_0
  icases r23_0 with YB2
  ihave YT0 := ((cb_two c fullShare (FIN V) 0).2) $$ [YT0 YB0]
  · isplitl [YT0]; · iexact YT0
    iexact YB0
  icases YT0 with CC0
  ihave OT0h0 := ((ob_half c c (OUT V) (tk c 0)).2) $$ [OT0h0 OT0h1]
  · isplitl [OT0h0]; · iexact OT0h0
    iexact OT0h1
  icases OT0h0 with OT0
  ihave OB0h0 := ((ob_half c c (OUT V) (bk c 0)).2) $$ [OB0h0 OB0h1]
  · isplitl [OB0h0]; · iexact OB0h0
    iexact OB0h1
  icases OB0h0 with OB0
  ihave OT0 := ((ob_two c (OUT V) 0).2) $$ [OT0 OB0]
  · isplitl [OT0]; · iexact OT0
    iexact OB0
  icases OT0 with O0
  ihave ZT := ((cb_two c fullShare (FIN V) 1).2) $$ [ZT YB1]
  · isplitl [ZT]; · iexact ZT
    iexact YB1
  icases ZT with CC1
  ihave OT1h0 := ((ob_half c c (OUT V) (tk c 1)).2) $$ [OT1h0 OT1h1]
  · isplitl [OT1h0]; · iexact OT1h0
    iexact OT1h1
  icases OT1h0 with OT1
  ihave OB1h0 := ((ob_half c c (OUT V) (bk c 1)).2) $$ [OB1h0 OB1h1]
  · isplitl [OB1h0]; · iexact OB1h0
    iexact OB1h1
  icases OB1h0 with OB1
  ihave OT1 := ((ob_two c (OUT V) 1).2) $$ [OT1 OB1]
  · isplitl [OT1]; · iexact OT1
    iexact OB1
  icases OT1 with O1
  ihave YT2 := ((cb_two c fullShare (FIN V) 2).2) $$ [YT2 YB2]
  · isplitl [YT2]; · iexact YT2
    iexact YB2
  icases YT2 with CC2
  ihave OT2h0 := ((ob_half c c (OUT V) (tk c 2)).2) $$ [OT2h0 OT2h1]
  · isplitl [OT2h0]; · iexact OT2h0
    iexact OT2h1
  icases OT2h0 with OT2
  ihave OB2h0 := ((ob_half c c (OUT V) (bk c 2)).2) $$ [OB2h0 OB2h1]
  · isplitl [OB2h0]; · iexact OB2h0
    iexact OB2h1
  icases OB2h0 with OB2
  ihave OT2 := ((ob_two c (OUT V) 2).2) $$ [OT2 OB2]
  · isplitl [OT2]; · iexact OT2
    iexact OB2
  icases OT2 with O2
  ihave YT3 := ((cb_two c fullShare (FIN V) 3).2) $$ [YT3 ZB]
  · isplitl [YT3]; · iexact YT3
    iexact ZB
  icases YT3 with CC3
  ihave OT3h0 := ((ob_half c c (OUT V) (tk c 3)).2) $$ [OT3h0 OT3h1]
  · isplitl [OT3h0]; · iexact OT3h0
    iexact OT3h1
  icases OT3h0 with OT3
  ihave OB3h0 := ((ob_half c c (OUT V) (bk c 3)).2) $$ [OB3h0 OB3h1]
  · isplitl [OB3h0]; · iexact OB3h0
    iexact OB3h1
  icases OB3h0 with OB3
  ihave OT3 := ((ob_two c (OUT V) 3).2) $$ [OT3 OB3]
  · isplitl [OT3]; · iexact OT3
    iexact OB3
  icases OT3 with O3
  ihave CC0 := ((cb_all c fullShare (FIN V)).2) $$ [CC0 CC3 CC1 CC2]
  · isplitl [CC0]; · iexact CC0
    isplitl [CC3]; · iexact CC3
    isplitl [CC1]; · iexact CC1
    iexact CC2
  icases CC0 with CC
  ihave O0 := ((ob_all c (OUT V)).2) $$ [O0 O3 O1 O2]
  · isplitl [O0]; · iexact O0
    isplitl [O3]; · iexact O3
    isplitl [O1]; · iexact O1
    iexact O2
  icases O0 with OO
  ihave r0_0 := ((pr_slots c).2) $$ [r0_0 r2_0 r4_0]
  · isplitl [r0_0]; · iexact r0_0
    isplitl [r2_0]; · iexact r2_0
    iexact r4_0
  icases r0_0 with Epr
  ihave r1_0 := ((pl_slots c).2) $$ [r1_0 r3_0 r5_0]
  · isplitl [r1_0]; · iexact r1_0
    isplitl [r3_0]; · iexact r3_0
    iexact r5_0
  icases r1_0 with Epl
  ihave r6_0 := ((y_slots c).2) $$ [r6_0 r7_0]
  · isplitl [r6_0]; · iexact r6_0
    iexact r7_0
  icases r6_0 with Ey
  ihave r8_0 := ((z_slots c).2) $$ [r8_0 r9_0]
  · isplitl [r8_0]; · iexact r8_0
    iexact r9_0
  icases r8_0 with Ez
  iapply fin_step
  iapply Hk
  unfold doneR
  isplitl [ow]; · iexact ow
  isplitl [bc]; · iexact bc
  isplitl [q0]; · iexact q0
  isplitl [w0]; · iexact w0
  isplitl [wqs]; · iexact wqs
  isplitl [wos]; · iexact wos
  isplitl [wqd]; · iexact wqd
  isplitl [wod]; · iexact wod
  isplitl [xs]; · iexact xs
  isplitl [ks]; · iexact ks
  isplitl [vs]; · iexact vs
  isplitl [mk]; · iexact mk
  isplitl [CC]; · iexact CC
  isplitl [OO]; · iexact OO
  isplitl [Epr]; · iexact Epr
  isplitl [Epl]; · iexact Epl
  isplitl [Ey]; · iexact Ey
  isplitl [Ez]; · iexact Ez
  isplitl [ch0]; · iexact ch0
  isplitl [ch1]; · iexact ch1
  isplitl [ch2]; · iexact ch2
  isplitl [ch3]; · iexact ch3
  isplitl [ch4]; · iexact ch4
  isplitl [ch5]; · iexact ch5
  isplitl [ch6]; · iexact ch6
  isplitl [ch7]; · iexact ch7
  isplitl [ch8]; · iexact ch8
  isplitl [ch9]; · iexact ch9
  isplitl [ch10]; · iexact ch10
  isplitl [ch11]; · iexact ch11
  isplitl [ch12]; · iexact ch12
  isplitl [ch13]; · iexact ch13
  isplitl [ch14]; · iexact ch14
  isplitl [ch15]; · iexact ch15
  isplitl [ch16]; · iexact ch16
  isplitl [ch17]; · iexact ch17
  isplitl [ch18]; · iexact ch18
  isplitl [ch19]; · iexact ch19
  isplitl [ch20]; · iexact ch20
  isplitl [ch21]; · iexact ch21
  isplitl [ch22]; · iexact ch22
  isplitl [ch23]; · iexact ch23
  isplitl [ch24]; · iexact ch24
  iexact ch25

end Cert.KernelIdeal.Pf

end
-- ==== Proof.Chunk.lean ====
/-
# A chunk of the attention

The four chunks of 256 rows the body works on are the same function of the staged arrays, the rows of the
input and the rows of the mask, and in each chunk the eight heads are one function of their columns.
-/
module

public import proofs.«01_k».proof.Proof.Body

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

set_option maxHeartbeats 4000000
set_option maxRecDepth 20000

/-- One head's attention on 256 rows: its columns are those from column `o`. -/
def headv (kb vb : FVec F S1024x1024 .bf16) (q : FVec F S256x1024 .f32) (mb : Vec F S256x1024 .bf16) (o : ℕ)
    (h1 : S256x1024.Slices ![0, o] S256x128) (h2 : S1024x1024.Slices ![0, o] S1024x128) : FVec F S256x128 .f32 :=
  let w : FVec F S256x1024 .f32 := exp (addf
    (matmul dot_S256x128_S1024x128_S256x1024_1_1_0_0_n_n none (truncf .bf16 (extractStridedSlice S256x128 ![0, o] q h1) bitsLt_bf16_f32)
      (extractStridedSlice S1024x128 ![0, o] kb h2) (constant S256x1024 .f32 0x00000000#32))
    (extf .f32 mb bitsLt_bf16_f32))
  mulf (matmul dot_S256x1024_S1024x128_S256x128_1_0_0_1_n_n none (truncf .bf16 w bitsLt_bf16_f32)
      (extractStridedSlice S1024x128 ![0, o] vb h2) (constant S256x128 .f32 0x00000000#32))
    (broadcastTo S256x128 (divf (broadcast S256x1 (Scalar.ofBits .f32 0x3F800000#32 : F .f32))
      (shapeCast S256x1 (multiReduction .add [1] S256 w 0x00000000#32 reduces_S256x1024_S256 (.inl rfl) rfl) shapeCasts_S256_S256x1)) broadcasts_S256x1_S256x128)

/-- The queries of 256 rows. -/
def qv (wq : FVec F S1024x1024 .bf16) (xb : Vec F S256x1024 .f32) : FVec F S256x1024 .f32 :=
  matmul dot_S256x1024_S1024x1024_S256x1024_1_0_0_1_n_n none
    (truncf .bf16 (shapeCast S256x1024 xb shapeCasts_S256x1024_S256x1024) bitsLt_bf16_f32) wq (constant S256x1024 .f32 0x00000000#32)

/-- The attention of 256 rows, the eight heads side by side through the output weights. -/
def chunk (kb vb wq wo : FVec F S1024x1024 .bf16) (xb : Vec F S256x1024 .f32) (mb : Vec F S256x1024 .bf16) : FVec F S256x1024 .bf16 :=
  shapeCast S256x1024 (truncf .bf16 (matmul dot_S256x1024_S1024x1024_S256x1024_1_0_0_1_n_n none (truncf .bf16
    (concatenate S256x1024 1 [⟨S256x128, headv kb vb (qv wq xb) mb 0 slices_S256x1024_o0_0_S256x128 slices_S1024x1024_o0_0_S1024x128⟩,
      ⟨S256x128, headv kb vb (qv wq xb) mb 128 slices_S256x1024_o0_128_S256x128 slices_S1024x1024_o0_128_S1024x128⟩,
      ⟨S256x128, headv kb vb (qv wq xb) mb 256 slices_S256x1024_o0_256_S256x128 slices_S1024x1024_o0_256_S1024x128⟩,
      ⟨S256x128, headv kb vb (qv wq xb) mb 384 slices_S256x1024_o0_384_S256x128 slices_S1024x1024_o0_384_S1024x128⟩,
      ⟨S256x128, headv kb vb (qv wq xb) mb 512 slices_S256x1024_o0_512_S256x128 slices_S1024x1024_o0_512_S1024x128⟩,
      ⟨S256x128, headv kb vb (qv wq xb) mb 640 slices_S256x1024_o0_640_S256x128 slices_S1024x1024_o0_640_S1024x128⟩,
      ⟨S256x128, headv kb vb (qv wq xb) mb 768 slices_S256x1024_o0_768_S256x128 slices_S1024x1024_o0_768_S1024x128⟩,
      ⟨S256x128, headv kb vb (qv wq xb) mb 896 slices_S256x1024_o0_896_S256x128 slices_S1024x1024_o0_896_S1024x128⟩]
      concatenates_S256x128_S256x128_S256x128_S256x128_S256x128_S256x128_S256x128_S256x128_S256x1024_d1) bitsLt_bf16_f32)
    wo (constant S256x1024 .f32 0x00000000#32)) bitsLt_bf16_f32) shapeCasts_S256x1024_S256x1024

theorem chA_eq (kb vb wq wo : FVec F S1024x1024 .bf16) (xb : Vec F S256x1024 .f32) (mb : Vec F S256x1024 .bf16) :
    chA kb vb wq wo xb mb = chunk kb vb wq wo xb mb := rfl

theorem chB_eq (kb vb wq wo : FVec F S1024x1024 .bf16) (xb : Vec F S256x1024 .f32) (mb : Vec F S256x1024 .bf16) :
    chB kb vb wq wo xb mb = chunk kb vb wq wo xb mb := rfl

theorem chC_eq (kb vb wq wo : FVec F S1024x1024 .bf16) (xb : Vec F S256x1024 .f32) (mb : Vec F S256x1024 .bf16) :
    chC kb vb wq wo xb mb = chunk kb vb wq wo xb mb := rfl

theorem chD_eq (kb vb wq wo : FVec F S1024x1024 .bf16) (xb : Vec F S256x1024 .f32) (mb : Vec F S256x1024 .bf16) :
    chD kb vb wq wo xb mb = chunk kb vb wq wo xb mb := rfl

end Cert.KernelIdeal.Pf

end
-- ==== Proof.Deal.lean ====
/-
# Dealing the cells around

At launch every device holds the tokens of its own cells. A token goes to the device that pays it: a
receive cell's to the sender of its channel, a barrier cell's four to the four neighbours. The credit a
device starts with is what the others owe its cells.
-/
module

public import proofs.«01_k».proof.Proof.Start
public import proofs.«01_k».proof.Proof.Gen.KernelIdeal.Launch
public import Idealize.ShloMosaic.Lib.Pipeline.Launch
public import Idealize.ShloMosaic.Lib.Pipeline.Kit
public import Idealize.ShloMosaic.Lib.Pipeline.BigSepL

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (V : Vals F)

local notation "𝕄" => MT nD τ sig Unit (Elt F) ℕ UU ℕ

set_option maxHeartbeats 1000000
set_option maxRecDepth 20000

/-! ## The cells in order -/

/-- A device's own transfer semaphores. -/
def osem (k : Fin 54) : SemLoc sig := csem k.castSucc

theorem ownSemFacts : Pipeline.OwnSemFacts cfg0.spec osem := by decide +kernel

theorem csem_inj : Function.Injective csem := fun a b h => by
  have h' := congrArg keyOf h
  rw [keyOf_csem, keyOf_csem] at h'
  exact Option.some.inj h'

theorem kcell_inj : Function.Injective (fun p : Dev nD × Fin 55 => kcell p.1 p.2) := by
  rintro ⟨c, k⟩ ⟨c', k'⟩ h
  have h1 : c = c' := congrArg (fun g : GSem nD τ sig => g.1.1) h
  have h2 : k = k' := csem_inj (congrArg Prod.snd h)
  rw [h1, h2]

theorem kcell_iff {c c' : Dev nD} {k k' : Fin 55} : kcell c k = kcell c' k' ↔ c = c' ∧ k = k' :=
  ⟨fun h => by have h' := @kcell_inj (c, k) (c', k') h; exact ⟨congrArg Prod.fst h', congrArg Prod.snd h'⟩, fun h => by rw [h.1, h.2]⟩

theorem list55 : (Finset.univ : Finset (Fin 55)) = ((0 : Fin 55) :: 1 :: 54 :: ((List.finRange 26).map sS ++ (List.finRange 26).map sR)).toFinset := by decide +kernel
theorem nodup55 : ((0 : Fin 55) :: 1 :: 54 :: ((List.finRange 26).map sS ++ (List.finRange 26).map sR)).Nodup := by decide +kernel

/-- The cells of a device: the two local copies', the barrier's, the send cells and the receive cells. -/
theorem split55 (Φ : Fin 55 → sProp 𝕄) : bigSep Finset.univ Φ
    = iprop(Φ 0 ∗ Φ 1 ∗ Φ 54 ∗ (bigSep Finset.univ fun j => Φ (sS j)) ∗ (bigSep Finset.univ fun j => Φ (sR j))) := by
  rw [bigSep_univ_eq_bigSepL _ list55 nodup55, bigSepL_cons, bigSepL_cons, bigSepL_cons, bigSepL_append, bigSepL_map, bigSepL_map,
    bigSep_univ_eq_bigSepL (List.finRange 26) (by decide) (by decide) fun j => Φ (sS j),
    bigSep_univ_eq_bigSepL (List.finRange 26) (by decide) (by decide) fun j => Φ (sR j)]
  rfl

/-- A conjunction over the channels, one by one. -/
theorem split26 (Φ : Fin 26 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25) := by
  rw [bigSep_univ_eq_bigSepL [0, 1, 2, 3, 4, 5, 6, 7, 8, 9, 10, 11, 12, 13, 14, 15, 16, 17, 18, 19, 20, 21, 22, 23, 24, 25] (by decide) (by decide)]
  simp only [bigSepL_cons_cons, bigSepL_singleton]
  rfl

/-- The own semaphores and the barrier semaphore are the device's cells. -/
theorem sems_eq (c : Dev nD) (Φ : SemLoc sig → sProp 𝕄) :
    (bigSep Finset.univ fun k : Fin 55 => Φ (csem k)) = iprop(Φ (csem 54) ∗ bigSep Finset.univ fun k : Fin 54 => Φ (osem k)) := by
  rw [bigSep_univ_eq_bigSepL ((54 : Fin 55) :: (List.finRange 54).map Fin.castSucc) (by decide +kernel) (by decide +kernel), bigSepL_cons, bigSepL_map,
    bigSep_univ_eq_bigSepL (List.finRange 54) (by decide +kernel) (by decide +kernel)]
  rfl

theorem unscopedSems0_eq (c : Dev nD) : (unscopedSems0 c : sProp 𝕄) = semVal (kcell c 54) 0 := by
  unfold unscopedSems0; rw [bigSep_eq_bigSepL_of_eq [SemLoc.reg barrier0] (by decide) (by decide)]; rfl

theorem sems0_eq (c : Dev nD) :
    (bigSep Finset.univ fun k : Fin 55 => semVal (kcell c k) 0 : sProp 𝕄)
      = iprop(unscopedSems0 c ∗ Pipeline.ownSems0 (Ix := Unit) (Name := ℕ) (U := UU) (Lvl := ℕ) (Val := Elt F) (τ := τ) osem c) := by
  rw [unscopedSems0_eq]
  exact sems_eq c fun s => semVal ((c : Thread nD τ), s) 0

/-! ## The tokens -/

/-- The duties of a device's own cells: one for each transfer cell, four for the barrier cell. -/
def duty (k : Fin 58) : Fin 55 × Fin 4 := if h : k.val < 54 then (⟨k.val, by omega⟩, 0) else (54, ⟨k.val - 54, by omega⟩)

theorem duty_inj : Function.Injective duty := fun a b h => by
  have h1 := congrArg (fun p : Fin 55 × Fin 4 => p.1.val) h
  have h2 := congrArg (fun p : Fin 55 × Fin 4 => p.2.val) h
  apply Fin.ext
  have ha := a.isLt; have hb := b.isLt
  by_cases ha' : a.val < 54 <;> by_cases hb' : b.val < 54 <;> simp [duty, ha', hb'] at h1 h2 <;> omega

def tokOf (p : Dev nD × Fin 58) : GSem nD τ sig × ℕ × Fin 4 := (kcell p.1 (duty p.2).1, 0, (duty p.2).2)
theorem tokOf_inj : Function.Injective tokOf := by
  rintro ⟨c, k⟩ ⟨c', k'⟩ h
  have h1 := kcell_iff.mp (congrArg Prod.fst h)
  have h2 : (duty k).2 = (duty k').2 := congrArg (fun x : GSem nD τ sig × ℕ × Fin 4 => x.2.2) h
  have h3 : k = k' := duty_inj (Prod.ext h1.2 h2)
  exact Prod.ext h1.1 h3

def ringCells : Finset (GSem nD τ sig) := Finset.univ.map ⟨fun p : Dev nD × Fin 55 => kcell p.1 p.2, kcell_inj⟩
def ringToks : Finset (GSem nD τ sig × ℕ × Fin 4) := Finset.univ.map ⟨tokOf, tokOf_inj⟩

/-- The tokens of device `c`'s own cells. -/
def toks (c : Dev nD) : sProp 𝕄 := bigSep Finset.univ fun k : Fin 58 => dutyTok ER (kcell c (duty k).1) 0 (duty k).2

def s58 (k : Fin 55) : Fin 58 := ⟨k.val, by omega⟩
theorem list58 : (Finset.univ : Finset (Fin 58)) = ((0 : Fin 58) :: 1 :: 54 :: 55 :: 56 :: 57 :: ((List.finRange 26).map (fun j => s58 (sS j)) ++ (List.finRange 26).map (fun j => s58 (sR j)))).toFinset := by decide +kernel
theorem nodup58 : ((0 : Fin 58) :: 1 :: 54 :: 55 :: 56 :: 57 :: ((List.finRange 26).map (fun j => s58 (sS j)) ++ (List.finRange 26).map (fun j => s58 (sR j)))).Nodup := by decide +kernel
theorem duty_sS (j : Fin 26) : duty (s58 (sS j)) = (sS j, 0) := by revert j; decide +kernel
theorem duty_sR (j : Fin 26) : duty (s58 (sR j)) = (sR j, 0) := by revert j; decide +kernel

theorem toks_eq (c : Dev nD) : (toks c : sProp 𝕄) = iprop(dutyTok ER (kcell c 0) 0 0 ∗ dutyTok ER (kcell c 1) 0 0
    ∗ dutyTok ER (kcell c 54) 0 0 ∗ dutyTok ER (kcell c 54) 0 1 ∗ dutyTok ER (kcell c 54) 0 2 ∗ dutyTok ER (kcell c 54) 0 3
    ∗ (bigSep Finset.univ fun j => dutyTok ER (kcell c (sS j)) 0 0) ∗ (bigSep Finset.univ fun j => dutyTok ER (kcell c (sR j)) 0 0)) := by
  unfold toks
  rw [bigSep_univ_eq_bigSepL _ list58 nodup58, bigSepL_cons, bigSepL_cons, bigSepL_cons, bigSepL_cons, bigSepL_cons, bigSepL_cons, bigSepL_append, bigSepL_map, bigSepL_map,
    bigSep_univ_eq_bigSepL (List.finRange 26) (by decide) (by decide) fun j => (dutyTok ER (kcell c (sS j)) 0 0 : sProp 𝕄),
    bigSep_univ_eq_bigSepL (List.finRange 26) (by decide) (by decide) fun j => (dutyTok ER (kcell c (sR j)) 0 0 : sProp 𝕄)]
  simp only [duty_sS, duty_sR]
  rfl

/-- The tokens of the duties device `c` pays. -/
def payToks (c : Dev nD) : sProp 𝕄 := iprop(dutyTok ER (kcell c 0) 0 0 ∗ dutyTok ER (kcell c 1) 0 0
    ∗ dutyTok ER (kcell (lf c) 54) 0 0 ∗ dutyTok ER (kcell (rt c) 54) 0 1 ∗ dutyTok ER (kcell (za c) 54) 0 2 ∗ dutyTok ER (kcell (zb c) 54) 0 3
    ∗ (bigSep Finset.univ fun j => dutyTok ER (kcell c (sS j)) 0 0) ∗ (bigSep Finset.univ fun j => dutyTok ER (kcell (tgt c j) (sR j)) 0 0))

theorem frm_tgt (c : Dev nD) (j : Fin 26) : frm (tgt c j) j = c := by revert c j; decide +kernel
theorem tgt_frm (c : Dev nD) (j : Fin 26) : tgt (frm c j) j = c := by revert c j; decide +kernel

def eLf : Dev nD ≃ Dev nD := ⟨lf, rt, rt_lf, lf_rt⟩
def eRt : Dev nD ≃ Dev nD := ⟨rt, lf, lf_rt, rt_lf⟩
def eZa : Dev nD ≃ Dev nD := ⟨za, za, za_za, za_za⟩
def eZb : Dev nD ≃ Dev nD := ⟨zb, zb, zb_zb, zb_zb⟩
def eTgt : Dev nD × Fin 26 ≃ Dev nD × Fin 26 :=
  ⟨fun p => (tgt p.1 p.2, p.2), fun p => (frm p.1 p.2, p.2), fun p => Prod.ext (frm_tgt p.1 p.2) rfl, fun p => Prod.ext (tgt_frm p.1 p.2) rfl⟩

theorem toks_around : (bigSep Finset.univ fun c : Dev nD => (toks c : sProp 𝕄)) ⊢ bigSep Finset.univ fun c : Dev nD => payToks c := by
  rw [bigSep_congr (s := Finset.univ) fun (c : Dev nD) _ => toks_eq (F := F) c]
  unfold payToks
  simp only [bigSep_sep']
  rw [bigSep_univ_equiv eLf (fun c : Dev nD => (dutyTok ER (kcell c 54) 0 0 : sProp 𝕄)),
    bigSep_univ_equiv eRt (fun c : Dev nD => (dutyTok ER (kcell c 54) 0 1 : sProp 𝕄)),
    bigSep_univ_equiv eZa (fun c : Dev nD => (dutyTok ER (kcell c 54) 0 2 : sProp 𝕄)),
    bigSep_univ_equiv eZb (fun c : Dev nD => (dutyTok ER (kcell c 54) 0 3 : sProp 𝕄)),
    ← bigSep_univ_prod (fun p : Dev nD × Fin 26 => (dutyTok ER (kcell p.1 (sR p.2)) 0 0 : sProp 𝕄)),
    bigSep_univ_equiv eTgt (fun p : Dev nD × Fin 26 => (dutyTok ER (kcell p.1 (sR p.2)) 0 0 : sProp 𝕄)),
    bigSep_univ_prod (fun p : Dev nD × Fin 26 => (dutyTok ER (kcell (eTgt p).1 (sR (eTgt p).2)) 0 0 : sProp 𝕄))]
  exact BI.Entails.refl _

/-! ## The invariants -/

/-- What the launch gives device `c`. -/
def G (c : Dev nD) : sProp 𝕄 :=
  iprop((bigSep Finset.univ fun k : Fin 55 => roundState ER (rd V) (kcell c k) 0)
    ∗ (bigSep Finset.univ fun k : Fin 55 => iprop(atPos ER (kcell c k) 0 ∅ 0 ∗ reached ER (kcell c k) 0)) ∗ toks c)

/-- What is made of it. -/
def G' (c : Dev nD) : sProp 𝕄 :=
  iprop(∃ K, recs V K ∗ (bigSep Finset.univ fun k : Fin 55 => atPos ER (kcell c k) 0 ∅ 0) ∗ payToks c)

theorem fund_ring : BI.own (ER (initOf ringCells ringToks)) ⊢ (|==> bigSep Finset.univ (G V) : sProp 𝕄) := by
  have hX (Φ : GSem nD τ sig → sProp 𝕄) : bigSep ringCells Φ = bigSep Finset.univ fun c : Dev nD => bigSep Finset.univ fun k : Fin 55 => Φ (kcell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]; rfl
  iintro HX
  imod (Rounds.fund ER (rd V) ringCells ringToks) $$ HX with ⟨Hst, Hr, Hat, Htok⟩
  imodintro
  ihave Hst' := (Entails.of_eq (hX fun g => roundState ER (rd V) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem core_alloc (c : Dev nD) :
    iprop(Pipeline.ownSems0 (Ix := Unit) (Name := ℕ) (U := UU) (Lvl := ℕ) (Val := Elt F) (τ := τ) osem c ∗ unscopedSems0 c ∗ G V c)
      ⊢ |={Set.univ}=> iprop((bigSep Finset.univ fun k => iprop(∃ κ : ℕ, cellInv ER (rd V) κ (kcell c k)))
          ∗ (bigSep Finset.univ fun k => iprop(atPos ER (kcell c k) 0 ∅ 0 ∗ reached ER (kcell c k) 0)) ∗ toks c) := by
  unfold G
  iintro ⟨Hos, Hus, Hst, Hat, Htok⟩
  ihave Hv := (Entails.of_eq (sems0_eq (F := F) c).symm) $$ [Hos Hus]
  · isplitl [Hus] <;> iassumption
  imod (show iprop((bigSep Finset.univ fun k : Fin 55 => semVal (kcell c k) 0) ∗ bigSep Finset.univ fun k : Fin 55 => roundState ER (rd V) (kcell c k) 0)
      ⊢ (|={Set.univ}=> bigSep Finset.univ fun k => iprop(∃ κ : ℕ, cellInv ER (rd V) κ (kcell c k)) : sProp 𝕄) from by
        rw [← bigSep_sep']
        exact (bigSep_mono fun k _ => (Rounds.body_intro ER (rd V) (kcell c k)).trans inv_alloc).trans (bigSep_fupd _ _)) $$ [Hv Hst] with Hinv
  · isplitl [Hv] <;> iassumption
  imodintro
  isplitl [Hinv]; · iexact Hinv
  isplitl [Hat]; · iexact Hat
  iexact Htok

theorem with_pers {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd V) κ (kcell c k)))
          ∗ (bigSep Finset.univ fun k => iprop(atPos ER (kcell c k) 0 ∅ 0 ∗ reached ER (kcell c k) 0)) ∗ toks c) : sProp 𝕄)
      ⊢ bigSep Finset.univ (G' V) := by
  rw [bigSep_sep', bigSep_sep', ← bigSep_univ_prod (fun p : Dev nD × Fin 55 => iprop(∃ κ : ℕ, cellInv ER (rd V) κ (kcell p.1 p.2))),
    bigSep_congr (s := Finset.univ) (fun (c : Dev nD) _ => bigSep_sep' Finset.univ (fun k : Fin 55 => (atPos ER (kcell c k) 0 ∅ 0 : sProp 𝕄)) (fun k => reached ER (kcell c k) 0)),
    bigSep_sep', ← bigSep_univ_prod (fun p : Dev nD × Fin 55 => (reached ER (kcell p.1 p.2) 0 : sProp 𝕄))]
  iintro ⟨HI, ⟨Hat, #HR⟩, Htok⟩
  ihave HK := (BI.bigSep_exists_pi Finset.univ (fun (p : Dev nD × Fin 55) (κ : ℕ) => (cellInv ER (rd V) κ (kcell p.1 p.2) : sProp 𝕄))) $$ HI
  icases HK with ⟨%K, #HI⟩
  ihave Htk := (toks_around (F := F)) $$ Htok
  iapply (with_pers (R := recs V K) (Φ := fun c => iprop((bigSep Finset.univ fun k : Fin 55 => atPos ER (kcell c k) 0 ∅ 0) ∗ payToks c)) (fun c _ => by
    unfold G'
    iintro ⟨H1, H2, H3⟩
    iexists K
    isplitl [H1]; · iexact H1
    isplitl [H2]; · iexact H2
    iexact H3))
  isplitr
  · unfold recs; rw [bigSep_sep']; isplitl; · iexact HI
    iexact HR
  · rw [bigSep_sep']
    isplitl [Hat]; · iexact Hat
    iexact Htk

/-- All devices' cells at once. -/
theorem glob : (bigSep Finset.univ fun c => iprop(Pipeline.ownSems0 (Ix := Unit) (Name := ℕ) (U := UU) (Lvl := ℕ) (Val := Elt F) (τ := τ) osem c ∗ unscopedSems0 c ∗ G V c) : sProp 𝕄)
    ⊢ |={Set.univ}=> bigSep Finset.univ (G' V) :=
  ((bigSep_mono fun c _ => core_alloc V c).trans (bigSep_fupd _ _)).trans (BI.fupd_mono (regroup V))

/-! ## The credit at launch -/

/-- Who owes the `n`-th credit to device `c`. -/
def ofrm (c : Dev nD) (n : ℕ) : Dev nD :=
  if n < 26 then frm c ⟨25 - n, by omega⟩ else if n = 26 then zb c else if n = 27 then za c else if n = 28 then lf c else rt c

theorem otgt_iff (d c : Dev nD) (n : ℕ) : otgt d n = c ↔ d = ofrm c n := by
  unfold otgt ofrm
  split
  · exact ⟨fun h => by rw [← h, frm_tgt], fun h => by rw [h, tgt_frm]⟩
  split
  · exact ⟨fun h => by rw [← h, zb_zb], fun h => by rw [h, zb_zb]⟩
  split
  · exact ⟨fun h => by rw [← h, za_za], fun h => by rw [h, za_za]⟩
  split
  · exact ⟨fun h => by rw [← h, lf_rt], fun h => by rw [h, rt_lf]⟩
  · exact ⟨fun h => by rw [← h, rt_lf], fun h => by rw [h, lf_rt]⟩

theorem owe_at (d c : Dev nD) (k : Fin 55) (n : ℕ) :
    owe d n (kcell c k) () = ∑ i ∈ Finset.range n, if d = ofrm c i then (if okey i = k then amt k else 0) else 0 := by
  induction n with
  | zero => rfl
  | succ n ih =>
    rw [Finset.sum_range_succ, ← ih]
    show owe d n (kcell c k) () + _ = _
    congr 1
    rw [tallyAt_apply]
    by_cases h : d = ofrm c n
    · rw [if_pos h]
      by_cases h' : okey n = k
      · rw [if_pos h', if_pos ⟨kcell_iff.mpr ⟨((otgt_iff d c n).mpr h).symm, h'.symm⟩, rfl⟩, h']
      · rw [if_neg h', if_neg (fun e => h' (kcell_iff.mp e.1).2.symm)]
    · rw [if_neg h, if_neg (fun e => h ((otgt_iff d c n).mp (kcell_iff.mp e.1).1.symm))]

theorem owed_at (c : Dev nD) (k : Fin 55) : ∑ d : Dev nD, owe d 30 (kcell c k) () = ((Finset.range 30).filter fun i => okey i = k).card * amt k := by
  rw [Finset.sum_congr rfl fun d _ => owe_at d c k 30, Finset.sum_comm,
    Finset.sum_congr rfl fun i _ => (Finset.sum_ite_eq' Finset.univ (ofrm c i) fun _ => (if okey i = k then amt k else 0)).trans (if_pos (Finset.mem_univ _)),
    ← Finset.sum_filter, Finset.sum_const, smul_eq_mul]

theorem card_sR (j : Fin 26) : ((Finset.range 30).filter fun i => okey i = sR j).card = 1 := by revert j; decide +kernel
theorem card_bar : ((Finset.range 30).filter fun i => okey i = 54).card = 4 := by decide +kernel

theorem launch_at (c : Dev nD) (k : Fin 55) (n : ℕ) (h : ((Finset.range 30).filter fun i => okey i = k).card * amt k = n) :
    tallyOn (kcell c k) (launchCredit (Pipeline.owing fun d => owe d 30) 0 (kcell c k)) = (tallyAt (kcell c k) () n : CellTallies nD τ sig Unit) := by
  unfold tallyAt; refine congrArg _ (Finsupp.ext fun u => ?_); cases u
  rw [Pipeline.launchCredit_owing, Finsupp.single_eq_same, owed_at, h]

theorem sR_inj : Function.Injective sR := by decide +kernel

/-- Device `c`'s credit: its barrier cell's and its receive cells'. -/
theorem creds (c : Dev nD) :
    (Pipeline.launchCred (fun d => owe d 30) c : sProp 𝕄)
      ⊢ iprop(cred (tallyAt (kcell c 54) () 4) ∗ bigSep Finset.univ fun j : Fin 26 => cred (tallyAt (kcell c (sR j)) () (amt (sR j)))) := by
  unfold Pipeline.launchCred
  rw [bigSep_univ_at _ (csem 54), launch_at c 54 4 (by rw [card_bar, amt_eq 54 4 (by decide)]; rfl)]
  refine sep_mono_right ((bigSep_subset (t := Finset.univ.map ⟨fun j : Fin 26 => csem (sR j), fun a b h => sR_inj (csem_inj h)⟩) ?_).trans ?_)
  · intro s hs
    obtain ⟨j, -, rfl⟩ := Finset.mem_map.mp hs
    exact Finset.mem_erase.mpr ⟨fun h => (sR_ne j).1 (congrArg Fin.val (csem_inj h)), Finset.mem_univ _⟩
  · rw [bigSep_map]
    exact bigSep_mono fun j _ => Entails.of_eq (congrArg cred (launch_at c (sR j) _ (by rw [card_sR, Nat.one_mul])))

end Cert.KernelIdeal.Pf

end
-- ==== Proof.Run.lean ====
/-
# The launch

The body of the kernel on every device at once, from a memory with zero counters: every execution ends with
the same result on every device, the arguments unchanged and the counters at zero.
-/
module

public import proofs.«01_k».proof.Proof.Chunk
public import proofs.«01_k».proof.Proof.Deal
public import Idealize.ShloMosaic.Lib.Pipeline.CollectiveSegs
public import proofs.«01_k».proof.Proof.Gen.KernelIdeal.Frame

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

set_option maxHeartbeats 4000000
set_option maxRecDepth 20000

variable (m : (ℓ : Loc nD τ sig) → Buf (Elt F) ℓ) (ρ : Dev nD → PrngReg)

/-! ## What the devices compute -/

/-- Row `i` in its block of 256. -/
def inBlk (i : S1024x1024.Idx) : S256x1024.Idx :=
  Fin.cons (α := fun k => Fin (S256x1024.size k)) ⟨(i 0).val % 256, Nat.mod_lt _ (by decide)⟩ (Fin.cons (α := fun k => Fin (S256x1024.size (Fin.succ k))) (i 1) finZeroElim)

/-- Attention over a device's heads, 256 rows at a time. -/
def part (x k v wq wo : S1024x1024.Idx → Elt F .f32) : Mat F := fun i =>
  chunk (k0_pay8 k) (k0_pay9 v) (k0_pay10 wq) (k0_pay11 wo) (blk ((i 0).val / 256 * 256) x) (blk ((i 0).val / 256 * 256) maskV) (inBlk i)

theorem part_at {x k v wq wo : S1024x1024.Idx → Elt F .f32} {a : ℕ} (ha : a % 256 = 0) (y : S256x1024.Idx) (i : S1024x1024.Idx) (h : At a y i) :
    chunk (k0_pay8 k) (k0_pay9 v) (k0_pay10 wq) (k0_pay11 wo) (blk a x) (blk a maskV) y = part x k v wq wo i := by
  have hy : (y 0).val < 256 := (y 0).isLt
  have hd : (i 0).val / 256 * 256 = a := by rw [h.1]; omega
  have hi : inBlk i = y := by
    funext k; fin_cases k
    · exact Fin.ext (show (i 0).val % 256 = (y 0).val by rw [h.1]; omega)
    · exact Fin.ext h.2
  unfold part
  rw [hd, hi]

theorem tk_mod (c : Dev nD) (k : ℕ) : tk c k % 256 = 0 := by unfold tk; omega

def argx (c : Dev nD) : S1024x1024.Idx → Elt F .f32 := m ((c : Thread nD τ).loc main_arg0)
def argk (c : Dev nD) : S1024x1024.Idx → Elt F .f32 := m ((c : Thread nD τ).loc main_arg2)
def argv (c : Dev nD) : S1024x1024.Idx → Elt F .f32 := m ((c : Thread nD τ).loc main_arg3)
def argq (c : Dev nD) : S1024x16384.Idx → Elt F .f32 := m ((c : Thread nD τ).loc main_arg1)
def argo (c : Dev nD) : S16384x1024.Idx → Elt F .f32 := m ((c : Thread nD τ).loc main_arg4)

/-- Every device's part, from its arguments. -/
def vals : Vals F where
  P c := part (argx m c) (argk m c) (argv m c) ((wqSrc c).view.read (Elt F) (argq m c)) ((woSrc c).view.read (Elt F) (argo m c))
  wq c := argq m c
  wo c := argo m c

/-! ## Before and after the body -/

/-- What device `c` brings to the body. -/
def start (c : Dev nD) : sProp 𝕄 :=
  iprop((∃ K, ctx (vals m) K ∗ (bigSep Finset.univ fun k : Fin 55 => atPos ER (kcell c k) 0 ∅ 0) ∗ payToks c)
    ∗ cred (tallyAt (kcell c 54) () 4) ∗ (bigSep Finset.univ fun j : Fin 26 => cred (tallyAt (kcell c (sR j)) () (amt (sR j))))
    ∗ (((c : Thread nD τ).loc main_arg1) ↦[(wqSrc c).view.set]{fullShare} argq m c) ∗ (((c : Thread nD τ).loc main_arg4) ↦[(woSrc c).view.set]{fullShare} argo m c))

def Φ₀ (c : Dev nD) : sProp 𝕄 := iprop(start m c ∗ Pipeline.scopedRest cfg0.spec c)

def Φ₁ (c : Dev nD) : sProp 𝕄 :=
  iprop((semVal (kcell c 54) 0 ∗ semVal (kcell c 0) 0 ∗ semVal (kcell c 1) 0 ∗ (bigSep Finset.univ fun j : Fin 26 => ch3 c j))
    ∗ ((((c : Thread nD τ).loc main_arg1) ↦[(wqSrc c).view.set]{fullShare} argq m c) ∗ (((c : Thread nD τ).loc main_arg4) ↦[(woSrc c).view.set]{fullShare} argo m c))
    ∗ Pipeline.scopedRest cfg0.spec c)

/-- The proof data of the launch. -/
def dats (_ : Fin 1) (c : Dev nD) : Dat τ (Elt F) Unit ℕ UU ℕ cfg0 c where
  A w := (s₀ m ρ).mem ((cfg0.win w).arr.view.loc (c : Thread nD τ))
  after w t := match w with
    | ⟨0, _⟩ => iblk m c 0 t
    | ⟨1, _⟩ => iblk m c 1 t
    | ⟨2, _⟩ => iblk m c 2 t
    | ⟨3, _⟩ => OUT (vals m)
  Φ t := match t with
    | ⟨0, _⟩ => Φ₀ m c
    | ⟨_ + 1, _⟩ => Φ₁ m c
  q _ := fullShare
  owed t := match t with
    | ⟨0, _⟩ => owe c 30
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem emb_x (y) : ((cfg0.win 0).blk t0_0).view.emb y = y := funext fun k => by fin_cases k <;> exact Fin.ext ((Pipeline.Window.rect_emb_val_off _ _ _ _).trans (Nat.zero_add _))
theorem emb_k (y) : ((cfg0.win 1).blk t0_0).view.emb y = y := funext fun k => by fin_cases k <;> exact Fin.ext ((Pipeline.Window.rect_emb_val_off _ _ _ _).trans (Nat.zero_add _))
theorem emb_v (y) : ((cfg0.win 2).blk t0_0).view.emb y = y := funext fun k => by fin_cases k <;> exact Fin.ext ((Pipeline.Window.rect_emb_val_off _ _ _ _).trans (Nat.zero_add _))
theorem emb_o (y) : ((cfg0.win 3).blk t0_0).view.emb y = y := funext fun k => by fin_cases k <;> exact Fin.ext ((Pipeline.Window.rect_emb_val_off _ _ _ _).trans (Nat.zero_add _))

/-- A staged argument is the argument. -/
theorem iblk_x (c : Dev nD) : iblk m c 0 t0_0 = argx m c := funext fun i => congrArg (argx m c) (emb_x i)
theorem iblk_k (c : Dev nD) : iblk m c 1 t0_0 = argk m c := funext fun i => congrArg (argk m c) (emb_k i)
theorem iblk_v (c : Dev nD) : iblk m c 2 t0_0 = argv m c := funext fun i => congrArg (argv m c) (emb_v i)

theorem before_x (c : Dev nD) (d) : (dats m ρ 0 c).before (0 : Fin 4) t0_0 d = iblk m c 0 t0_0 := by unfold Dat.before; rw [if_pos (fetch0_0 t0_0)]; rfl
theorem before_k (c : Dev nD) (d) : (dats m ρ 0 c).before (1 : Fin 4) t0_0 d = iblk m c 1 t0_0 := by unfold Dat.before; rw [if_pos (fetch0_1 t0_0)]; rfl
theorem before_v (c : Dev nD) (d) : (dats m ρ 0 c).before (2 : Fin 4) t0_0 d = iblk m c 2 t0_0 := by unfold Dat.before; rw [if_pos (fetch0_2 t0_0)]; rfl

/-- The channels as the body takes them. -/
theorem channels (c : Dev nD) :
    iprop((bigSep Finset.univ fun k : Fin 55 => atPos ER (kcell c k) 0 ∅ 0) ∗ payToks c ∗ (bigSep Finset.univ fun j : Fin 26 => cred (tallyAt (kcell c (sR j)) () (amt (sR j)))))
      ⊢ (iprop(lc0 c 0 ∗ lc0 c 1 ∗ (dutyTok ER (kcell (lf c) 54) 0 0 ∗ dutyTok ER (kcell (rt c) 54) 0 1 ∗ dutyTok ER (kcell (za c) 54) 0 2 ∗ dutyTok ER (kcell (zb c) 54) 0 3)
        ∗ atPos ER (kcell c 54) 0 ∅ 0 ∗ bigSep Finset.univ fun j : Fin 26 => ch0 c j) : sProp 𝕄) := by
  unfold payToks lc0 ch0
  rw [split55 fun k => (atPos ER (kcell c k) 0 ∅ 0 : sProp 𝕄)]
  simp only [bigSep_sep']
  iintro ⟨⟨A0, A1, A54, AS, AR⟩, ⟨T0, T1, Ta, Tb, Tc, Td, TS, TR⟩, C⟩
  isplitl [T0 A0]
  · isplitl [T0] <;> iassumption
  isplitl [T1 A1]
  · isplitl [T1] <;> iassumption
  isplitl [Ta Tb Tc Td]
  · isplitl [Ta]; · iexact Ta
    isplitl [Tb]; · iexact Tb
    isplitl [Tc] <;> iassumption
  isplitl [A54]; · iexact A54
  isplitl [TS]; · iexact TS
  isplitl [TR]; · iexact TR
  isplitl [AS]; · iexact AS
  isplitl [AR] <;> iassumption

/-- The counters of the device's cells, back at zero. -/
theorem closed (c : Dev nD) :
    iprop(semVal (kcell c 54) 0 ∗ semVal (kcell c 0) 0 ∗ semVal (kcell c 1) 0 ∗ (bigSep Finset.univ fun j : Fin 26 => ch3 c j))
      ⊢ (iprop(unscopedSems0 c ∗ Pipeline.ownSems0 (Ix := Unit) (Name := ℕ) (U := UU) (Lvl := ℕ) (Val := Elt F) (τ := τ) osem c) : sProp 𝕄) := by
  refine BIBase.Entails.trans ?_ (Entails.of_eq (sems0_eq (F := F) c))
  unfold ch3
  rw [split55 fun k => (semVal (kcell c k) 0 : sProp 𝕄)]
  simp only [bigSep_sep']
  iintro ⟨H54, H0, H1, HS, HR⟩
  isplitl [H0]; · iexact H0
  isplitl [H1]; · iexact H1
  isplitl [H54]; · iexact H54
  isplitl [HS] <;> iassumption

/-! ## The body obligation -/

def bodyPre' (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m c ∗ (dats m ρ 0 c).owesAt () t0_0.succ
    ∗ stg c cc0_stg0_0 (iblk m c 0 t0_0) ∗ stg c cc0_stg1_0 (iblk m c 1 t0_0) ∗ stg c cc0_stg2_0 (iblk m c 2 t0_0) ∗ stg c cc0_stg3_0 (OUT (vals m)))

theorem post_of (c : Dev nD) : doneR (vals m) (argx m c) (argk m c) (argv m c) c ⊢ bodyPost m ρ c := by
  unfold doneR bodyPost Φ₁ Dat.owesAt Pipeline.owesWithin ow at_q at_w at_x at_k at_v at_m cb ob prW plW yW zW
  rw [show (dats m ρ 0 c).owed t0_0.succ = 0 from rfl, split26 fun j => ch3 c j, scopedRest0_eq, iblk_x, iblk_k, iblk_v]
  iintro ⟨⟨%W, HO⟩, B, S0, S1, HQ, HW, q, w, x, k, v, mm, cc, oo, f4, f5, f6, f7, HC⟩
  isplitl [B S0 S1 HQ HW q w mm cc f4 f5 f6 f7 HC]
  · isplitl [B S0 S1 HC]
    · isplitl [B]; · iexact B
      isplitl [S0]; · iexact S0
      isplitl [S1]; · iexact S1
      iexact HC
    isplitl [HQ HW]
    · isplitl [HQ]; · iexact HQ
      iexact HW
    isplitl [q]; · (iexists _; iexact q)
    isplitl [w]; · (iexists _; iexact w)
    isplitl [cc]; · (iexists _; iexact cc)
    isplitl [mm]; · (iexists _; iexact mm)
    isplitl [f4]; · iexact f4
    isplitl [f5]; · iexact f5
    isplitl [f6]; · iexact f6
    iexact f7
  isplitl [HO]
  · iexists W
    isplitr; · ipureintro; exact fun _ _ => Or.inl trivial
    iexact HO
  isplitl [x]; · (iexists _; isplitr; · (ipureintro; rfl)); iexact x
  isplitl [k]; · (iexists _; isplitr; · (ipureintro; rfl)); iexact k
  isplitl [v]; · (iexists _; isplitr; · (ipureintro; rfl)); iexact v
  iexists _; isplitr; · (ipureintro; rfl)
  iexact oo

theorem sound_body (c : Dev nD) : bodyPre' m ρ c ⊢ wp frame (wpE (defs₀ (F := F)) 𝒱₀ c none) Set.univ
    (cc0__body (Memref.whole cc0_stg0_0) (Memref.isWhole_whole _) (Memref.whole main_arg1) (Memref.isWhole_whole _) (Memref.whole cc0_stg1_0) (Memref.isWhole_whole _) (Memref.whole cc0_stg2_0) (Memref.isWhole_whole _) (Memref.whole main_arg4) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scratch11 cc0_scratch12 cc0_scratch13 cc0_scratch14 cc0_scratch15 cc0_scratch16 cc0_scratch17 cc0_scratch18 cc0_scratch19) (fun _ => bodyPost m ρ c) := by
  unfold bodyPre' Φ₀ start Dat.owesAt Pipeline.owesWithin stg
  rw [show (dats m ρ 0 c).owed t0_0.castSucc = owe c 30 from rfl, scopedRest0_eq]
  simp only [before_x, before_k, before_v, iblk_x, iblk_k, iblk_v]
  iintro ⟨⟨⟨⟨%K, #Hc, Hat, Htk⟩, Hb, Hcr, HQ, HW⟩, f0, f1, ⟨%A0, f2⟩, f3, f4, f5, f6, f7⟩, ⟨%W, %hW, HO⟩, ⟨%d0, %X, %hx, x⟩, ⟨%d1, %Xk, %hk, k⟩, ⟨%d2, %Xv, %hv, v⟩, ⟨%d3, %O0, %ho, oo⟩⟩
  subst hx hk hv
  ihave Hch := (channels c) $$ [Hat Htk Hcr]
  · isplitl [Hat]; · iexact Hat
    isplitl [Htk] <;> iassumption
  icases Hch with ⟨l0, l1, ⟨Ta, Tb, Tc, Td⟩, A54, HC⟩
  ihave HC := (Entails.of_eq (split26 fun j => ch0 c j)) $$ HC
  iapply (run_body (vals m) K c (X := argx m c) (Xk := argk m c) (Xv := argv m c) (A0 := A0) (O0 := O0)
    (fun y i h => (congrFun (chA_eq _ _ _ _ _ _) y).trans (part_at (tk_mod c 0) y i h))
    (fun y i h => (congrFun (chB_eq _ _ _ _ _ _) y).trans (part_at (tk_mod c 3) y i h))
    (fun y i h => (congrFun (chC_eq _ _ _ _ _ _) y).trans (part_at (tk_mod c 1) y i h))
    (fun y i h => (congrFun (chD_eq _ _ _ _ _ _) y).trans (part_at (tk_mod c 2) y i h))) $$ [l0 l1 HQ HW f0 f1 Ta Tb Tc Td Hb A54 HO f4 f5 f6 f7 f3 x k v f2 oo HC]
  · isplitr; · iexact Hc
    isplitl [l0]; · iexact l0
    isplitl [l1]; · iexact l1
    isplitl [HQ]; · iexact HQ
    isplitl [HW]; · iexact HW
    isplitl [f0]; · iexact f0
    isplitl [f1]; · iexact f1
    isplitl [Ta]; · iexact Ta
    isplitl [Tb]; · iexact Tb
    isplitl [Tc]; · iexact Tc
    isplitl [Td]; · iexact Td
    isplitl [Hb]; · iexact Hb
    isplitl [A54]; · iexact A54
    isplitl [HO]; · (unfold ow; iexists W; iexact HO)
    isplitl [f4]; · (unfold prW; iexact f4)
    isplitl [f5]; · (unfold plW; iexact f5)
    isplitl [f6]; · (unfold yW; iexact f6)
    isplitl [f7]; · (unfold zW; iexact f7)
    isplitl [f3]; · (unfold at_m; iexact f3)
    isplitl [x]; · (unfold at_x; iexact x)
    isplitl [k]; · (unfold at_k; iexact k)
    isplitl [v]; · (unfold at_v; iexact v)
    isplitl [f2]; · (unfold cb; iexact f2)
    isplitl [oo]; · (unfold ob; iexact oo)
    iexact HC
  iintro H
  iapply (post_of m ρ c) $$ H

/-- The library's body obligation on device `c`. -/
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact sound_body m ρ c

/-! ## The launch -/

theorem share_eq (c : Dev nD) (w : Fin cfg0.W) : (dats m ρ 0 c).share w = fullShare := by unfold Dat.share; split <;> rfl

/-- What device `c` keeps out of the body: the rest of the two weight arrays. -/
def keep (c : Dev nD) : sProp 𝕄 :=
  iprop((((c : Thread nD τ).loc main_arg1) ↦[Finset.univ \ (wqSrc c).view.set]{fullShare} argq m c) ∗ (((c : Thread nD τ).loc main_arg4) ↦[Finset.univ \ (woSrc c).view.set]{fullShare} argo m c))

/-- What device `c` takes out of the body. -/
def done (c : Dev nD) : sProp 𝕄 :=
  iprop(unscopedSems0 c ∗ (((c : Thread nD τ).loc main_arg1) ↦[(wqSrc c).view.set]{fullShare} argq m c) ∗ (((c : Thread nD τ).loc main_arg4) ↦[(woSrc c).view.set]{fullShare} argo m c))

theorem start_intro (c : Dev nD) :
    iprop(Pipeline.unscopedRestP Pipeline.Prefetch.none cfg0.spec c (fun b => m ((c : Thread nD τ).loc b)) ∗ levAts L lv
        ∗ Pipeline.launchCred (fun d => owe d 30) c ∗ prngReg c (ρ c) ∗ G' (vals m) c)
      ⊢ |={Set.univ}=> iprop(start m c ∗ keep m c) := by
  rw [Pipeline.unscopedRestP_none, unscopedRest0_eq]
  iintro ⟨⟨H1, H4⟩, #Hlev, Hcr, -, HG⟩
  ihave Hc := (creds (F := F) c) $$ Hcr
  icases Hc with ⟨Hb, HR⟩
  ihave H1 := (pointsTo_split_subset (Finset.subset_univ (wqSrc c).view.set)).1 $$ H1
  ihave H4 := (pointsTo_split_subset (Finset.subset_univ (woSrc c).view.set)).1 $$ H4
  icases H1 with ⟨H1, H1'⟩
  icases H4 with ⟨H4, H4'⟩
  imodintro
  unfold start G' keep ctx argq argo
  isplitl [HG Hb HR H1 H4]
  · isplitl [HG]
    · icases HG with ⟨%K, HI, HP⟩
      iexists K
      isplitl [HI]
      · isplitl [HI]; · iexact HI
        iexact Hlev
      iexact HP
    isplitl [Hb]; · iexact Hb
    isplitl [HR]; · iexact HR
    isplitl [H1]; · iexact H1
    iexact H4
  · isplitl [H1']; · iexact H1'
    iexact H4'

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs] <;> iassumption

theorem phi1_exit (c : Dev nD) :
    (dats m ρ 0 c).Φ (Fin.last cfg0.N) ⊢ iprop(done m c ∗ Pipeline.ownSems0 osem c ∗ Pipeline.scopedRest cfg0.spec c) := by
  rw [show (dats m ρ 0 c).Φ (Fin.last cfg0.N) = Φ₁ m c from rfl]
  unfold Φ₁ done
  iintro ⟨Hz, HQ, Hr⟩
  ihave Hz := (closed (F := F) c) $$ Hz
  icases Hz with ⟨Hu, Ho⟩
  isplitl [Hu HQ]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t => by
    have h (n : ℕ) (hn : n ≤ 30) : (levAts L lv : sProp 𝕄) ⊢ MayWait (c : Thread nD τ) (.dma ((cfg0.win w).sem s)) () (owe c n) :=
      mayWait c _ n 0 (by fin_cases w <;> fin_cases s <;> rfl) (fun i hi => by rw [lvk_okey]; split <;> omega)
    rcases t with ⟨_ | _, ht⟩
    · exact h 30 (le_refl _)
    · exact h 0 (Nat.zero_le _)

/-- A whole buffer held reads as held. -/
theorem read_one (ℓ : Loc nD τ sig) (f : Buf (Elt F) ℓ) (s' : Phys nD τ sig (Elt F)) :
    iprop((ℓ ↦{fullShare} f) ∗ SI s') ⊢ (iprop(⌜s'.mem.mem ℓ = f⌝ ∗ SI s') : sProp 𝕄) := by
  have h := pointsTo_read_all (Ix := Unit) (Name := ℕ) (U := UU) (Lvl := ℕ) ({()} : Finset Unit) (fun _ => ℓ) (fun _ => f) s'
  rw [bigSep_singleton] at h
  exact h.trans (sep_mono_left (BI.pure_mono fun h => h () (Finset.mem_singleton_self _)))

/-- What device `c`'s memory shows at the end, besides its windows' arrays. -/
def QY (c : Dev nD) (s : MemSt nD τ sig (Elt F)) : Prop :=
  (s.mem ((c : Thread nD τ).loc main_arg1) = argq m c ∧ s.mem ((c : Thread nD τ).loc main_arg4) = argo m c)
    ∧ ∀ sm : SemLoc sig, sm.isScoped .tc = false → s.sem ((c.tc : Thread nD τ), sm) = 0

theorem read_end (c : Dev nD) (s' : Phys nD τ sig (Elt F)) : iprop(done m c ∗ keep m c ∗ SI s') ⊢ (|={Set.univ}=> iprop(⌜QY m c s'.mem⌝ ∗ SI s') : sProp 𝕄) := by
  unfold done keep
  iintro ⟨⟨Hu, H1, H4⟩, ⟨H1', H4'⟩, HSI⟩
  ihave H1 := (pointsTo_split_subset (ℓ := (c : Thread nD τ).loc main_arg1) (q := fullShare) (f := argq m c) (Finset.subset_univ (wqSrc c).view.set)).2 $$ [H1 H1']
  · isplitl [H1] <;> iassumption
  ihave H4 := (pointsTo_split_subset (ℓ := (c : Thread nD τ).loc main_arg4) (q := fullShare) (f := argo m c) (Finset.subset_univ (woSrc c).view.set)).2 $$ [H4 H4']
  · isplitl [H4] <;> iassumption
  ihave H := (read_one _ _ s') $$ [H1 HSI]
  · isplitl [H1] <;> iassumption
  icases H with ⟨%h1, HSI⟩
  ihave H := (read_one _ _ s') $$ [H4 HSI]
  · isplitl [H4] <;> iassumption
  icases H with ⟨%h4, HSI⟩
  imod (Pipeline.unscopedSems0_read (X := unscopedSems0 c) (c := c) fupd_intro s') $$ [Hu HSI] with ⟨%hu, HSI⟩
  · isplitl [Hu] <;> iassumption
  imodintro
  isplitr
  · ipureintro; exact ⟨⟨h1, h4⟩, hu⟩
  iexact HSI

def u₀ : UU := (initOf (Pipeline.cells cfgs cellOf_inj) (Pipeline.launchToks cfgs cellOf_inj), initOf ringCells ringToks)

/-- What the run ends with. -/
def QC (r : PUnit × MemSt nD τ sig (Elt F)) : Prop :=
  (∀ c : Dev nD, (∀ w : Fin cfg0.W, r.2.mem ((cfg0.win w).arr.view.loc (c : Thread nD τ)) = (dats m ρ 0 c).arrAt w cfg0.N)
    ∧ r.2.mem ((c : Thread nD τ).loc main_arg1) = argq m c ∧ r.2.mem ((c : Thread nD τ).loc main_arg4) = argo m c) ∧ r.2.sem = fun _ => 0

theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := fun d => owe d 30) (howed₀ := fun _ => rfl) (howedN := fun _ => rfl)
    (L := L) (lv := lv) (hL := L_of_ne) (hwaits := waits m ρ)
    (G := G (vals m)) (G' := G' (vals m)) (u₀ := u₀)
    (hu₀ := by
      unfold u₀
      iintro Hu
      ihave H := (ownU_pair _ _) $$ Hu
      icases H with ⟨HP, HX⟩
      imod (fund_ring (vals m)) $$ HX with HG
      imodintro
      isplitl [HP] <;> iassumption)
    (hglob := glob (vals m))
    (hA := fun _ _ => rfl) (hpf := fun _ k => k.elim0)
    (X := start m) (Y := done m) (Z := keep m)
    (hX := start_intro m ρ) (hin := phi0_intro m ρ) (hout := phi1_exit m ρ)
    (QY := QY m) (hY := read_end m)
    (hQ := fun _ h hs => ⟨fun c => ⟨(h c).1, (h c).2.2.1⟩, sem_eq_zero hs fun c => (h c).2.2.2⟩)

/-! ## The final memory -/

/-- The result array at the end. -/
theorem final_out (c : Dev nD) : (dats m ρ 0 c).arrAt (3 : Fin 4) cfg0.N = OUT (vals m) :=
  (dats m ρ 0 c).arrAt_eq_of_cover (3 : Fin 4) (OUT (vals m))
    (fun t _ => by rw [fin_N0 t]; exact funext fun i => congrArg (OUT (vals m)) (emb_o i).symm)
    (fun i => ⟨t0_0, flush0_3 t0_0, by have h := ((cfg0.win (3 : Fin 4)).blk t0_0).view.emb_mem_set i; rwa [emb_o] at h⟩)

/-- Every device ends with the same result, its arguments as given and its counters at zero. -/
theorem run_all : θ_run defs (onTc (τ := τ) (main (F := F))) ⟨m, fun _ => 0, ρ⟩ (fun r =>
    (∀ c : Dev nD, r.2.mem ((c.tc : Thread nD τ).loc main_v1) = OUT (vals m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => ⟨((h.1 c).1 (3 : Fin 4)).trans (final_out m ρ c),
      ((h.1 c).1 (0 : Fin 4)).trans ((dats m ρ 0 c).arrAt_in (0 : Fin 4) rfl _), (h.1 c).2.1,
      ((h.1 c).1 (1 : Fin 4)).trans ((dats m ρ 0 c).arrAt_in (1 : Fin 4) rfl _),
      ((h.1 c).1 (2 : Fin 4)).trans ((dats m ρ 0 c).arrAt_in (2 : Fin 4) rfl _), (h.1 c).2.2⟩, h.2⟩) (run_main m ρ)

end Cert.KernelIdeal.Pf

end
-- ==== Proof.Same.lean ====
/-
# The kernel as run and the kernel as read

The two printed programs differ at one constant, which the second gives by name. Over a number format that
reads every name as its own bits they are one program.
-/
module

public import proofs.«01_k».proof.Proof.Gen.Kernel
public import proofs.«01_k».proof.Proof.Run

@[expose] public section

noncomputable section

namespace Cert.Pf

open Idealize.ShloMosaic Idealize.ShloMosaic.TcCoe
open Idealize.SL Idealize.SL.Sem

variable {F : FTy → Type} [FloatOps F]

/-- Every name read as its bits. -/
@[reducible] def plain : Named F where
  named _ _ {φ} bits := Scalar.ofBits φ bits

set_option maxRecDepth 100000 in
set_option maxHeartbeats 4000000 in
theorem body_same : @Cert.KernelIdeal.cc0__body F _ plain _ = @Cert.Kernel.cc0__body F _ _ := rfl

set_option maxRecDepth 100000 in
set_option maxHeartbeats 4000000 in
theorem defs₀_same : @Cert.KernelIdeal.defs₀ F _ plain _ = @Cert.Kernel.defs₀ F _ _ := by
  refine congrArg Defs.onTc (funext fun l => funext fun x => ?_)
  match l, x with
  | 0, x => rfl

set_option maxRecDepth 100000 in
set_option maxHeartbeats 4000000 in
theorem defs_same : @Cert.KernelIdeal.defs F _ plain _ = @Cert.Kernel.defs F _ _ :=
  congrArg (Pipeline.defs _) defs₀_same

/-- The kernel as run: every device ends with its arguments as given and its counters at zero. -/
theorem run_kernel (m : (ℓ : Loc Cert.Kernel.nD Cert.Kernel.τ Cert.Kernel.sig) → Buf (Elt F) ℓ) (g : Dev Cert.Kernel.nD → PrngReg) :
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  rw [← defs_same]
  exact (θ_run _ _ _).mono (fun r h => ⟨fun c => (h.1 c).2, h.2⟩) (@Cert.KernelIdeal.Pf.run_all F _ plain m g)

end Cert.Pf

end
-- ==== Proof.RefFrame.lean ====
/- # The reference's frame

The reference is one device's host program: it starts with every counter at zero and touches none. -/
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Pf

open Idealize.ShloMosaic Idealize.SL.Sem Cert.ReferenceIdeal Cert.ReferenceIdeal.Gen

/-- The reference runs to its end with its arguments as they were, at any float values; its signature has no
    semaphore, so no counter is left standing. -/
theorem run_reference {F : FTy → Type} [FloatOps F] (m : (ℓ : Loc nD τ sig) → Buf (Elt F) ℓ) (g : Dev nD → PrngReg) :
    θ_run defs (onTc (τ := τ) (main (F := F))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0 :=
  (θ_run defs _ _).mono (fun r h => ⟨fun c => (h c).2, sem_eq_zero_of_no_sems (by decide) r.2⟩) (Value.run m g)

end Cert.Pf

end
-- ==== Proof.Soft.lean ====
/- # Sums and softmax over the extended reals

Where a number is a real it scales a sum term by term; a sum of products of reals is a real; and the exponentials of
a row, not all of whose entries are −∞ and none +∞, divided by their sum are the same whether or not the row's
maximum is taken off first. -/
module

public import Idealize.ShloMosaic.Lib.Pointwise

@[expose] public section

noncomputable section

namespace Cert.Pf

open Idealize.ShloMosaic

/-- An extended real that is a real number. -/
def IsReal (a : EReal) : Prop := ∃ r : ℝ, a = (r : EReal)

theorem IsReal.mul {a b : EReal} (ha : IsReal a) (hb : IsReal b) : IsReal (a * b) := by
  obtain ⟨r, rfl⟩ := ha; obtain ⟨s, rfl⟩ := hb
  exact ⟨r * s, (EReal.coe_mul r s).symm⟩

theorem IsReal.sum {ι : Type*} {s : Finset ι} {f : ι → EReal} (h : ∀ i, IsReal (f i)) : IsReal (∑ i ∈ s, f i) := by
  classical
  induction s using Finset.induction_on with
  | empty => exact ⟨0, by simp⟩
  | insert a t ha ih =>
    obtain ⟨r, hr⟩ := h a
    obtain ⟨q, hq⟩ := ih
    exact ⟨r + q, by rw [Finset.sum_insert ha, hr, hq, EReal.coe_add]⟩

/-- A real number that is not negative comes out of a sum on the right. -/
theorem sum_scale {ι : Type*} (s : Finset ι) (f : ι → EReal) (c : ℝ) (hc : 0 ≤ c) :
    ∑ i ∈ s, f i * (c : EReal) = (∑ i ∈ s, f i) * (c : EReal) := by
  classical
  induction s using Finset.induction_on with
  | empty => simp
  | insert a t ha ih =>
    rw [Finset.sum_insert ha, Finset.sum_insert ha, ih,
      EReal.right_distrib_of_nonneg_of_ne_top (by exact_mod_cast hc) (EReal.coe_ne_top c)]

/-- The maximum of a row, as a fold of `max` from −∞, is above every entry. -/
theorem le_top_of {n : ℕ} (t : Fin n → EReal) (j : Fin n) : t j ≤ Finset.univ.fold max ⊥ t :=
  (Finset.le_fold_max (t j)).2 (Or.inr ⟨j, Finset.mem_univ j, le_rfl⟩)

/-- The maximum of a row of reals and −∞, not all −∞, is real. -/
theorem max_real {n : ℕ} (t : Fin n → EReal) (ht : ∀ j, t j = ⊥ ∨ IsReal (t j)) (h : ∃ j, IsReal (t j)) :
    IsReal (Finset.univ.fold max ⊥ t) := by
  have hlt : Finset.univ.fold max ⊥ t < ⊤ := by
    refine (Finset.fold_max_lt ⊤).2 ⟨bot_lt_top, fun j _ => ?_⟩
    rcases ht j with e | ⟨r, e⟩ <;> rw [e]
    · exact bot_lt_top
    · exact EReal.coe_lt_top r
  have hgt : ⊥ < Finset.univ.fold max ⊥ t := by
    obtain ⟨j, r, e⟩ := h
    exact lt_of_lt_of_le (by rw [e]; exact EReal.bot_lt_coe r) (le_top_of t j)
  exact ⟨_, (EReal.coe_toReal hlt.ne hgt.ne').symm⟩

/-- Taking a real off an exponent divides the exponential by a real that is positive. -/
theorem exp_off (a : EReal) (ha : a = ⊥ ∨ IsReal a) (m : ℝ) :
    Ideal.exp (a - (m : EReal)) = Ideal.exp a * ((Real.exp (-m) : ℝ) : EReal) := by
  rcases ha with rfl | ⟨r, rfl⟩
  · rw [EReal.bot_sub, Ideal.exp_bot, zero_mul]
  · rw [← EReal.coe_sub]
    change ((Real.exp (r - m) : ℝ) : EReal) = ((Real.exp r : ℝ) : EReal) * _
    rw [← EReal.coe_mul, sub_eq_add_neg, Real.exp_add]

theorem exp_nonneg_real (a : EReal) (ha : a = ⊥ ∨ IsReal a) : ∃ r : ℝ, 0 ≤ r ∧ Ideal.exp a = (r : EReal) := by
  rcases ha with rfl | ⟨r, rfl⟩
  · exact ⟨0, le_rfl, Ideal.exp_bot⟩
  · exact ⟨Real.exp r, (Real.exp_pos r).le, rfl⟩

/-- The sum of a row's exponentials is a positive real. -/
theorem sum_pos {n : ℕ} (t : Fin n → EReal) (ht : ∀ j, t j = ⊥ ∨ IsReal (t j)) (h : ∃ j, IsReal (t j)) :
    ∃ s : ℝ, 0 < s ∧ ∑ j, Ideal.exp (t j) = (s : EReal) := by
  choose w hw0 hw using fun j => exp_nonneg_real (t j) (ht j)
  refine ⟨∑ j, w j, ?_, ?_⟩
  · obtain ⟨j, r, e⟩ := h
    refine Finset.sum_pos' (fun j _ => hw0 j) ⟨j, Finset.mem_univ j, ?_⟩
    have : ((w j : ℝ) : EReal) = ((Real.exp r : ℝ) : EReal) := by rw [← hw j, e]; rfl
    rw [EReal.coe_eq_coe_iff.1 this]; exact Real.exp_pos r
  · simp only [hw]
    exact (map_sum (⟨⟨((↑) : ℝ → EReal), EReal.coe_zero⟩, EReal.coe_add⟩ : ℝ →+ EReal) w Finset.univ).symm

/-- **Softmax.** The weighted sum of a row's exponentials over their sum, whether the division comes last or the row's
    maximum is taken off and each weight is divided by itself. -/
theorem softmax_eq {n : ℕ} (t v : Fin n → EReal) (ht : ∀ j, t j = ⊥ ∨ IsReal (t j)) (h : ∃ j, IsReal (t j)) :
    (∑ j, Ideal.exp (t j) * v j) * Ideal.div 1 (∑ j, Ideal.exp (t j))
      = ∑ j, v j * Ideal.div (Ideal.exp (t j - Finset.univ.fold max ⊥ t))
          (∑ k, Ideal.exp (t k - Finset.univ.fold max ⊥ t)) := by
  obtain ⟨m, hm⟩ := max_real t ht h
  obtain ⟨s, hs, e⟩ := sum_pos t ht h
  have hx : 0 < Real.exp (-m) := Real.exp_pos _
  rw [hm]
  simp only [fun j => exp_off (t j) (ht j) m]
  rw [sum_scale _ _ _ hx.le, e, ← EReal.coe_mul, Ideal.div_coe hs.ne', one_mul, ← sum_scale _ _ _ (by positivity)]
  refine Finset.sum_congr rfl fun j _ => ?_
  rw [Ideal.div_coe (mul_pos hs hx).ne', mul_assoc (Ideal.exp (t j)) ((Real.exp (-m) : ℝ) : EReal), ← EReal.coe_mul,
    show Real.exp (-m) * (1 / (s * Real.exp (-m))) = 1 / s by field_simp, mul_comm (Ideal.exp (t j)) (v j), mul_assoc]

end Cert.Pf

end
-- ==== Proof.Heads.lean ====
/- # A device's part of the result, over the extended reals

The mask is zero where a query may look at a key and −∞ elsewhere. A device's part is, at each row and column, the
sum over its 1024 head columns of the attention there times the output weight. -/
module

public import proofs.«01_k».proof.Proof.Run
public import proofs.«01_k».proof.Proof.Soft

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The block of 64 a position lies in, by signed division rounded down. -/
def fdw (n : BitVec 32) : BitVec 32 :=
  Scalar.select (IntOp.andi (IntOp.cmpi .ne (IntOp.subi ((IntOp.cmpi .sgt n 0#32).setWidth 32) ((IntOp.cmpi .slt n 0#32).setWidth 32))
      (Scalar.subi (Scalar.extui (Scalar.cmpi .sgt 64#32 0#32)) (Scalar.extui (Scalar.cmpi .slt 64#32 0#32))))
    (IntOp.cmpi .ne (IntOp.remsi ArithUnit.vector n 64#32) 0#32))
    (IntOp.subi (IntOp.divsi ArithUnit.vector n 64#32) 1#32) (IntOp.divsi ArithUnit.vector n 64#32)

/-- Rounded-down division of a position by 64, on words, is division by 64. -/
theorem fdw_eq : ∀ i : Fin 1024, fdw (BitVec.ofNat 32 i) = BitVec.ofNat 32 (i / 64) := by
  decide +kernel

/-- Whether query `i` looks at key `j`. -/
def Keep (i j : Fin 1024) : Prop := i.val / 64 = j.val / 64 ∨ j.val / 64 = 0 ∨ (i.val / 64 + j.val / 64) % 3 = 0

instance (i j : Fin 1024) : Decidable (Keep i j) := by unfold Keep; infer_instance

/-- The word the kernel computes for a query block and a key block is one where the query may look at the key. -/
theorem keep_word : ∀ a b : Fin 16,
    IntOp.ori (IntOp.ori (IntOp.cmpi .eq (BitVec.ofNat 32 a) (BitVec.ofNat 32 b)) (IntOp.cmpi .eq (BitVec.ofNat 32 b) 0#32))
      (IntOp.cmpi .eq (IntOp.remsi ArithUnit.vector (IntOp.addi (BitVec.ofNat 32 a) (BitVec.ofNat 32 b)) 3#32) 0#32)
    = BitVec.ofBool (decide (a.val = b.val ∨ b.val = 0 ∨ (a.val + b.val) % 3 = 0)) := by
  decide +kernel

/-- The mask is zero where the query looks at the key, −∞ elsewhere. -/
theorem maskV_at (i j : Fin 1024) : maskV (F := Ideal) (ix2 i j) = if Keep i j then (0 : EReal) else ⊥ := by
  pointwise [maskV, k0_pay1, k0_pay2, k0_pay3, k0_pay4, k0_pay5, k0_pay6, k0_pay7]
  have hi := fdw_eq i
  have hj := fdw_eq j
  unfold fdw at hi hj
  rw [hi, hj]
  have hk := keep_word ⟨i.val / 64, by omega⟩ ⟨j.val / 64, by omega⟩
  rw [hk, show Named.named (F := Ideal) κ "mask" (φ := .f32) 3463342888#32 = (⊥ : EReal) from IdealRules.named_const.ideal_named_scalar _ _ _ _ rfl]
  by_cases h : Keep i j
  · rw [if_pos h, decide_eq_true (by exact h)]; rfl
  · rw [if_neg h, decide_eq_false (by exact h)]; rfl

/-- Eight blocks of 128 columns side by side hold, at each column, what their block holds there. -/
theorem conc_at (f0 f1 f2 f3 f4 f5 f6 f7 : FVec Ideal S256x128 .f32) (H : Fin 1024 → EReal) (r : Fin 256) (l : Fin 1024)
    (h0 : ∀ d : Fin 128, f0 (ix2 r d) = H ⟨0 + d, by omega⟩) (h1 : ∀ d : Fin 128, f1 (ix2 r d) = H ⟨128 + d, by omega⟩)
    (h2 : ∀ d : Fin 128, f2 (ix2 r d) = H ⟨256 + d, by omega⟩) (h3 : ∀ d : Fin 128, f3 (ix2 r d) = H ⟨384 + d, by omega⟩)
    (h4 : ∀ d : Fin 128, f4 (ix2 r d) = H ⟨512 + d, by omega⟩) (h5 : ∀ d : Fin 128, f5 (ix2 r d) = H ⟨640 + d, by omega⟩)
    (h6 : ∀ d : Fin 128, f6 (ix2 r d) = H ⟨768 + d, by omega⟩) (h7 : ∀ d : Fin 128, f7 (ix2 r d) = H ⟨896 + d, by omega⟩) :
    concatenate S256x1024 1 [⟨S256x128, f0⟩, ⟨S256x128, f1⟩, ⟨S256x128, f2⟩, ⟨S256x128, f3⟩, ⟨S256x128, f4⟩, ⟨S256x128, f5⟩, ⟨S256x128, f6⟩, ⟨S256x128, f7⟩]
      concatenates_S256x128_S256x128_S256x128_S256x128_S256x128_S256x128_S256x128_S256x128_S256x1024_d1 (ix2 r l) = H l := by
  pointwise
  simp only [h0, h1, h2, h3, h4, h5, h6, h7]
  split_ifs <;> exact congrArg H (Fin.ext (by simp only; omega))

/-- Column `e` of the head that column `l` is in. -/
def hd (l : Fin 1024) (e : Fin 128) : Fin 1024 := ⟨l.val / 128 * 128 + e.val, by omega⟩

/-- Values weighted by the exponentials of scores, over the exponentials' sum. -/
def att (t v : Fin 1024 → EReal) : EReal :=
  (∑ x, Ideal.exp (t x) * v x) * Ideal.div 1 (∑ x, Ideal.exp (t x))

/-- A head, at one row and column: the attention with that row's scores. -/
theorem headv_at (kb vb : FVec Ideal S1024x1024 .bf16) (q : FVec Ideal S256x1024 .f32) (mb : Vec Ideal S256x1024 .bf16) (o : ℕ)
    (h1 : S256x1024.Slices ![0, o] S256x128) (h2 : S1024x1024.Slices ![0, o] S1024x128) (ho : o % 128 = 0) (r : Fin 256) (d : Fin 128)
    (hl : o + d.val < 1024) :
    headv kb vb q mb o h1 h2 (ix2 r d)
      = att (fun x => (∑ e : Fin 128, q (ix2 r (hd ⟨o + d, hl⟩ e)) * kb (ix2 x (hd ⟨o + d, hl⟩ e))) + mb (ix2 r x))
          (fun x => vb (ix2 x ⟨o + d, hl⟩)) := by
  have hh : (o + d.val) / 128 * 128 = o := by omega
  pointwise [headv]
  simp only [att, hd, hh]

/-- The queries of 256 rows, at one row and column. -/
theorem qv_at (wq : FVec Ideal S1024x1024 .bf16) (xb : Vec Ideal S256x1024 .f32) (r : Fin 256) (d : Fin 1024) :
    qv wq xb (ix2 r d) = ∑ z : Fin 1024, xb (ix2 r z) * wq (ix2 z d) := by
  pointwise [qv]

/-- The attention of 256 rows through the output weights, at one row and column. -/
theorem chunk_at (kb vb wq wo : FVec Ideal S1024x1024 .bf16) (xb : Vec Ideal S256x1024 .f32) (mb : Vec Ideal S256x1024 .bf16) (r : Fin 256) (o : Fin 1024) :
    chunk kb vb wq wo xb mb (ix2 r o) = ∑ l : Fin 1024,
      att (fun x => (∑ e : Fin 128, (∑ z : Fin 1024, xb (ix2 r z) * wq (ix2 z (hd l e))) * kb (ix2 x (hd l e))) + mb (ix2 r x))
        (fun x => vb (ix2 x l)) * wo (ix2 l o) := by
  unfold chunk
  generalize hC : concatenate _ _ _ _ = C
  pointwise
  refine Finset.sum_congr rfl fun l _ => congrArg (· * wo (ix2 l o)) ?_
  subst hC
  apply conc_at (H := fun l => att (fun x => (∑ e : Fin 128, (∑ z : Fin 1024, xb (ix2 r z) * wq (ix2 z (hd l e))) * kb (ix2 x (hd l e))) + mb (ix2 r x))
    (fun x => vb (ix2 x l)))
  all_goals
    intro d
    refine (headv_at _ _ _ _ _ _ _ (by decide) r d (by omega)).trans ?_
    simp only [qv_at]

/-! The staged keys, values and output weights are the arrays; the staged query weights are scaled. -/

theorem pay8_at (x : Vec Ideal S1024x1024 .f32) (i j : Fin 1024) : k0_pay8 x (ix2 i j) = x (ix2 i j) := by pointwise [k0_pay8]
theorem pay9_at (x : Vec Ideal S1024x1024 .f32) (i j : Fin 1024) : k0_pay9 x (ix2 i j) = x (ix2 i j) := by pointwise [k0_pay9]
theorem pay10_at (x : Vec Ideal S1024x1024 .f32) (i j : Fin 1024) : k0_pay10 x (ix2 i j) = x (ix2 i j) * Ideal.ofBits .f32 0x3DB504F3#32 := by
  pointwise [k0_pay10]
theorem pay11_at (x : Vec Ideal S1024x1024 .f32) (i j : Fin 1024) : k0_pay11 x (ix2 i j) = x (ix2 i j) := by pointwise [k0_pay11]

/-- The rows of a block are the array's rows from the block's first. -/
theorem blk_at {α : Type} (f : S1024x1024.Idx → α) (i j : Fin 1024) :
    blk (i.val / 256 * 256) f (ix2 (⟨i.val % 256, by omega⟩ : Fin 256) j) = f (ix2 i j) := by
  refine congrArg f (funext fun k => ?_)
  fin_cases k
  · exact Fin.ext (show (i.val / 256 * 256 + i.val % 256) % 1024 = i.val by omega)
  · rfl

/-- Column `l` of the attention of query `i`, for a device's own weights, keys and values. -/
def ctxK (x wq k v : S1024x1024.Idx → EReal) (i l : Fin 1024) : EReal :=
  att (fun j => (∑ e : Fin 128, (∑ z : Fin 1024, x (ix2 i z) * (wq (ix2 z (hd l e)) * Ideal.ofBits .f32 0x3DB504F3#32)) * k (ix2 j (hd l e)))
      + if Keep i j then (0 : EReal) else ⊥) (fun j => v (ix2 j l))

/-- A device's part at one row and column. -/
theorem part_val (x k v wq wo : S1024x1024.Idx → Elt Ideal .f32) (i o : Fin 1024) :
    part x k v wq wo (ix2 i o) = ∑ l : Fin 1024, ctxK x wq k v i l * wo (ix2 l o) := by
  have hi : inBlk (ix2 i o) = ix2 (⟨i.val % 256, by omega⟩ : Fin 256) o := by
    funext k; fin_cases k <;> rfl
  unfold part
  rw [hi]
  refine (chunk_at _ _ _ _ _ _ _ _).trans ?_
  simp only [pay8_at, pay9_at, pay10_at, pay11_at, ctxK]
  have hb : ∀ {α : Type} (f : S1024x1024.Idx → α) (j : Fin 1024),
      blk ((ix2 i o : S1024x1024.Idx) 0 / 256 * 256) f (ix2 (⟨i.val % 256, by omega⟩ : Fin 256) j) = f (ix2 i j) := fun f j => blk_at f i j
  simp only [hb, maskV_at]

end Cert.KernelIdeal.Pf

end
-- ==== Proof.Total.lean ====
/- # The sum over the devices

Over the extended reals the reduction, in whatever order it adds, gives every device the sum of all sixteen parts. -/
module

public import proofs.«01_k».proof.Proof.Heads

@[expose] public section

noncomputable section

namespace Cert.KernelIdeal.Pf

open Cert.KernelIdeal Cert.KernelIdeal.Gen
open Idealize.ShloMosaic Idealize.ShloMosaic.TcCoe
open Idealize.SL Idealize.SL.RA Idealize.SL.BI
open Idealize.SL.Sem

/-- The two ring sums are the same sum. -/
theorem ring_sum (V : Vals Ideal) (t : ℕ) (d : Dev nD) (i : S1024x1024.Idx) :
    (R0 V t d i : EReal) = V.P d i + V.P (rt d) i + V.P (rt (rt d)) i + V.P (lf d) i := by
  have h0 : (accT V 3 d i : EReal) = V.P d i + (V.P (lf d) i + (V.P (lf (lf d)) i + V.P (lf (lf (lf d))) i)) := rfl
  have h1 : (accB V 3 d i : EReal) = V.P d i + (V.P (rt d) i + (V.P (rt (rt d)) i + V.P (rt (rt (rt d))) i)) := rfl
  cases t with
  | zero => show (accT V 3 d i : EReal) = _; rw [h0, lf3, lf2]; ac_rfl
  | succ t => show (accB V 3 d i : EReal) = _; rw [h1, rt3]; ac_rfl

/-- The sixteen devices, from any one of them. -/
theorem all_sum (f : Dev nD → EReal) (d : Dev nD) :
    (((f d + f (rt d) + f (rt (rt d)) + f (lf d)) + (f (za d) + f (rt (za d)) + f (rt (rt (za d))) + f (lf (za d))))
      + ((f (zb d) + f (rt (zb d)) + f (rt (rt (zb d))) + f (lf (zb d)))
        + (f (za (zb d)) + f (rt (za (zb d))) + f (rt (rt (za (zb d)))) + f (lf (za (zb d)))))) = ∑ c : Dev nD, f c := by
  have h : ∀ d : Dev nD, [d, rt d, rt (rt d), lf d, za d, rt (za d), rt (rt (za d)), lf (za d), zb d, rt (zb d), rt (rt (zb d)), lf (zb d),
      za (zb d), rt (za (zb d)), rt (rt (za (zb d))), lf (za (zb d))].Perm (List.finRange nD) := by decide
  have hs := ((h d).map f).sum_eq
  rw [Fin.sum_univ_def, ← hs]
  simp only [List.map_cons, List.map_nil, List.sum_cons, List.sum_nil, add_zero, add_assoc]

/-- Every device ends with the sum of all the parts. -/
theorem OUT_sum (V : Vals Ideal) (i : S1024x1024.Idx) : (OUT V i : EReal) = ∑ c : Dev nD, (V.P c i : EReal) := by
  rw [← all_sum (fun c => V.P c i) (owner (i 0).val)]
  show ((R0 V _ _ i : EReal) + R0 V _ _ i) + ((R0 V _ _ i : EReal) + R0 V _ _ i) = _
  simp only [ring_sum]

/-- A device's weights start at column, or row, 1024 times its number. -/
theorem off1_eq : ∀ c : Dev nD, k0_off1 c = ![0, 1024 * c.val] := by decide +kernel
theorem off2_eq : ∀ c : Dev nD, k0_off2 c = ![1024 * c.val, 0] := by decide +kernel

/-- Column `l` of device `c`'s tile, among all the columns. -/
def col (c : Dev nD) (l : Fin 1024) : Fin 16384 := ⟨c.val * 1024 + l.val, by have h : c.val < 16 := c.isLt; omega⟩

/-- The device's columns of the query weights. -/
theorem wq_at (c : Dev nD) (f : S1024x16384.Idx → Elt Ideal .f32) (z l : Fin 1024) :
    (wqSrc c).view.read (Elt Ideal) f (ix2 z l) = f (ix2 z (col c l)) := by
  refine congrArg f (funext fun k => Fin.ext ?_)
  show ((Rect.unit (s := S1024x16384) (k0_off1 c) S1024x1024.size (k0_off1_inb c)).emb (ix2 z l) k).val = _
  rw [Rect.emb_apply]
  fin_cases k <;> simp [off1_eq, col] <;> omega

/-- The device's rows of the output weights. -/
theorem wo_at (c : Dev nD) (f : S16384x1024.Idx → Elt Ideal .f32) (l o : Fin 1024) :
    (woSrc c).view.read (Elt Ideal) f (ix2 l o) = f (ix2 (col c l) o) := by
  refine congrArg f (funext fun k => Fin.ext ?_)
  show ((Rect.unit (s := S16384x1024) (k0_off2 c) S1024x1024.size (k0_off2_inb c)).emb (ix2 l o) k).val = _
  rw [Rect.emb_apply]
  fin_cases k <;> simp [off2_eq, col] <;> omega

/-- The attention depends on the query weights by their entries alone. -/
theorem ctxK_congr (x k v wq wq' : S1024x1024.Idx → EReal) (h : ∀ z l : Fin 1024, wq (ix2 z l) = wq' (ix2 z l)) (i l : Fin 1024) :
    ctxK x wq k v i l = ctxK x wq' k v i l := by
  simp only [ctxK, h]

/-- A device's columns of a matrix. -/
def cols (c : Dev nD) (f : S1024x16384.Idx → EReal) : S1024x1024.Idx → EReal := fun y => f (ix2 (y 0) (col c (y 1)))

theorem cols_at (c : Dev nD) (f : S1024x16384.Idx → EReal) (z l : Fin 1024) : cols c f (ix2 z l) = f (ix2 z (col c l)) := rfl

/-- What every device holds at the end, at one row and column. -/
theorem kernel_val (m : (ℓ : Loc nD τ sig) → Buf (Elt Ideal) ℓ) (i o : Fin 1024) :
    (OUT (vals m) (ix2 i o) : EReal) = ∑ c : Dev nD, ∑ l : Fin 1024,
      ctxK (argx m c) (cols c (argq m c)) (argk m c) (argv m c) i l * argo m c (ix2 (col c l) o) := by
  refine (OUT_sum _ _).trans (Finset.sum_congr rfl fun c _ => ?_)
  refine (part_val _ _ _ _ _ i o).trans (Finset.sum_congr rfl fun l _ => ?_)
  exact congrArg₂ (· * ·) (ctxK_congr _ _ _ _ _ (fun z l => wq_at c (argq m c) z l) i l) (wo_at c (argo m c) l o)

end Cert.KernelIdeal.Pf

end
-- ==== Proof.RefVal.lean ====
/- # The reference's result, at one row and column -/
module

public import proofs.«01_k».proof.Proof.Gen.ReferenceIdeal.Run
public import proofs.«01_k».proof.Proof.Heads

@[expose] public section

noncomputable section

namespace Cert.ReferenceIdeal.Pf

open Cert.ReferenceIdeal Cert.ReferenceIdeal.Gen Idealize.ShloMosaic Idealize.ShloMosaic.TcCoe Idealize.SL.Sem Idealize.ShloMosaic.StableHlo

/-- The block of 64 of each position. -/
def FDIV : IVec S1024 32 :=
  select (andi (cmpi .ne (signi (iotaInDim S1024 32 0)) (broadcastInDim S1024 ![] bcast_S_S1024 (signi (id (constantI S_ 32 64#32)))))
      (cmpi .ne (Host.remsi (iotaInDim S1024 32 0) (broadcastInDim S1024 ![] bcast_S_S1024 (id (constantI S_ 32 64#32)))) (broadcastInDim S1024 ![] bcast_S_S1024 (constantI S_ 32 0#32))))
    (subi (Host.divsi (iotaInDim S1024 32 0) (broadcastInDim S1024 ![] bcast_S_S1024 (id (constantI S_ 32 64#32)))) (broadcastInDim S1024 ![] bcast_S_S1024 (constantI S_ 32 1#32)))
    (Host.divsi (iotaInDim S1024 32 0) (broadcastInDim S1024 ![] bcast_S_S1024 (id (constantI S_ 32 64#32))))

/-- The block of the query and the block of the key. -/
def QB : IVec S1024x1024 32 :=
  broadcastInDim S1024x1024 ![0, 1] bcast_S1024x1_S1024x1024_0_1 (broadcastInDim S1024x1 ![0] bcast_S1024_S1024x1_0 FDIV)
def KB : IVec S1024x1024 32 :=
  broadcastInDim S1024x1024 ![0, 1] bcast_S1x1024_S1024x1024_0_1 (broadcastInDim S1x1024 ![1] bcast_S1024_S1x1024_1 FDIV)
/-- The modulus, three. -/
def THREE : IVec S_ 32 :=
  select (cmpi .eq (id (constantI S_ 32 3#32)) (constantI S_ 32 0#32)) (constantI S_ 32 1#32) (id (constantI S_ 32 3#32))
/-- The sum of the blocks modulo three. -/
def REM : IVec S1024x1024 32 := Host.remsi (addi QB KB) (broadcastInDim S1024x1024 ![] bcast_S_S1024x1024 THREE)

/-- Which queries look at which keys. -/
def MASK : IVec S1024x1024 1 :=
  ori (ori (cmpi .eq QB KB) (broadcastInDim S1024x1024 ![0, 1] bcast_S1x1024_S1024x1024_0_1
      (cmpi .eq (broadcastInDim S1x1024 ![1] bcast_S1024_S1x1024_1 FDIV) (broadcastInDim S1x1024 ![] bcast_S_S1x1024 (constantI S_ 32 0#32)))))
    (cmpi .eq (select (andi (cmpi .ne (cmpi .slt REM (broadcastInDim S1024x1024 ![] bcast_S_S1024x1024 (constantI S_ 32 0#32)))
          (broadcastInDim S1024x1024 ![] bcast_S_S1024x1024 (cmpi .slt THREE (constantI S_ 32 0#32))))
        (cmpi .ne REM (broadcastInDim S1024x1024 ![] bcast_S_S1024x1024 (constantI S_ 32 0#32))))
      (addi REM (broadcastInDim S1024x1024 ![] bcast_S_S1024x1024 THREE)) REM) (broadcastInDim S1024x1024 ![] bcast_S_S1024x1024 (constantI S_ 32 0#32)))

/-- Whether a query looks at any key. -/
def KEEP : IVec S1024 1 := Host.reduce IntOp.ori MASK (constantI S_ 1 0#1) reducesTo_S1024x1024_S1024_d1 h_S_

section
variable {F : FTy → Type} [FloatOps F]

/-- The scores: unscaled, then scaled and masked. -/
def SC0 (x : FVec F S1024x1024 .f32) (wq k : FVec F S1024x16384 .f32) : FVec F S1x128x1024x1024 .f32 :=
  Host.dotGeneral dot_S1x1024x128x128_S1x1024x128x128_S1x128x1024x1024_3_3_1_1_02_02 none
    (shapeCast _ (Host.dotGeneral dot_S1x1024x1024_S1024x16384_S1x1024x16384_2_0_01_1_n_n none (shapeCast _ x shapeCasts_S1024x1024_S1x1024x1024) wq)
      shapeCasts_S1x1024x16384_S1x1024x128x128)
    (shapeCast _ k shapeCasts_S1024x16384_S1x1024x128x128)
def SC (x : FVec F S1024x1024 .f32) (wq k : FVec F S1024x16384 .f32) : FVec F S1x128x1024x1024 .f32 :=
  select (broadcastInDim S1x128x1024x1024 ![0, 1, 2, 3] bcast_S1x1x1024x1024_S1x128x1024x1024_0_1_2_3
      (broadcastInDim S1x1x1024x1024 ![2, 3] bcast_S1024x1024_S1x1x1024x1024_2_3 MASK))
    (mulf (SC0 x wq k) (broadcastInDim S1x128x1024x1024 ![] bcast_S_S1x128x1024x1024 (constant S_ .f32 0x3DB504F3#32)))
    (broadcastInDim S1x128x1024x1024 ![] bcast_S_S1x128x1024x1024 (id (constant S_ .f32 0xFF800000#32)))

/-- The exponentials of a row of scores, its maximum taken off, and each over their sum. -/
def W (s : FVec F S1x128x1024x1024 .f32) : FVec F S1x128x1024x1024 .f32 :=
  Host.exp (subf s (broadcastInDim S1x128x1024x1024 ![0, 1, 2, 3] bcast_S1x128x1024x1_S1x128x1024x1024_0_1_2_3
    (broadcastInDim S1x128x1024x1 ![0, 1, 2] bcast_S1x128x1024_S1x128x1024x1_0_1_2
      (Host.reduce FloatOps.maximumf s (constant S_ .f32 0xFF800000#32) reducesTo_S1x128x1024x1024_S1x128x1024_d3 h_S_))))
def WN (w : FVec F S1x128x1024x1024 .f32) : FVec F S1x128x1024x1024 .f32 :=
  select (broadcastInDim S1x128x1024x1024 ![0, 1, 2, 3] bcast_S1x1x1024x1_S1x128x1024x1024_0_1_2_3 (broadcastInDim S1x1x1024x1 ![2] bcast_S1024_S1x1x1024x1_2 KEEP))
    (Host.divf w (broadcastInDim S1x128x1024x1024 ![0, 1, 2, 3] bcast_S1x128x1024x1_S1x128x1024x1024_0_1_2_3
      (select (broadcastInDim S1x128x1024x1 ![0, 1, 2, 3] bcast_S1x1x1024x1_S1x128x1024x1_0_1_2_3 (broadcastInDim S1x1x1024x1 ![2] bcast_S1024_S1x1x1024x1_2 KEEP))
        (broadcastInDim S1x128x1024x1 ![0, 1, 2] bcast_S1x128x1024_S1x128x1024x1_0_1_2
          (Host.reduceAdd w (constant S_ .f32 0x00000000#32) reducesTo_S1x128x1024x1024_S1x128x1024_d3 h_S_))
        (broadcastInDim S1x128x1024x1 ![] bcast_S_S1x128x1024x1 (id (constant S_ .f32 0x3F800000#32))))))
    (broadcastInDim S1x128x1024x1024 ![] bcast_S_S1x128x1024x1024 (id (constant S_ .f32 0x00000000#32)))

/-- The heads' values weighted, and the output projection. -/
def OUTR (w : FVec F S1x128x1024x1024 .f32) (v : FVec F S1024x16384 .f32) (wo : FVec F S16384x1024 .f32) : FVec F S1024x1024 .f32 :=
  shapeCast _ (Host.dotGeneral dot_S1x1024x16384_S16384x1024_S1x1024x1024_2_0_01_1_n_n none
    (shapeCast _ (transpose S1x1024x128x128 [0, 3, 1, 2]
      (Host.dotGeneral dot_S1x1024x128x128_S1x128x1024x1024_S1x128x128x1024_1_3_3_2_02_01 none (shapeCast _ v shapeCasts_S1024x16384_S1x1024x128x128) w)
      transposes_S1x128x128x1024_S1x1024x128x128_0_3_1_2) shapeCasts_S1x1024x128x128_S1x1024x16384) wo) shapeCasts_S1x1024x1024_S1024x1024

set_option maxRecDepth 8192 in
/-- The reference's result is these steps, one after the other. -/
theorem res_eq (m : (ℓ : Loc nD τ sig) → Buf (Elt F) ℓ) (c : Dev nD) :
    Value.res_main_v48 m c = OUTR (WN (W (SC (m ((c.tc : Thread nD τ).loc main_arg0)) (m ((c.tc : Thread nD τ).loc main_arg1))
      (m ((c.tc : Thread nD τ).loc main_arg2))))) (m ((c.tc : Thread nD τ).loc main_arg3)) (m ((c.tc : Thread nD τ).loc main_arg4)) := rfl

end

/-- The host's words for the block of 64. -/
theorem FDIV_word : ∀ i : Fin 1024, (Scalar.select
      (IntOp.andi
        (IntOp.cmpi .ne (if BitVec.ofNat 32 i = 0 then 0 else if (BitVec.ofNat 32 i).msb = true then -1 else 1 : BitVec 32)
          (if 64#32 = 0 then 0 else if (64#32).msb = true then -1 else 1))
        (IntOp.cmpi .ne (IntOp.remsi ArithUnit.host (BitVec.ofNat 32 i) 64#32) 0#32))
      (IntOp.subi (IntOp.divsi ArithUnit.host (BitVec.ofNat 32 i) 64#32) 1#32)
      (IntOp.divsi ArithUnit.host (BitVec.ofNat 32 i) 64#32)) = BitVec.ofNat 32 (i / 64) := by
  decide +kernel

/-- The block of a position is the position over 64. -/
theorem FDIV_at (i : Fin 1024) : FDIV (ix1 i) = BitVec.ofNat 32 (i / 64) := by
  pointwise [FDIV]
  exact FDIV_word i

theorem THREE_at : THREE ix0 = 3#32 := by decide +kernel

/-- The word the reference computes for a query block and a key block is one where the query may look at the key. -/
theorem MASK_word : ∀ a b : Fin 16,
    IntOp.ori (IntOp.ori (IntOp.cmpi .eq (BitVec.ofNat 32 a) (BitVec.ofNat 32 b)) (IntOp.cmpi .eq (BitVec.ofNat 32 b) 0#32))
      (IntOp.cmpi .eq (Scalar.select (IntOp.andi (IntOp.cmpi .ne (IntOp.cmpi .slt (IntOp.remsi ArithUnit.host (IntOp.addi (BitVec.ofNat 32 a) (BitVec.ofNat 32 b)) 3#32) 0#32)
          (IntOp.cmpi .slt 3#32 0#32)) (IntOp.cmpi .ne (IntOp.remsi ArithUnit.host (IntOp.addi (BitVec.ofNat 32 a) (BitVec.ofNat 32 b)) 3#32) 0#32))
        (IntOp.addi (IntOp.remsi ArithUnit.host (IntOp.addi (BitVec.ofNat 32 a) (BitVec.ofNat 32 b)) 3#32) 3#32)
        (IntOp.remsi ArithUnit.host (IntOp.addi (BitVec.ofNat 32 a) (BitVec.ofNat 32 b)) 3#32)) 0#32)
    = BitVec.ofBool (decide (a.val = b.val ∨ b.val = 0 ∨ (a.val + b.val) % 3 = 0)) := by
  decide +kernel

/-- The reference's mask. -/
theorem MASK_at (i j : Fin 1024) : MASK (ix2 i j) = BitVec.ofBool (decide (Cert.KernelIdeal.Pf.Keep i j)) := by
  pointwise [MASK, QB, KB, REM]
  simp only [FDIV_at, THREE_at]
  exact MASK_word ⟨i.val / 64, by omega⟩ ⟨j.val / 64, by omega⟩

/-- Every query looks at the first key. -/
theorem KEEP_at (i : Fin 1024) : KEEP (ix1 i) = 1#1 := by
  pointwise [KEEP]
  rw [← Finset.insert_erase (Finset.mem_univ (0 : Fin 1024)), Finset.fold_insert (Finset.notMem_erase _ _), MASK_at,
    decide_eq_true (show Cert.KernelIdeal.Pf.Keep i 0 from Or.inr (Or.inl rfl))]
  exact (show ∀ y : BitVec 1, IntOp.ori (BitVec.ofBool true) y = 1#1 by decide) _

/-- The unscaled score of a query and a key in a head. -/
theorem SC0_at (x : FVec Ideal S1024x1024 .f32) (wq k : FVec Ideal S1024x16384 .f32) (h : Fin 128) (i j : Fin 1024) :
    SC0 x wq k (ix4 (0 : Fin 1) h i j) = ∑ e : Fin 128, (∑ z : Fin 1024, x (ix2 i z) * wq (ix2 z (⟨h.val * 128 + e.val, by omega⟩ : Fin 16384)))
      * k (ix2 j (⟨h.val * 128 + e.val, by omega⟩ : Fin 16384)) := by
  pointwise [SC0]

theorem negInf : Ideal.ofBits .f32 0xFF800000#32 = ⊥ := by simp [Ideal.ofBits, Ideal.ieee]

/-- The score, scaled where the query looks at the key and −∞ elsewhere. -/
theorem SC_at (x : FVec Ideal S1024x1024 .f32) (wq k : FVec Ideal S1024x16384 .f32) (h : Fin 128) (i j : Fin 1024) :
    SC x wq k (ix4 (0 : Fin 1) h i j)
      = if Cert.KernelIdeal.Pf.Keep i j then SC0 x wq k (ix4 (0 : Fin 1) h i j) * Ideal.ofBits .f32 0x3DB504F3#32 else ⊥ := by
  pointwise [SC]
  rw [MASK_at]
  by_cases hk : Cert.KernelIdeal.Pf.Keep i j
  · rw [if_pos hk, decide_eq_true hk]; rfl
  · rw [if_neg hk, decide_eq_false hk]; exact negInf

/-- The exponential of a score, its row's maximum taken off. -/
theorem W_at (s : FVec Ideal S1x128x1024x1024 .f32) (h : Fin 128) (i j : Fin 1024) :
    W s (ix4 (0 : Fin 1) h i j) = Ideal.exp (s (ix4 (0 : Fin 1) h i j) - Finset.univ.fold max (⊥ : EReal) (fun y => s (ix4 (0 : Fin 1) h i y))) := by
  pointwise [W]
  rw [negInf]

/-- A weight over the sum of its row's. -/
theorem WN_at (w : FVec Ideal S1x128x1024x1024 .f32) (h : Fin 128) (i j : Fin 1024) :
    WN w (ix4 (0 : Fin 1) h i j) = Ideal.div (w (ix4 (0 : Fin 1) h i j)) (∑ y : Fin 1024, w (ix4 (0 : Fin 1) h i y)) := by
  pointwise [WN]
  rw [KEEP_at]
  rfl

/-- The result at one row and column, as a sum over all the heads' columns. -/
theorem OUTR_at (w : FVec Ideal S1x128x1024x1024 .f32) (v : FVec Ideal S1024x16384 .f32) (wo : FVec Ideal S16384x1024 .f32) (i o : Fin 1024) :
    OUTR w v wo (ix2 i o) = ∑ l : Fin 16384, (∑ j : Fin 1024, v (ix2 j l) * w (ix4 (0 : Fin 1) (⟨l.val / 128, by omega⟩ : Fin 128) i j)) * wo (ix2 l o) := by
  pointwise [OUTR]

/-- Column `e` of the head that column `L` is in, among all the heads. -/
def hdAll (L : Fin 16384) (e : Fin 128) : Fin 16384 := ⟨L.val / 128 * 128 + e.val, by omega⟩

/-- The masked, scaled score of query `i` and key `j` in the head of column `L`. -/
def tAll (x : S1024x1024.Idx → EReal) (wq k : S1024x16384.Idx → EReal) (i : Fin 1024) (L : Fin 16384) (j : Fin 1024) : EReal :=
  if Cert.KernelIdeal.Pf.Keep i j then
    (∑ e : Fin 128, (∑ z : Fin 1024, x (ix2 i z) * wq (ix2 z (hdAll L e))) * k (ix2 j (hdAll L e))) * Ideal.ofBits .f32 0x3DB504F3#32
  else ⊥

/-- The scale is a real number, not negative. -/
theorem scale_real : ∃ c : ℝ, 0 ≤ c ∧ Ideal.ofBits .f32 0x3DB504F3#32 = (c : EReal) := by
  refine ⟨_, ?_, by simp [Ideal.ofBits, Ideal.ieee]; rfl⟩
  positivity

open Cert.Pf in
/-- Where the inputs of the scores are real, the reference's result is the attention of every head through the
output weights. -/
theorem ref_val (x : S1024x1024.Idx → EReal) (wq k v : S1024x16384.Idx → EReal) (wo : S16384x1024.Idx → EReal)
    (hx : ∀ y, IsReal (x y)) (hq : ∀ y, IsReal (wq y)) (hk : ∀ y, IsReal (k y)) (i o : Fin 1024) :
    OUTR (F := Ideal) (WN (W (SC (F := Ideal) x wq k))) v wo (ix2 i o)
      = ∑ L : Fin 16384, Cert.KernelIdeal.Pf.att (tAll x wq k i L) (fun j => v (ix2 j L)) * wo (ix2 L o) := by
  refine (OUTR_at _ _ _ i o).trans (Finset.sum_congr rfl fun L _ => congrArg (· * wo (ix2 L o)) ?_)
  have ht : ∀ j, SC (F := Ideal) x wq k (ix4 (0 : Fin 1) (⟨L.val / 128, by omega⟩ : Fin 128) i j) = tAll x wq k i L j := fun j => by
    rw [SC_at, SC0_at]; rfl
  simp only [WN_at, W_at, ht]
  obtain ⟨c, -, hc⟩ := scale_real
  have hr : ∀ j, Cert.KernelIdeal.Pf.Keep i j → IsReal (tAll x wq k i L j) := fun j hj => by
    rw [tAll, if_pos hj, hc]
    exact (IsReal.sum fun e => (IsReal.sum fun z => (hx _).mul (hq _)).mul (hk _)).mul ⟨c, rfl⟩
  refine (softmax_eq (tAll x wq k i L) (fun j => v (ix2 j L)) (fun j => ?_) ⟨0, hr 0 (Or.inr (Or.inl rfl))⟩).symm
  by_cases hj : Cert.KernelIdeal.Pf.Keep i j
  · exact Or.inr (hr j hj)
  · exact Or.inl (by rw [tAll, if_neg hj])

end Cert.ReferenceIdeal.Pf

end
-- ==== Proof.Equal.lean ====
/- # The kernel's result is the reference's

Where the inputs of the scores are real, the sum over the devices of their parts is the reference's sum over all the
head columns: device `c` has columns 1024·c and on, the scale moves from the query weights to the scores, and the
softmax does not depend on whether the maximum is taken off. -/
module

public import proofs.«01_k».proof.Proof.Total
public import proofs.«01_k».proof.Proof.RefVal
public import proofs.«01_k».proof.Defs
public import proofs.«01_k».proof.Proof.Gen.Pre_finite_KernelIdeal
public import Idealize.ShloMosaic.Lib.ReduceAll

@[expose] public section

noncomputable section

namespace Cert.Pf

open Idealize.ShloMosaic Idealize.ShloMosaic.TcCoe Idealize.SL.Sem
open Cert.KernelIdeal.Pf (att ctxK hd col cols Keep)
open Cert.ReferenceIdeal.Pf (hdAll tAll scale_real)

/-- The columns of a device's head are those of the head among all the heads. -/
theorem hd_col (c : Dev 16) (l : Fin 1024) (e : Fin 128) : col c (hd l e) = hdAll (col c l) e :=
  Fin.ext (show c.val * 1024 + (l.val / 128 * 128 + e.val) = (c.val * 1024 + l.val) / 128 * 128 + e.val by omega)

/-- A device's score is the score of the head, among all the heads, that its column is in. -/
theorem score_eq (x : Cert.KernelIdeal.S1024x1024.Idx → EReal) (wq k : Cert.KernelIdeal.S1024x16384.Idx → EReal) (c : Dev 16) (i l j : Fin 1024) :
    ((∑ e : Fin 128, (∑ z : Fin 1024, x (ix2 i z) * (cols c wq (ix2 z (hd l e)) * Ideal.ofBits .f32 0x3DB504F3#32)) * cols c k (ix2 j (hd l e)))
      + if Keep i j then (0 : EReal) else ⊥) = tAll x wq k i (col c l) j := by
  unfold tAll
  by_cases h : Keep i j
  · rw [if_pos h, if_pos h, add_zero]
    obtain ⟨s, hs, e⟩ := scale_real
    rw [e, ← sum_scale _ _ _ hs]
    refine Finset.sum_congr rfl fun d _ => ?_
    simp only [Cert.KernelIdeal.Pf.cols_at, hd_col, ← mul_assoc]
    rw [sum_scale _ _ _ hs, mul_right_comm]
  · rw [if_neg h, if_neg h, EReal.add_bot]

/-- The devices' parts add up to the sum over all the head columns. -/
theorem devices_sum (x : Cert.KernelIdeal.S1024x1024.Idx → EReal) (wq k v : Cert.KernelIdeal.S1024x16384.Idx → EReal)
    (wo : Cert.KernelIdeal.S16384x1024.Idx → EReal) (i o : Fin 1024) :
    ∑ c : Dev 16, ∑ l : Fin 1024, ctxK x (cols c wq) (cols c k) (cols c v) i l * wo (ix2 (col c l) o)
      = ∑ L : Fin 16384, att (tAll x wq k i L) (fun j => v (ix2 j L)) * wo (ix2 L o) := by
  refine Eq.symm ((Fin.sum_univ_tiles (N := 16384) 16 1024 (by decide) _).trans (Eq.symm ?_))
  refine Finset.sum_congr rfl fun c _ => Finset.sum_congr rfl fun l _ => ?_
  refine congrArg (· * wo (ix2 (col c l) o)) ?_
  unfold ctxK
  simp only [score_eq]
  rfl

/-- A device's tile of a matrix split by columns is its columns. -/
theorem block_cols (f : Cert.KernelIdeal.S1024x16384.Idx → EReal) (c : Dev 16) :
    (Layout.block ⟨2, ![1024, 1024]⟩ ⟨2, ![1024, 16384]⟩ 1 16 c f) = cols c f := by
  funext y
  refine congrArg f (funext fun k => ?_)
  fin_cases k
  · rfl
  · rfl

/-- A value whose absolute value is below +∞ is real. -/
theorem real_of_lt {a : EReal} (h : Ideal.cmp .olt (max a (-a)) (Ideal.ofBits .f32 0x7F800000#32) = 1#1) : IsReal a := by
  have htop : Ideal.ofBits .f32 0x7F800000#32 = ⊤ := by simp [Ideal.ofBits, Ideal.ieee]
  rw [htop] at h
  induction a with
  | bot => simp [Ideal.cmp] at h
  | top => simp [Ideal.cmp] at h
  | coe r => exact ⟨r, rfl⟩

instance : Subsingleton (Cert.Pre_finite_KernelIdeal.S_).Idx := ⟨fun a b => funext fun k => k.elim0⟩

/-- The precondition: the input, the query weights and the keys are real. -/
theorem pre_real (x : FVec Ideal Cert.Pre_finite_KernelIdeal.S1024x1024 .f32) (wq : FVec Ideal Cert.Pre_finite_KernelIdeal.S1024x16384 .f32)
    (k v : FVec Ideal Cert.Pre_finite_KernelIdeal.S1024x1024 .f32) (wo : FVec Ideal Cert.Pre_finite_KernelIdeal.S16384x1024 .f32)
    (h : Cert.Pre_finite_KernelIdeal.fn x wq k v wo = fun _ => 1#1) :
    (∀ y, IsReal (x y)) ∧ (∀ y, IsReal (wq y)) ∧ ∀ y, IsReal (k y) := by
  have h0 := congrFun h ix0
  unfold Cert.Pre_finite_KernelIdeal.fn at h0
  have hand : ∀ a b : BitVec 1, IntOp.andi a b = 1#1 → a = 1#1 ∧ b = 1#1 := by decide
  obtain ⟨h1, hk⟩ := hand _ _ h0
  obtain ⟨hx, hq⟩ := hand _ _ h1
  exact ⟨fun y => real_of_lt (Host.reduce_andi_all _ _ _ _ _ hx y), fun y => real_of_lt (Host.reduce_andi_all _ _ _ _ _ hq y),
    fun y => real_of_lt (Host.reduce_andi_all _ _ _ _ _ hk y)⟩

/-- The kernel's result on every device is the reference's. -/
theorem values_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (x : Cert.KernelIdeal.S1024x1024.Idx → EReal) (wq k v : Cert.KernelIdeal.S1024x16384.Idx → EReal) (wo : Cert.KernelIdeal.S16384x1024.Idx → EReal)
    (hx : ∀ y, IsReal (x y)) (hq : ∀ y, IsReal (wq y)) (hk : ∀ c y, IsReal (cols c k y))
    (h0 : ∀ c, Cert.KernelIdeal.Pf.argx m c = x) (h1 : ∀ c, Cert.KernelIdeal.Pf.argq m c = wq)
    (h2 : ∀ c, Cert.KernelIdeal.Pf.argk m c = cols c k) (h3 : ∀ c, Cert.KernelIdeal.Pf.argv m c = cols c v)
    (h4 : ∀ c, Cert.KernelIdeal.Pf.argo m c = wo) :
    (Cert.KernelIdeal.Pf.OUT (Cert.KernelIdeal.Pf.vals m) : Cert.KernelIdeal.S1024x1024.Idx → EReal)
      = Cert.ReferenceIdeal.Pf.OUTR (F := Ideal) (Cert.ReferenceIdeal.Pf.WN (Cert.ReferenceIdeal.Pf.W (Cert.ReferenceIdeal.Pf.SC (F := Ideal) x wq k))) v wo := by
  have hk' : ∀ y, IsReal (k y) := fun y => by
    have hy : (y 1).val < 16384 := (y 1).isLt
    have e : cols (⟨(y 1).val / 1024, by omega⟩ : Dev 16) k (ix2 (y 0) (⟨(y 1).val % 1024, by omega⟩ : Fin 1024)) = k y := by
      refine congrArg k (funext fun a => ?_)
      fin_cases a
      · rfl
      · exact Fin.ext (show (y 1).val / 1024 * 1024 + (y 1).val % 1024 = (y 1).val by omega)
    exact e ▸ hk _ _
  funext y
  obtain ⟨i, o, rfl⟩ : ∃ i o : Fin 1024, y = ix2 i o := ⟨y 0, y 1, by funext a; fin_cases a <;> rfl⟩
  refine (Cert.KernelIdeal.Pf.kernel_val m i o).trans ?_
  refine Eq.trans ?_ ((devices_sum x wq k v wo i o).trans (Cert.ReferenceIdeal.Pf.ref_val x wq k v wo hx hq hk' i o).symm)
  refine Finset.sum_congr rfl fun c _ => Finset.sum_congr rfl fun l _ => ?_
  rw [h0, h1, h2, h3, h4]

/-- The claim of equality over the extended reals. -/
theorem algebraic : algebraic_KernelIdeal_ReferenceIdeal_pre_finite_KernelIdeal := by
  intro m g m' g' hpre hargs
  have hreal := fun c => pre_real _ _ _ _ _ (hpre c)
  have e := values_eq m m' _ _ _ _ _
    (fun y => by rw [← (hargs 0).1]; exact (hreal 0).1 y)
    (fun y => by rw [← (hargs 0).2.1]; exact (hreal 0).2.1 y)
    (fun c y => by rw [← block_cols, ← (hargs c).2.2.1]; exact (hreal c).2.2 y)
    (fun c => (hargs c).1) (fun c => (hargs c).2.1) (fun c => ((hargs c).2.2.1).trans (block_cols _ c))
    (fun c => ((hargs c).2.2.2.1).trans (block_cols _ c)) (fun c => (hargs c).2.2.2.2)
  refine ⟨Cert.KernelIdeal.Pf.OUT (Cert.KernelIdeal.Pf.vals m), ?_, ?_⟩
  · exact (θ_run _ _ _).mono (fun _ h => h.1) (Cert.KernelIdeal.Pf.run_all m g)
  · refine (θ_run _ _ _).mono (fun r h => ⟨?_, (h 0).2⟩) (Cert.ReferenceIdeal.Value.run m' g')
    exact ((h 0).1.trans (Cert.ReferenceIdeal.Pf.res_eq m' 0)).trans e.symm

end Cert.Pf

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite_KernelIdeal
public import proofs.«01_k».proof.Proof.Gen.Pre_finite_ReferenceIdeal
public import proofs.«01_k».proof.Proof.Same
public import proofs.«01_k».proof.Proof.RefFrame
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_finite_KernelIdeal.Gen.facts, Cert.Pre_finite_ReferenceIdeal.Gen.facts,
  fun m g _ => Cert.Pf.run_kernel m g,
  fun m g _ => (θ_run _ _ _).mono (fun _ h => ⟨fun c => (h.1 c).2, h.2⟩) (Cert.KernelIdeal.Pf.run_all m g),
  fun m g _ => (θ_run _ _ _).mono (fun _ h => ⟨fun c => (h.1 c).2, h.2⟩) (Cert.KernelIdeal.Pf.run_all m g),
  fun m g _ => Cert.Pf.run_reference m g,
  fun m g _ => Cert.Pf.run_reference m g,
  IdealRules.named_const.statement Cert.KernelIdeal.κ "mask" .f32 0xCE6E6B28#32 ⊥ rfl,
  Cert.Pf.algebraic⟩

end Cert.Proof

end
